-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S32 : Shape := ⟨1, ![32]⟩
abbrev S65536x512 : Shape := ⟨2, ![65536, 512]⟩
abbrev S_ : Shape := ⟨0, ![]⟩
abbrev S2x64 : Shape := ⟨2, ![2, 64]⟩
abbrev S1 : Shape := ⟨1, ![1]⟩
abbrev S1x1 : Shape := ⟨2, ![1, 1]⟩
abbrev S512x512 : Shape := ⟨2, ![512, 512]⟩

abbrev nBuf : Space → Nat
  | .hbm => 4
  | .vmem => 2
  | .smem => 2
  | _ => 0

abbrev bufTy : (tb : Table) → Fin (tcTables nBuf tb) → BufTy
  | .hbm, ⟨0, _⟩ => ⟨S2048x512, .bf16⟩
  | .hbm, ⟨1, _⟩ => ⟨S32, .i32⟩
  | .hbm, ⟨2, _⟩ => ⟨S32, .i32⟩
  | .hbm, ⟨3, _⟩ => ⟨S65536x512, .bf16⟩
  | .local _ .vmem, ⟨0, _⟩ => ⟨S2048x512, .bf16⟩
  | .local _ .vmem, ⟨1, _⟩ => ⟨S2048x512, .bf16⟩
  | .local _ .smem, ⟨0, _⟩ => ⟨S32, .i32⟩
  | .local _ .smem, ⟨1, _⟩ => ⟨S32, .i32⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev cc0_stg2_0 : Ref sig .tc := ⟨.vmem, 0, rfl⟩
abbrev cc0_scratch0 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let c0_i32 : BitVec 32 := 0#32
  let v6 : BitVec 1 := Scalar.cmpi .eq c32_i32_1 c0_i32
  let c1_i32_2 : BitVec 32 := 1#32
  let v7 : BitVec 32 := Scalar.select v6 c1_i32_2 c32_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  ![v16.toNat]

def k0_off3 (v4 : BitVec 32) : Fin 1 → Nat :=
  let c1_i32_6 : BitVec 32 := 1#32
  let v18 : BitVec 32 := Scalar.subi v4 c1_i32_6
  let c32_i32_7 : BitVec 32 := 32#32
  let c0_i32_8 : BitVec 32 := 0#32
  let v19 : BitVec 1 := Scalar.cmpi .eq c32_i32_7 c0_i32_8
  let c1_i32_9 : BitVec 32 := 1#32
  let v20 : BitVec 32 := Scalar.select v19 c1_i32_9 c32_i32_7
  let v21 : BitVec 32 := Scalar.remsi v18 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v29 : Index := Scalar.indexCast v28
  ![v29.toNat]
def k0_dev1 (v30 : BitVec 32) : Nat :=
  let c0_i32_15 : BitVec 32 := 0#32
  let c1_i32_14 : BitVec 32 := 1#32
  let v32 : BitVec 32 := Scalar.muli v30 c1_i32_14
  let v33 : BitVec 32 := Scalar.addi c0_i32_15 v32
  v33.toNat

def k0_dev2 (v17 : BitVec 32) : Nat :=
  let c0_i32_18 : BitVec 32 := 0#32
  let c1_i32_17 : BitVec 32 := 1#32
  let v34 : BitVec 32 := Scalar.muli v17 c1_i32_17
  let v35 : BitVec 32 := Scalar.addi c0_i32_18 v34
  v35.toNat

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2048_i32 : BitVec 32 := 2048#32
  let v41 : BitVec 32 := Scalar.muli v2 c2048_i32
  let c0_i32_22 : BitVec 32 := 0#32
  ![v41.toNat, 0]
def k0_off5 (v4 : BitVec 32) : Fin 1 → Nat :=
  let c0_i32_24 : BitVec 32 := 0#32
  let v44 : BitVec 32 := Scalar.subi v4 c0_i32_24
  let c32_i32_25 : BitVec 32 := 32#32
  let c0_i32_26 : BitVec 32 := 0#32
  let v45 : BitVec 1 := Scalar.cmpi .eq c32_i32_25 c0_i32_26
  let c1_i32_27 : BitVec 32 := 1#32
  let v46 : BitVec 32 := Scalar.select v45 c1_i32_27 c32_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let v55 : Index := Scalar.indexCast v54
  ![v55.toNat]
def k0_off6 (v56 : BitVec 32) (c0_i32_32 : BitVec 32) : Fin 2 → Nat :=
  let c2048_i32_31 : BitVec 32 := 2048#32
  let v57 : BitVec 32 := Scalar.muli v56 c2048_i32_31
  let v58 : BitVec 32 := Scalar.addi v57 c0_i32_32
  let c0_i32_39 : BitVec 32 := 0#32
  ![v58.toNat, 0]

def k0_dev3 (v17 : BitVec 32) : Nat :=
  let c0_i32_38 : BitVec 32 := 0#32
  let c1_i32_37 : BitVec 32 := 1#32
  let v59 : BitVec 32 := Scalar.muli v17 c1_i32_37
  let v60 : BitVec 32 := Scalar.addi c0_i32_38 v59
  v60.toNat
def k0_dev4 (v17 : BitVec 32) : Nat :=
  let c0_i32_47 : BitVec 32 := 0#32
  let c1_i32_46 : BitVec 32 := 1#32
  let v69 : BitVec 32 := Scalar.muli v17 c1_i32_46
  let v70 : BitVec 32 := Scalar.addi c0_i32_47 v69
  v70.toNat
def k0_dev5 (v17 : BitVec 32) : Nat :=
  let c0_i32_56 : BitVec 32 := 0#32
  let c1_i32_55 : BitVec 32 := 1#32
  let v79 : BitVec 32 := Scalar.muli v17 c1_i32_55
  let v80 : BitVec 32 := Scalar.addi c0_i32_56 v79
  v80.toNat
def k0_dev6 (v17 : BitVec 32) : Nat :=
  let c0_i32_64 : BitVec 32 := 0#32
  let c1_i32_63 : BitVec 32 := 1#32
  let v89 : BitVec 32 := Scalar.muli v17 c1_i32_63
  let v90 : BitVec 32 := Scalar.addi c0_i32_64 v89
  v90.toNat
def k0_off7 (v4 : BitVec 32) : Fin 1 → Nat :=
  let c0_i32_67 : BitVec 32 := 0#32
  let v97 : BitVec 32 := Scalar.addi v4 c0_i32_67
  let c32_i32_68 : BitVec 32 := 32#32
  let c0_i32_69 : BitVec 32 := 0#32
  let v98 : BitVec 1 := Scalar.cmpi .eq c32_i32_68 c0_i32_69
  let c1_i32_70 : BitVec 32 := 1#32
  let v99 : BitVec 32 := Scalar.select v98 c1_i32_70 c32_i32_68
  let v100 : BitVec 32 := Scalar.remsi v97 v99
  let c0_i32_72 : BitVec 32 := 0#32
  let v102 : BitVec 1 := Scalar.cmpi .slt v100 c0_i32_72
  let c0_i32_73 : BitVec 32 := 0#32
  let v103 : BitVec 1 := Scalar.cmpi .slt v99 c0_i32_73
  let v104 : BitVec 1 := Scalar.xori v102 v103
  let c0_i32_71 : BitVec 32 := 0#32
  let v101 : BitVec 1 := Scalar.cmpi .ne v100 c0_i32_71
  let v105 : BitVec 1 := Scalar.andi v104 v101
  let v106 : BitVec 32 := Scalar.addi v100 v99
  let v107 : BitVec 32 := Scalar.select v105 v106 v100
  let v108 : Index := Scalar.indexCast v107
  ![v108.toNat]
def k0_off8 (v109 : BitVec 32) (c0_i32_75 : BitVec 32) : Fin 2 → Nat :=
  let c2048_i32_74 : BitVec 32 := 2048#32
  let v110 : BitVec 32 := Scalar.muli v109 c2048_i32_74
  let v111 : BitVec 32 := Scalar.addi v110 c0_i32_75
  let c0_i32_82 : BitVec 32 := 0#32
  ![v111.toNat, 0]

def k0_dev7 (v30 : BitVec 32) : Nat :=
  let c0_i32_81 : BitVec 32 := 0#32
  let c1_i32_80 : BitVec 32 := 1#32
  let v112 : BitVec 32 := Scalar.muli v30 c1_i32_80
  let v113 : BitVec 32 := Scalar.addi c0_i32_81 v112
  v113.toNat
def k0_dev8 (v30 : BitVec 32) : Nat :=
  let c0_i32_91 : BitVec 32 := 0#32
  let c1_i32_90 : BitVec 32 := 1#32
  let v122 : BitVec 32 := Scalar.muli v30 c1_i32_90
  let v123 : BitVec 32 := Scalar.addi c0_i32_91 v122
  v123.toNat
def k0_dev9 (v30 : BitVec 32) : Nat :=
  let c0_i32_101 : BitVec 32 := 0#32
  let c1_i32_100 : BitVec 32 := 1#32
  let v132 : BitVec 32 := Scalar.muli v30 c1_i32_100
  let v133 : BitVec 32 := Scalar.addi c0_i32_101 v132
  v133.toNat
def k0_dev10 (v30 : BitVec 32) : Nat :=
  let c0_i32_111 : BitVec 32 := 0#32
  let c1_i32_110 : BitVec 32 := 1#32
  let v142 : BitVec 32 := Scalar.muli v30 c1_i32_110
  let v143 : BitVec 32 := Scalar.addi c0_i32_111 v142
  v143.toNat
def k0_off9 (v4 : BitVec 32) : Fin 1 → Nat :=
  let c1_i32_114 : BitVec 32 := 1#32
  let v150 : BitVec 32 := Scalar.subi v4 c1_i32_114
  let c32_i32_115 : BitVec 32 := 32#32
  let c0_i32_116 : BitVec 32 := 0#32
  let v151 : BitVec 1 := Scalar.cmpi .eq c32_i32_115 c0_i32_116
  let c1_i32_117 : BitVec 32 := 1#32
  let v152 : BitVec 32 := Scalar.select v151 c1_i32_117 c32_i32_115
  let v153 : BitVec 32 := Scalar.remsi v150 v152
  let c0_i32_119 : BitVec 32 := 0#32
  let v155 : BitVec 1 := Scalar.cmpi .slt v153 c0_i32_119
  let c0_i32_120 : BitVec 32 := 0#32
  let v156 : BitVec 1 := Scalar.cmpi .slt v152 c0_i32_120
  let v157 : BitVec 1 := Scalar.xori v155 v156
  let c0_i32_118 : BitVec 32 := 0#32
  let v154 : BitVec 1 := Scalar.cmpi .ne v153 c0_i32_118
  let v158 : BitVec 1 := Scalar.andi v157 v154
  let v159 : BitVec 32 := Scalar.addi v153 v152
  let v160 : BitVec 32 := Scalar.select v158 v159 v153
  let v161 : Index := Scalar.indexCast v160
  ![v161.toNat]
def k0_off10 (v56 : BitVec 32) : Fin 2 → Nat :=
  let c2048_i32_31 : BitVec 32 := 2048#32
  let v57 : BitVec 32 := Scalar.muli v56 c2048_i32_31
  let c0_i32_32 : BitVec 32 := 0#32
  let v58 : BitVec 32 := Scalar.addi v57 c0_i32_32
  let c0_i32_127 : BitVec 32 := 0#32
  ![v58.toNat, 0]
def k0_off11 (v162 : BitVec 32) (c0_i32_130 : BitVec 32) : Fin 2 → Nat :=
  let c2048_i32_129 : BitVec 32 := 2048#32
  let v169 : BitVec 32 := Scalar.muli v162 c2048_i32_129
  let v170 : BitVec 32 := Scalar.addi v169 c0_i32_130
  let c0_i32_136 : BitVec 32 := 0#32
  ![v170.toNat, 0]

def k0_dev11 (v17 : BitVec 32) : Nat :=
  let c0_i32_135 : BitVec 32 := 0#32
  let c1_i32_134 : BitVec 32 := 1#32
  let v171 : BitVec 32 := Scalar.muli v17 c1_i32_134
  let v172 : BitVec 32 := Scalar.addi c0_i32_135 v171
  v172.toNat
def k0_off12 (v56 : BitVec 32) (c512_i32 : BitVec 32) : Fin 2 → Nat :=
  let c2048_i32_41 : BitVec 32 := 2048#32
  let v67 : BitVec 32 := Scalar.muli v56 c2048_i32_41
  let v68 : BitVec 32 := Scalar.addi v67 c512_i32
  let c0_i32_144 : BitVec 32 := 0#32
  ![v68.toNat, 0]
def k0_dev12 (v17 : BitVec 32) : Nat :=
  let c0_i32_152 : BitVec 32 := 0#32
  let c1_i32_151 : BitVec 32 := 1#32
  let v187 : BitVec 32 := Scalar.muli v17 c1_i32_151
  let v188 : BitVec 32 := Scalar.addi c0_i32_152 v187
  v188.toNat
def k0_dev13 (v17 : BitVec 32) : Nat :=
  let c0_i32_169 : BitVec 32 := 0#32
  let c1_i32_168 : BitVec 32 := 1#32
  let v203 : BitVec 32 := Scalar.muli v17 c1_i32_168
  let v204 : BitVec 32 := Scalar.addi c0_i32_169 v203
  v204.toNat
def k0_dev14 (v17 : BitVec 32) : Nat :=
  let c0_i32_186 : BitVec 32 := 0#32
  let c1_i32_185 : BitVec 32 := 1#32
  let v219 : BitVec 32 := Scalar.muli v17 c1_i32_185
  let v220 : BitVec 32 := Scalar.addi c0_i32_186 v219
  v220.toNat
def k0_off13 (v4 : BitVec 32) : Fin 1 → Nat :=
  let c1_i32_189 : BitVec 32 := 1#32
  let v227 : BitVec 32 := Scalar.addi v4 c1_i32_189
  let c32_i32_190 : BitVec 32 := 32#32
  let c0_i32_191 : BitVec 32 := 0#32
  let v228 : BitVec 1 := Scalar.cmpi .eq c32_i32_190 c0_i32_191
  let c1_i32_192 : BitVec 32 := 1#32
  let v229 : BitVec 32 := Scalar.select v228 c1_i32_192 c32_i32_190
  let v230 : BitVec 32 := Scalar.remsi v227 v229
  let c0_i32_194 : BitVec 32 := 0#32
  let v232 : BitVec 1 := Scalar.cmpi .slt v230 c0_i32_194
  let c0_i32_195 : BitVec 32 := 0#32
  let v233 : BitVec 1 := Scalar.cmpi .slt v229 c0_i32_195
  let v234 : BitVec 1 := Scalar.xori v232 v233
  let c0_i32_193 : BitVec 32 := 0#32
  let v231 : BitVec 1 := Scalar.cmpi .ne v230 c0_i32_193
  let v235 : BitVec 1 := Scalar.andi v234 v231
  let v236 : BitVec 32 := Scalar.addi v230 v229
  let v237 : BitVec 32 := Scalar.select v235 v236 v230
  let v238 : Index := Scalar.indexCast v237
  ![v238.toNat]
def k0_off14 (v109 : BitVec 32) : Fin 2 → Nat :=
  let c2048_i32_74 : BitVec 32 := 2048#32
  let v110 : BitVec 32 := Scalar.muli v109 c2048_i32_74
  let c0_i32_75 : BitVec 32 := 0#32
  let v111 : BitVec 32 := Scalar.addi v110 c0_i32_75
  let c0_i32_202 : BitVec 32 := 0#32
  ![v111.toNat, 0]
def k0_off15 (v239 : BitVec 32) (c0_i32_205 : BitVec 32) : Fin 2 → Nat :=
  let c2048_i32_204 : BitVec 32 := 2048#32
  let v246 : BitVec 32 := Scalar.muli v239 c2048_i32_204
  let v247 : BitVec 32 := Scalar.addi v246 c0_i32_205
  let c0_i32_212 : BitVec 32 := 0#32
  ![v247.toNat, 0]

def k0_dev15 (v30 : BitVec 32) : Nat :=
  let c0_i32_211 : BitVec 32 := 0#32
  let c1_i32_210 : BitVec 32 := 1#32
  let v248 : BitVec 32 := Scalar.muli v30 c1_i32_210
  let v249 : BitVec 32 := Scalar.addi c0_i32_211 v248
  v249.toNat
def k0_off16 (v109 : BitVec 32) (c512_i32_85 : BitVec 32) : Fin 2 → Nat :=
  let c2048_i32_84 : BitVec 32 := 2048#32
  let v120 : BitVec 32 := Scalar.muli v109 c2048_i32_84
  let v121 : BitVec 32 := Scalar.addi v120 c512_i32_85
  let c0_i32_220 : BitVec 32 := 0#32
  ![v121.toNat, 0]
def k0_dev16 (v30 : BitVec 32) : Nat :=
  let c0_i32_229 : BitVec 32 := 0#32
  let c1_i32_228 : BitVec 32 := 1#32
  let v264 : BitVec 32 := Scalar.muli v30 c1_i32_228
  let v265 : BitVec 32 := Scalar.addi c0_i32_229 v264
  v265.toNat
def k0_dev17 (v30 : BitVec 32) : Nat :=
  let c0_i32_247 : BitVec 32 := 0#32
  let c1_i32_246 : BitVec 32 := 1#32
  let v280 : BitVec 32 := Scalar.muli v30 c1_i32_246
  let v281 : BitVec 32 := Scalar.addi c0_i32_247 v280
  v281.toNat
def k0_dev18 (v30 : BitVec 32) : Nat :=
  let c0_i32_265 : BitVec 32 := 0#32
  let c1_i32_264 : BitVec 32 := 1#32
  let v296 : BitVec 32 := Scalar.muli v30 c1_i32_264
  let v297 : BitVec 32 := Scalar.addi c0_i32_265 v296
  v297.toNat
def k0_off17 (v4 : BitVec 32) : Fin 1 → Nat :=
  let c2_i32_268 : BitVec 32 := 2#32
  let v304 : BitVec 32 := Scalar.subi v4 c2_i32_268
  let c32_i32_269 : BitVec 32 := 32#32
  let c0_i32_270 : BitVec 32 := 0#32
  let v305 : BitVec 1 := Scalar.cmpi .eq c32_i32_269 c0_i32_270
  let c1_i32_271 : BitVec 32 := 1#32
  let v306 : BitVec 32 := Scalar.select v305 c1_i32_271 c32_i32_269
  let v307 : BitVec 32 := Scalar.remsi v304 v306
  let c0_i32_273 : BitVec 32 := 0#32
  let v309 : BitVec 1 := Scalar.cmpi .slt v307 c0_i32_273
  let c0_i32_274 : BitVec 32 := 0#32
  let v310 : BitVec 1 := Scalar.cmpi .slt v306 c0_i32_274
  let v311 : BitVec 1 := Scalar.xori v309 v310
  let c0_i32_272 : BitVec 32 := 0#32
  let v308 : BitVec 1 := Scalar.cmpi .ne v307 c0_i32_272
  let v312 : BitVec 1 := Scalar.andi v311 v308
  let v313 : BitVec 32 := Scalar.addi v307 v306
  let v314 : BitVec 32 := Scalar.select v312 v313 v307
  let v315 : Index := Scalar.indexCast v314
  ![v315.toNat]
def k0_off18 (v162 : BitVec 32) : Fin 2 → Nat :=
  let c2048_i32_129 : BitVec 32 := 2048#32
  let v169 : BitVec 32 := Scalar.muli v162 c2048_i32_129
  let c0_i32_130 : BitVec 32 := 0#32
  let v170 : BitVec 32 := Scalar.addi v169 c0_i32_130
  let c0_i32_281 : BitVec 32 := 0#32
  ![v170.toNat, 0]
def k0_off19 (v316 : BitVec 32) (c0_i32_284 : BitVec 32) : Fin 2 → Nat :=
  let c2048_i32_283 : BitVec 32 := 2048#32
  let v323 : BitVec 32 := Scalar.muli v316 c2048_i32_283
  let v324 : BitVec 32 := Scalar.addi v323 c0_i32_284
  let c0_i32_290 : BitVec 32 := 0#32
  ![v324.toNat, 0]

def k0_dev19 (v17 : BitVec 32) : Nat :=
  let c0_i32_289 : BitVec 32 := 0#32
  let c1_i32_288 : BitVec 32 := 1#32
  let v325 : BitVec 32 := Scalar.muli v17 c1_i32_288
  let v326 : BitVec 32 := Scalar.addi c0_i32_289 v325
  v326.toNat
def k0_off20 (v162 : BitVec 32) (c512_i32_147 : BitVec 32) : Fin 2 → Nat :=
  let c2048_i32_146 : BitVec 32 := 2048#32
  let v185 : BitVec 32 := Scalar.muli v162 c2048_i32_146
  let v186 : BitVec 32 := Scalar.addi v185 c512_i32_147
  let c0_i32_298 : BitVec 32 := 0#32
  ![v186.toNat, 0]
def k0_dev20 (v17 : BitVec 32) : Nat :=
  let c0_i32_306 : BitVec 32 := 0#32
  let c1_i32_305 : BitVec 32 := 1#32
  let v341 : BitVec 32 := Scalar.muli v17 c1_i32_305
  let v342 : BitVec 32 := Scalar.addi c0_i32_306 v341
  v342.toNat
def k0_dev21 (v17 : BitVec 32) : Nat :=
  let c0_i32_323 : BitVec 32 := 0#32
  let c1_i32_322 : BitVec 32 := 1#32
  let v357 : BitVec 32 := Scalar.muli v17 c1_i32_322
  let v358 : BitVec 32 := Scalar.addi c0_i32_323 v357
  v358.toNat
def k0_dev22 (v17 : BitVec 32) : Nat :=
  let c0_i32_340 : BitVec 32 := 0#32
  let c1_i32_339 : BitVec 32 := 1#32
  let v373 : BitVec 32 := Scalar.muli v17 c1_i32_339
  let v374 : BitVec 32 := Scalar.addi c0_i32_340 v373
  v374.toNat
def k0_off21 (v4 : BitVec 32) : Fin 1 → Nat :=
  let c2_i32_343 : BitVec 32 := 2#32
  let v381 : BitVec 32 := Scalar.addi v4 c2_i32_343
  let c32_i32_344 : BitVec 32 := 32#32
  let c0_i32_345 : BitVec 32 := 0#32
  let v382 : BitVec 1 := Scalar.cmpi .eq c32_i32_344 c0_i32_345
  let c1_i32_346 : BitVec 32 := 1#32
  let v383 : BitVec 32 := Scalar.select v382 c1_i32_346 c32_i32_344
  let v384 : BitVec 32 := Scalar.remsi v381 v383
  let c0_i32_348 : BitVec 32 := 0#32
  let v386 : BitVec 1 := Scalar.cmpi .slt v384 c0_i32_348
  let c0_i32_349 : BitVec 32 := 0#32
  let v387 : BitVec 1 := Scalar.cmpi .slt v383 c0_i32_349
  let v388 : BitVec 1 := Scalar.xori v386 v387
  let c0_i32_347 : BitVec 32 := 0#32
  let v385 : BitVec 1 := Scalar.cmpi .ne v384 c0_i32_347
  let v389 : BitVec 1 := Scalar.andi v388 v385
  let v390 : BitVec 32 := Scalar.addi v384 v383
  let v391 : BitVec 32 := Scalar.select v389 v390 v384
  let v392 : Index := Scalar.indexCast v391
  ![v392.toNat]
def k0_off22 (v239 : BitVec 32) : Fin 2 → Nat :=
  let c2048_i32_204 : BitVec 32 := 2048#32
  let v246 : BitVec 32 := Scalar.muli v239 c2048_i32_204
  let c0_i32_205 : BitVec 32 := 0#32
  let v247 : BitVec 32 := Scalar.addi v246 c0_i32_205
  let c0_i32_356 : BitVec 32 := 0#32
  ![v247.toNat, 0]
def k0_off23 (v393 : BitVec 32) (c0_i32_359 : BitVec 32) : Fin 2 → Nat :=
  let c2048_i32_358 : BitVec 32 := 2048#32
  let v400 : BitVec 32 := Scalar.muli v393 c2048_i32_358
  let v401 : BitVec 32 := Scalar.addi v400 c0_i32_359
  let c0_i32_366 : BitVec 32 := 0#32
  ![v401.toNat, 0]

def k0_dev23 (v30 : BitVec 32) : Nat :=
  let c0_i32_365 : BitVec 32 := 0#32
  let c1_i32_364 : BitVec 32 := 1#32
  let v402 : BitVec 32 := Scalar.muli v30 c1_i32_364
  let v403 : BitVec 32 := Scalar.addi c0_i32_365 v402
  v403.toNat
def k0_off24 (v239 : BitVec 32) (c512_i32_223 : BitVec 32) : Fin 2 → Nat :=
  let c2048_i32_222 : BitVec 32 := 2048#32
  let v262 : BitVec 32 := Scalar.muli v239 c2048_i32_222
  let v263 : BitVec 32 := Scalar.addi v262 c512_i32_223
  let c0_i32_374 : BitVec 32 := 0#32
  ![v263.toNat, 0]
def k0_dev24 (v30 : BitVec 32) : Nat :=
  let c0_i32_383 : BitVec 32 := 0#32
  let c1_i32_382 : BitVec 32 := 1#32
  let v418 : BitVec 32 := Scalar.muli v30 c1_i32_382
  let v419 : BitVec 32 := Scalar.addi c0_i32_383 v418
  v419.toNat
def k0_dev25 (v30 : BitVec 32) : Nat :=
  let c0_i32_401 : BitVec 32 := 0#32
  let c1_i32_400 : BitVec 32 := 1#32
  let v434 : BitVec 32 := Scalar.muli v30 c1_i32_400
  let v435 : BitVec 32 := Scalar.addi c0_i32_401 v434
  v435.toNat
def k0_dev26 (v30 : BitVec 32) : Nat :=
  let c0_i32_419 : BitVec 32 := 0#32
  let c1_i32_418 : BitVec 32 := 1#32
  let v450 : BitVec 32 := Scalar.muli v30 c1_i32_418
  let v451 : BitVec 32 := Scalar.addi c0_i32_419 v450
  v451.toNat
def k0_off25 (v4 : BitVec 32) : Fin 1 → Nat :=
  let c3_i32_422 : BitVec 32 := 3#32
  let v458 : BitVec 32 := Scalar.subi v4 c3_i32_422
  let c32_i32_423 : BitVec 32 := 32#32
  let c0_i32_424 : BitVec 32 := 0#32
  let v459 : BitVec 1 := Scalar.cmpi .eq c32_i32_423 c0_i32_424
  let c1_i32_425 : BitVec 32 := 1#32
  let v460 : BitVec 32 := Scalar.select v459 c1_i32_425 c32_i32_423
  let v461 : BitVec 32 := Scalar.remsi v458 v460
  let c0_i32_427 : BitVec 32 := 0#32
  let v463 : BitVec 1 := Scalar.cmpi .slt v461 c0_i32_427
  let c0_i32_428 : BitVec 32 := 0#32
  let v464 : BitVec 1 := Scalar.cmpi .slt v460 c0_i32_428
  let v465 : BitVec 1 := Scalar.xori v463 v464
  let c0_i32_426 : BitVec 32 := 0#32
  let v462 : BitVec 1 := Scalar.cmpi .ne v461 c0_i32_426
  let v466 : BitVec 1 := Scalar.andi v465 v462
  let v467 : BitVec 32 := Scalar.addi v461 v460
  let v468 : BitVec 32 := Scalar.select v466 v467 v461
  let v469 : Index := Scalar.indexCast v468
  ![v469.toNat]
def k0_off26 (v316 : BitVec 32) : Fin 2 → Nat :=
  let c2048_i32_283 : BitVec 32 := 2048#32
  let v323 : BitVec 32 := Scalar.muli v316 c2048_i32_283
  let c0_i32_284 : BitVec 32 := 0#32
  let v324 : BitVec 32 := Scalar.addi v323 c0_i32_284
  let c0_i32_435 : BitVec 32 := 0#32
  ![v324.toNat, 0]
def k0_off27 (v470 : BitVec 32) (c0_i32_438 : BitVec 32) : Fin 2 → Nat :=
  let c2048_i32_437 : BitVec 32 := 2048#32
  let v477 : BitVec 32 := Scalar.muli v470 c2048_i32_437
  let v478 : BitVec 32 := Scalar.addi v477 c0_i32_438
  let c0_i32_444 : BitVec 32 := 0#32
  ![v478.toNat, 0]

def k0_dev27 (v17 : BitVec 32) : Nat :=
  let c0_i32_443 : BitVec 32 := 0#32
  let c1_i32_442 : BitVec 32 := 1#32
  let v479 : BitVec 32 := Scalar.muli v17 c1_i32_442
  let v480 : BitVec 32 := Scalar.addi c0_i32_443 v479
  v480.toNat
def k0_off28 (v316 : BitVec 32) (c512_i32_301 : BitVec 32) : Fin 2 → Nat :=
  let c2048_i32_300 : BitVec 32 := 2048#32
  let v339 : BitVec 32 := Scalar.muli v316 c2048_i32_300
  let v340 : BitVec 32 := Scalar.addi v339 c512_i32_301
  let c0_i32_452 : BitVec 32 := 0#32
  ![v340.toNat, 0]
def k0_dev28 (v17 : BitVec 32) : Nat :=
  let c0_i32_460 : BitVec 32 := 0#32
  let c1_i32_459 : BitVec 32 := 1#32
  let v495 : BitVec 32 := Scalar.muli v17 c1_i32_459
  let v496 : BitVec 32 := Scalar.addi c0_i32_460 v495
  v496.toNat
def k0_dev29 (v17 : BitVec 32) : Nat :=
  let c0_i32_477 : BitVec 32 := 0#32
  let c1_i32_476 : BitVec 32 := 1#32
  let v511 : BitVec 32 := Scalar.muli v17 c1_i32_476
  let v512 : BitVec 32 := Scalar.addi c0_i32_477 v511
  v512.toNat
def k0_dev30 (v17 : BitVec 32) : Nat :=
  let c0_i32_494 : BitVec 32 := 0#32
  let c1_i32_493 : BitVec 32 := 1#32
  let v527 : BitVec 32 := Scalar.muli v17 c1_i32_493
  let v528 : BitVec 32 := Scalar.addi c0_i32_494 v527
  v528.toNat
def k0_off29 (v4 : BitVec 32) : Fin 1 → Nat :=
  let c3_i32_497 : BitVec 32 := 3#32
  let v535 : BitVec 32 := Scalar.addi v4 c3_i32_497
  let c32_i32_498 : BitVec 32 := 32#32
  let c0_i32_499 : BitVec 32 := 0#32
  let v536 : BitVec 1 := Scalar.cmpi .eq c32_i32_498 c0_i32_499
  let c1_i32_500 : BitVec 32 := 1#32
  let v537 : BitVec 32 := Scalar.select v536 c1_i32_500 c32_i32_498
  let v538 : BitVec 32 := Scalar.remsi v535 v537
  let c0_i32_502 : BitVec 32 := 0#32
  let v540 : BitVec 1 := Scalar.cmpi .slt v538 c0_i32_502
  let c0_i32_503 : BitVec 32 := 0#32
  let v541 : BitVec 1 := Scalar.cmpi .slt v537 c0_i32_503
  let v542 : BitVec 1 := Scalar.xori v540 v541
  let c0_i32_501 : BitVec 32 := 0#32
  let v539 : BitVec 1 := Scalar.cmpi .ne v538 c0_i32_501
  let v543 : BitVec 1 := Scalar.andi v542 v539
  let v544 : BitVec 32 := Scalar.addi v538 v537
  let v545 : BitVec 32 := Scalar.select v543 v544 v538
  let v546 : Index := Scalar.indexCast v545
  ![v546.toNat]
def k0_off30 (v393 : BitVec 32) : Fin 2 → Nat :=
  let c2048_i32_358 : BitVec 32 := 2048#32
  let v400 : BitVec 32 := Scalar.muli v393 c2048_i32_358
  let c0_i32_359 : BitVec 32 := 0#32
  let v401 : BitVec 32 := Scalar.addi v400 c0_i32_359
  let c0_i32_510 : BitVec 32 := 0#32
  ![v401.toNat, 0]
def k0_off31 (v547 : BitVec 32) (c0_i32_513 : BitVec 32) : Fin 2 → Nat :=
  let c2048_i32_512 : BitVec 32 := 2048#32
  let v554 : BitVec 32 := Scalar.muli v547 c2048_i32_512
  let v555 : BitVec 32 := Scalar.addi v554 c0_i32_513
  let c0_i32_520 : BitVec 32 := 0#32
  ![v555.toNat, 0]

def k0_dev31 (v30 : BitVec 32) : Nat :=
  let c0_i32_519 : BitVec 32 := 0#32
  let c1_i32_518 : BitVec 32 := 1#32
  let v556 : BitVec 32 := Scalar.muli v30 c1_i32_518
  let v557 : BitVec 32 := Scalar.addi c0_i32_519 v556
  v557.toNat
def k0_off32 (v393 : BitVec 32) (c512_i32_377 : BitVec 32) : Fin 2 → Nat :=
  let c2048_i32_376 : BitVec 32 := 2048#32
  let v416 : BitVec 32 := Scalar.muli v393 c2048_i32_376
  let v417 : BitVec 32 := Scalar.addi v416 c512_i32_377
  let c0_i32_528 : BitVec 32 := 0#32
  ![v417.toNat, 0]
def k0_dev32 (v30 : BitVec 32) : Nat :=
  let c0_i32_537 : BitVec 32 := 0#32
  let c1_i32_536 : BitVec 32 := 1#32
  let v572 : BitVec 32 := Scalar.muli v30 c1_i32_536
  let v573 : BitVec 32 := Scalar.addi c0_i32_537 v572
  v573.toNat
def k0_dev33 (v30 : BitVec 32) : Nat :=
  let c0_i32_555 : BitVec 32 := 0#32
  let c1_i32_554 : BitVec 32 := 1#32
  let v588 : BitVec 32 := Scalar.muli v30 c1_i32_554
  let v589 : BitVec 32 := Scalar.addi c0_i32_555 v588
  v589.toNat
def k0_dev34 (v30 : BitVec 32) : Nat :=
  let c0_i32_573 : BitVec 32 := 0#32
  let c1_i32_572 : BitVec 32 := 1#32
  let v604 : BitVec 32 := Scalar.muli v30 c1_i32_572
  let v605 : BitVec 32 := Scalar.addi c0_i32_573 v604
  v605.toNat
def k0_off33 (v4 : BitVec 32) : Fin 1 → Nat :=
  let c4_i32_576 : BitVec 32 := 4#32
  let v612 : BitVec 32 := Scalar.subi v4 c4_i32_576
  let c32_i32_577 : BitVec 32 := 32#32
  let c0_i32_578 : BitVec 32 := 0#32
  let v613 : BitVec 1 := Scalar.cmpi .eq c32_i32_577 c0_i32_578
  let c1_i32_579 : BitVec 32 := 1#32
  let v614 : BitVec 32 := Scalar.select v613 c1_i32_579 c32_i32_577
  let v615 : BitVec 32 := Scalar.remsi v612 v614
  let c0_i32_581 : BitVec 32 := 0#32
  let v617 : BitVec 1 := Scalar.cmpi .slt v615 c0_i32_581
  let c0_i32_582 : BitVec 32 := 0#32
  let v618 : BitVec 1 := Scalar.cmpi .slt v614 c0_i32_582
  let v619 : BitVec 1 := Scalar.xori v617 v618
  let c0_i32_580 : BitVec 32 := 0#32
  let v616 : BitVec 1 := Scalar.cmpi .ne v615 c0_i32_580
  let v620 : BitVec 1 := Scalar.andi v619 v616
  let v621 : BitVec 32 := Scalar.addi v615 v614
  let v622 : BitVec 32 := Scalar.select v620 v621 v615
  let v623 : Index := Scalar.indexCast v622
  ![v623.toNat]
def k0_off34 (v470 : BitVec 32) : Fin 2 → Nat :=
  let c2048_i32_437 : BitVec 32 := 2048#32
  let v477 : BitVec 32 := Scalar.muli v470 c2048_i32_437
  let c0_i32_438 : BitVec 32 := 0#32
  let v478 : BitVec 32 := Scalar.addi v477 c0_i32_438
  let c0_i32_589 : BitVec 32 := 0#32
  ![v478.toNat, 0]
def k0_off35 (v624 : BitVec 32) (c0_i32_592 : BitVec 32) : Fin 2 → Nat :=
  let c2048_i32_591 : BitVec 32 := 2048#32
  let v631 : BitVec 32 := Scalar.muli v624 c2048_i32_591
  let v632 : BitVec 32 := Scalar.addi v631 c0_i32_592
  let c0_i32_598 : BitVec 32 := 0#32
  ![v632.toNat, 0]

def k0_dev35 (v17 : BitVec 32) : Nat :=
  let c0_i32_597 : BitVec 32 := 0#32
  let c1_i32_596 : BitVec 32 := 1#32
  let v633 : BitVec 32 := Scalar.muli v17 c1_i32_596
  let v634 : BitVec 32 := Scalar.addi c0_i32_597 v633
  v634.toNat
def k0_off36 (v470 : BitVec 32) (c512_i32_455 : BitVec 32) : Fin 2 → Nat :=
  let c2048_i32_454 : BitVec 32 := 2048#32
  let v493 : BitVec 32 := Scalar.muli v470 c2048_i32_454
  let v494 : BitVec 32 := Scalar.addi v493 c512_i32_455
  let c0_i32_606 : BitVec 32 := 0#32
  ![v494.toNat, 0]
def k0_dev36 (v17 : BitVec 32) : Nat :=
  let c0_i32_614 : BitVec 32 := 0#32
  let c1_i32_613 : BitVec 32 := 1#32
  let v649 : BitVec 32 := Scalar.muli v17 c1_i32_613
  let v650 : BitVec 32 := Scalar.addi c0_i32_614 v649
  v650.toNat
def k0_dev37 (v17 : BitVec 32) : Nat :=
  let c0_i32_631 : BitVec 32 := 0#32
  let c1_i32_630 : BitVec 32 := 1#32
  let v665 : BitVec 32 := Scalar.muli v17 c1_i32_630
  let v666 : BitVec 32 := Scalar.addi c0_i32_631 v665
  v666.toNat
def k0_dev38 (v17 : BitVec 32) : Nat :=
  let c0_i32_648 : BitVec 32 := 0#32
  let c1_i32_647 : BitVec 32 := 1#32
  let v681 : BitVec 32 := Scalar.muli v17 c1_i32_647
  let v682 : BitVec 32 := Scalar.addi c0_i32_648 v681
  v682.toNat
def k0_off37 (v4 : BitVec 32) : Fin 1 → Nat :=
  let c4_i32_651 : BitVec 32 := 4#32
  let v689 : BitVec 32 := Scalar.addi v4 c4_i32_651
  let c32_i32_652 : BitVec 32 := 32#32
  let c0_i32_653 : BitVec 32 := 0#32
  let v690 : BitVec 1 := Scalar.cmpi .eq c32_i32_652 c0_i32_653
  let c1_i32_654 : BitVec 32 := 1#32
  let v691 : BitVec 32 := Scalar.select v690 c1_i32_654 c32_i32_652
  let v692 : BitVec 32 := Scalar.remsi v689 v691
  let c0_i32_656 : BitVec 32 := 0#32
  let v694 : BitVec 1 := Scalar.cmpi .slt v692 c0_i32_656
  let c0_i32_657 : BitVec 32 := 0#32
  let v695 : BitVec 1 := Scalar.cmpi .slt v691 c0_i32_657
  let v696 : BitVec 1 := Scalar.xori v694 v695
  let c0_i32_655 : BitVec 32 := 0#32
  let v693 : BitVec 1 := Scalar.cmpi .ne v692 c0_i32_655
  let v697 : BitVec 1 := Scalar.andi v696 v693
  let v698 : BitVec 32 := Scalar.addi v692 v691
  let v699 : BitVec 32 := Scalar.select v697 v698 v692
  let v700 : Index := Scalar.indexCast v699
  ![v700.toNat]
def k0_off38 (v547 : BitVec 32) : Fin 2 → Nat :=
  let c2048_i32_512 : BitVec 32 := 2048#32
  let v554 : BitVec 32 := Scalar.muli v547 c2048_i32_512
  let c0_i32_513 : BitVec 32 := 0#32
  let v555 : BitVec 32 := Scalar.addi v554 c0_i32_513
  let c0_i32_664 : BitVec 32 := 0#32
  ![v555.toNat, 0]
def k0_off39 (v701 : BitVec 32) (c0_i32_667 : BitVec 32) : Fin 2 → Nat :=
  let c2048_i32_666 : BitVec 32 := 2048#32
  let v708 : BitVec 32 := Scalar.muli v701 c2048_i32_666
  let v709 : BitVec 32 := Scalar.addi v708 c0_i32_667
  let c0_i32_674 : BitVec 32 := 0#32
  ![v709.toNat, 0]

def k0_dev39 (v30 : BitVec 32) : Nat :=
  let c0_i32_673 : BitVec 32 := 0#32
  let c1_i32_672 : BitVec 32 := 1#32
  let v710 : BitVec 32 := Scalar.muli v30 c1_i32_672
  let v711 : BitVec 32 := Scalar.addi c0_i32_673 v710
  v711.toNat
def k0_off40 (v547 : BitVec 32) (c512_i32_531 : BitVec 32) : Fin 2 → Nat :=
  let c2048_i32_530 : BitVec 32 := 2048#32
  let v570 : BitVec 32 := Scalar.muli v547 c2048_i32_530
  let v571 : BitVec 32 := Scalar.addi v570 c512_i32_531
  let c0_i32_682 : BitVec 32 := 0#32
  ![v571.toNat, 0]
def k0_dev40 (v30 : BitVec 32) : Nat :=
  let c0_i32_691 : BitVec 32 := 0#32
  let c1_i32_690 : BitVec 32 := 1#32
  let v726 : BitVec 32 := Scalar.muli v30 c1_i32_690
  let v727 : BitVec 32 := Scalar.addi c0_i32_691 v726
  v727.toNat
def k0_dev41 (v30 : BitVec 32) : Nat :=
  let c0_i32_709 : BitVec 32 := 0#32
  let c1_i32_708 : BitVec 32 := 1#32
  let v742 : BitVec 32 := Scalar.muli v30 c1_i32_708
  let v743 : BitVec 32 := Scalar.addi c0_i32_709 v742
  v743.toNat
def k0_dev42 (v30 : BitVec 32) : Nat :=
  let c0_i32_727 : BitVec 32 := 0#32
  let c1_i32_726 : BitVec 32 := 1#32
  let v758 : BitVec 32 := Scalar.muli v30 c1_i32_726
  let v759 : BitVec 32 := Scalar.addi c0_i32_727 v758
  v759.toNat
def k0_off41 (v4 : BitVec 32) : Fin 1 → Nat :=
  let c5_i32_730 : BitVec 32 := 5#32
  let v766 : BitVec 32 := Scalar.subi v4 c5_i32_730
  let c32_i32_731 : BitVec 32 := 32#32
  let c0_i32_732 : BitVec 32 := 0#32
  let v767 : BitVec 1 := Scalar.cmpi .eq c32_i32_731 c0_i32_732
  let c1_i32_733 : BitVec 32 := 1#32
  let v768 : BitVec 32 := Scalar.select v767 c1_i32_733 c32_i32_731
  let v769 : BitVec 32 := Scalar.remsi v766 v768
  let c0_i32_735 : BitVec 32 := 0#32
  let v771 : BitVec 1 := Scalar.cmpi .slt v769 c0_i32_735
  let c0_i32_736 : BitVec 32 := 0#32
  let v772 : BitVec 1 := Scalar.cmpi .slt v768 c0_i32_736
  let v773 : BitVec 1 := Scalar.xori v771 v772
  let c0_i32_734 : BitVec 32 := 0#32
  let v770 : BitVec 1 := Scalar.cmpi .ne v769 c0_i32_734
  let v774 : BitVec 1 := Scalar.andi v773 v770
  let v775 : BitVec 32 := Scalar.addi v769 v768
  let v776 : BitVec 32 := Scalar.select v774 v775 v769
  let v777 : Index := Scalar.indexCast v776
  ![v777.toNat]
def k0_off42 (v624 : BitVec 32) : Fin 2 → Nat :=
  let c2048_i32_591 : BitVec 32 := 2048#32
  let v631 : BitVec 32 := Scalar.muli v624 c2048_i32_591
  let c0_i32_592 : BitVec 32 := 0#32
  let v632 : BitVec 32 := Scalar.addi v631 c0_i32_592
  let c0_i32_743 : BitVec 32 := 0#32
  ![v632.toNat, 0]
def k0_off43 (v778 : BitVec 32) (c0_i32_746 : BitVec 32) : Fin 2 → Nat :=
  let c2048_i32_745 : BitVec 32 := 2048#32
  let v785 : BitVec 32 := Scalar.muli v778 c2048_i32_745
  let v786 : BitVec 32 := Scalar.addi v785 c0_i32_746
  let c0_i32_752 : BitVec 32 := 0#32
  ![v786.toNat, 0]

def k0_dev43 (v17 : BitVec 32) : Nat :=
  let c0_i32_751 : BitVec 32 := 0#32
  let c1_i32_750 : BitVec 32 := 1#32
  let v787 : BitVec 32 := Scalar.muli v17 c1_i32_750
  let v788 : BitVec 32 := Scalar.addi c0_i32_751 v787
  v788.toNat
def k0_off44 (v624 : BitVec 32) (c512_i32_609 : BitVec 32) : Fin 2 → Nat :=
  let c2048_i32_608 : BitVec 32 := 2048#32
  let v647 : BitVec 32 := Scalar.muli v624 c2048_i32_608
  let v648 : BitVec 32 := Scalar.addi v647 c512_i32_609
  let c0_i32_760 : BitVec 32 := 0#32
  ![v648.toNat, 0]
def k0_dev44 (v17 : BitVec 32) : Nat :=
  let c0_i32_768 : BitVec 32 := 0#32
  let c1_i32_767 : BitVec 32 := 1#32
  let v803 : BitVec 32 := Scalar.muli v17 c1_i32_767
  let v804 : BitVec 32 := Scalar.addi c0_i32_768 v803
  v804.toNat
def k0_dev45 (v17 : BitVec 32) : Nat :=
  let c0_i32_785 : BitVec 32 := 0#32
  let c1_i32_784 : BitVec 32 := 1#32
  let v819 : BitVec 32 := Scalar.muli v17 c1_i32_784
  let v820 : BitVec 32 := Scalar.addi c0_i32_785 v819
  v820.toNat
def k0_dev46 (v17 : BitVec 32) : Nat :=
  let c0_i32_802 : BitVec 32 := 0#32
  let c1_i32_801 : BitVec 32 := 1#32
  let v835 : BitVec 32 := Scalar.muli v17 c1_i32_801
  let v836 : BitVec 32 := Scalar.addi c0_i32_802 v835
  v836.toNat
def k0_off45 (v4 : BitVec 32) : Fin 1 → Nat :=
  let c5_i32_805 : BitVec 32 := 5#32
  let v843 : BitVec 32 := Scalar.addi v4 c5_i32_805
  let c32_i32_806 : BitVec 32 := 32#32
  let c0_i32_807 : BitVec 32 := 0#32
  let v844 : BitVec 1 := Scalar.cmpi .eq c32_i32_806 c0_i32_807
  let c1_i32_808 : BitVec 32 := 1#32
  let v845 : BitVec 32 := Scalar.select v844 c1_i32_808 c32_i32_806
  let v846 : BitVec 32 := Scalar.remsi v843 v845
  let c0_i32_810 : BitVec 32 := 0#32
  let v848 : BitVec 1 := Scalar.cmpi .slt v846 c0_i32_810
  let c0_i32_811 : BitVec 32 := 0#32
  let v849 : BitVec 1 := Scalar.cmpi .slt v845 c0_i32_811
  let v850 : BitVec 1 := Scalar.xori v848 v849
  let c0_i32_809 : BitVec 32 := 0#32
  let v847 : BitVec 1 := Scalar.cmpi .ne v846 c0_i32_809
  let v851 : BitVec 1 := Scalar.andi v850 v847
  let v852 : BitVec 32 := Scalar.addi v846 v845
  let v853 : BitVec 32 := Scalar.select v851 v852 v846
  let v854 : Index := Scalar.indexCast v853
  ![v854.toNat]
def k0_off46 (v701 : BitVec 32) : Fin 2 → Nat :=
  let c2048_i32_666 : BitVec 32 := 2048#32
  let v708 : BitVec 32 := Scalar.muli v701 c2048_i32_666
  let c0_i32_667 : BitVec 32 := 0#32
  let v709 : BitVec 32 := Scalar.addi v708 c0_i32_667
  let c0_i32_818 : BitVec 32 := 0#32
  ![v709.toNat, 0]
def k0_off47 (v855 : BitVec 32) (c0_i32_821 : BitVec 32) : Fin 2 → Nat :=
  let c2048_i32_820 : BitVec 32 := 2048#32
  let v862 : BitVec 32 := Scalar.muli v855 c2048_i32_820
  let v863 : BitVec 32 := Scalar.addi v862 c0_i32_821
  let c0_i32_828 : BitVec 32 := 0#32
  ![v863.toNat, 0]

def k0_dev47 (v30 : BitVec 32) : Nat :=
  let c0_i32_827 : BitVec 32 := 0#32
  let c1_i32_826 : BitVec 32 := 1#32
  let v864 : BitVec 32 := Scalar.muli v30 c1_i32_826
  let v865 : BitVec 32 := Scalar.addi c0_i32_827 v864
  v865.toNat
def k0_off48 (v701 : BitVec 32) (c512_i32_685 : BitVec 32) : Fin 2 → Nat :=
  let c2048_i32_684 : BitVec 32 := 2048#32
  let v724 : BitVec 32 := Scalar.muli v701 c2048_i32_684
  let v725 : BitVec 32 := Scalar.addi v724 c512_i32_685
  let c0_i32_836 : BitVec 32 := 0#32
  ![v725.toNat, 0]
def k0_dev48 (v30 : BitVec 32) : Nat :=
  let c0_i32_845 : BitVec 32 := 0#32
  let c1_i32_844 : BitVec 32 := 1#32
  let v880 : BitVec 32 := Scalar.muli v30 c1_i32_844
  let v881 : BitVec 32 := Scalar.addi c0_i32_845 v880
  v881.toNat
def k0_dev49 (v30 : BitVec 32) : Nat :=
  let c0_i32_863 : BitVec 32 := 0#32
  let c1_i32_862 : BitVec 32 := 1#32
  let v896 : BitVec 32 := Scalar.muli v30 c1_i32_862
  let v897 : BitVec 32 := Scalar.addi c0_i32_863 v896
  v897.toNat
def k0_dev50 (v30 : BitVec 32) : Nat :=
  let c0_i32_881 : BitVec 32 := 0#32
  let c1_i32_880 : BitVec 32 := 1#32
  let v912 : BitVec 32 := Scalar.muli v30 c1_i32_880
  let v913 : BitVec 32 := Scalar.addi c0_i32_881 v912
  v913.toNat
def k0_off49 (v4 : BitVec 32) : Fin 1 → Nat :=
  let c6_i32_884 : BitVec 32 := 6#32
  let v920 : BitVec 32 := Scalar.subi v4 c6_i32_884
  let c32_i32_885 : BitVec 32 := 32#32
  let c0_i32_886 : BitVec 32 := 0#32
  let v921 : BitVec 1 := Scalar.cmpi .eq c32_i32_885 c0_i32_886
  let c1_i32_887 : BitVec 32 := 1#32
  let v922 : BitVec 32 := Scalar.select v921 c1_i32_887 c32_i32_885
  let v923 : BitVec 32 := Scalar.remsi v920 v922
  let c0_i32_889 : BitVec 32 := 0#32
  let v925 : BitVec 1 := Scalar.cmpi .slt v923 c0_i32_889
  let c0_i32_890 : BitVec 32 := 0#32
  let v926 : BitVec 1 := Scalar.cmpi .slt v922 c0_i32_890
  let v927 : BitVec 1 := Scalar.xori v925 v926
  let c0_i32_888 : BitVec 32 := 0#32
  let v924 : BitVec 1 := Scalar.cmpi .ne v923 c0_i32_888
  let v928 : BitVec 1 := Scalar.andi v927 v924
  let v929 : BitVec 32 := Scalar.addi v923 v922
  let v930 : BitVec 32 := Scalar.select v928 v929 v923
  let v931 : Index := Scalar.indexCast v930
  ![v931.toNat]
def k0_off50 (v778 : BitVec 32) : Fin 2 → Nat :=
  let c2048_i32_745 : BitVec 32 := 2048#32
  let v785 : BitVec 32 := Scalar.muli v778 c2048_i32_745
  let c0_i32_746 : BitVec 32 := 0#32
  let v786 : BitVec 32 := Scalar.addi v785 c0_i32_746
  let c0_i32_897 : BitVec 32 := 0#32
  ![v786.toNat, 0]
def k0_off51 (v932 : BitVec 32) (c0_i32_900 : BitVec 32) : Fin 2 → Nat :=
  let c2048_i32_899 : BitVec 32 := 2048#32
  let v939 : BitVec 32 := Scalar.muli v932 c2048_i32_899
  let v940 : BitVec 32 := Scalar.addi v939 c0_i32_900
  let c0_i32_906 : BitVec 32 := 0#32
  ![v940.toNat, 0]

def k0_dev51 (v17 : BitVec 32) : Nat :=
  let c0_i32_905 : BitVec 32 := 0#32
  let c1_i32_904 : BitVec 32 := 1#32
  let v941 : BitVec 32 := Scalar.muli v17 c1_i32_904
  let v942 : BitVec 32 := Scalar.addi c0_i32_905 v941
  v942.toNat
def k0_off52 (v778 : BitVec 32) (c512_i32_763 : BitVec 32) : Fin 2 → Nat :=
  let c2048_i32_762 : BitVec 32 := 2048#32
  let v801 : BitVec 32 := Scalar.muli v778 c2048_i32_762
  let v802 : BitVec 32 := Scalar.addi v801 c512_i32_763
  let c0_i32_914 : BitVec 32 := 0#32
  ![v802.toNat, 0]
def k0_dev52 (v17 : BitVec 32) : Nat :=
  let c0_i32_922 : BitVec 32 := 0#32
  let c1_i32_921 : BitVec 32 := 1#32
  let v957 : BitVec 32 := Scalar.muli v17 c1_i32_921
  let v958 : BitVec 32 := Scalar.addi c0_i32_922 v957
  v958.toNat
def k0_dev53 (v17 : BitVec 32) : Nat :=
  let c0_i32_939 : BitVec 32 := 0#32
  let c1_i32_938 : BitVec 32 := 1#32
  let v973 : BitVec 32 := Scalar.muli v17 c1_i32_938
  let v974 : BitVec 32 := Scalar.addi c0_i32_939 v973
  v974.toNat
def k0_dev54 (v17 : BitVec 32) : Nat :=
  let c0_i32_956 : BitVec 32 := 0#32
  let c1_i32_955 : BitVec 32 := 1#32
  let v989 : BitVec 32 := Scalar.muli v17 c1_i32_955
  let v990 : BitVec 32 := Scalar.addi c0_i32_956 v989
  v990.toNat
def k0_off53 (v4 : BitVec 32) : Fin 1 → Nat :=
  let c6_i32_959 : BitVec 32 := 6#32
  let v997 : BitVec 32 := Scalar.addi v4 c6_i32_959
  let c32_i32_960 : BitVec 32 := 32#32
  let c0_i32_961 : BitVec 32 := 0#32
  let v998 : BitVec 1 := Scalar.cmpi .eq c32_i32_960 c0_i32_961
  let c1_i32_962 : BitVec 32 := 1#32
  let v999 : BitVec 32 := Scalar.select v998 c1_i32_962 c32_i32_960
  let v1000 : BitVec 32 := Scalar.remsi v997 v999
  let c0_i32_964 : BitVec 32 := 0#32
  let v1002 : BitVec 1 := Scalar.cmpi .slt v1000 c0_i32_964
  let c0_i32_965 : BitVec 32 := 0#32
  let v1003 : BitVec 1 := Scalar.cmpi .slt v999 c0_i32_965
  let v1004 : BitVec 1 := Scalar.xori v1002 v1003
  let c0_i32_963 : BitVec 32 := 0#32
  let v1001 : BitVec 1 := Scalar.cmpi .ne v1000 c0_i32_963
  let v1005 : BitVec 1 := Scalar.andi v1004 v1001
  let v1006 : BitVec 32 := Scalar.addi v1000 v999
  let v1007 : BitVec 32 := Scalar.select v1005 v1006 v1000
  let v1008 : Index := Scalar.indexCast v1007
  ![v1008.toNat]
def k0_off54 (v855 : BitVec 32) : Fin 2 → Nat :=
  let c2048_i32_820 : BitVec 32 := 2048#32
  let v862 : BitVec 32 := Scalar.muli v855 c2048_i32_820
  let c0_i32_821 : BitVec 32 := 0#32
  let v863 : BitVec 32 := Scalar.addi v862 c0_i32_821
  let c0_i32_972 : BitVec 32 := 0#32
  ![v863.toNat, 0]
def k0_off55 (v1009 : BitVec 32) (c0_i32_975 : BitVec 32) : Fin 2 → Nat :=
  let c2048_i32_974 : BitVec 32 := 2048#32
  let v1016 : BitVec 32 := Scalar.muli v1009 c2048_i32_974
  let v1017 : BitVec 32 := Scalar.addi v1016 c0_i32_975
  let c0_i32_982 : BitVec 32 := 0#32
  ![v1017.toNat, 0]

def k0_dev55 (v30 : BitVec 32) : Nat :=
  let c0_i32_981 : BitVec 32 := 0#32
  let c1_i32_980 : BitVec 32 := 1#32
  let v1018 : BitVec 32 := Scalar.muli v30 c1_i32_980
  let v1019 : BitVec 32 := Scalar.addi c0_i32_981 v1018
  v1019.toNat
def k0_off56 (v855 : BitVec 32) (c512_i32_839 : BitVec 32) : Fin 2 → Nat :=
  let c2048_i32_838 : BitVec 32 := 2048#32
  let v878 : BitVec 32 := Scalar.muli v855 c2048_i32_838
  let v879 : BitVec 32 := Scalar.addi v878 c512_i32_839
  let c0_i32_990 : BitVec 32 := 0#32
  ![v879.toNat, 0]
def k0_dev56 (v30 : BitVec 32) : Nat :=
  let c0_i32_999 : BitVec 32 := 0#32
  let c1_i32_998 : BitVec 32 := 1#32
  let v1034 : BitVec 32 := Scalar.muli v30 c1_i32_998
  let v1035 : BitVec 32 := Scalar.addi c0_i32_999 v1034
  v1035.toNat
def k0_dev57 (v30 : BitVec 32) : Nat :=
  let c0_i32_1017 : BitVec 32 := 0#32
  let c1_i32_1016 : BitVec 32 := 1#32
  let v1050 : BitVec 32 := Scalar.muli v30 c1_i32_1016
  let v1051 : BitVec 32 := Scalar.addi c0_i32_1017 v1050
  v1051.toNat
def k0_dev58 (v30 : BitVec 32) : Nat :=
  let c0_i32_1035 : BitVec 32 := 0#32
  let c1_i32_1034 : BitVec 32 := 1#32
  let v1066 : BitVec 32 := Scalar.muli v30 c1_i32_1034
  let v1067 : BitVec 32 := Scalar.addi c0_i32_1035 v1066
  v1067.toNat
def k0_off57 (v4 : BitVec 32) : Fin 1 → Nat :=
  let c7_i32_1038 : BitVec 32 := 7#32
  let v1074 : BitVec 32 := Scalar.subi v4 c7_i32_1038
  let c32_i32_1039 : BitVec 32 := 32#32
  let c0_i32_1040 : BitVec 32 := 0#32
  let v1075 : BitVec 1 := Scalar.cmpi .eq c32_i32_1039 c0_i32_1040
  let c1_i32_1041 : BitVec 32 := 1#32
  let v1076 : BitVec 32 := Scalar.select v1075 c1_i32_1041 c32_i32_1039
  let v1077 : BitVec 32 := Scalar.remsi v1074 v1076
  let c0_i32_1043 : BitVec 32 := 0#32
  let v1079 : BitVec 1 := Scalar.cmpi .slt v1077 c0_i32_1043
  let c0_i32_1044 : BitVec 32 := 0#32
  let v1080 : BitVec 1 := Scalar.cmpi .slt v1076 c0_i32_1044
  let v1081 : BitVec 1 := Scalar.xori v1079 v1080
  let c0_i32_1042 : BitVec 32 := 0#32
  let v1078 : BitVec 1 := Scalar.cmpi .ne v1077 c0_i32_1042
  let v1082 : BitVec 1 := Scalar.andi v1081 v1078
  let v1083 : BitVec 32 := Scalar.addi v1077 v1076
  let v1084 : BitVec 32 := Scalar.select v1082 v1083 v1077
  let v1085 : Index := Scalar.indexCast v1084
  ![v1085.toNat]
def k0_off58 (v932 : BitVec 32) : Fin 2 → Nat :=
  let c2048_i32_899 : BitVec 32 := 2048#32
  let v939 : BitVec 32 := Scalar.muli v932 c2048_i32_899
  let c0_i32_900 : BitVec 32 := 0#32
  let v940 : BitVec 32 := Scalar.addi v939 c0_i32_900
  let c0_i32_1051 : BitVec 32 := 0#32
  ![v940.toNat, 0]
def k0_off59 (v1086 : BitVec 32) (c0_i32_1054 : BitVec 32) : Fin 2 → Nat :=
  let c2048_i32_1053 : BitVec 32 := 2048#32
  let v1093 : BitVec 32 := Scalar.muli v1086 c2048_i32_1053
  let v1094 : BitVec 32 := Scalar.addi v1093 c0_i32_1054
  let c0_i32_1060 : BitVec 32 := 0#32
  ![v1094.toNat, 0]

def k0_dev59 (v17 : BitVec 32) : Nat :=
  let c0_i32_1059 : BitVec 32 := 0#32
  let c1_i32_1058 : BitVec 32 := 1#32
  let v1095 : BitVec 32 := Scalar.muli v17 c1_i32_1058
  let v1096 : BitVec 32 := Scalar.addi c0_i32_1059 v1095
  v1096.toNat
def k0_off60 (v932 : BitVec 32) (c512_i32_917 : BitVec 32) : Fin 2 → Nat :=
  let c2048_i32_916 : BitVec 32 := 2048#32
  let v955 : BitVec 32 := Scalar.muli v932 c2048_i32_916
  let v956 : BitVec 32 := Scalar.addi v955 c512_i32_917
  let c0_i32_1068 : BitVec 32 := 0#32
  ![v956.toNat, 0]
def k0_dev60 (v17 : BitVec 32) : Nat :=
  let c0_i32_1076 : BitVec 32 := 0#32
  let c1_i32_1075 : BitVec 32 := 1#32
  let v1111 : BitVec 32 := Scalar.muli v17 c1_i32_1075
  let v1112 : BitVec 32 := Scalar.addi c0_i32_1076 v1111
  v1112.toNat
def k0_dev61 (v17 : BitVec 32) : Nat :=
  let c0_i32_1093 : BitVec 32 := 0#32
  let c1_i32_1092 : BitVec 32 := 1#32
  let v1127 : BitVec 32 := Scalar.muli v17 c1_i32_1092
  let v1128 : BitVec 32 := Scalar.addi c0_i32_1093 v1127
  v1128.toNat
def k0_dev62 (v17 : BitVec 32) : Nat :=
  let c0_i32_1110 : BitVec 32 := 0#32
  let c1_i32_1109 : BitVec 32 := 1#32
  let v1143 : BitVec 32 := Scalar.muli v17 c1_i32_1109
  let v1144 : BitVec 32 := Scalar.addi c0_i32_1110 v1143
  v1144.toNat
def k0_off61 (v4 : BitVec 32) : Fin 1 → Nat :=
  let c7_i32_1113 : BitVec 32 := 7#32
  let v1151 : BitVec 32 := Scalar.addi v4 c7_i32_1113
  let c32_i32_1114 : BitVec 32 := 32#32
  let c0_i32_1115 : BitVec 32 := 0#32
  let v1152 : BitVec 1 := Scalar.cmpi .eq c32_i32_1114 c0_i32_1115
  let c1_i32_1116 : BitVec 32 := 1#32
  let v1153 : BitVec 32 := Scalar.select v1152 c1_i32_1116 c32_i32_1114
  let v1154 : BitVec 32 := Scalar.remsi v1151 v1153
  let c0_i32_1118 : BitVec 32 := 0#32
  let v1156 : BitVec 1 := Scalar.cmpi .slt v1154 c0_i32_1118
  let c0_i32_1119 : BitVec 32 := 0#32
  let v1157 : BitVec 1 := Scalar.cmpi .slt v1153 c0_i32_1119
  let v1158 : BitVec 1 := Scalar.xori v1156 v1157
  let c0_i32_1117 : BitVec 32 := 0#32
  let v1155 : BitVec 1 := Scalar.cmpi .ne v1154 c0_i32_1117
  let v1159 : BitVec 1 := Scalar.andi v1158 v1155
  let v1160 : BitVec 32 := Scalar.addi v1154 v1153
  let v1161 : BitVec 32 := Scalar.select v1159 v1160 v1154
  let v1162 : Index := Scalar.indexCast v1161
  ![v1162.toNat]
def k0_off62 (v1009 : BitVec 32) : Fin 2 → Nat :=
  let c2048_i32_974 : BitVec 32 := 2048#32
  let v1016 : BitVec 32 := Scalar.muli v1009 c2048_i32_974
  let c0_i32_975 : BitVec 32 := 0#32
  let v1017 : BitVec 32 := Scalar.addi v1016 c0_i32_975
  let c0_i32_1126 : BitVec 32 := 0#32
  ![v1017.toNat, 0]
def k0_off63 (v1163 : BitVec 32) (c0_i32_1129 : BitVec 32) : Fin 2 → Nat :=
  let c2048_i32_1128 : BitVec 32 := 2048#32
  let v1170 : BitVec 32 := Scalar.muli v1163 c2048_i32_1128
  let v1171 : BitVec 32 := Scalar.addi v1170 c0_i32_1129
  let c0_i32_1136 : BitVec 32 := 0#32
  ![v1171.toNat, 0]

def k0_dev63 (v30 : BitVec 32) : Nat :=
  let c0_i32_1135 : BitVec 32 := 0#32
  let c1_i32_1134 : BitVec 32 := 1#32
  let v1172 : BitVec 32 := Scalar.muli v30 c1_i32_1134
  let v1173 : BitVec 32 := Scalar.addi c0_i32_1135 v1172
  v1173.toNat
def k0_off64 (v1009 : BitVec 32) (c512_i32_993 : BitVec 32) : Fin 2 → Nat :=
  let c2048_i32_992 : BitVec 32 := 2048#32
  let v1032 : BitVec 32 := Scalar.muli v1009 c2048_i32_992
  let v1033 : BitVec 32 := Scalar.addi v1032 c512_i32_993
  let c0_i32_1144 : BitVec 32 := 0#32
  ![v1033.toNat, 0]
def k0_dev64 (v30 : BitVec 32) : Nat :=
  let c0_i32_1153 : BitVec 32 := 0#32
  let c1_i32_1152 : BitVec 32 := 1#32
  let v1188 : BitVec 32 := Scalar.muli v30 c1_i32_1152
  let v1189 : BitVec 32 := Scalar.addi c0_i32_1153 v1188
  v1189.toNat
def k0_dev65 (v30 : BitVec 32) : Nat :=
  let c0_i32_1171 : BitVec 32 := 0#32
  let c1_i32_1170 : BitVec 32 := 1#32
  let v1204 : BitVec 32 := Scalar.muli v30 c1_i32_1170
  let v1205 : BitVec 32 := Scalar.addi c0_i32_1171 v1204
  v1205.toNat
def k0_dev66 (v30 : BitVec 32) : Nat :=
  let c0_i32_1189 : BitVec 32 := 0#32
  let c1_i32_1188 : BitVec 32 := 1#32
  let v1220 : BitVec 32 := Scalar.muli v30 c1_i32_1188
  let v1221 : BitVec 32 := Scalar.addi c0_i32_1189 v1220
  v1221.toNat
def k0_off65 (v4 : BitVec 32) : Fin 1 → Nat :=
  let c8_i32_1192 : BitVec 32 := 8#32
  let v1228 : BitVec 32 := Scalar.subi v4 c8_i32_1192
  let c32_i32_1193 : BitVec 32 := 32#32
  let c0_i32_1194 : BitVec 32 := 0#32
  let v1229 : BitVec 1 := Scalar.cmpi .eq c32_i32_1193 c0_i32_1194
  let c1_i32_1195 : BitVec 32 := 1#32
  let v1230 : BitVec 32 := Scalar.select v1229 c1_i32_1195 c32_i32_1193
  let v1231 : BitVec 32 := Scalar.remsi v1228 v1230
  let c0_i32_1197 : BitVec 32 := 0#32
  let v1233 : BitVec 1 := Scalar.cmpi .slt v1231 c0_i32_1197
  let c0_i32_1198 : BitVec 32 := 0#32
  let v1234 : BitVec 1 := Scalar.cmpi .slt v1230 c0_i32_1198
  let v1235 : BitVec 1 := Scalar.xori v1233 v1234
  let c0_i32_1196 : BitVec 32 := 0#32
  let v1232 : BitVec 1 := Scalar.cmpi .ne v1231 c0_i32_1196
  let v1236 : BitVec 1 := Scalar.andi v1235 v1232
  let v1237 : BitVec 32 := Scalar.addi v1231 v1230
  let v1238 : BitVec 32 := Scalar.select v1236 v1237 v1231
  let v1239 : Index := Scalar.indexCast v1238
  ![v1239.toNat]
def k0_off66 (v1086 : BitVec 32) : Fin 2 → Nat :=
  let c2048_i32_1053 : BitVec 32 := 2048#32
  let v1093 : BitVec 32 := Scalar.muli v1086 c2048_i32_1053
  let c0_i32_1054 : BitVec 32 := 0#32
  let v1094 : BitVec 32 := Scalar.addi v1093 c0_i32_1054
  let c0_i32_1205 : BitVec 32 := 0#32
  ![v1094.toNat, 0]
def k0_off67 (v1240 : BitVec 32) (c0_i32_1208 : BitVec 32) : Fin 2 → Nat :=
  let c2048_i32_1207 : BitVec 32 := 2048#32
  let v1247 : BitVec 32 := Scalar.muli v1240 c2048_i32_1207
  let v1248 : BitVec 32 := Scalar.addi v1247 c0_i32_1208
  let c0_i32_1215 : BitVec 32 := 0#32
  ![v1248.toNat, 0]

def k0_dev67 (v17 : BitVec 32) : Nat :=
  let c0_i32_1214 : BitVec 32 := 0#32
  let c1_i32_1213 : BitVec 32 := 1#32
  let v1249 : BitVec 32 := Scalar.muli v17 c1_i32_1213
  let v1250 : BitVec 32 := Scalar.addi c0_i32_1214 v1249
  v1250.toNat
def k0_off68 (v1086 : BitVec 32) (c512_i32_1071 : BitVec 32) : Fin 2 → Nat :=
  let c2048_i32_1070 : BitVec 32 := 2048#32
  let v1109 : BitVec 32 := Scalar.muli v1086 c2048_i32_1070
  let v1110 : BitVec 32 := Scalar.addi v1109 c512_i32_1071
  let c0_i32_1223 : BitVec 32 := 0#32
  ![v1110.toNat, 0]
def k0_dev68 (v17 : BitVec 32) : Nat :=
  let c0_i32_1231 : BitVec 32 := 0#32
  let c1_i32_1230 : BitVec 32 := 1#32
  let v1265 : BitVec 32 := Scalar.muli v17 c1_i32_1230
  let v1266 : BitVec 32 := Scalar.addi c0_i32_1231 v1265
  v1266.toNat
def k0_dev69 (v17 : BitVec 32) : Nat :=
  let c0_i32_1248 : BitVec 32 := 0#32
  let c1_i32_1247 : BitVec 32 := 1#32
  let v1281 : BitVec 32 := Scalar.muli v17 c1_i32_1247
  let v1282 : BitVec 32 := Scalar.addi c0_i32_1248 v1281
  v1282.toNat
def k0_dev70 (v17 : BitVec 32) : Nat :=
  let c0_i32_1265 : BitVec 32 := 0#32
  let c1_i32_1264 : BitVec 32 := 1#32
  let v1297 : BitVec 32 := Scalar.muli v17 c1_i32_1264
  let v1298 : BitVec 32 := Scalar.addi c0_i32_1265 v1297
  v1298.toNat
def k0_off69 (v4 : BitVec 32) : Fin 1 → Nat :=
  let c8_i32_1268 : BitVec 32 := 8#32
  let v1305 : BitVec 32 := Scalar.addi v4 c8_i32_1268
  let c32_i32_1269 : BitVec 32 := 32#32
  let c0_i32_1270 : BitVec 32 := 0#32
  let v1306 : BitVec 1 := Scalar.cmpi .eq c32_i32_1269 c0_i32_1270
  let c1_i32_1271 : BitVec 32 := 1#32
  let v1307 : BitVec 32 := Scalar.select v1306 c1_i32_1271 c32_i32_1269
  let v1308 : BitVec 32 := Scalar.remsi v1305 v1307
  let c0_i32_1273 : BitVec 32 := 0#32
  let v1310 : BitVec 1 := Scalar.cmpi .slt v1308 c0_i32_1273
  let c0_i32_1274 : BitVec 32 := 0#32
  let v1311 : BitVec 1 := Scalar.cmpi .slt v1307 c0_i32_1274
  let v1312 : BitVec 1 := Scalar.xori v1310 v1311
  let c0_i32_1272 : BitVec 32 := 0#32
  let v1309 : BitVec 1 := Scalar.cmpi .ne v1308 c0_i32_1272
  let v1313 : BitVec 1 := Scalar.andi v1312 v1309
  let v1314 : BitVec 32 := Scalar.addi v1308 v1307
  let v1315 : BitVec 32 := Scalar.select v1313 v1314 v1308
  let v1316 : Index := Scalar.indexCast v1315
  ![v1316.toNat]
def k0_off70 (v1163 : BitVec 32) : Fin 2 → Nat :=
  let c2048_i32_1128 : BitVec 32 := 2048#32
  let v1170 : BitVec 32 := Scalar.muli v1163 c2048_i32_1128
  let c0_i32_1129 : BitVec 32 := 0#32
  let v1171 : BitVec 32 := Scalar.addi v1170 c0_i32_1129
  let c0_i32_1281 : BitVec 32 := 0#32
  ![v1171.toNat, 0]
def k0_off71 (v1317 : BitVec 32) (c0_i32_1284 : BitVec 32) : Fin 2 → Nat :=
  let c2048_i32_1283 : BitVec 32 := 2048#32
  let v1324 : BitVec 32 := Scalar.muli v1317 c2048_i32_1283
  let v1325 : BitVec 32 := Scalar.addi v1324 c0_i32_1284
  let c0_i32_1291 : BitVec 32 := 0#32
  ![v1325.toNat, 0]

def k0_dev71 (v30 : BitVec 32) : Nat :=
  let c0_i32_1290 : BitVec 32 := 0#32
  let c1_i32_1289 : BitVec 32 := 1#32
  let v1326 : BitVec 32 := Scalar.muli v30 c1_i32_1289
  let v1327 : BitVec 32 := Scalar.addi c0_i32_1290 v1326
  v1327.toNat
def k0_off72 (v1163 : BitVec 32) (c512_i32_1147 : BitVec 32) : Fin 2 → Nat :=
  let c2048_i32_1146 : BitVec 32 := 2048#32
  let v1186 : BitVec 32 := Scalar.muli v1163 c2048_i32_1146
  let v1187 : BitVec 32 := Scalar.addi v1186 c512_i32_1147
  let c0_i32_1299 : BitVec 32 := 0#32
  ![v1187.toNat, 0]
def k0_dev72 (v30 : BitVec 32) : Nat :=
  let c0_i32_1308 : BitVec 32 := 0#32
  let c1_i32_1307 : BitVec 32 := 1#32
  let v1342 : BitVec 32 := Scalar.muli v30 c1_i32_1307
  let v1343 : BitVec 32 := Scalar.addi c0_i32_1308 v1342
  v1343.toNat
def k0_dev73 (v30 : BitVec 32) : Nat :=
  let c0_i32_1326 : BitVec 32 := 0#32
  let c1_i32_1325 : BitVec 32 := 1#32
  let v1358 : BitVec 32 := Scalar.muli v30 c1_i32_1325
  let v1359 : BitVec 32 := Scalar.addi c0_i32_1326 v1358
  v1359.toNat
def k0_dev74 (v30 : BitVec 32) : Nat :=
  let c0_i32_1344 : BitVec 32 := 0#32
  let c1_i32_1343 : BitVec 32 := 1#32
  let v1374 : BitVec 32 := Scalar.muli v30 c1_i32_1343
  let v1375 : BitVec 32 := Scalar.addi c0_i32_1344 v1374
  v1375.toNat
def k0_off73 (v4 : BitVec 32) : Fin 1 → Nat :=
  let c9_i32_1347 : BitVec 32 := 9#32
  let v1382 : BitVec 32 := Scalar.subi v4 c9_i32_1347
  let c32_i32_1348 : BitVec 32 := 32#32
  let c0_i32_1349 : BitVec 32 := 0#32
  let v1383 : BitVec 1 := Scalar.cmpi .eq c32_i32_1348 c0_i32_1349
  let c1_i32_1350 : BitVec 32 := 1#32
  let v1384 : BitVec 32 := Scalar.select v1383 c1_i32_1350 c32_i32_1348
  let v1385 : BitVec 32 := Scalar.remsi v1382 v1384
  let c0_i32_1352 : BitVec 32 := 0#32
  let v1387 : BitVec 1 := Scalar.cmpi .slt v1385 c0_i32_1352
  let c0_i32_1353 : BitVec 32 := 0#32
  let v1388 : BitVec 1 := Scalar.cmpi .slt v1384 c0_i32_1353
  let v1389 : BitVec 1 := Scalar.xori v1387 v1388
  let c0_i32_1351 : BitVec 32 := 0#32
  let v1386 : BitVec 1 := Scalar.cmpi .ne v1385 c0_i32_1351
  let v1390 : BitVec 1 := Scalar.andi v1389 v1386
  let v1391 : BitVec 32 := Scalar.addi v1385 v1384
  let v1392 : BitVec 32 := Scalar.select v1390 v1391 v1385
  let v1393 : Index := Scalar.indexCast v1392
  ![v1393.toNat]
def k0_off74 (v1240 : BitVec 32) : Fin 2 → Nat :=
  let c2048_i32_1207 : BitVec 32 := 2048#32
  let v1247 : BitVec 32 := Scalar.muli v1240 c2048_i32_1207
  let c0_i32_1208 : BitVec 32 := 0#32
  let v1248 : BitVec 32 := Scalar.addi v1247 c0_i32_1208
  let c0_i32_1360 : BitVec 32 := 0#32
  ![v1248.toNat, 0]
def k0_off75 (v1394 : BitVec 32) (c0_i32_1363 : BitVec 32) : Fin 2 → Nat :=
  let c2048_i32_1362 : BitVec 32 := 2048#32
  let v1401 : BitVec 32 := Scalar.muli v1394 c2048_i32_1362
  let v1402 : BitVec 32 := Scalar.addi v1401 c0_i32_1363
  let c0_i32_1369 : BitVec 32 := 0#32
  ![v1402.toNat, 0]

def k0_dev75 (v17 : BitVec 32) : Nat :=
  let c0_i32_1368 : BitVec 32 := 0#32
  let c1_i32_1367 : BitVec 32 := 1#32
  let v1403 : BitVec 32 := Scalar.muli v17 c1_i32_1367
  let v1404 : BitVec 32 := Scalar.addi c0_i32_1368 v1403
  v1404.toNat
def k0_off76 (v1240 : BitVec 32) (c512_i32_1226 : BitVec 32) : Fin 2 → Nat :=
  let c2048_i32_1225 : BitVec 32 := 2048#32
  let v1263 : BitVec 32 := Scalar.muli v1240 c2048_i32_1225
  let v1264 : BitVec 32 := Scalar.addi v1263 c512_i32_1226
  let c0_i32_1377 : BitVec 32 := 0#32
  ![v1264.toNat, 0]
def k0_dev76 (v17 : BitVec 32) : Nat :=
  let c0_i32_1385 : BitVec 32 := 0#32
  let c1_i32_1384 : BitVec 32 := 1#32
  let v1419 : BitVec 32 := Scalar.muli v17 c1_i32_1384
  let v1420 : BitVec 32 := Scalar.addi c0_i32_1385 v1419
  v1420.toNat
def k0_dev77 (v17 : BitVec 32) : Nat :=
  let c0_i32_1402 : BitVec 32 := 0#32
  let c1_i32_1401 : BitVec 32 := 1#32
  let v1435 : BitVec 32 := Scalar.muli v17 c1_i32_1401
  let v1436 : BitVec 32 := Scalar.addi c0_i32_1402 v1435
  v1436.toNat
def k0_dev78 (v17 : BitVec 32) : Nat :=
  let c0_i32_1419 : BitVec 32 := 0#32
  let c1_i32_1418 : BitVec 32 := 1#32
  let v1451 : BitVec 32 := Scalar.muli v17 c1_i32_1418
  let v1452 : BitVec 32 := Scalar.addi c0_i32_1419 v1451
  v1452.toNat
def k0_off77 (v4 : BitVec 32) : Fin 1 → Nat :=
  let c9_i32_1422 : BitVec 32 := 9#32
  let v1459 : BitVec 32 := Scalar.addi v4 c9_i32_1422
  let c32_i32_1423 : BitVec 32 := 32#32
  let c0_i32_1424 : BitVec 32 := 0#32
  let v1460 : BitVec 1 := Scalar.cmpi .eq c32_i32_1423 c0_i32_1424
  let c1_i32_1425 : BitVec 32 := 1#32
  let v1461 : BitVec 32 := Scalar.select v1460 c1_i32_1425 c32_i32_1423
  let v1462 : BitVec 32 := Scalar.remsi v1459 v1461
  let c0_i32_1427 : BitVec 32 := 0#32
  let v1464 : BitVec 1 := Scalar.cmpi .slt v1462 c0_i32_1427
  let c0_i32_1428 : BitVec 32 := 0#32
  let v1465 : BitVec 1 := Scalar.cmpi .slt v1461 c0_i32_1428
  let v1466 : BitVec 1 := Scalar.xori v1464 v1465
  let c0_i32_1426 : BitVec 32 := 0#32
  let v1463 : BitVec 1 := Scalar.cmpi .ne v1462 c0_i32_1426
  let v1467 : BitVec 1 := Scalar.andi v1466 v1463
  let v1468 : BitVec 32 := Scalar.addi v1462 v1461
  let v1469 : BitVec 32 := Scalar.select v1467 v1468 v1462
  let v1470 : Index := Scalar.indexCast v1469
  ![v1470.toNat]
def k0_off78 (v1317 : BitVec 32) : Fin 2 → Nat :=
  let c2048_i32_1283 : BitVec 32 := 2048#32
  let v1324 : BitVec 32 := Scalar.muli v1317 c2048_i32_1283
  let c0_i32_1284 : BitVec 32 := 0#32
  let v1325 : BitVec 32 := Scalar.addi v1324 c0_i32_1284
  let c0_i32_1435 : BitVec 32 := 0#32
  ![v1325.toNat, 0]
def k0_off79 (v1471 : BitVec 32) (c0_i32_1438 : BitVec 32) : Fin 2 → Nat :=
  let c2048_i32_1437 : BitVec 32 := 2048#32
  let v1478 : BitVec 32 := Scalar.muli v1471 c2048_i32_1437
  let v1479 : BitVec 32 := Scalar.addi v1478 c0_i32_1438
  let c0_i32_1445 : BitVec 32 := 0#32
  ![v1479.toNat, 0]

def k0_dev79 (v30 : BitVec 32) : Nat :=
  let c0_i32_1444 : BitVec 32 := 0#32
  let c1_i32_1443 : BitVec 32 := 1#32
  let v1480 : BitVec 32 := Scalar.muli v30 c1_i32_1443
  let v1481 : BitVec 32 := Scalar.addi c0_i32_1444 v1480
  v1481.toNat
def k0_off80 (v1317 : BitVec 32) (c512_i32_1302 : BitVec 32) : Fin 2 → Nat :=
  let c2048_i32_1301 : BitVec 32 := 2048#32
  let v1340 : BitVec 32 := Scalar.muli v1317 c2048_i32_1301
  let v1341 : BitVec 32 := Scalar.addi v1340 c512_i32_1302
  let c0_i32_1453 : BitVec 32 := 0#32
  ![v1341.toNat, 0]
def k0_dev80 (v30 : BitVec 32) : Nat :=
  let c0_i32_1462 : BitVec 32 := 0#32
  let c1_i32_1461 : BitVec 32 := 1#32
  let v1496 : BitVec 32 := Scalar.muli v30 c1_i32_1461
  let v1497 : BitVec 32 := Scalar.addi c0_i32_1462 v1496
  v1497.toNat
def k0_dev81 (v30 : BitVec 32) : Nat :=
  let c0_i32_1480 : BitVec 32 := 0#32
  let c1_i32_1479 : BitVec 32 := 1#32
  let v1512 : BitVec 32 := Scalar.muli v30 c1_i32_1479
  let v1513 : BitVec 32 := Scalar.addi c0_i32_1480 v1512
  v1513.toNat
def k0_dev82 (v30 : BitVec 32) : Nat :=
  let c0_i32_1498 : BitVec 32 := 0#32
  let c1_i32_1497 : BitVec 32 := 1#32
  let v1528 : BitVec 32 := Scalar.muli v30 c1_i32_1497
  let v1529 : BitVec 32 := Scalar.addi c0_i32_1498 v1528
  v1529.toNat
def k0_off81 (v4 : BitVec 32) : Fin 1 → Nat :=
  let c10_i32_1501 : BitVec 32 := 10#32
  let v1536 : BitVec 32 := Scalar.subi v4 c10_i32_1501
  let c32_i32_1502 : BitVec 32 := 32#32
  let c0_i32_1503 : BitVec 32 := 0#32
  let v1537 : BitVec 1 := Scalar.cmpi .eq c32_i32_1502 c0_i32_1503
  let c1_i32_1504 : BitVec 32 := 1#32
  let v1538 : BitVec 32 := Scalar.select v1537 c1_i32_1504 c32_i32_1502
  let v1539 : BitVec 32 := Scalar.remsi v1536 v1538
  let c0_i32_1506 : BitVec 32 := 0#32
  let v1541 : BitVec 1 := Scalar.cmpi .slt v1539 c0_i32_1506
  let c0_i32_1507 : BitVec 32 := 0#32
  let v1542 : BitVec 1 := Scalar.cmpi .slt v1538 c0_i32_1507
  let v1543 : BitVec 1 := Scalar.xori v1541 v1542
  let c0_i32_1505 : BitVec 32 := 0#32
  let v1540 : BitVec 1 := Scalar.cmpi .ne v1539 c0_i32_1505
  let v1544 : BitVec 1 := Scalar.andi v1543 v1540
  let v1545 : BitVec 32 := Scalar.addi v1539 v1538
  let v1546 : BitVec 32 := Scalar.select v1544 v1545 v1539
  let v1547 : Index := Scalar.indexCast v1546
  ![v1547.toNat]
def k0_off82 (v1394 : BitVec 32) : Fin 2 → Nat :=
  let c2048_i32_1362 : BitVec 32 := 2048#32
  let v1401 : BitVec 32 := Scalar.muli v1394 c2048_i32_1362
  let c0_i32_1363 : BitVec 32 := 0#32
  let v1402 : BitVec 32 := Scalar.addi v1401 c0_i32_1363
  let c0_i32_1514 : BitVec 32 := 0#32
  ![v1402.toNat, 0]
def k0_off83 (v1548 : BitVec 32) (c0_i32_1517 : BitVec 32) : Fin 2 → Nat :=
  let c2048_i32_1516 : BitVec 32 := 2048#32
  let v1555 : BitVec 32 := Scalar.muli v1548 c2048_i32_1516
  let v1556 : BitVec 32 := Scalar.addi v1555 c0_i32_1517
  let c0_i32_1523 : BitVec 32 := 0#32
  ![v1556.toNat, 0]

def k0_dev83 (v17 : BitVec 32) : Nat :=
  let c0_i32_1522 : BitVec 32 := 0#32
  let c1_i32_1521 : BitVec 32 := 1#32
  let v1557 : BitVec 32 := Scalar.muli v17 c1_i32_1521
  let v1558 : BitVec 32 := Scalar.addi c0_i32_1522 v1557
  v1558.toNat
def k0_off84 (v1394 : BitVec 32) (c512_i32_1380 : BitVec 32) : Fin 2 → Nat :=
  let c2048_i32_1379 : BitVec 32 := 2048#32
  let v1417 : BitVec 32 := Scalar.muli v1394 c2048_i32_1379
  let v1418 : BitVec 32 := Scalar.addi v1417 c512_i32_1380
  let c0_i32_1531 : BitVec 32 := 0#32
  ![v1418.toNat, 0]
def k0_dev84 (v17 : BitVec 32) : Nat :=
  let c0_i32_1539 : BitVec 32 := 0#32
  let c1_i32_1538 : BitVec 32 := 1#32
  let v1573 : BitVec 32 := Scalar.muli v17 c1_i32_1538
  let v1574 : BitVec 32 := Scalar.addi c0_i32_1539 v1573
  v1574.toNat
def k0_dev85 (v17 : BitVec 32) : Nat :=
  let c0_i32_1556 : BitVec 32 := 0#32
  let c1_i32_1555 : BitVec 32 := 1#32
  let v1589 : BitVec 32 := Scalar.muli v17 c1_i32_1555
  let v1590 : BitVec 32 := Scalar.addi c0_i32_1556 v1589
  v1590.toNat
def k0_dev86 (v17 : BitVec 32) : Nat :=
  let c0_i32_1573 : BitVec 32 := 0#32
  let c1_i32_1572 : BitVec 32 := 1#32
  let v1605 : BitVec 32 := Scalar.muli v17 c1_i32_1572
  let v1606 : BitVec 32 := Scalar.addi c0_i32_1573 v1605
  v1606.toNat
def k0_off85 (v4 : BitVec 32) : Fin 1 → Nat :=
  let c10_i32_1576 : BitVec 32 := 10#32
  let v1613 : BitVec 32 := Scalar.addi v4 c10_i32_1576
  let c32_i32_1577 : BitVec 32 := 32#32
  let c0_i32_1578 : BitVec 32 := 0#32
  let v1614 : BitVec 1 := Scalar.cmpi .eq c32_i32_1577 c0_i32_1578
  let c1_i32_1579 : BitVec 32 := 1#32
  let v1615 : BitVec 32 := Scalar.select v1614 c1_i32_1579 c32_i32_1577
  let v1616 : BitVec 32 := Scalar.remsi v1613 v1615
  let c0_i32_1581 : BitVec 32 := 0#32
  let v1618 : BitVec 1 := Scalar.cmpi .slt v1616 c0_i32_1581
  let c0_i32_1582 : BitVec 32 := 0#32
  let v1619 : BitVec 1 := Scalar.cmpi .slt v1615 c0_i32_1582
  let v1620 : BitVec 1 := Scalar.xori v1618 v1619
  let c0_i32_1580 : BitVec 32 := 0#32
  let v1617 : BitVec 1 := Scalar.cmpi .ne v1616 c0_i32_1580
  let v1621 : BitVec 1 := Scalar.andi v1620 v1617
  let v1622 : BitVec 32 := Scalar.addi v1616 v1615
  let v1623 : BitVec 32 := Scalar.select v1621 v1622 v1616
  let v1624 : Index := Scalar.indexCast v1623
  ![v1624.toNat]
def k0_off86 (v1471 : BitVec 32) : Fin 2 → Nat :=
  let c2048_i32_1437 : BitVec 32 := 2048#32
  let v1478 : BitVec 32 := Scalar.muli v1471 c2048_i32_1437
  let c0_i32_1438 : BitVec 32 := 0#32
  let v1479 : BitVec 32 := Scalar.addi v1478 c0_i32_1438
  let c0_i32_1589 : BitVec 32 := 0#32
  ![v1479.toNat, 0]
def k0_off87 (v1625 : BitVec 32) (c0_i32_1592 : BitVec 32) : Fin 2 → Nat :=
  let c2048_i32_1591 : BitVec 32 := 2048#32
  let v1632 : BitVec 32 := Scalar.muli v1625 c2048_i32_1591
  let v1633 : BitVec 32 := Scalar.addi v1632 c0_i32_1592
  let c0_i32_1599 : BitVec 32 := 0#32
  ![v1633.toNat, 0]

def k0_dev87 (v30 : BitVec 32) : Nat :=
  let c0_i32_1598 : BitVec 32 := 0#32
  let c1_i32_1597 : BitVec 32 := 1#32
  let v1634 : BitVec 32 := Scalar.muli v30 c1_i32_1597
  let v1635 : BitVec 32 := Scalar.addi c0_i32_1598 v1634
  v1635.toNat
def k0_off88 (v1471 : BitVec 32) (c512_i32_1456 : BitVec 32) : Fin 2 → Nat :=
  let c2048_i32_1455 : BitVec 32 := 2048#32
  let v1494 : BitVec 32 := Scalar.muli v1471 c2048_i32_1455
  let v1495 : BitVec 32 := Scalar.addi v1494 c512_i32_1456
  let c0_i32_1607 : BitVec 32 := 0#32
  ![v1495.toNat, 0]
def k0_dev88 (v30 : BitVec 32) : Nat :=
  let c0_i32_1616 : BitVec 32 := 0#32
  let c1_i32_1615 : BitVec 32 := 1#32
  let v1650 : BitVec 32 := Scalar.muli v30 c1_i32_1615
  let v1651 : BitVec 32 := Scalar.addi c0_i32_1616 v1650
  v1651.toNat
def k0_dev89 (v30 : BitVec 32) : Nat :=
  let c0_i32_1634 : BitVec 32 := 0#32
  let c1_i32_1633 : BitVec 32 := 1#32
  let v1666 : BitVec 32 := Scalar.muli v30 c1_i32_1633
  let v1667 : BitVec 32 := Scalar.addi c0_i32_1634 v1666
  v1667.toNat
def k0_dev90 (v30 : BitVec 32) : Nat :=
  let c0_i32_1652 : BitVec 32 := 0#32
  let c1_i32_1651 : BitVec 32 := 1#32
  let v1682 : BitVec 32 := Scalar.muli v30 c1_i32_1651
  let v1683 : BitVec 32 := Scalar.addi c0_i32_1652 v1682
  v1683.toNat
def k0_off89 (v4 : BitVec 32) : Fin 1 → Nat :=
  let c11_i32_1655 : BitVec 32 := 11#32
  let v1690 : BitVec 32 := Scalar.subi v4 c11_i32_1655
  let c32_i32_1656 : BitVec 32 := 32#32
  let c0_i32_1657 : BitVec 32 := 0#32
  let v1691 : BitVec 1 := Scalar.cmpi .eq c32_i32_1656 c0_i32_1657
  let c1_i32_1658 : BitVec 32 := 1#32
  let v1692 : BitVec 32 := Scalar.select v1691 c1_i32_1658 c32_i32_1656
  let v1693 : BitVec 32 := Scalar.remsi v1690 v1692
  let c0_i32_1660 : BitVec 32 := 0#32
  let v1695 : BitVec 1 := Scalar.cmpi .slt v1693 c0_i32_1660
  let c0_i32_1661 : BitVec 32 := 0#32
  let v1696 : BitVec 1 := Scalar.cmpi .slt v1692 c0_i32_1661
  let v1697 : BitVec 1 := Scalar.xori v1695 v1696
  let c0_i32_1659 : BitVec 32 := 0#32
  let v1694 : BitVec 1 := Scalar.cmpi .ne v1693 c0_i32_1659
  let v1698 : BitVec 1 := Scalar.andi v1697 v1694
  let v1699 : BitVec 32 := Scalar.addi v1693 v1692
  let v1700 : BitVec 32 := Scalar.select v1698 v1699 v1693
  let v1701 : Index := Scalar.indexCast v1700
  ![v1701.toNat]
def k0_off90 (v1548 : BitVec 32) : Fin 2 → Nat :=
  let c2048_i32_1516 : BitVec 32 := 2048#32
  let v1555 : BitVec 32 := Scalar.muli v1548 c2048_i32_1516
  let c0_i32_1517 : BitVec 32 := 0#32
  let v1556 : BitVec 32 := Scalar.addi v1555 c0_i32_1517
  let c0_i32_1668 : BitVec 32 := 0#32
  ![v1556.toNat, 0]
def k0_off91 (v1702 : BitVec 32) (c0_i32_1671 : BitVec 32) : Fin 2 → Nat :=
  let c2048_i32_1670 : BitVec 32 := 2048#32
  let v1709 : BitVec 32 := Scalar.muli v1702 c2048_i32_1670
  let v1710 : BitVec 32 := Scalar.addi v1709 c0_i32_1671
  let c0_i32_1677 : BitVec 32 := 0#32
  ![v1710.toNat, 0]

def k0_dev91 (v17 : BitVec 32) : Nat :=
  let c0_i32_1676 : BitVec 32 := 0#32
  let c1_i32_1675 : BitVec 32 := 1#32
  let v1711 : BitVec 32 := Scalar.muli v17 c1_i32_1675
  let v1712 : BitVec 32 := Scalar.addi c0_i32_1676 v1711
  v1712.toNat
def k0_off92 (v1548 : BitVec 32) (c512_i32_1534 : BitVec 32) : Fin 2 → Nat :=
  let c2048_i32_1533 : BitVec 32 := 2048#32
  let v1571 : BitVec 32 := Scalar.muli v1548 c2048_i32_1533
  let v1572 : BitVec 32 := Scalar.addi v1571 c512_i32_1534
  let c0_i32_1685 : BitVec 32 := 0#32
  ![v1572.toNat, 0]
def k0_dev92 (v17 : BitVec 32) : Nat :=
  let c0_i32_1693 : BitVec 32 := 0#32
  let c1_i32_1692 : BitVec 32 := 1#32
  let v1727 : BitVec 32 := Scalar.muli v17 c1_i32_1692
  let v1728 : BitVec 32 := Scalar.addi c0_i32_1693 v1727
  v1728.toNat
def k0_dev93 (v17 : BitVec 32) : Nat :=
  let c0_i32_1710 : BitVec 32 := 0#32
  let c1_i32_1709 : BitVec 32 := 1#32
  let v1743 : BitVec 32 := Scalar.muli v17 c1_i32_1709
  let v1744 : BitVec 32 := Scalar.addi c0_i32_1710 v1743
  v1744.toNat
def k0_dev94 (v17 : BitVec 32) : Nat :=
  let c0_i32_1727 : BitVec 32 := 0#32
  let c1_i32_1726 : BitVec 32 := 1#32
  let v1759 : BitVec 32 := Scalar.muli v17 c1_i32_1726
  let v1760 : BitVec 32 := Scalar.addi c0_i32_1727 v1759
  v1760.toNat
def k0_off93 (v4 : BitVec 32) : Fin 1 → Nat :=
  let c11_i32_1730 : BitVec 32 := 11#32
  let v1767 : BitVec 32 := Scalar.addi v4 c11_i32_1730
  let c32_i32_1731 : BitVec 32 := 32#32
  let c0_i32_1732 : BitVec 32 := 0#32
  let v1768 : BitVec 1 := Scalar.cmpi .eq c32_i32_1731 c0_i32_1732
  let c1_i32_1733 : BitVec 32 := 1#32
  let v1769 : BitVec 32 := Scalar.select v1768 c1_i32_1733 c32_i32_1731
  let v1770 : BitVec 32 := Scalar.remsi v1767 v1769
  let c0_i32_1735 : BitVec 32 := 0#32
  let v1772 : BitVec 1 := Scalar.cmpi .slt v1770 c0_i32_1735
  let c0_i32_1736 : BitVec 32 := 0#32
  let v1773 : BitVec 1 := Scalar.cmpi .slt v1769 c0_i32_1736
  let v1774 : BitVec 1 := Scalar.xori v1772 v1773
  let c0_i32_1734 : BitVec 32 := 0#32
  let v1771 : BitVec 1 := Scalar.cmpi .ne v1770 c0_i32_1734
  let v1775 : BitVec 1 := Scalar.andi v1774 v1771
  let v1776 : BitVec 32 := Scalar.addi v1770 v1769
  let v1777 : BitVec 32 := Scalar.select v1775 v1776 v1770
  let v1778 : Index := Scalar.indexCast v1777
  ![v1778.toNat]
def k0_off94 (v1625 : BitVec 32) : Fin 2 → Nat :=
  let c2048_i32_1591 : BitVec 32 := 2048#32
  let v1632 : BitVec 32 := Scalar.muli v1625 c2048_i32_1591
  let c0_i32_1592 : BitVec 32 := 0#32
  let v1633 : BitVec 32 := Scalar.addi v1632 c0_i32_1592
  let c0_i32_1743 : BitVec 32 := 0#32
  ![v1633.toNat, 0]
def k0_off95 (v1779 : BitVec 32) (c0_i32_1746 : BitVec 32) : Fin 2 → Nat :=
  let c2048_i32_1745 : BitVec 32 := 2048#32
  let v1786 : BitVec 32 := Scalar.muli v1779 c2048_i32_1745
  let v1787 : BitVec 32 := Scalar.addi v1786 c0_i32_1746
  let c0_i32_1753 : BitVec 32 := 0#32
  ![v1787.toNat, 0]

def k0_dev95 (v30 : BitVec 32) : Nat :=
  let c0_i32_1752 : BitVec 32 := 0#32
  let c1_i32_1751 : BitVec 32 := 1#32
  let v1788 : BitVec 32 := Scalar.muli v30 c1_i32_1751
  let v1789 : BitVec 32 := Scalar.addi c0_i32_1752 v1788
  v1789.toNat
def k0_off96 (v1625 : BitVec 32) (c512_i32_1610 : BitVec 32) : Fin 2 → Nat :=
  let c2048_i32_1609 : BitVec 32 := 2048#32
  let v1648 : BitVec 32 := Scalar.muli v1625 c2048_i32_1609
  let v1649 : BitVec 32 := Scalar.addi v1648 c512_i32_1610
  let c0_i32_1761 : BitVec 32 := 0#32
  ![v1649.toNat, 0]
def k0_dev96 (v30 : BitVec 32) : Nat :=
  let c0_i32_1770 : BitVec 32 := 0#32
  let c1_i32_1769 : BitVec 32 := 1#32
  let v1804 : BitVec 32 := Scalar.muli v30 c1_i32_1769
  let v1805 : BitVec 32 := Scalar.addi c0_i32_1770 v1804
  v1805.toNat
def k0_dev97 (v30 : BitVec 32) : Nat :=
  let c0_i32_1788 : BitVec 32 := 0#32
  let c1_i32_1787 : BitVec 32 := 1#32
  let v1820 : BitVec 32 := Scalar.muli v30 c1_i32_1787
  let v1821 : BitVec 32 := Scalar.addi c0_i32_1788 v1820
  v1821.toNat
def k0_dev98 (v30 : BitVec 32) : Nat :=
  let c0_i32_1806 : BitVec 32 := 0#32
  let c1_i32_1805 : BitVec 32 := 1#32
  let v1836 : BitVec 32 := Scalar.muli v30 c1_i32_1805
  let v1837 : BitVec 32 := Scalar.addi c0_i32_1806 v1836
  v1837.toNat
def k0_off97 (v4 : BitVec 32) : Fin 1 → Nat :=
  let c12_i32_1809 : BitVec 32 := 12#32
  let v1844 : BitVec 32 := Scalar.subi v4 c12_i32_1809
  let c32_i32_1810 : BitVec 32 := 32#32
  let c0_i32_1811 : BitVec 32 := 0#32
  let v1845 : BitVec 1 := Scalar.cmpi .eq c32_i32_1810 c0_i32_1811
  let c1_i32_1812 : BitVec 32 := 1#32
  let v1846 : BitVec 32 := Scalar.select v1845 c1_i32_1812 c32_i32_1810
  let v1847 : BitVec 32 := Scalar.remsi v1844 v1846
  let c0_i32_1814 : BitVec 32 := 0#32
  let v1849 : BitVec 1 := Scalar.cmpi .slt v1847 c0_i32_1814
  let c0_i32_1815 : BitVec 32 := 0#32
  let v1850 : BitVec 1 := Scalar.cmpi .slt v1846 c0_i32_1815
  let v1851 : BitVec 1 := Scalar.xori v1849 v1850
  let c0_i32_1813 : BitVec 32 := 0#32
  let v1848 : BitVec 1 := Scalar.cmpi .ne v1847 c0_i32_1813
  let v1852 : BitVec 1 := Scalar.andi v1851 v1848
  let v1853 : BitVec 32 := Scalar.addi v1847 v1846
  let v1854 : BitVec 32 := Scalar.select v1852 v1853 v1847
  let v1855 : Index := Scalar.indexCast v1854
  ![v1855.toNat]
def k0_off98 (v1702 : BitVec 32) : Fin 2 → Nat :=
  let c2048_i32_1670 : BitVec 32 := 2048#32
  let v1709 : BitVec 32 := Scalar.muli v1702 c2048_i32_1670
  let c0_i32_1671 : BitVec 32 := 0#32
  let v1710 : BitVec 32 := Scalar.addi v1709 c0_i32_1671
  let c0_i32_1822 : BitVec 32 := 0#32
  ![v1710.toNat, 0]
def k0_off99 (v1856 : BitVec 32) (c0_i32_1825 : BitVec 32) : Fin 2 → Nat :=
  let c2048_i32_1824 : BitVec 32 := 2048#32
  let v1863 : BitVec 32 := Scalar.muli v1856 c2048_i32_1824
  let v1864 : BitVec 32 := Scalar.addi v1863 c0_i32_1825
  let c0_i32_1831 : BitVec 32 := 0#32
  ![v1864.toNat, 0]

def k0_dev99 (v17 : BitVec 32) : Nat :=
  let c0_i32_1830 : BitVec 32 := 0#32
  let c1_i32_1829 : BitVec 32 := 1#32
  let v1865 : BitVec 32 := Scalar.muli v17 c1_i32_1829
  let v1866 : BitVec 32 := Scalar.addi c0_i32_1830 v1865
  v1866.toNat
def k0_off100 (v1702 : BitVec 32) (c512_i32_1688 : BitVec 32) : Fin 2 → Nat :=
  let c2048_i32_1687 : BitVec 32 := 2048#32
  let v1725 : BitVec 32 := Scalar.muli v1702 c2048_i32_1687
  let v1726 : BitVec 32 := Scalar.addi v1725 c512_i32_1688
  let c0_i32_1839 : BitVec 32 := 0#32
  ![v1726.toNat, 0]
def k0_dev100 (v17 : BitVec 32) : Nat :=
  let c0_i32_1847 : BitVec 32 := 0#32
  let c1_i32_1846 : BitVec 32 := 1#32
  let v1881 : BitVec 32 := Scalar.muli v17 c1_i32_1846
  let v1882 : BitVec 32 := Scalar.addi c0_i32_1847 v1881
  v1882.toNat
def k0_dev101 (v17 : BitVec 32) : Nat :=
  let c0_i32_1864 : BitVec 32 := 0#32
  let c1_i32_1863 : BitVec 32 := 1#32
  let v1897 : BitVec 32 := Scalar.muli v17 c1_i32_1863
  let v1898 : BitVec 32 := Scalar.addi c0_i32_1864 v1897
  v1898.toNat
def k0_dev102 (v17 : BitVec 32) : Nat :=
  let c0_i32_1881 : BitVec 32 := 0#32
  let c1_i32_1880 : BitVec 32 := 1#32
  let v1913 : BitVec 32 := Scalar.muli v17 c1_i32_1880
  let v1914 : BitVec 32 := Scalar.addi c0_i32_1881 v1913
  v1914.toNat
def k0_off101 (v4 : BitVec 32) : Fin 1 → Nat :=
  let c12_i32_1884 : BitVec 32 := 12#32
  let v1921 : BitVec 32 := Scalar.addi v4 c12_i32_1884
  let c32_i32_1885 : BitVec 32 := 32#32
  let c0_i32_1886 : BitVec 32 := 0#32
  let v1922 : BitVec 1 := Scalar.cmpi .eq c32_i32_1885 c0_i32_1886
  let c1_i32_1887 : BitVec 32 := 1#32
  let v1923 : BitVec 32 := Scalar.select v1922 c1_i32_1887 c32_i32_1885
  let v1924 : BitVec 32 := Scalar.remsi v1921 v1923
  let c0_i32_1889 : BitVec 32 := 0#32
  let v1926 : BitVec 1 := Scalar.cmpi .slt v1924 c0_i32_1889
  let c0_i32_1890 : BitVec 32 := 0#32
  let v1927 : BitVec 1 := Scalar.cmpi .slt v1923 c0_i32_1890
  let v1928 : BitVec 1 := Scalar.xori v1926 v1927
  let c0_i32_1888 : BitVec 32 := 0#32
  let v1925 : BitVec 1 := Scalar.cmpi .ne v1924 c0_i32_1888
  let v1929 : BitVec 1 := Scalar.andi v1928 v1925
  let v1930 : BitVec 32 := Scalar.addi v1924 v1923
  let v1931 : BitVec 32 := Scalar.select v1929 v1930 v1924
  let v1932 : Index := Scalar.indexCast v1931
  ![v1932.toNat]
def k0_off102 (v1779 : BitVec 32) : Fin 2 → Nat :=
  let c2048_i32_1745 : BitVec 32 := 2048#32
  let v1786 : BitVec 32 := Scalar.muli v1779 c2048_i32_1745
  let c0_i32_1746 : BitVec 32 := 0#32
  let v1787 : BitVec 32 := Scalar.addi v1786 c0_i32_1746
  let c0_i32_1897 : BitVec 32 := 0#32
  ![v1787.toNat, 0]
def k0_off103 (v1933 : BitVec 32) (c0_i32_1900 : BitVec 32) : Fin 2 → Nat :=
  let c2048_i32_1899 : BitVec 32 := 2048#32
  let v1940 : BitVec 32 := Scalar.muli v1933 c2048_i32_1899
  let v1941 : BitVec 32 := Scalar.addi v1940 c0_i32_1900
  let c0_i32_1907 : BitVec 32 := 0#32
  ![v1941.toNat, 0]

def k0_dev103 (v30 : BitVec 32) : Nat :=
  let c0_i32_1906 : BitVec 32 := 0#32
  let c1_i32_1905 : BitVec 32 := 1#32
  let v1942 : BitVec 32 := Scalar.muli v30 c1_i32_1905
  let v1943 : BitVec 32 := Scalar.addi c0_i32_1906 v1942
  v1943.toNat
def k0_off104 (v1779 : BitVec 32) (c512_i32_1764 : BitVec 32) : Fin 2 → Nat :=
  let c2048_i32_1763 : BitVec 32 := 2048#32
  let v1802 : BitVec 32 := Scalar.muli v1779 c2048_i32_1763
  let v1803 : BitVec 32 := Scalar.addi v1802 c512_i32_1764
  let c0_i32_1915 : BitVec 32 := 0#32
  ![v1803.toNat, 0]
def k0_dev104 (v30 : BitVec 32) : Nat :=
  let c0_i32_1924 : BitVec 32 := 0#32
  let c1_i32_1923 : BitVec 32 := 1#32
  let v1958 : BitVec 32 := Scalar.muli v30 c1_i32_1923
  let v1959 : BitVec 32 := Scalar.addi c0_i32_1924 v1958
  v1959.toNat
def k0_dev105 (v30 : BitVec 32) : Nat :=
  let c0_i32_1942 : BitVec 32 := 0#32
  let c1_i32_1941 : BitVec 32 := 1#32
  let v1974 : BitVec 32 := Scalar.muli v30 c1_i32_1941
  let v1975 : BitVec 32 := Scalar.addi c0_i32_1942 v1974
  v1975.toNat
def k0_dev106 (v30 : BitVec 32) : Nat :=
  let c0_i32_1960 : BitVec 32 := 0#32
  let c1_i32_1959 : BitVec 32 := 1#32
  let v1990 : BitVec 32 := Scalar.muli v30 c1_i32_1959
  let v1991 : BitVec 32 := Scalar.addi c0_i32_1960 v1990
  v1991.toNat
def k0_off105 (v4 : BitVec 32) : Fin 1 → Nat :=
  let c13_i32_1963 : BitVec 32 := 13#32
  let v1998 : BitVec 32 := Scalar.subi v4 c13_i32_1963
  let c32_i32_1964 : BitVec 32 := 32#32
  let c0_i32_1965 : BitVec 32 := 0#32
  let v1999 : BitVec 1 := Scalar.cmpi .eq c32_i32_1964 c0_i32_1965
  let c1_i32_1966 : BitVec 32 := 1#32
  let v2000 : BitVec 32 := Scalar.select v1999 c1_i32_1966 c32_i32_1964
  let v2001 : BitVec 32 := Scalar.remsi v1998 v2000
  let c0_i32_1968 : BitVec 32 := 0#32
  let v2003 : BitVec 1 := Scalar.cmpi .slt v2001 c0_i32_1968
  let c0_i32_1969 : BitVec 32 := 0#32
  let v2004 : BitVec 1 := Scalar.cmpi .slt v2000 c0_i32_1969
  let v2005 : BitVec 1 := Scalar.xori v2003 v2004
  let c0_i32_1967 : BitVec 32 := 0#32
  let v2002 : BitVec 1 := Scalar.cmpi .ne v2001 c0_i32_1967
  let v2006 : BitVec 1 := Scalar.andi v2005 v2002
  let v2007 : BitVec 32 := Scalar.addi v2001 v2000
  let v2008 : BitVec 32 := Scalar.select v2006 v2007 v2001
  let v2009 : Index := Scalar.indexCast v2008
  ![v2009.toNat]
def k0_off106 (v1856 : BitVec 32) : Fin 2 → Nat :=
  let c2048_i32_1824 : BitVec 32 := 2048#32
  let v1863 : BitVec 32 := Scalar.muli v1856 c2048_i32_1824
  let c0_i32_1825 : BitVec 32 := 0#32
  let v1864 : BitVec 32 := Scalar.addi v1863 c0_i32_1825
  let c0_i32_1976 : BitVec 32 := 0#32
  ![v1864.toNat, 0]
def k0_off107 (v2010 : BitVec 32) (c0_i32_1979 : BitVec 32) : Fin 2 → Nat :=
  let c2048_i32_1978 : BitVec 32 := 2048#32
  let v2017 : BitVec 32 := Scalar.muli v2010 c2048_i32_1978
  let v2018 : BitVec 32 := Scalar.addi v2017 c0_i32_1979
  let c0_i32_1985 : BitVec 32 := 0#32
  ![v2018.toNat, 0]

def k0_dev107 (v17 : BitVec 32) : Nat :=
  let c0_i32_1984 : BitVec 32 := 0#32
  let c1_i32_1983 : BitVec 32 := 1#32
  let v2019 : BitVec 32 := Scalar.muli v17 c1_i32_1983
  let v2020 : BitVec 32 := Scalar.addi c0_i32_1984 v2019
  v2020.toNat
def k0_off108 (v1856 : BitVec 32) (c512_i32_1842 : BitVec 32) : Fin 2 → Nat :=
  let c2048_i32_1841 : BitVec 32 := 2048#32
  let v1879 : BitVec 32 := Scalar.muli v1856 c2048_i32_1841
  let v1880 : BitVec 32 := Scalar.addi v1879 c512_i32_1842
  let c0_i32_1993 : BitVec 32 := 0#32
  ![v1880.toNat, 0]
def k0_dev108 (v17 : BitVec 32) : Nat :=
  let c0_i32_2001 : BitVec 32 := 0#32
  let c1_i32_2000 : BitVec 32 := 1#32
  let v2035 : BitVec 32 := Scalar.muli v17 c1_i32_2000
  let v2036 : BitVec 32 := Scalar.addi c0_i32_2001 v2035
  v2036.toNat
def k0_dev109 (v17 : BitVec 32) : Nat :=
  let c0_i32_2018 : BitVec 32 := 0#32
  let c1_i32_2017 : BitVec 32 := 1#32
  let v2051 : BitVec 32 := Scalar.muli v17 c1_i32_2017
  let v2052 : BitVec 32 := Scalar.addi c0_i32_2018 v2051
  v2052.toNat
def k0_dev110 (v17 : BitVec 32) : Nat :=
  let c0_i32_2035 : BitVec 32 := 0#32
  let c1_i32_2034 : BitVec 32 := 1#32
  let v2067 : BitVec 32 := Scalar.muli v17 c1_i32_2034
  let v2068 : BitVec 32 := Scalar.addi c0_i32_2035 v2067
  v2068.toNat
def k0_off109 (v4 : BitVec 32) : Fin 1 → Nat :=
  let c13_i32_2038 : BitVec 32 := 13#32
  let v2075 : BitVec 32 := Scalar.addi v4 c13_i32_2038
  let c32_i32_2039 : BitVec 32 := 32#32
  let c0_i32_2040 : BitVec 32 := 0#32
  let v2076 : BitVec 1 := Scalar.cmpi .eq c32_i32_2039 c0_i32_2040
  let c1_i32_2041 : BitVec 32 := 1#32
  let v2077 : BitVec 32 := Scalar.select v2076 c1_i32_2041 c32_i32_2039
  let v2078 : BitVec 32 := Scalar.remsi v2075 v2077
  let c0_i32_2043 : BitVec 32 := 0#32
  let v2080 : BitVec 1 := Scalar.cmpi .slt v2078 c0_i32_2043
  let c0_i32_2044 : BitVec 32 := 0#32
  let v2081 : BitVec 1 := Scalar.cmpi .slt v2077 c0_i32_2044
  let v2082 : BitVec 1 := Scalar.xori v2080 v2081
  let c0_i32_2042 : BitVec 32 := 0#32
  let v2079 : BitVec 1 := Scalar.cmpi .ne v2078 c0_i32_2042
  let v2083 : BitVec 1 := Scalar.andi v2082 v2079
  let v2084 : BitVec 32 := Scalar.addi v2078 v2077
  let v2085 : BitVec 32 := Scalar.select v2083 v2084 v2078
  let v2086 : Index := Scalar.indexCast v2085
  ![v2086.toNat]
def k0_off110 (v1933 : BitVec 32) : Fin 2 → Nat :=
  let c2048_i32_1899 : BitVec 32 := 2048#32
  let v1940 : BitVec 32 := Scalar.muli v1933 c2048_i32_1899
  let c0_i32_1900 : BitVec 32 := 0#32
  let v1941 : BitVec 32 := Scalar.addi v1940 c0_i32_1900
  let c0_i32_2051 : BitVec 32 := 0#32
  ![v1941.toNat, 0]
def k0_off111 (v2087 : BitVec 32) (c0_i32_2054 : BitVec 32) : Fin 2 → Nat :=
  let c2048_i32_2053 : BitVec 32 := 2048#32
  let v2094 : BitVec 32 := Scalar.muli v2087 c2048_i32_2053
  let v2095 : BitVec 32 := Scalar.addi v2094 c0_i32_2054
  let c0_i32_2061 : BitVec 32 := 0#32
  ![v2095.toNat, 0]

def k0_dev111 (v30 : BitVec 32) : Nat :=
  let c0_i32_2060 : BitVec 32 := 0#32
  let c1_i32_2059 : BitVec 32 := 1#32
  let v2096 : BitVec 32 := Scalar.muli v30 c1_i32_2059
  let v2097 : BitVec 32 := Scalar.addi c0_i32_2060 v2096
  v2097.toNat
def k0_off112 (v1933 : BitVec 32) (c512_i32_1918 : BitVec 32) : Fin 2 → Nat :=
  let c2048_i32_1917 : BitVec 32 := 2048#32
  let v1956 : BitVec 32 := Scalar.muli v1933 c2048_i32_1917
  let v1957 : BitVec 32 := Scalar.addi v1956 c512_i32_1918
  let c0_i32_2069 : BitVec 32 := 0#32
  ![v1957.toNat, 0]
def k0_dev112 (v30 : BitVec 32) : Nat :=
  let c0_i32_2078 : BitVec 32 := 0#32
  let c1_i32_2077 : BitVec 32 := 1#32
  let v2112 : BitVec 32 := Scalar.muli v30 c1_i32_2077
  let v2113 : BitVec 32 := Scalar.addi c0_i32_2078 v2112
  v2113.toNat
def k0_dev113 (v30 : BitVec 32) : Nat :=
  let c0_i32_2096 : BitVec 32 := 0#32
  let c1_i32_2095 : BitVec 32 := 1#32
  let v2128 : BitVec 32 := Scalar.muli v30 c1_i32_2095
  let v2129 : BitVec 32 := Scalar.addi c0_i32_2096 v2128
  v2129.toNat
def k0_dev114 (v30 : BitVec 32) : Nat :=
  let c0_i32_2114 : BitVec 32 := 0#32
  let c1_i32_2113 : BitVec 32 := 1#32
  let v2144 : BitVec 32 := Scalar.muli v30 c1_i32_2113
  let v2145 : BitVec 32 := Scalar.addi c0_i32_2114 v2144
  v2145.toNat
def k0_off113 (v4 : BitVec 32) : Fin 1 → Nat :=
  let c14_i32_2117 : BitVec 32 := 14#32
  let v2152 : BitVec 32 := Scalar.subi v4 c14_i32_2117
  let c32_i32_2118 : BitVec 32 := 32#32
  let c0_i32_2119 : BitVec 32 := 0#32
  let v2153 : BitVec 1 := Scalar.cmpi .eq c32_i32_2118 c0_i32_2119
  let c1_i32_2120 : BitVec 32 := 1#32
  let v2154 : BitVec 32 := Scalar.select v2153 c1_i32_2120 c32_i32_2118
  let v2155 : BitVec 32 := Scalar.remsi v2152 v2154
  let c0_i32_2122 : BitVec 32 := 0#32
  let v2157 : BitVec 1 := Scalar.cmpi .slt v2155 c0_i32_2122
  let c0_i32_2123 : BitVec 32 := 0#32
  let v2158 : BitVec 1 := Scalar.cmpi .slt v2154 c0_i32_2123
  let v2159 : BitVec 1 := Scalar.xori v2157 v2158
  let c0_i32_2121 : BitVec 32 := 0#32
  let v2156 : BitVec 1 := Scalar.cmpi .ne v2155 c0_i32_2121
  let v2160 : BitVec 1 := Scalar.andi v2159 v2156
  let v2161 : BitVec 32 := Scalar.addi v2155 v2154
  let v2162 : BitVec 32 := Scalar.select v2160 v2161 v2155
  let v2163 : Index := Scalar.indexCast v2162
  ![v2163.toNat]
def k0_off114 (v2010 : BitVec 32) : Fin 2 → Nat :=
  let c2048_i32_1978 : BitVec 32 := 2048#32
  let v2017 : BitVec 32 := Scalar.muli v2010 c2048_i32_1978
  let c0_i32_1979 : BitVec 32 := 0#32
  let v2018 : BitVec 32 := Scalar.addi v2017 c0_i32_1979
  let c0_i32_2130 : BitVec 32 := 0#32
  ![v2018.toNat, 0]
def k0_off115 (v2164 : BitVec 32) (c0_i32_2133 : BitVec 32) : Fin 2 → Nat :=
  let c2048_i32_2132 : BitVec 32 := 2048#32
  let v2171 : BitVec 32 := Scalar.muli v2164 c2048_i32_2132
  let v2172 : BitVec 32 := Scalar.addi v2171 c0_i32_2133
  let c0_i32_2139 : BitVec 32 := 0#32
  ![v2172.toNat, 0]

def k0_dev115 (v17 : BitVec 32) : Nat :=
  let c0_i32_2138 : BitVec 32 := 0#32
  let c1_i32_2137 : BitVec 32 := 1#32
  let v2173 : BitVec 32 := Scalar.muli v17 c1_i32_2137
  let v2174 : BitVec 32 := Scalar.addi c0_i32_2138 v2173
  v2174.toNat
def k0_off116 (v2010 : BitVec 32) (c512_i32_1996 : BitVec 32) : Fin 2 → Nat :=
  let c2048_i32_1995 : BitVec 32 := 2048#32
  let v2033 : BitVec 32 := Scalar.muli v2010 c2048_i32_1995
  let v2034 : BitVec 32 := Scalar.addi v2033 c512_i32_1996
  let c0_i32_2147 : BitVec 32 := 0#32
  ![v2034.toNat, 0]
def k0_dev116 (v17 : BitVec 32) : Nat :=
  let c0_i32_2155 : BitVec 32 := 0#32
  let c1_i32_2154 : BitVec 32 := 1#32
  let v2189 : BitVec 32 := Scalar.muli v17 c1_i32_2154
  let v2190 : BitVec 32 := Scalar.addi c0_i32_2155 v2189
  v2190.toNat
def k0_dev117 (v17 : BitVec 32) : Nat :=
  let c0_i32_2172 : BitVec 32 := 0#32
  let c1_i32_2171 : BitVec 32 := 1#32
  let v2205 : BitVec 32 := Scalar.muli v17 c1_i32_2171
  let v2206 : BitVec 32 := Scalar.addi c0_i32_2172 v2205
  v2206.toNat
def k0_dev118 (v17 : BitVec 32) : Nat :=
  let c0_i32_2189 : BitVec 32 := 0#32
  let c1_i32_2188 : BitVec 32 := 1#32
  let v2221 : BitVec 32 := Scalar.muli v17 c1_i32_2188
  let v2222 : BitVec 32 := Scalar.addi c0_i32_2189 v2221
  v2222.toNat
def k0_off117 (v4 : BitVec 32) : Fin 1 → Nat :=
  let c14_i32_2192 : BitVec 32 := 14#32
  let v2229 : BitVec 32 := Scalar.addi v4 c14_i32_2192
  let c32_i32_2193 : BitVec 32 := 32#32
  let c0_i32_2194 : BitVec 32 := 0#32
  let v2230 : BitVec 1 := Scalar.cmpi .eq c32_i32_2193 c0_i32_2194
  let c1_i32_2195 : BitVec 32 := 1#32
  let v2231 : BitVec 32 := Scalar.select v2230 c1_i32_2195 c32_i32_2193
  let v2232 : BitVec 32 := Scalar.remsi v2229 v2231
  let c0_i32_2197 : BitVec 32 := 0#32
  let v2234 : BitVec 1 := Scalar.cmpi .slt v2232 c0_i32_2197
  let c0_i32_2198 : BitVec 32 := 0#32
  let v2235 : BitVec 1 := Scalar.cmpi .slt v2231 c0_i32_2198
  let v2236 : BitVec 1 := Scalar.xori v2234 v2235
  let c0_i32_2196 : BitVec 32 := 0#32
  let v2233 : BitVec 1 := Scalar.cmpi .ne v2232 c0_i32_2196
  let v2237 : BitVec 1 := Scalar.andi v2236 v2233
  let v2238 : BitVec 32 := Scalar.addi v2232 v2231
  let v2239 : BitVec 32 := Scalar.select v2237 v2238 v2232
  let v2240 : Index := Scalar.indexCast v2239
  ![v2240.toNat]
def k0_off118 (v2087 : BitVec 32) : Fin 2 → Nat :=
  let c2048_i32_2053 : BitVec 32 := 2048#32
  let v2094 : BitVec 32 := Scalar.muli v2087 c2048_i32_2053
  let c0_i32_2054 : BitVec 32 := 0#32
  let v2095 : BitVec 32 := Scalar.addi v2094 c0_i32_2054
  let c0_i32_2205 : BitVec 32 := 0#32
  ![v2095.toNat, 0]
def k0_off119 (v2241 : BitVec 32) (c0_i32_2208 : BitVec 32) : Fin 2 → Nat :=
  let c2048_i32_2207 : BitVec 32 := 2048#32
  let v2248 : BitVec 32 := Scalar.muli v2241 c2048_i32_2207
  let v2249 : BitVec 32 := Scalar.addi v2248 c0_i32_2208
  let c0_i32_2215 : BitVec 32 := 0#32
  ![v2249.toNat, 0]

def k0_dev119 (v30 : BitVec 32) : Nat :=
  let c0_i32_2214 : BitVec 32 := 0#32
  let c1_i32_2213 : BitVec 32 := 1#32
  let v2250 : BitVec 32 := Scalar.muli v30 c1_i32_2213
  let v2251 : BitVec 32 := Scalar.addi c0_i32_2214 v2250
  v2251.toNat
def k0_off120 (v2087 : BitVec 32) (c512_i32_2072 : BitVec 32) : Fin 2 → Nat :=
  let c2048_i32_2071 : BitVec 32 := 2048#32
  let v2110 : BitVec 32 := Scalar.muli v2087 c2048_i32_2071
  let v2111 : BitVec 32 := Scalar.addi v2110 c512_i32_2072
  let c0_i32_2223 : BitVec 32 := 0#32
  ![v2111.toNat, 0]
def k0_dev120 (v30 : BitVec 32) : Nat :=
  let c0_i32_2232 : BitVec 32 := 0#32
  let c1_i32_2231 : BitVec 32 := 1#32
  let v2266 : BitVec 32 := Scalar.muli v30 c1_i32_2231
  let v2267 : BitVec 32 := Scalar.addi c0_i32_2232 v2266
  v2267.toNat
def k0_dev121 (v30 : BitVec 32) : Nat :=
  let c0_i32_2250 : BitVec 32 := 0#32
  let c1_i32_2249 : BitVec 32 := 1#32
  let v2282 : BitVec 32 := Scalar.muli v30 c1_i32_2249
  let v2283 : BitVec 32 := Scalar.addi c0_i32_2250 v2282
  v2283.toNat
def k0_dev122 (v30 : BitVec 32) : Nat :=
  let c0_i32_2268 : BitVec 32 := 0#32
  let c1_i32_2267 : BitVec 32 := 1#32
  let v2298 : BitVec 32 := Scalar.muli v30 c1_i32_2267
  let v2299 : BitVec 32 := Scalar.addi c0_i32_2268 v2298
  v2299.toNat
def k0_off121 (v4 : BitVec 32) : Fin 1 → Nat :=
  let c15_i32_2271 : BitVec 32 := 15#32
  let v2306 : BitVec 32 := Scalar.subi v4 c15_i32_2271
  let c32_i32_2272 : BitVec 32 := 32#32
  let c0_i32_2273 : BitVec 32 := 0#32
  let v2307 : BitVec 1 := Scalar.cmpi .eq c32_i32_2272 c0_i32_2273
  let c1_i32_2274 : BitVec 32 := 1#32
  let v2308 : BitVec 32 := Scalar.select v2307 c1_i32_2274 c32_i32_2272
  let v2309 : BitVec 32 := Scalar.remsi v2306 v2308
  let c0_i32_2276 : BitVec 32 := 0#32
  let v2311 : BitVec 1 := Scalar.cmpi .slt v2309 c0_i32_2276
  let c0_i32_2277 : BitVec 32 := 0#32
  let v2312 : BitVec 1 := Scalar.cmpi .slt v2308 c0_i32_2277
  let v2313 : BitVec 1 := Scalar.xori v2311 v2312
  let c0_i32_2275 : BitVec 32 := 0#32
  let v2310 : BitVec 1 := Scalar.cmpi .ne v2309 c0_i32_2275
  let v2314 : BitVec 1 := Scalar.andi v2313 v2310
  let v2315 : BitVec 32 := Scalar.addi v2309 v2308
  let v2316 : BitVec 32 := Scalar.select v2314 v2315 v2309
  let v2317 : Index := Scalar.indexCast v2316
  ![v2317.toNat]
def k0_off122 (v2164 : BitVec 32) : Fin 2 → Nat :=
  let c2048_i32_2132 : BitVec 32 := 2048#32
  let v2171 : BitVec 32 := Scalar.muli v2164 c2048_i32_2132
  let c0_i32_2133 : BitVec 32 := 0#32
  let v2172 : BitVec 32 := Scalar.addi v2171 c0_i32_2133
  let c0_i32_2284 : BitVec 32 := 0#32
  ![v2172.toNat, 0]
def k0_off123 (v2318 : BitVec 32) (c0_i32_2287 : BitVec 32) : Fin 2 → Nat :=
  let c2048_i32_2286 : BitVec 32 := 2048#32
  let v2325 : BitVec 32 := Scalar.muli v2318 c2048_i32_2286
  let v2326 : BitVec 32 := Scalar.addi v2325 c0_i32_2287
  let c0_i32_2293 : BitVec 32 := 0#32
  ![v2326.toNat, 0]

def k0_dev123 (v17 : BitVec 32) : Nat :=
  let c0_i32_2292 : BitVec 32 := 0#32
  let c1_i32_2291 : BitVec 32 := 1#32
  let v2327 : BitVec 32 := Scalar.muli v17 c1_i32_2291
  let v2328 : BitVec 32 := Scalar.addi c0_i32_2292 v2327
  v2328.toNat
def k0_off124 (v2164 : BitVec 32) : Fin 2 → Nat :=
  let c2048_i32_2149 : BitVec 32 := 2048#32
  let v2187 : BitVec 32 := Scalar.muli v2164 c2048_i32_2149
  let c512_i32_2150 : BitVec 32 := 512#32
  let v2188 : BitVec 32 := Scalar.addi v2187 c512_i32_2150
  let c0_i32_2301 : BitVec 32 := 0#32
  ![v2188.toNat, 0]
def k0_dev124 (v17 : BitVec 32) : Nat :=
  let c0_i32_2309 : BitVec 32 := 0#32
  let c1_i32_2308 : BitVec 32 := 1#32
  let v2343 : BitVec 32 := Scalar.muli v17 c1_i32_2308
  let v2344 : BitVec 32 := Scalar.addi c0_i32_2309 v2343
  v2344.toNat

def k0_chk3_0 (v17 : BitVec 32) : Prop :=
  ((k0_dev2 v17) < nD) ∧
  ((k0_dev3 v17) < nD) ∧
  ((k0_dev4 v17) < nD) ∧
  ((k0_dev5 v17) < nD) ∧
  ((k0_dev6 v17) < nD) ∧
  ((k0_dev11 v17) < nD) ∧
  ((k0_dev12 v17) < nD) ∧
  ((k0_dev13 v17) < nD) ∧
  ((k0_dev14 v17) < nD) ∧
  ((k0_dev19 v17) < nD) ∧
  ((k0_dev20 v17) < nD) ∧
  ((k0_dev21 v17) < nD) ∧
  ((k0_dev22 v17) < nD) ∧
  ((k0_dev27 v17) < nD) ∧
  ((k0_dev28 v17) < nD) ∧
  ((k0_dev29 v17) < nD) ∧
  ((k0_dev30 v17) < nD) ∧
  ((k0_dev35 v17) < nD) ∧
  ((k0_dev36 v17) < nD) ∧
  ((k0_dev37 v17) < nD) ∧
  ((k0_dev38 v17) < nD) ∧
  ((k0_dev43 v17) < nD) ∧
  ((k0_dev44 v17) < nD) ∧
  ((k0_dev45 v17) < nD) ∧
  ((k0_dev46 v17) < nD) ∧
  ((k0_dev51 v17) < nD) ∧
  ((k0_dev52 v17) < nD) ∧
  ((k0_dev53 v17) < nD) ∧
  ((k0_dev54 v17) < nD) ∧
  ((k0_dev59 v17) < nD) ∧
  ((k0_dev60 v17) < nD) ∧
  ((k0_dev61 v17) < nD)
def k0_chk3_1 (v17 : BitVec 32) : Prop :=
  ((k0_dev62 v17) < nD) ∧
  ((k0_dev67 v17) < nD) ∧
  ((k0_dev68 v17) < nD) ∧
  ((k0_dev69 v17) < nD) ∧
  ((k0_dev70 v17) < nD) ∧
  ((k0_dev75 v17) < nD) ∧
  ((k0_dev76 v17) < nD) ∧
  ((k0_dev77 v17) < nD) ∧
  ((k0_dev78 v17) < nD) ∧
  ((k0_dev83 v17) < nD) ∧
  ((k0_dev84 v17) < nD) ∧
  ((k0_dev85 v17) < nD) ∧
  ((k0_dev86 v17) < nD) ∧
  ((k0_dev91 v17) < nD) ∧
  ((k0_dev92 v17) < nD) ∧
  ((k0_dev93 v17) < nD) ∧
  ((k0_dev94 v17) < nD) ∧
  ((k0_dev99 v17) < nD) ∧
  ((k0_dev100 v17) < nD) ∧
  ((k0_dev101 v17) < nD) ∧
  ((k0_dev102 v17) < nD) ∧
  ((k0_dev107 v17) < nD) ∧
  ((k0_dev108 v17) < nD) ∧
  ((k0_dev109 v17) < nD) ∧
  ((k0_dev110 v17) < nD) ∧
  ((k0_dev115 v17) < nD) ∧
  ((k0_dev116 v17) < nD) ∧
  ((k0_dev117 v17) < nD) ∧
  ((k0_dev118 v17) < nD) ∧
  ((k0_dev123 v17) < nD) ∧
  ((k0_dev124 v17) < nD)
def k0_chk3 (v17 : BitVec 32) : Prop :=
  k0_chk3_0 v17 ∧
  k0_chk3_1 v17
theorem k0_dev2_lt : ∀ (v17 : BitVec 32) (k0_hw3 : k0_chk3 v17), (k0_dev2 v17) < nD := fun v17 k0_hw3 => k0_hw3.1.1
theorem k0_dev3_lt : ∀ (v17 : BitVec 32) (k0_hw3 : k0_chk3 v17), (k0_dev3 v17) < nD := fun v17 k0_hw3 => k0_hw3.1.2.1
theorem k0_dev4_lt : ∀ (v17 : BitVec 32) (k0_hw3 : k0_chk3 v17), (k0_dev4 v17) < nD := fun v17 k0_hw3 => k0_hw3.1.2.2.1
theorem k0_dev5_lt : ∀ (v17 : BitVec 32) (k0_hw3 : k0_chk3 v17), (k0_dev5 v17) < nD := fun v17 k0_hw3 => k0_hw3.1.2.2.2.1
theorem k0_dev6_lt : ∀ (v17 : BitVec 32) (k0_hw3 : k0_chk3 v17), (k0_dev6 v17) < nD := fun v17 k0_hw3 => k0_hw3.1.2.2.2.2.1
theorem k0_dev11_lt : ∀ (v17 : BitVec 32) (k0_hw3 : k0_chk3 v17), (k0_dev11 v17) < nD := fun v17 k0_hw3 => k0_hw3.1.2.2.2.2.2.1
theorem k0_dev12_lt : ∀ (v17 : BitVec 32) (k0_hw3 : k0_chk3 v17), (k0_dev12 v17) < nD := fun v17 k0_hw3 => k0_hw3.1.2.2.2.2.2.2.1
theorem k0_dev13_lt : ∀ (v17 : BitVec 32) (k0_hw3 : k0_chk3 v17), (k0_dev13 v17) < nD := fun v17 k0_hw3 => k0_hw3.1.2.2.2.2.2.2.2.1
theorem k0_dev14_lt : ∀ (v17 : BitVec 32) (k0_hw3 : k0_chk3 v17), (k0_dev14 v17) < nD := fun v17 k0_hw3 => k0_hw3.1.2.2.2.2.2.2.2.2.1
theorem k0_dev19_lt : ∀ (v17 : BitVec 32) (k0_hw3 : k0_chk3 v17), (k0_dev19 v17) < nD := fun v17 k0_hw3 => k0_hw3.1.2.2.2.2.2.2.2.2.2.1
theorem k0_dev20_lt : ∀ (v17 : BitVec 32) (k0_hw3 : k0_chk3 v17), (k0_dev20 v17) < nD := fun v17 k0_hw3 => k0_hw3.1.2.2.2.2.2.2.2.2.2.2.1
theorem k0_dev21_lt : ∀ (v17 : BitVec 32) (k0_hw3 : k0_chk3 v17), (k0_dev21 v17) < nD := fun v17 k0_hw3 => k0_hw3.1.2.2.2.2.2.2.2.2.2.2.2.1
theorem k0_dev22_lt : ∀ (v17 : BitVec 32) (k0_hw3 : k0_chk3 v17), (k0_dev22 v17) < nD := fun v17 k0_hw3 => k0_hw3.1.2.2.2.2.2.2.2.2.2.2.2.2.1
theorem k0_dev27_lt : ∀ (v17 : BitVec 32) (k0_hw3 : k0_chk3 v17), (k0_dev27 v17) < nD := fun v17 k0_hw3 => k0_hw3.1.2.2.2.2.2.2.2.2.2.2.2.2.2.1
theorem k0_dev28_lt : ∀ (v17 : BitVec 32) (k0_hw3 : k0_chk3 v17), (k0_dev28 v17) < nD := fun v17 k0_hw3 => k0_hw3.1.2.2.2.2.2.2.2.2.2.2.2.2.2.2.1
theorem k0_dev29_lt : ∀ (v17 : BitVec 32) (k0_hw3 : k0_chk3 v17), (k0_dev29 v17) < nD := fun v17 k0_hw3 => k0_hw3.1.2.2.2.2.2.2.2.2.2.2.2.2.2.2.2.1
theorem k0_dev30_lt : ∀ (v17 : BitVec 32) (k0_hw3 : k0_chk3 v17), (k0_dev30 v17) < nD := fun v17 k0_hw3 => k0_hw3.1.2.2.2.2.2.2.2.2.2.2.2.2.2.2.2.2.1
theorem k0_dev35_lt : ∀ (v17 : BitVec 32) (k0_hw3 : k0_chk3 v17), (k0_dev35 v17) < nD := fun v17 k0_hw3 => k0_hw3.1.2.2.2.2.2.2.2.2.2.2.2.2.2.2.2.2.2.1
theorem k0_dev36_lt : ∀ (v17 : BitVec 32) (k0_hw3 : k0_chk3 v17), (k0_dev36 v17) < nD := fun v17 k0_hw3 => k0_hw3.1.2.2.2.2.2.2.2.2.2.2.2.2.2.2.2.2.2.2.1
theorem k0_dev37_lt : ∀ (v17 : BitVec 32) (k0_hw3 : k0_chk3 v17), (k0_dev37 v17) < nD := fun v17 k0_hw3 => k0_hw3.1.2.2.2.2.2.2.2.2.2.2.2.2.2.2.2.2.2.2.2.1
theorem k0_dev38_lt : ∀ (v17 : BitVec 32) (k0_hw3 : k0_chk3 v17), (k0_dev38 v17) < nD := fun v17 k0_hw3 => k0_hw3.1.2.2.2.2.2.2.2.2.2.2.2.2.2.2.2.2.2.2.2.2.1
theorem k0_dev43_lt : ∀ (v17 : BitVec 32) (k0_hw3 : k0_chk3 v17), (k0_dev43 v17) < nD := fun v17 k0_hw3 => k0_hw3.1.2.2.2.2.2.2.2.2.2.2.2.2.2.2.2.2.2.2.2.2.2.1
theorem k0_dev44_lt : ∀ (v17 : BitVec 32) (k0_hw3 : k0_chk3 v17), (k0_dev44 v17) < nD := fun v17 k0_hw3 => k0_hw3.1.2.2.2.2.2.2.2.2.2.2.2.2.2.2.2.2.2.2.2.2.2.2.1
theorem k0_dev45_lt : ∀ (v17 : BitVec 32) (k0_hw3 : k0_chk3 v17), (k0_dev45 v17) < nD := fun v17 k0_hw3 => k0_hw3.1.2.2.2.2.2.2.2.2.2.2.2.2.2.2.2.2.2.2.2.2.2.2.2.1
theorem k0_dev46_lt : ∀ (v17 : BitVec 32) (k0_hw3 : k0_chk3 v17), (k0_dev46 v17) < nD := fun v17 k0_hw3 => k0_hw3.1.2.2.2.2.2.2.2.2.2.2.2.2.2.2.2.2.2.2.2.2.2.2.2.2.1
theorem k0_dev51_lt : ∀ (v17 : BitVec 32) (k0_hw3 : k0_chk3 v17), (k0_dev51 v17) < nD := fun v17 k0_hw3 => k0_hw3.1.2.2.2.2.2.2.2.2.2.2.2.2.2.2.2.2.2.2.2.2.2.2.2.2.2.1
theorem k0_dev52_lt : ∀ (v17 : BitVec 32) (k0_hw3 : k0_chk3 v17), (k0_dev52 v17) < nD := fun v17 k0_hw3 => k0_hw3.1.2.2.2.2.2.2.2.2.2.2.2.2.2.2.2.2.2.2.2.2.2.2.2.2.2.2.1
theorem k0_dev53_lt : ∀ (v17 : BitVec 32) (k0_hw3 : k0_chk3 v17), (k0_dev53 v17) < nD := fun v17 k0_hw3 => k0_hw3.1.2.2.2.2.2.2.2.2.2.2.2.2.2.2.2.2.2.2.2.2.2.2.2.2.2.2.2.1
theorem k0_dev54_lt : ∀ (v17 : BitVec 32) (k0_hw3 : k0_chk3 v17), (k0_dev54 v17) < nD := fun v17 k0_hw3 => k0_hw3.1.2.2.2.2.2.2.2.2.2.2.2.2.2.2.2.2.2.2.2.2.2.2.2.2.2.2.2.2.1
theorem k0_dev59_lt : ∀ (v17 : BitVec 32) (k0_hw3 : k0_chk3 v17), (k0_dev59 v17) < nD := fun v17 k0_hw3 => k0_hw3.1.2.2.2.2.2.2.2.2.2.2.2.2.2.2.2.2.2.2.2.2.2.2.2.2.2.2.2.2.2.1
theorem k0_dev60_lt : ∀ (v17 : BitVec 32) (k0_hw3 : k0_chk3 v17), (k0_dev60 v17) < nD := fun v17 k0_hw3 => k0_hw3.1.2.2.2.2.2.2.2.2.2.2.2.2.2.2.2.2.2.2.2.2.2.2.2.2.2.2.2.2.2.2.1
theorem k0_dev61_lt : ∀ (v17 : BitVec 32) (k0_hw3 : k0_chk3 v17), (k0_dev61 v17) < nD := fun v17 k0_hw3 => k0_hw3.1.2.2.2.2.2.2.2.2.2.2.2.2.2.2.2.2.2.2.2.2.2.2.2.2.2.2.2.2.2.2.2
theorem k0_dev62_lt : ∀ (v17 : BitVec 32) (k0_hw3 : k0_chk3 v17), (k0_dev62 v17) < nD := fun v17 k0_hw3 => k0_hw3.2.1
theorem k0_dev67_lt : ∀ (v17 : BitVec 32) (k0_hw3 : k0_chk3 v17), (k0_dev67 v17) < nD := fun v17 k0_hw3 => k0_hw3.2.2.1
theorem k0_dev68_lt : ∀ (v17 : BitVec 32) (k0_hw3 : k0_chk3 v17), (k0_dev68 v17) < nD := fun v17 k0_hw3 => k0_hw3.2.2.2.1
theorem k0_dev69_lt : ∀ (v17 : BitVec 32) (k0_hw3 : k0_chk3 v17), (k0_dev69 v17) < nD := fun v17 k0_hw3 => k0_hw3.2.2.2.2.1
theorem k0_dev70_lt : ∀ (v17 : BitVec 32) (k0_hw3 : k0_chk3 v17), (k0_dev70 v17) < nD := fun v17 k0_hw3 => k0_hw3.2.2.2.2.2.1
theorem k0_dev75_lt : ∀ (v17 : BitVec 32) (k0_hw3 : k0_chk3 v17), (k0_dev75 v17) < nD := fun v17 k0_hw3 => k0_hw3.2.2.2.2.2.2.1
theorem k0_dev76_lt : ∀ (v17 : BitVec 32) (k0_hw3 : k0_chk3 v17), (k0_dev76 v17) < nD := fun v17 k0_hw3 => k0_hw3.2.2.2.2.2.2.2.1
theorem k0_dev77_lt : ∀ (v17 : BitVec 32) (k0_hw3 : k0_chk3 v17), (k0_dev77 v17) < nD := fun v17 k0_hw3 => k0_hw3.2.2.2.2.2.2.2.2.1
theorem k0_dev78_lt : ∀ (v17 : BitVec 32) (k0_hw3 : k0_chk3 v17), (k0_dev78 v17) < nD := fun v17 k0_hw3 => k0_hw3.2.2.2.2.2.2.2.2.2.1
theorem k0_dev83_lt : ∀ (v17 : BitVec 32) (k0_hw3 : k0_chk3 v17), (k0_dev83 v17) < nD := fun v17 k0_hw3 => k0_hw3.2.2.2.2.2.2.2.2.2.2.1
theorem k0_dev84_lt : ∀ (v17 : BitVec 32) (k0_hw3 : k0_chk3 v17), (k0_dev84 v17) < nD := fun v17 k0_hw3 => k0_hw3.2.2.2.2.2.2.2.2.2.2.2.1
theorem k0_dev85_lt : ∀ (v17 : BitVec 32) (k0_hw3 : k0_chk3 v17), (k0_dev85 v17) < nD := fun v17 k0_hw3 => k0_hw3.2.2.2.2.2.2.2.2.2.2.2.2.1
theorem k0_dev86_lt : ∀ (v17 : BitVec 32) (k0_hw3 : k0_chk3 v17), (k0_dev86 v17) < nD := fun v17 k0_hw3 => k0_hw3.2.2.2.2.2.2.2.2.2.2.2.2.2.1
theorem k0_dev91_lt : ∀ (v17 : BitVec 32) (k0_hw3 : k0_chk3 v17), (k0_dev91 v17) < nD := fun v17 k0_hw3 => k0_hw3.2.2.2.2.2.2.2.2.2.2.2.2.2.2.1
theorem k0_dev92_lt : ∀ (v17 : BitVec 32) (k0_hw3 : k0_chk3 v17), (k0_dev92 v17) < nD := fun v17 k0_hw3 => k0_hw3.2.2.2.2.2.2.2.2.2.2.2.2.2.2.2.1
theorem k0_dev93_lt : ∀ (v17 : BitVec 32) (k0_hw3 : k0_chk3 v17), (k0_dev93 v17) < nD := fun v17 k0_hw3 => k0_hw3.2.2.2.2.2.2.2.2.2.2.2.2.2.2.2.2.1
theorem k0_dev94_lt : ∀ (v17 : BitVec 32) (k0_hw3 : k0_chk3 v17), (k0_dev94 v17) < nD := fun v17 k0_hw3 => k0_hw3.2.2.2.2.2.2.2.2.2.2.2.2.2.2.2.2.2.1
theorem k0_dev99_lt : ∀ (v17 : BitVec 32) (k0_hw3 : k0_chk3 v17), (k0_dev99 v17) < nD := fun v17 k0_hw3 => k0_hw3.2.2.2.2.2.2.2.2.2.2.2.2.2.2.2.2.2.2.1
theorem k0_dev100_lt : ∀ (v17 : BitVec 32) (k0_hw3 : k0_chk3 v17), (k0_dev100 v17) < nD := fun v17 k0_hw3 => k0_hw3.2.2.2.2.2.2.2.2.2.2.2.2.2.2.2.2.2.2.2.1
theorem k0_dev101_lt : ∀ (v17 : BitVec 32) (k0_hw3 : k0_chk3 v17), (k0_dev101 v17) < nD := fun v17 k0_hw3 => k0_hw3.2.2.2.2.2.2.2.2.2.2.2.2.2.2.2.2.2.2.2.2.1
theorem k0_dev102_lt : ∀ (v17 : BitVec 32) (k0_hw3 : k0_chk3 v17), (k0_dev102 v17) < nD := fun v17 k0_hw3 => k0_hw3.2.2.2.2.2.2.2.2.2.2.2.2.2.2.2.2.2.2.2.2.2.1
theorem k0_dev107_lt : ∀ (v17 : BitVec 32) (k0_hw3 : k0_chk3 v17), (k0_dev107 v17) < nD := fun v17 k0_hw3 => k0_hw3.2.2.2.2.2.2.2.2.2.2.2.2.2.2.2.2.2.2.2.2.2.2.1
theorem k0_dev108_lt : ∀ (v17 : BitVec 32) (k0_hw3 : k0_chk3 v17), (k0_dev108 v17) < nD := fun v17 k0_hw3 => k0_hw3.2.2.2.2.2.2.2.2.2.2.2.2.2.2.2.2.2.2.2.2.2.2.2.1
theorem k0_dev109_lt : ∀ (v17 : BitVec 32) (k0_hw3 : k0_chk3 v17), (k0_dev109 v17) < nD := fun v17 k0_hw3 => k0_hw3.2.2.2.2.2.2.2.2.2.2.2.2.2.2.2.2.2.2.2.2.2.2.2.2.1
theorem k0_dev110_lt : ∀ (v17 : BitVec 32) (k0_hw3 : k0_chk3 v17), (k0_dev110 v17) < nD := fun v17 k0_hw3 => k0_hw3.2.2.2.2.2.2.2.2.2.2.2.2.2.2.2.2.2.2.2.2.2.2.2.2.2.1
theorem k0_dev115_lt : ∀ (v17 : BitVec 32) (k0_hw3 : k0_chk3 v17), (k0_dev115 v17) < nD := fun v17 k0_hw3 => k0_hw3.2.2.2.2.2.2.2.2.2.2.2.2.2.2.2.2.2.2.2.2.2.2.2.2.2.2.1
theorem k0_dev116_lt : ∀ (v17 : BitVec 32) (k0_hw3 : k0_chk3 v17), (k0_dev116 v17) < nD := fun v17 k0_hw3 => k0_hw3.2.2.2.2.2.2.2.2.2.2.2.2.2.2.2.2.2.2.2.2.2.2.2.2.2.2.2.1
theorem k0_dev117_lt : ∀ (v17 : BitVec 32) (k0_hw3 : k0_chk3 v17), (k0_dev117 v17) < nD := fun v17 k0_hw3 => k0_hw3.2.2.2.2.2.2.2.2.2.2.2.2.2.2.2.2.2.2.2.2.2.2.2.2.2.2.2.2.1
theorem k0_dev118_lt : ∀ (v17 : BitVec 32) (k0_hw3 : k0_chk3 v17), (k0_dev118 v17) < nD := fun v17 k0_hw3 => k0_hw3.2.2.2.2.2.2.2.2.2.2.2.2.2.2.2.2.2.2.2.2.2.2.2.2.2.2.2.2.2.1
theorem k0_dev123_lt : ∀ (v17 : BitVec 32) (k0_hw3 : k0_chk3 v17), (k0_dev123 v17) < nD := fun v17 k0_hw3 => k0_hw3.2.2.2.2.2.2.2.2.2.2.2.2.2.2.2.2.2.2.2.2.2.2.2.2.2.2.2.2.2.2.1
theorem k0_dev124_lt : ∀ (v17 : BitVec 32) (k0_hw3 : k0_chk3 v17), (k0_dev124 v17) < nD := fun v17 k0_hw3 => k0_hw3.2.2.2.2.2.2.2.2.2.2.2.2.2.2.2.2.2.2.2.2.2.2.2.2.2.2.2.2.2.2.2

def k0_off125 (v4 : BitVec 32) : Fin 1 → Nat :=
  let c15_i32_2312 : BitVec 32 := 15#32
  let v2351 : BitVec 32 := Scalar.addi v4 c15_i32_2312
  let c32_i32_2313 : BitVec 32 := 32#32
  let c0_i32_2314 : BitVec 32 := 0#32
  let v2352 : BitVec 1 := Scalar.cmpi .eq c32_i32_2313 c0_i32_2314
  let c1_i32_2315 : BitVec 32 := 1#32
  let v2353 : BitVec 32 := Scalar.select v2352 c1_i32_2315 c32_i32_2313
  let v2354 : BitVec 32 := Scalar.remsi v2351 v2353
  let c0_i32_2317 : BitVec 32 := 0#32
  let v2356 : BitVec 1 := Scalar.cmpi .slt v2354 c0_i32_2317
  let c0_i32_2318 : BitVec 32 := 0#32
  let v2357 : BitVec 1 := Scalar.cmpi .slt v2353 c0_i32_2318
  let v2358 : BitVec 1 := Scalar.xori v2356 v2357
  let c0_i32_2316 : BitVec 32 := 0#32
  let v2355 : BitVec 1 := Scalar.cmpi .ne v2354 c0_i32_2316
  let v2359 : BitVec 1 := Scalar.andi v2358 v2355
  let v2360 : BitVec 32 := Scalar.addi v2354 v2353
  let v2361 : BitVec 32 := Scalar.select v2359 v2360 v2354
  let v2362 : Index := Scalar.indexCast v2361
  ![v2362.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off13 v4) a + S1.size a ≤ S32.size a) ∧
  (∀ a, (k0_off17 v4) a + S1.size a ≤ S32.size a) ∧
  (∀ a, (k0_off21 v4) a + S1.size a ≤ S32.size a) ∧
  (∀ a, (k0_off25 v4) a + S1.size a ≤ S32.size a) ∧
  (∀ a, (k0_off29 v4) a + S1.size a ≤ S32.size a) ∧
  (∀ a, (k0_off33 v4) a + S1.size a ≤ S32.size a) ∧
  (∀ a, (k0_off37 v4) a + S1.size a ≤ S32.size a) ∧
  (∀ a, (k0_off41 v4) a + S1.size a ≤ S32.size a) ∧
  (∀ a, (k0_off45 v4) a + S1.size a ≤ S32.size a) ∧
  (∀ a, (k0_off49 v4) a + S1.size a ≤ S32.size a) ∧
  (∀ a, (k0_off53 v4) a + S1.size a ≤ S32.size a) ∧
  (∀ a, (k0_off57 v4) a + S1.size a ≤ S32.size a) ∧
  (∀ a, (k0_off61 v4) a + S1.size a ≤ S32.size a) ∧
  (∀ a, (k0_off65 v4) a + S1.size a ≤ S32.size a) ∧
  (∀ a, (k0_off69 v4) a + S1.size a ≤ S32.size a) ∧
  (∀ a, (k0_off73 v4) a + S1.size a ≤ S32.size a) ∧
  (∀ a, (k0_off77 v4) a + S1.size a ≤ S32.size a) ∧
  (∀ a, (k0_off81 v4) a + S1.size a ≤ S32.size a) ∧
  (∀ a, (k0_off85 v4) a + S1.size a ≤ S32.size a) ∧
  (∀ a, (k0_off89 v4) a + S1.size a ≤ S32.size a) ∧
  (∀ a, (k0_off93 v4) a + S1.size a ≤ S32.size a) ∧
  (∀ a, (k0_off97 v4) a + S1.size a ≤ S32.size a) ∧
  (∀ a, (k0_off101 v4) a + S1.size a ≤ S32.size a) ∧
  (∀ a, (k0_off105 v4) a + S1.size a ≤ S32.size a) ∧
  (∀ a, (k0_off109 v4) a + S1.size a ≤ S32.size a) ∧
  (∀ a, (k0_off113 v4) a + S1.size a ≤ S32.size a) ∧
  (∀ a, (k0_off117 v4) a + S1.size a ≤ S32.size a)
def k0_chk1_1 (v4 : BitVec 32) : Prop :=
  (∀ a, (k0_off121 v4) a + S1.size a ≤ S32.size a) ∧
  (∀ a, (k0_off125 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off13_inb : ∀ (v4 : BitVec 32) (k0_hw1 : k0_chk1 v4), ∀ a, (k0_off13 v4) a + S1.size a ≤ S32.size a := fun v4 k0_hw1 => k0_hw1.1.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.1
theorem k0_off65_inb : ∀ (v4 : BitVec 32) (k0_hw1 : k0_chk1 v4), ∀ a, (k0_off65 v4) a + S1.size a ≤ S32.size a := fun v4 k0_hw1 => k0_hw1.1.2.2.2.2.2.2.2.2.2.2.2.2.2.2.2.2.2.2.1
theorem k0_off69_inb : ∀ (v4 : BitVec 32) (k0_hw1 : k0_chk1 v4), ∀ a, (k0_off69 v4) a + S1.size a ≤ S32.size a := fun v4 k0_hw1 => k0_hw1.1.2.2.2.2.2.2.2.2.2.2.2.2.2.2.2.2.2.2.2.1
theorem k0_off73_inb : ∀ (v4 : BitVec 32) (k0_hw1 : k0_chk1 v4), ∀ a, (k0_off73 v4) a + S1.size a ≤ S32.size a := fun v4 k0_hw1 => k0_hw1.1.2.2.2.2.2.2.2.2.2.2.2.2.2.2.2.2.2.2.2.2.1
theorem k0_off77_inb : ∀ (v4 : BitVec 32) (k0_hw1 : k0_chk1 v4), ∀ a, (k0_off77 v4) a + S1.size a ≤ S32.size a := fun v4 k0_hw1 => k0_hw1.1.2.2.2.2.2.2.2.2.2.2.2.2.2.2.2.2.2.2.2.2.2.1
theorem k0_off81_inb : ∀ (v4 : BitVec 32) (k0_hw1 : k0_chk1 v4), ∀ a, (k0_off81 v4) a + S1.size a ≤ S32.size a := fun v4 k0_hw1 => k0_hw1.1.2.2.2.2.2.2.2.2.2.2.2.2.2.2.2.2.2.2.2.2.2.2.1
theorem k0_off85_inb : ∀ (v4 : BitVec 32) (k0_hw1 : k0_chk1 v4), ∀ a, (k0_off85 v4) a + S1.size a ≤ S32.size a := fun v4 k0_hw1 => k0_hw1.1.2.2.2.2.2.2.2.2.2.2.2.2.2.2.2.2.2.2.2.2.2.2.2.1
theorem k0_off89_inb : ∀ (v4 : BitVec 32) (k0_hw1 : k0_chk1 v4), ∀ a, (k0_off89 v4) a + S1.size a ≤ S32.size a := fun v4 k0_hw1 => k0_hw1.1.2.2.2.2.2.2.2.2.2.2.2.2.2.2.2.2.2.2.2.2.2.2.2.2.1
theorem k0_off93_inb : ∀ (v4 : BitVec 32) (k0_hw1 : k0_chk1 v4), ∀ a, (k0_off93 v4) a + S1.size a ≤ S32.size a := fun v4 k0_hw1 => k0_hw1.1.2.2.2.2.2.2.2.2.2.2.2.2.2.2.2.2.2.2.2.2.2.2.2.2.2.1
theorem k0_off97_inb : ∀ (v4 : BitVec 32) (k0_hw1 : k0_chk1 v4), ∀ a, (k0_off97 v4) a + S1.size a ≤ S32.size a := fun v4 k0_hw1 => k0_hw1.1.2.2.2.2.2.2.2.2.2.2.2.2.2.2.2.2.2.2.2.2.2.2.2.2.2.2.1
theorem k0_off101_inb : ∀ (v4 : BitVec 32) (k0_hw1 : k0_chk1 v4), ∀ a, (k0_off101 v4) a + S1.size a ≤ S32.size a := fun v4 k0_hw1 => k0_hw1.1.2.2.2.2.2.2.2.2.2.2.2.2.2.2.2.2.2.2.2.2.2.2.2.2.2.2.2.1
theorem k0_off105_inb : ∀ (v4 : BitVec 32) (k0_hw1 : k0_chk1 v4), ∀ a, (k0_off105 v4) a + S1.size a ≤ S32.size a := fun v4 k0_hw1 => k0_hw1.1.2.2.2.2.2.2.2.2.2.2.2.2.2.2.2.2.2.2.2.2.2.2.2.2.2.2.2.2.1
theorem k0_off109_inb : ∀ (v4 : BitVec 32) (k0_hw1 : k0_chk1 v4), ∀ a, (k0_off109 v4) a + S1.size a ≤ S32.size a := fun v4 k0_hw1 => k0_hw1.1.2.2.2.2.2.2.2.2.2.2.2.2.2.2.2.2.2.2.2.2.2.2.2.2.2.2.2.2.2.1
theorem k0_off113_inb : ∀ (v4 : BitVec 32) (k0_hw1 : k0_chk1 v4), ∀ a, (k0_off113 v4) a + S1.size a ≤ S32.size a := fun v4 k0_hw1 => k0_hw1.1.2.2.2.2.2.2.2.2.2.2.2.2.2.2.2.2.2.2.2.2.2.2.2.2.2.2.2.2.2.2.1
theorem k0_off117_inb : ∀ (v4 : BitVec 32) (k0_hw1 : k0_chk1 v4), ∀ a, (k0_off117 v4) a + S1.size a ≤ S32.size a := fun v4 k0_hw1 => k0_hw1.1.2.2.2.2.2.2.2.2.2.2.2.2.2.2.2.2.2.2.2.2.2.2.2.2.2.2.2.2.2.2.2
theorem k0_off121_inb : ∀ (v4 : BitVec 32) (k0_hw1 : k0_chk1 v4), ∀ a, (k0_off121 v4) a + S1.size a ≤ S32.size a := fun v4 k0_hw1 => k0_hw1.2.1
theorem k0_off125_inb : ∀ (v4 : BitVec 32) (k0_hw1 : k0_chk1 v4), ∀ a, (k0_off125 v4) a + S1.size a ≤ S32.size a := fun v4 k0_hw1 => k0_hw1.2.2

def k0_off126 (v2241 : BitVec 32) : Fin 2 → Nat :=
  let c2048_i32_2243 : BitVec 32 := 2048#32
  let v2280 : BitVec 32 := Scalar.muli v2241 c2048_i32_2243
  let c1024_i32_2244 : BitVec 32 := 1024#32
  let v2281 : BitVec 32 := Scalar.addi v2280 c1024_i32_2244
  let c0_i32_2325 : BitVec 32 := 0#32
  ![v2281.toNat, 0]
def k0_off127 (v2363 : BitVec 32) (c1024_i32_2328 : BitVec 32) : Fin 2 → Nat :=
  let c2048_i32_2327 : BitVec 32 := 2048#32
  let v2370 : BitVec 32 := Scalar.muli v2363 c2048_i32_2327
  let v2371 : BitVec 32 := Scalar.addi v2370 c1024_i32_2328
  let c0_i32_2334 : BitVec 32 := 0#32
  ![v2371.toNat, 0]

def k0_chk35 (v2363 : BitVec 32) : Prop :=
  (∀ (r : Fin 2), ∀ a, (k0_off127 v2363 (BitVec.ofNat 32 (1024 + 512 * r.val))) a + S512x512.size a ≤ S65536x512.size a) ∧
  (∀ (r : Fin 2), ∀ (hinb : ∀ a, (k0_off127 v2363 (BitVec.ofNat 32 (1024 + 512 * r.val))) a + S512x512.size a ≤ S65536x512.size a), (Rect.unit (s := S65536x512) (k0_off127 v2363 (BitVec.ofNat 32 (1024 + 512 * r.val))) S512x512.size hinb).WholeWords (EltTy.packing .bf16))
theorem k0_off127_inb : ∀ (v2363 : BitVec 32) (k0_hw35 : k0_chk35 v2363), ∀ (r : Fin 2), ∀ a, (k0_off127 v2363 (BitVec.ofNat 32 (1024 + 512 * r.val))) a + S512x512.size a ≤ S65536x512.size a := fun v2363 k0_hw35 r => k0_hw35.1 r
theorem k0_off127_wordsbf16 : ∀ (v2363 : BitVec 32) (k0_hw35 : k0_chk35 v2363), ∀ (r : Fin 2), (Rect.unit (s := S65536x512) (k0_off127 v2363 (BitVec.ofNat 32 (1024 + 512 * r.val))) S512x512.size (k0_off127_inb v2363 k0_hw35 r)).WholeWords (EltTy.packing .bf16) := fun v2363 k0_hw35 r => k0_hw35.2 r (k0_off127_inb v2363 k0_hw35 r)

def k0_dev125 (v30 : BitVec 32) : Nat :=
  let c0_i32_2333 : BitVec 32 := 0#32
  let c1_i32_2332 : BitVec 32 := 1#32
  let v2372 : BitVec 32 := Scalar.muli v30 c1_i32_2332
  let v2373 : BitVec 32 := Scalar.addi c0_i32_2333 v2372
  v2373.toNat
def k0_off128 (v2241 : BitVec 32) (c1536_i32_2262 : BitVec 32) : Fin 2 → Nat :=
  let c2048_i32_2261 : BitVec 32 := 2048#32
  let v2296 : BitVec 32 := Scalar.muli v2241 c2048_i32_2261
  let v2297 : BitVec 32 := Scalar.addi v2296 c1536_i32_2262
  let c0_i32_2342 : BitVec 32 := 0#32
  ![v2297.toNat, 0]

def k0_chk33 (v2241 : BitVec 32) : Prop :=
  (∀ (r : Fin 4), ∀ a, (k0_off119 v2241 (BitVec.ofNat 32 (512 * r.val))) a + S512x512.size a ≤ S65536x512.size a) ∧
  (∀ (r : Fin 4), ∀ (hinb : ∀ a, (k0_off119 v2241 (BitVec.ofNat 32 (512 * r.val))) a + S512x512.size a ≤ S65536x512.size a), (Rect.unit (s := S65536x512) (k0_off119 v2241 (BitVec.ofNat 32 (512 * r.val))) S512x512.size hinb).WholeWords (EltTy.packing .bf16)) ∧
  (∀ a, (k0_off126 v2241) a + S512x512.size a ≤ S65536x512.size a) ∧
  (∀ (hinb : ∀ a, (k0_off126 v2241) a + S512x512.size a ≤ S65536x512.size a), (Rect.unit (s := S65536x512) (k0_off126 v2241) S512x512.size hinb).WholeWords (EltTy.packing .bf16)) ∧
  (∀ (r : Fin 4), ∀ a, (k0_off128 v2241 (BitVec.ofNat 32 (512 * r.val))) a + S512x512.size a ≤ S65536x512.size a) ∧
  (∀ (r : Fin 4), ∀ (hinb : ∀ a, (k0_off128 v2241 (BitVec.ofNat 32 (512 * r.val))) a + S512x512.size a ≤ S65536x512.size a), (Rect.unit (s := S65536x512) (k0_off128 v2241 (BitVec.ofNat 32 (512 * r.val))) S512x512.size hinb).WholeWords (EltTy.packing .bf16))
theorem k0_off119_inb : ∀ (v2241 : BitVec 32) (k0_hw33 : k0_chk33 v2241), ∀ (r : Fin 4), ∀ a, (k0_off119 v2241 (BitVec.ofNat 32 (512 * r.val))) a + S512x512.size a ≤ S65536x512.size a := fun v2241 k0_hw33 r => k0_hw33.1 r
theorem k0_off119_wordsbf16 : ∀ (v2241 : BitVec 32) (k0_hw33 : k0_chk33 v2241), ∀ (r : Fin 4), (Rect.unit (s := S65536x512) (k0_off119 v2241 (BitVec.ofNat 32 (512 * r.val))) S512x512.size (k0_off119_inb v2241 k0_hw33 r)).WholeWords (EltTy.packing .bf16) := fun v2241 k0_hw33 r => k0_hw33.2.1 r (k0_off119_inb v2241 k0_hw33 r)
theorem k0_off126_inb : ∀ (v2241 : BitVec 32) (k0_hw33 : k0_chk33 v2241), ∀ a, (k0_off126 v2241) a + S512x512.size a ≤ S65536x512.size a := fun v2241 k0_hw33 => k0_hw33.2.2.1
theorem k0_off126_wordsbf16 : ∀ (v2241 : BitVec 32) (k0_hw33 : k0_chk33 v2241), (Rect.unit (s := S65536x512) (k0_off126 v2241) S512x512.size (k0_off126_inb v2241 k0_hw33)).WholeWords (EltTy.packing .bf16) := fun v2241 k0_hw33 => k0_hw33.2.2.2.1 (k0_off126_inb v2241 k0_hw33)
theorem k0_off128_inb : ∀ (v2241 : BitVec 32) (k0_hw33 : k0_chk33 v2241), ∀ (r : Fin 4), ∀ a, (k0_off128 v2241 (BitVec.ofNat 32 (512 * r.val))) a + S512x512.size a ≤ S65536x512.size a := fun v2241 k0_hw33 r => k0_hw33.2.2.2.2.1 r
theorem k0_off128_wordsbf16 : ∀ (v2241 : BitVec 32) (k0_hw33 : k0_chk33 v2241), ∀ (r : Fin 4), (Rect.unit (s := S65536x512) (k0_off128 v2241 (BitVec.ofNat 32 (512 * r.val))) S512x512.size (k0_off128_inb v2241 k0_hw33 r)).WholeWords (EltTy.packing .bf16) := fun v2241 k0_hw33 r => k0_hw33.2.2.2.2.2 r (k0_off128_inb v2241 k0_hw33 r)

def k0_dev126 (v30 : BitVec 32) : Nat :=
  let c0_i32_2350 : BitVec 32 := 0#32
  let c1_i32_2349 : BitVec 32 := 1#32
  let v2388 : BitVec 32 := Scalar.muli v30 c1_i32_2349
  let v2389 : BitVec 32 := Scalar.addi c0_i32_2350 v2388
  v2389.toNat

def k0_chk2_0 (v30 : BitVec 32) : Prop :=
  ((k0_dev1 v30) < nD) ∧
  ((k0_dev7 v30) < nD) ∧
  ((k0_dev8 v30) < nD) ∧
  ((k0_dev9 v30) < nD) ∧
  ((k0_dev10 v30) < nD) ∧
  ((k0_dev15 v30) < nD) ∧
  ((k0_dev16 v30) < nD) ∧
  ((k0_dev17 v30) < nD) ∧
  ((k0_dev18 v30) < nD) ∧
  ((k0_dev23 v30) < nD) ∧
  ((k0_dev24 v30) < nD) ∧
  ((k0_dev25 v30) < nD) ∧
  ((k0_dev26 v30) < nD) ∧
  ((k0_dev31 v30) < nD) ∧
  ((k0_dev32 v30) < nD) ∧
  ((k0_dev33 v30) < nD) ∧
  ((k0_dev34 v30) < nD) ∧
  ((k0_dev39 v30) < nD) ∧
  ((k0_dev40 v30) < nD) ∧
  ((k0_dev41 v30) < nD) ∧
  ((k0_dev42 v30) < nD) ∧
  ((k0_dev47 v30) < nD) ∧
  ((k0_dev48 v30) < nD) ∧
  ((k0_dev49 v30) < nD) ∧
  ((k0_dev50 v30) < nD) ∧
  ((k0_dev55 v30) < nD) ∧
  ((k0_dev56 v30) < nD) ∧
  ((k0_dev57 v30) < nD) ∧
  ((k0_dev58 v30) < nD) ∧
  ((k0_dev63 v30) < nD) ∧
  ((k0_dev64 v30) < nD) ∧
  ((k0_dev65 v30) < nD)
def k0_chk2_1 (v30 : BitVec 32) : Prop :=
  ((k0_dev66 v30) < nD) ∧
  ((k0_dev71 v30) < nD) ∧
  ((k0_dev72 v30) < nD) ∧
  ((k0_dev73 v30) < nD) ∧
  ((k0_dev74 v30) < nD) ∧
  ((k0_dev79 v30) < nD) ∧
  ((k0_dev80 v30) < nD) ∧
  ((k0_dev81 v30) < nD) ∧
  ((k0_dev82 v30) < nD) ∧
  ((k0_dev87 v30) < nD) ∧
  ((k0_dev88 v30) < nD) ∧
  ((k0_dev89 v30) < nD) ∧
  ((k0_dev90 v30) < nD) ∧
  ((k0_dev95 v30) < nD) ∧
  ((k0_dev96 v30) < nD) ∧
  ((k0_dev97 v30) < nD) ∧
  ((k0_dev98 v30) < nD) ∧
  ((k0_dev103 v30) < nD) ∧
  ((k0_dev104 v30) < nD) ∧
  ((k0_dev105 v30) < nD) ∧
  ((k0_dev106 v30) < nD) ∧
  ((k0_dev111 v30) < nD) ∧
  ((k0_dev112 v30) < nD) ∧
  ((k0_dev113 v30) < nD) ∧
  ((k0_dev114 v30) < nD) ∧
  ((k0_dev119 v30) < nD) ∧
  ((k0_dev120 v30) < nD) ∧
  ((k0_dev121 v30) < nD) ∧
  ((k0_dev122 v30) < nD) ∧
  ((k0_dev125 v30) < nD) ∧
  ((k0_dev126 v30) < nD)
def k0_chk2 (v30 : BitVec 32) : Prop :=
  k0_chk2_0 v30 ∧
  k0_chk2_1 v30
theorem k0_dev1_lt : ∀ (v30 : BitVec 32) (k0_hw2 : k0_chk2 v30), (k0_dev1 v30) < nD := fun v30 k0_hw2 => k0_hw2.1.1
theorem k0_dev7_lt : ∀ (v30 : BitVec 32) (k0_hw2 : k0_chk2 v30), (k0_dev7 v30) < nD := fun v30 k0_hw2 => k0_hw2.1.2.1
theorem k0_dev8_lt : ∀ (v30 : BitVec 32) (k0_hw2 : k0_chk2 v30), (k0_dev8 v30) < nD := fun v30 k0_hw2 => k0_hw2.1.2.2.1
theorem k0_dev9_lt : ∀ (v30 : BitVec 32) (k0_hw2 : k0_chk2 v30), (k0_dev9 v30) < nD := fun v30 k0_hw2 => k0_hw2.1.2.2.2.1
theorem k0_dev10_lt : ∀ (v30 : BitVec 32) (k0_hw2 : k0_chk2 v30), (k0_dev10 v30) < nD := fun v30 k0_hw2 => k0_hw2.1.2.2.2.2.1
theorem k0_dev15_lt : ∀ (v30 : BitVec 32) (k0_hw2 : k0_chk2 v30), (k0_dev15 v30) < nD := fun v30 k0_hw2 => k0_hw2.1.2.2.2.2.2.1
theorem k0_dev16_lt : ∀ (v30 : BitVec 32) (k0_hw2 : k0_chk2 v30), (k0_dev16 v30) < nD := fun v30 k0_hw2 => k0_hw2.1.2.2.2.2.2.2.1
theorem k0_dev17_lt : ∀ (v30 : BitVec 32) (k0_hw2 : k0_chk2 v30), (k0_dev17 v30) < nD := fun v30 k0_hw2 => k0_hw2.1.2.2.2.2.2.2.2.1
theorem k0_dev18_lt : ∀ (v30 : BitVec 32) (k0_hw2 : k0_chk2 v30), (k0_dev18 v30) < nD := fun v30 k0_hw2 => k0_hw2.1.2.2.2.2.2.2.2.2.1
theorem k0_dev23_lt : ∀ (v30 : BitVec 32) (k0_hw2 : k0_chk2 v30), (k0_dev23 v30) < nD := fun v30 k0_hw2 => k0_hw2.1.2.2.2.2.2.2.2.2.2.1
theorem k0_dev24_lt : ∀ (v30 : BitVec 32) (k0_hw2 : k0_chk2 v30), (k0_dev24 v30) < nD := fun v30 k0_hw2 => k0_hw2.1.2.2.2.2.2.2.2.2.2.2.1
theorem k0_dev25_lt : ∀ (v30 : BitVec 32) (k0_hw2 : k0_chk2 v30), (k0_dev25 v30) < nD := fun v30 k0_hw2 => k0_hw2.1.2.2.2.2.2.2.2.2.2.2.2.1
theorem k0_dev26_lt : ∀ (v30 : BitVec 32) (k0_hw2 : k0_chk2 v30), (k0_dev26 v30) < nD := fun v30 k0_hw2 => k0_hw2.1.2.2.2.2.2.2.2.2.2.2.2.2.1
theorem k0_dev31_lt : ∀ (v30 : BitVec 32) (k0_hw2 : k0_chk2 v30), (k0_dev31 v30) < nD := fun v30 k0_hw2 => k0_hw2.1.2.2.2.2.2.2.2.2.2.2.2.2.2.1
theorem k0_dev32_lt : ∀ (v30 : BitVec 32) (k0_hw2 : k0_chk2 v30), (k0_dev32 v30) < nD := fun v30 k0_hw2 => k0_hw2.1.2.2.2.2.2.2.2.2.2.2.2.2.2.2.1
theorem k0_dev33_lt : ∀ (v30 : BitVec 32) (k0_hw2 : k0_chk2 v30), (k0_dev33 v30) < nD := fun v30 k0_hw2 => k0_hw2.1.2.2.2.2.2.2.2.2.2.2.2.2.2.2.2.1
theorem k0_dev34_lt : ∀ (v30 : BitVec 32) (k0_hw2 : k0_chk2 v30), (k0_dev34 v30) < nD := fun v30 k0_hw2 => k0_hw2.1.2.2.2.2.2.2.2.2.2.2.2.2.2.2.2.2.1
theorem k0_dev39_lt : ∀ (v30 : BitVec 32) (k0_hw2 : k0_chk2 v30), (k0_dev39 v30) < nD := fun v30 k0_hw2 => k0_hw2.1.2.2.2.2.2.2.2.2.2.2.2.2.2.2.2.2.2.1
theorem k0_dev40_lt : ∀ (v30 : BitVec 32) (k0_hw2 : k0_chk2 v30), (k0_dev40 v30) < nD := fun v30 k0_hw2 => k0_hw2.1.2.2.2.2.2.2.2.2.2.2.2.2.2.2.2.2.2.2.1
theorem k0_dev41_lt : ∀ (v30 : BitVec 32) (k0_hw2 : k0_chk2 v30), (k0_dev41 v30) < nD := fun v30 k0_hw2 => k0_hw2.1.2.2.2.2.2.2.2.2.2.2.2.2.2.2.2.2.2.2.2.1
theorem k0_dev42_lt : ∀ (v30 : BitVec 32) (k0_hw2 : k0_chk2 v30), (k0_dev42 v30) < nD := fun v30 k0_hw2 => k0_hw2.1.2.2.2.2.2.2.2.2.2.2.2.2.2.2.2.2.2.2.2.2.1
theorem k0_dev47_lt : ∀ (v30 : BitVec 32) (k0_hw2 : k0_chk2 v30), (k0_dev47 v30) < nD := fun v30 k0_hw2 => k0_hw2.1.2.2.2.2.2.2.2.2.2.2.2.2.2.2.2.2.2.2.2.2.2.1
theorem k0_dev48_lt : ∀ (v30 : BitVec 32) (k0_hw2 : k0_chk2 v30), (k0_dev48 v30) < nD := fun v30 k0_hw2 => k0_hw2.1.2.2.2.2.2.2.2.2.2.2.2.2.2.2.2.2.2.2.2.2.2.2.1
theorem k0_dev49_lt : ∀ (v30 : BitVec 32) (k0_hw2 : k0_chk2 v30), (k0_dev49 v30) < nD := fun v30 k0_hw2 => k0_hw2.1.2.2.2.2.2.2.2.2.2.2.2.2.2.2.2.2.2.2.2.2.2.2.2.1
theorem k0_dev50_lt : ∀ (v30 : BitVec 32) (k0_hw2 : k0_chk2 v30), (k0_dev50 v30) < nD := fun v30 k0_hw2 => k0_hw2.1.2.2.2.2.2.2.2.2.2.2.2.2.2.2.2.2.2.2.2.2.2.2.2.2.1
theorem k0_dev55_lt : ∀ (v30 : BitVec 32) (k0_hw2 : k0_chk2 v30), (k0_dev55 v30) < nD := fun v30 k0_hw2 => k0_hw2.1.2.2.2.2.2.2.2.2.2.2.2.2.2.2.2.2.2.2.2.2.2.2.2.2.2.1
theorem k0_dev56_lt : ∀ (v30 : BitVec 32) (k0_hw2 : k0_chk2 v30), (k0_dev56 v30) < nD := fun v30 k0_hw2 => k0_hw2.1.2.2.2.2.2.2.2.2.2.2.2.2.2.2.2.2.2.2.2.2.2.2.2.2.2.2.1
theorem k0_dev57_lt : ∀ (v30 : BitVec 32) (k0_hw2 : k0_chk2 v30), (k0_dev57 v30) < nD := fun v30 k0_hw2 => k0_hw2.1.2.2.2.2.2.2.2.2.2.2.2.2.2.2.2.2.2.2.2.2.2.2.2.2.2.2.2.1
theorem k0_dev58_lt : ∀ (v30 : BitVec 32) (k0_hw2 : k0_chk2 v30), (k0_dev58 v30) < nD := fun v30 k0_hw2 => k0_hw2.1.2.2.2.2.2.2.2.2.2.2.2.2.2.2.2.2.2.2.2.2.2.2.2.2.2.2.2.2.1
theorem k0_dev63_lt : ∀ (v30 : BitVec 32) (k0_hw2 : k0_chk2 v30), (k0_dev63 v30) < nD := fun v30 k0_hw2 => k0_hw2.1.2.2.2.2.2.2.2.2.2.2.2.2.2.2.2.2.2.2.2.2.2.2.2.2.2.2.2.2.2.1
theorem k0_dev64_lt : ∀ (v30 : BitVec 32) (k0_hw2 : k0_chk2 v30), (k0_dev64 v30) < nD := fun v30 k0_hw2 => k0_hw2.1.2.2.2.2.2.2.2.2.2.2.2.2.2.2.2.2.2.2.2.2.2.2.2.2.2.2.2.2.2.2.1
theorem k0_dev65_lt : ∀ (v30 : BitVec 32) (k0_hw2 : k0_chk2 v30), (k0_dev65 v30) < nD := fun v30 k0_hw2 => k0_hw2.1.2.2.2.2.2.2.2.2.2.2.2.2.2.2.2.2.2.2.2.2.2.2.2.2.2.2.2.2.2.2.2
theorem k0_dev66_lt : ∀ (v30 : BitVec 32) (k0_hw2 : k0_chk2 v30), (k0_dev66 v30) < nD := fun v30 k0_hw2 => k0_hw2.2.1
theorem k0_dev71_lt : ∀ (v30 : BitVec 32) (k0_hw2 : k0_chk2 v30), (k0_dev71 v30) < nD := fun v30 k0_hw2 => k0_hw2.2.2.1
theorem k0_dev72_lt : ∀ (v30 : BitVec 32) (k0_hw2 : k0_chk2 v30), (k0_dev72 v30) < nD := fun v30 k0_hw2 => k0_hw2.2.2.2.1
theorem k0_dev73_lt : ∀ (v30 : BitVec 32) (k0_hw2 : k0_chk2 v30), (k0_dev73 v30) < nD := fun v30 k0_hw2 => k0_hw2.2.2.2.2.1
theorem k0_dev74_lt : ∀ (v30 : BitVec 32) (k0_hw2 : k0_chk2 v30), (k0_dev74 v30) < nD := fun v30 k0_hw2 => k0_hw2.2.2.2.2.2.1
theorem k0_dev79_lt : ∀ (v30 : BitVec 32) (k0_hw2 : k0_chk2 v30), (k0_dev79 v30) < nD := fun v30 k0_hw2 => k0_hw2.2.2.2.2.2.2.1
theorem k0_dev80_lt : ∀ (v30 : BitVec 32) (k0_hw2 : k0_chk2 v30), (k0_dev80 v30) < nD := fun v30 k0_hw2 => k0_hw2.2.2.2.2.2.2.2.1
theorem k0_dev81_lt : ∀ (v30 : BitVec 32) (k0_hw2 : k0_chk2 v30), (k0_dev81 v30) < nD := fun v30 k0_hw2 => k0_hw2.2.2.2.2.2.2.2.2.1
theorem k0_dev82_lt : ∀ (v30 : BitVec 32) (k0_hw2 : k0_chk2 v30), (k0_dev82 v30) < nD := fun v30 k0_hw2 => k0_hw2.2.2.2.2.2.2.2.2.2.1
theorem k0_dev87_lt : ∀ (v30 : BitVec 32) (k0_hw2 : k0_chk2 v30), (k0_dev87 v30) < nD := fun v30 k0_hw2 => k0_hw2.2.2.2.2.2.2.2.2.2.2.1
theorem k0_dev88_lt : ∀ (v30 : BitVec 32) (k0_hw2 : k0_chk2 v30), (k0_dev88 v30) < nD := fun v30 k0_hw2 => k0_hw2.2.2.2.2.2.2.2.2.2.2.2.1
theorem k0_dev89_lt : ∀ (v30 : BitVec 32) (k0_hw2 : k0_chk2 v30), (k0_dev89 v30) < nD := fun v30 k0_hw2 => k0_hw2.2.2.2.2.2.2.2.2.2.2.2.2.1
theorem k0_dev90_lt : ∀ (v30 : BitVec 32) (k0_hw2 : k0_chk2 v30), (k0_dev90 v30) < nD := fun v30 k0_hw2 => k0_hw2.2.2.2.2.2.2.2.2.2.2.2.2.2.1
theorem k0_dev95_lt : ∀ (v30 : BitVec 32) (k0_hw2 : k0_chk2 v30), (k0_dev95 v30) < nD := fun v30 k0_hw2 => k0_hw2.2.2.2.2.2.2.2.2.2.2.2.2.2.2.1
theorem k0_dev96_lt : ∀ (v30 : BitVec 32) (k0_hw2 : k0_chk2 v30), (k0_dev96 v30) < nD := fun v30 k0_hw2 => k0_hw2.2.2.2.2.2.2.2.2.2.2.2.2.2.2.2.1
theorem k0_dev97_lt : ∀ (v30 : BitVec 32) (k0_hw2 : k0_chk2 v30), (k0_dev97 v30) < nD := fun v30 k0_hw2 => k0_hw2.2.2.2.2.2.2.2.2.2.2.2.2.2.2.2.2.1
theorem k0_dev98_lt : ∀ (v30 : BitVec 32) (k0_hw2 : k0_chk2 v30), (k0_dev98 v30) < nD := fun v30 k0_hw2 => k0_hw2.2.2.2.2.2.2.2.2.2.2.2.2.2.2.2.2.2.1
theorem k0_dev103_lt : ∀ (v30 : BitVec 32) (k0_hw2 : k0_chk2 v30), (k0_dev103 v30) < nD := fun v30 k0_hw2 => k0_hw2.2.2.2.2.2.2.2.2.2.2.2.2.2.2.2.2.2.2.1
theorem k0_dev104_lt : ∀ (v30 : BitVec 32) (k0_hw2 : k0_chk2 v30), (k0_dev104 v30) < nD := fun v30 k0_hw2 => k0_hw2.2.2.2.2.2.2.2.2.2.2.2.2.2.2.2.2.2.2.2.1
theorem k0_dev105_lt : ∀ (v30 : BitVec 32) (k0_hw2 : k0_chk2 v30), (k0_dev105 v30) < nD := fun v30 k0_hw2 => k0_hw2.2.2.2.2.2.2.2.2.2.2.2.2.2.2.2.2.2.2.2.2.1
theorem k0_dev106_lt : ∀ (v30 : BitVec 32) (k0_hw2 : k0_chk2 v30), (k0_dev106 v30) < nD := fun v30 k0_hw2 => k0_hw2.2.2.2.2.2.2.2.2.2.2.2.2.2.2.2.2.2.2.2.2.2.1
theorem k0_dev111_lt : ∀ (v30 : BitVec 32) (k0_hw2 : k0_chk2 v30), (k0_dev111 v30) < nD := fun v30 k0_hw2 => k0_hw2.2.2.2.2.2.2.2.2.2.2.2.2.2.2.2.2.2.2.2.2.2.2.1
theorem k0_dev112_lt : ∀ (v30 : BitVec 32) (k0_hw2 : k0_chk2 v30), (k0_dev112 v30) < nD := fun v30 k0_hw2 => k0_hw2.2.2.2.2.2.2.2.2.2.2.2.2.2.2.2.2.2.2.2.2.2.2.2.1
theorem k0_dev113_lt : ∀ (v30 : BitVec 32) (k0_hw2 : k0_chk2 v30), (k0_dev113 v30) < nD := fun v30 k0_hw2 => k0_hw2.2.2.2.2.2.2.2.2.2.2.2.2.2.2.2.2.2.2.2.2.2.2.2.2.1
theorem k0_dev114_lt : ∀ (v30 : BitVec 32) (k0_hw2 : k0_chk2 v30), (k0_dev114 v30) < nD := fun v30 k0_hw2 => k0_hw2.2.2.2.2.2.2.2.2.2.2.2.2.2.2.2.2.2.2.2.2.2.2.2.2.2.1
theorem k0_dev119_lt : ∀ (v30 : BitVec 32) (k0_hw2 : k0_chk2 v30), (k0_dev119 v30) < nD := fun v30 k0_hw2 => k0_hw2.2.2.2.2.2.2.2.2.2.2.2.2.2.2.2.2.2.2.2.2.2.2.2.2.2.2.1
theorem k0_dev120_lt : ∀ (v30 : BitVec 32) (k0_hw2 : k0_chk2 v30), (k0_dev120 v30) < nD := fun v30 k0_hw2 => k0_hw2.2.2.2.2.2.2.2.2.2.2.2.2.2.2.2.2.2.2.2.2.2.2.2.2.2.2.2.1
theorem k0_dev121_lt : ∀ (v30 : BitVec 32) (k0_hw2 : k0_chk2 v30), (k0_dev121 v30) < nD := fun v30 k0_hw2 => k0_hw2.2.2.2.2.2.2.2.2.2.2.2.2.2.2.2.2.2.2.2.2.2.2.2.2.2.2.2.2.1
theorem k0_dev122_lt : ∀ (v30 : BitVec 32) (k0_hw2 : k0_chk2 v30), (k0_dev122 v30) < nD := fun v30 k0_hw2 => k0_hw2.2.2.2.2.2.2.2.2.2.2.2.2.2.2.2.2.2.2.2.2.2.2.2.2.2.2.2.2.2.1
theorem k0_dev125_lt : ∀ (v30 : BitVec 32) (k0_hw2 : k0_chk2 v30), (k0_dev125 v30) < nD := fun v30 k0_hw2 => k0_hw2.2.2.2.2.2.2.2.2.2.2.2.2.2.2.2.2.2.2.2.2.2.2.2.2.2.2.2.2.2.2.1
theorem k0_dev126_lt : ∀ (v30 : BitVec 32) (k0_hw2 : k0_chk2 v30), (k0_dev126 v30) < nD := fun v30 k0_hw2 => k0_hw2.2.2.2.2.2.2.2.2.2.2.2.2.2.2.2.2.2.2.2.2.2.2.2.2.2.2.2.2.2.2.2

def k0_off129 (v2164 : BitVec 32) (c1024_i32_2167 : BitVec 32) : Fin 2 → Nat :=
  let c2048_i32_2166 : BitVec 32 := 2048#32
  let v2203 : BitVec 32 := Scalar.muli v2164 c2048_i32_2166
  let v2204 : BitVec 32 := Scalar.addi v2203 c1024_i32_2167
  let c0_i32_2359 : BitVec 32 := 0#32
  ![v2204.toNat, 0]

def k0_chk32 (v2164 : BitVec 32) : Prop :=
  (∀ (r : Fin 4), ∀ a, (k0_off115 v2164 (BitVec.ofNat 32 (512 * r.val))) a + S512x512.size a ≤ S65536x512.size a) ∧
  (∀ (r : Fin 4), ∀ (hinb : ∀ a, (k0_off115 v2164 (BitVec.ofNat 32 (512 * r.val))) a + S512x512.size a ≤ S65536x512.size a), (Rect.unit (s := S65536x512) (k0_off115 v2164 (BitVec.ofNat 32 (512 * r.val))) S512x512.size hinb).WholeWords (EltTy.packing .bf16)) ∧
  (∀ a, (k0_off122 v2164) a + S512x512.size a ≤ S65536x512.size a) ∧
  (∀ (hinb : ∀ a, (k0_off122 v2164) a + S512x512.size a ≤ S65536x512.size a), (Rect.unit (s := S65536x512) (k0_off122 v2164) S512x512.size hinb).WholeWords (EltTy.packing .bf16)) ∧
  (∀ a, (k0_off124 v2164) a + S512x512.size a ≤ S65536x512.size a) ∧
  (∀ (hinb : ∀ a, (k0_off124 v2164) a + S512x512.size a ≤ S65536x512.size a), (Rect.unit (s := S65536x512) (k0_off124 v2164) S512x512.size hinb).WholeWords (EltTy.packing .bf16)) ∧
  (∀ (r : Fin 4), ∀ a, (k0_off129 v2164 (BitVec.ofNat 32 (512 * r.val))) a + S512x512.size a ≤ S65536x512.size a) ∧
  (∀ (r : Fin 4), ∀ (hinb : ∀ a, (k0_off129 v2164 (BitVec.ofNat 32 (512 * r.val))) a + S512x512.size a ≤ S65536x512.size a), (Rect.unit (s := S65536x512) (k0_off129 v2164 (BitVec.ofNat 32 (512 * r.val))) S512x512.size hinb).WholeWords (EltTy.packing .bf16))
theorem k0_off115_inb : ∀ (v2164 : BitVec 32) (k0_hw32 : k0_chk32 v2164), ∀ (r : Fin 4), ∀ a, (k0_off115 v2164 (BitVec.ofNat 32 (512 * r.val))) a + S512x512.size a ≤ S65536x512.size a := fun v2164 k0_hw32 r => k0_hw32.1 r
theorem k0_off115_wordsbf16 : ∀ (v2164 : BitVec 32) (k0_hw32 : k0_chk32 v2164), ∀ (r : Fin 4), (Rect.unit (s := S65536x512) (k0_off115 v2164 (BitVec.ofNat 32 (512 * r.val))) S512x512.size (k0_off115_inb v2164 k0_hw32 r)).WholeWords (EltTy.packing .bf16) := fun v2164 k0_hw32 r => k0_hw32.2.1 r (k0_off115_inb v2164 k0_hw32 r)
theorem k0_off122_inb : ∀ (v2164 : BitVec 32) (k0_hw32 : k0_chk32 v2164), ∀ a, (k0_off122 v2164) a + S512x512.size a ≤ S65536x512.size a := fun v2164 k0_hw32 => k0_hw32.2.2.1
theorem k0_off122_wordsbf16 : ∀ (v2164 : BitVec 32) (k0_hw32 : k0_chk32 v2164), (Rect.unit (s := S65536x512) (k0_off122 v2164) S512x512.size (k0_off122_inb v2164 k0_hw32)).WholeWords (EltTy.packing .bf16) := fun v2164 k0_hw32 => k0_hw32.2.2.2.1 (k0_off122_inb v2164 k0_hw32)
theorem k0_off124_inb : ∀ (v2164 : BitVec 32) (k0_hw32 : k0_chk32 v2164), ∀ a, (k0_off124 v2164) a + S512x512.size a ≤ S65536x512.size a := fun v2164 k0_hw32 => k0_hw32.2.2.2.2.1
theorem k0_off124_wordsbf16 : ∀ (v2164 : BitVec 32) (k0_hw32 : k0_chk32 v2164), (Rect.unit (s := S65536x512) (k0_off124 v2164) S512x512.size (k0_off124_inb v2164 k0_hw32)).WholeWords (EltTy.packing .bf16) := fun v2164 k0_hw32 => k0_hw32.2.2.2.2.2.1 (k0_off124_inb v2164 k0_hw32)
theorem k0_off129_inb : ∀ (v2164 : BitVec 32) (k0_hw32 : k0_chk32 v2164), ∀ (r : Fin 4), ∀ a, (k0_off129 v2164 (BitVec.ofNat 32 (512 * r.val))) a + S512x512.size a ≤ S65536x512.size a := fun v2164 k0_hw32 r => k0_hw32.2.2.2.2.2.2.1 r
theorem k0_off129_wordsbf16 : ∀ (v2164 : BitVec 32) (k0_hw32 : k0_chk32 v2164), ∀ (r : Fin 4), (Rect.unit (s := S65536x512) (k0_off129 v2164 (BitVec.ofNat 32 (512 * r.val))) S512x512.size (k0_off129_inb v2164 k0_hw32 r)).WholeWords (EltTy.packing .bf16) := fun v2164 k0_hw32 r => k0_hw32.2.2.2.2.2.2.2 r (k0_off129_inb v2164 k0_hw32 r)

def k0_off130 (v2318 : BitVec 32) (c0_i32_2287 : BitVec 32) : Fin 2 → Nat :=
  let c2048_i32_2286 : BitVec 32 := 2048#32
  let v2325 : BitVec 32 := Scalar.muli v2318 c2048_i32_2286
  let v2326 : BitVec 32 := Scalar.addi v2325 c0_i32_2287
  let c0_i32_2391 : BitVec 32 := 0#32
  ![v2326.toNat, 0]

def k0_chk34 (v2318 : BitVec 32) : Prop :=
  (∀ (r : Fin 2), ∀ a, (k0_off123 v2318 (BitVec.ofNat 32 (512 * r.val))) a + S512x512.size a ≤ S65536x512.size a) ∧
  (∀ (r : Fin 2), ∀ (hinb : ∀ a, (k0_off123 v2318 (BitVec.ofNat 32 (512 * r.val))) a + S512x512.size a ≤ S65536x512.size a), (Rect.unit (s := S65536x512) (k0_off123 v2318 (BitVec.ofNat 32 (512 * r.val))) S512x512.size hinb).WholeWords (EltTy.packing .bf16)) ∧
  (∀ (r : Fin 2), ∀ a, (k0_off130 v2318 (BitVec.ofNat 32 (512 * r.val))) a + S512x512.size a ≤ S65536x512.size a) ∧
  (∀ (r : Fin 2), ∀ (hinb : ∀ a, (k0_off130 v2318 (BitVec.ofNat 32 (512 * r.val))) a + S512x512.size a ≤ S65536x512.size a), (Rect.unit (s := S65536x512) (k0_off130 v2318 (BitVec.ofNat 32 (512 * r.val))) S512x512.size hinb).WholeWords (EltTy.packing .bf16))
theorem k0_off123_inb : ∀ (v2318 : BitVec 32) (k0_hw34 : k0_chk34 v2318), ∀ (r : Fin 2), ∀ a, (k0_off123 v2318 (BitVec.ofNat 32 (512 * r.val))) a + S512x512.size a ≤ S65536x512.size a := fun v2318 k0_hw34 r => k0_hw34.1 r
theorem k0_off123_wordsbf16 : ∀ (v2318 : BitVec 32) (k0_hw34 : k0_chk34 v2318), ∀ (r : Fin 2), (Rect.unit (s := S65536x512) (k0_off123 v2318 (BitVec.ofNat 32 (512 * r.val))) S512x512.size (k0_off123_inb v2318 k0_hw34 r)).WholeWords (EltTy.packing .bf16) := fun v2318 k0_hw34 r => k0_hw34.2.1 r (k0_off123_inb v2318 k0_hw34 r)
theorem k0_off130_inb : ∀ (v2318 : BitVec 32) (k0_hw34 : k0_chk34 v2318), ∀ (r : Fin 2), ∀ a, (k0_off130 v2318 (BitVec.ofNat 32 (512 * r.val))) a + S512x512.size a ≤ S65536x512.size a := fun v2318 k0_hw34 r => k0_hw34.2.2.1 r
theorem k0_off130_wordsbf16 : ∀ (v2318 : BitVec 32) (k0_hw34 : k0_chk34 v2318), ∀ (r : Fin 2), (Rect.unit (s := S65536x512) (k0_off130 v2318 (BitVec.ofNat 32 (512 * r.val))) S512x512.size (k0_off130_inb v2318 k0_hw34 r)).WholeWords (EltTy.packing .bf16) := fun v2318 k0_hw34 r => k0_hw34.2.2.2 r (k0_off130_inb v2318 k0_hw34 r)

def k0_off131 (v56 : BitVec 32) (c0_i32_32 : BitVec 32) : Fin 2 → Nat :=
  let c2048_i32_31 : BitVec 32 := 2048#32
  let v57 : BitVec 32 := Scalar.muli v56 c2048_i32_31
  let v58 : BitVec 32 := Scalar.addi v57 c0_i32_32
  let c0_i32_2422 : BitVec 32 := 0#32
  ![v58.toNat, 0]

def k0_chk4 (v56 : BitVec 32) : Prop :=
  (∀ (r : Fin 4), ∀ a, (k0_off6 v56 (BitVec.ofNat 32 (512 * r.val))) a + S512x512.size a ≤ S65536x512.size a) ∧
  (∀ (r : Fin 4), ∀ (hinb : ∀ a, (k0_off6 v56 (BitVec.ofNat 32 (512 * r.val))) a + S512x512.size a ≤ S65536x512.size a), (Rect.unit (s := S65536x512) (k0_off6 v56 (BitVec.ofNat 32 (512 * r.val))) S512x512.size hinb).WholeWords (EltTy.packing .bf16)) ∧
  (∀ a, (k0_off10 v56) a + S512x512.size a ≤ S65536x512.size a) ∧
  (∀ (hinb : ∀ a, (k0_off10 v56) a + S512x512.size a ≤ S65536x512.size a), (Rect.unit (s := S65536x512) (k0_off10 v56) S512x512.size hinb).WholeWords (EltTy.packing .bf16)) ∧
  (∀ (r : Fin 3), ∀ a, (k0_off12 v56 (BitVec.ofNat 32 (512 + 512 * r.val))) a + S512x512.size a ≤ S65536x512.size a) ∧
  (∀ (r : Fin 3), ∀ (hinb : ∀ a, (k0_off12 v56 (BitVec.ofNat 32 (512 + 512 * r.val))) a + S512x512.size a ≤ S65536x512.size a), (Rect.unit (s := S65536x512) (k0_off12 v56 (BitVec.ofNat 32 (512 + 512 * r.val))) S512x512.size hinb).WholeWords (EltTy.packing .bf16)) ∧
  (∀ (r : Fin 4), ∀ a, (k0_off131 v56 (BitVec.ofNat 32 (512 * r.val))) a + S512x512.size a ≤ S65536x512.size a) ∧
  (∀ (r : Fin 4), ∀ (hinb : ∀ a, (k0_off131 v56 (BitVec.ofNat 32 (512 * r.val))) a + S512x512.size a ≤ S65536x512.size a), (Rect.unit (s := S65536x512) (k0_off131 v56 (BitVec.ofNat 32 (512 * r.val))) S512x512.size hinb).WholeWords (EltTy.packing .bf16))
theorem k0_off6_inb : ∀ (v56 : BitVec 32) (k0_hw4 : k0_chk4 v56), ∀ (r : Fin 4), ∀ a, (k0_off6 v56 (BitVec.ofNat 32 (512 * r.val))) a + S512x512.size a ≤ S65536x512.size a := fun v56 k0_hw4 r => k0_hw4.1 r
theorem k0_off6_wordsbf16 : ∀ (v56 : BitVec 32) (k0_hw4 : k0_chk4 v56), ∀ (r : Fin 4), (Rect.unit (s := S65536x512) (k0_off6 v56 (BitVec.ofNat 32 (512 * r.val))) S512x512.size (k0_off6_inb v56 k0_hw4 r)).WholeWords (EltTy.packing .bf16) := fun v56 k0_hw4 r => k0_hw4.2.1 r (k0_off6_inb v56 k0_hw4 r)
theorem k0_off10_inb : ∀ (v56 : BitVec 32) (k0_hw4 : k0_chk4 v56), ∀ a, (k0_off10 v56) a + S512x512.size a ≤ S65536x512.size a := fun v56 k0_hw4 => k0_hw4.2.2.1
theorem k0_off10_wordsbf16 : ∀ (v56 : BitVec 32) (k0_hw4 : k0_chk4 v56), (Rect.unit (s := S65536x512) (k0_off10 v56) S512x512.size (k0_off10_inb v56 k0_hw4)).WholeWords (EltTy.packing .bf16) := fun v56 k0_hw4 => k0_hw4.2.2.2.1 (k0_off10_inb v56 k0_hw4)
theorem k0_off12_inb : ∀ (v56 : BitVec 32) (k0_hw4 : k0_chk4 v56), ∀ (r : Fin 3), ∀ a, (k0_off12 v56 (BitVec.ofNat 32 (512 + 512 * r.val))) a + S512x512.size a ≤ S65536x512.size a := fun v56 k0_hw4 r => k0_hw4.2.2.2.2.1 r
theorem k0_off12_wordsbf16 : ∀ (v56 : BitVec 32) (k0_hw4 : k0_chk4 v56), ∀ (r : Fin 3), (Rect.unit (s := S65536x512) (k0_off12 v56 (BitVec.ofNat 32 (512 + 512 * r.val))) S512x512.size (k0_off12_inb v56 k0_hw4 r)).WholeWords (EltTy.packing .bf16) := fun v56 k0_hw4 r => k0_hw4.2.2.2.2.2.1 r (k0_off12_inb v56 k0_hw4 r)
theorem k0_off131_inb : ∀ (v56 : BitVec 32) (k0_hw4 : k0_chk4 v56), ∀ (r : Fin 4), ∀ a, (k0_off131 v56 (BitVec.ofNat 32 (512 * r.val))) a + S512x512.size a ≤ S65536x512.size a := fun v56 k0_hw4 r => k0_hw4.2.2.2.2.2.2.1 r
theorem k0_off131_wordsbf16 : ∀ (v56 : BitVec 32) (k0_hw4 : k0_chk4 v56), ∀ (r : Fin 4), (Rect.unit (s := S65536x512) (k0_off131 v56 (BitVec.ofNat 32 (512 * r.val))) S512x512.size (k0_off131_inb v56 k0_hw4 r)).WholeWords (EltTy.packing .bf16) := fun v56 k0_hw4 r => k0_hw4.2.2.2.2.2.2.2 r (k0_off131_inb v56 k0_hw4 r)

def k0_off132 (v109 : BitVec 32) (c0_i32_75 : BitVec 32) : Fin 2 → Nat :=
  let c2048_i32_74 : BitVec 32 := 2048#32
  let v110 : BitVec 32 := Scalar.muli v109 c2048_i32_74
  let v111 : BitVec 32 := Scalar.addi v110 c0_i32_75
  let c0_i32_2450 : BitVec 32 := 0#32
  ![v111.toNat, 0]

def k0_chk5 (v109 : BitVec 32) : Prop :=
  (∀ (r : Fin 4), ∀ a, (k0_off8 v109 (BitVec.ofNat 32 (512 * r.val))) a + S512x512.size a ≤ S65536x512.size a) ∧
  (∀ (r : Fin 4), ∀ (hinb : ∀ a, (k0_off8 v109 (BitVec.ofNat 32 (512 * r.val))) a + S512x512.size a ≤ S65536x512.size a), (Rect.unit (s := S65536x512) (k0_off8 v109 (BitVec.ofNat 32 (512 * r.val))) S512x512.size hinb).WholeWords (EltTy.packing .bf16)) ∧
  (∀ a, (k0_off14 v109) a + S512x512.size a ≤ S65536x512.size a) ∧
  (∀ (hinb : ∀ a, (k0_off14 v109) a + S512x512.size a ≤ S65536x512.size a), (Rect.unit (s := S65536x512) (k0_off14 v109) S512x512.size hinb).WholeWords (EltTy.packing .bf16)) ∧
  (∀ (r : Fin 3), ∀ a, (k0_off16 v109 (BitVec.ofNat 32 (512 + 512 * r.val))) a + S512x512.size a ≤ S65536x512.size a) ∧
  (∀ (r : Fin 3), ∀ (hinb : ∀ a, (k0_off16 v109 (BitVec.ofNat 32 (512 + 512 * r.val))) a + S512x512.size a ≤ S65536x512.size a), (Rect.unit (s := S65536x512) (k0_off16 v109 (BitVec.ofNat 32 (512 + 512 * r.val))) S512x512.size hinb).WholeWords (EltTy.packing .bf16)) ∧
  (∀ (r : Fin 4), ∀ a, (k0_off132 v109 (BitVec.ofNat 32 (512 * r.val))) a + S512x512.size a ≤ S65536x512.size a) ∧
  (∀ (r : Fin 4), ∀ (hinb : ∀ a, (k0_off132 v109 (BitVec.ofNat 32 (512 * r.val))) a + S512x512.size a ≤ S65536x512.size a), (Rect.unit (s := S65536x512) (k0_off132 v109 (BitVec.ofNat 32 (512 * r.val))) S512x512.size hinb).WholeWords (EltTy.packing .bf16))
theorem k0_off8_inb : ∀ (v109 : BitVec 32) (k0_hw5 : k0_chk5 v109), ∀ (r : Fin 4), ∀ a, (k0_off8 v109 (BitVec.ofNat 32 (512 * r.val))) a + S512x512.size a ≤ S65536x512.size a := fun v109 k0_hw5 r => k0_hw5.1 r
theorem k0_off8_wordsbf16 : ∀ (v109 : BitVec 32) (k0_hw5 : k0_chk5 v109), ∀ (r : Fin 4), (Rect.unit (s := S65536x512) (k0_off8 v109 (BitVec.ofNat 32 (512 * r.val))) S512x512.size (k0_off8_inb v109 k0_hw5 r)).WholeWords (EltTy.packing .bf16) := fun v109 k0_hw5 r => k0_hw5.2.1 r (k0_off8_inb v109 k0_hw5 r)
theorem k0_off14_inb : ∀ (v109 : BitVec 32) (k0_hw5 : k0_chk5 v109), ∀ a, (k0_off14 v109) a + S512x512.size a ≤ S65536x512.size a := fun v109 k0_hw5 => k0_hw5.2.2.1
theorem k0_off14_wordsbf16 : ∀ (v109 : BitVec 32) (k0_hw5 : k0_chk5 v109), (Rect.unit (s := S65536x512) (k0_off14 v109) S512x512.size (k0_off14_inb v109 k0_hw5)).WholeWords (EltTy.packing .bf16) := fun v109 k0_hw5 => k0_hw5.2.2.2.1 (k0_off14_inb v109 k0_hw5)
theorem k0_off16_inb : ∀ (v109 : BitVec 32) (k0_hw5 : k0_chk5 v109), ∀ (r : Fin 3), ∀ a, (k0_off16 v109 (BitVec.ofNat 32 (512 + 512 * r.val))) a + S512x512.size a ≤ S65536x512.size a := fun v109 k0_hw5 r => k0_hw5.2.2.2.2.1 r
theorem k0_off16_wordsbf16 : ∀ (v109 : BitVec 32) (k0_hw5 : k0_chk5 v109), ∀ (r : Fin 3), (Rect.unit (s := S65536x512) (k0_off16 v109 (BitVec.ofNat 32 (512 + 512 * r.val))) S512x512.size (k0_off16_inb v109 k0_hw5 r)).WholeWords (EltTy.packing .bf16) := fun v109 k0_hw5 r => k0_hw5.2.2.2.2.2.1 r (k0_off16_inb v109 k0_hw5 r)
theorem k0_off132_inb : ∀ (v109 : BitVec 32) (k0_hw5 : k0_chk5 v109), ∀ (r : Fin 4), ∀ a, (k0_off132 v109 (BitVec.ofNat 32 (512 * r.val))) a + S512x512.size a ≤ S65536x512.size a := fun v109 k0_hw5 r => k0_hw5.2.2.2.2.2.2.1 r
theorem k0_off132_wordsbf16 : ∀ (v109 : BitVec 32) (k0_hw5 : k0_chk5 v109), ∀ (r : Fin 4), (Rect.unit (s := S65536x512) (k0_off132 v109 (BitVec.ofNat 32 (512 * r.val))) S512x512.size (k0_off132_inb v109 k0_hw5 r)).WholeWords (EltTy.packing .bf16) := fun v109 k0_hw5 r => k0_hw5.2.2.2.2.2.2.2 r (k0_off132_inb v109 k0_hw5 r)

def k0_off133 (v162 : BitVec 32) (c0_i32_130 : BitVec 32) : Fin 2 → Nat :=
  let c2048_i32_129 : BitVec 32 := 2048#32
  let v169 : BitVec 32 := Scalar.muli v162 c2048_i32_129
  let v170 : BitVec 32 := Scalar.addi v169 c0_i32_130
  let c0_i32_2478 : BitVec 32 := 0#32
  ![v170.toNat, 0]

def k0_chk6 (v162 : BitVec 32) : Prop :=
  (∀ (r : Fin 4), ∀ a, (k0_off11 v162 (BitVec.ofNat 32 (512 * r.val))) a + S512x512.size a ≤ S65536x512.size a) ∧
  (∀ (r : Fin 4), ∀ (hinb : ∀ a, (k0_off11 v162 (BitVec.ofNat 32 (512 * r.val))) a + S512x512.size a ≤ S65536x512.size a), (Rect.unit (s := S65536x512) (k0_off11 v162 (BitVec.ofNat 32 (512 * r.val))) S512x512.size hinb).WholeWords (EltTy.packing .bf16)) ∧
  (∀ a, (k0_off18 v162) a + S512x512.size a ≤ S65536x512.size a) ∧
  (∀ (hinb : ∀ a, (k0_off18 v162) a + S512x512.size a ≤ S65536x512.size a), (Rect.unit (s := S65536x512) (k0_off18 v162) S512x512.size hinb).WholeWords (EltTy.packing .bf16)) ∧
  (∀ (r : Fin 3), ∀ a, (k0_off20 v162 (BitVec.ofNat 32 (512 + 512 * r.val))) a + S512x512.size a ≤ S65536x512.size a) ∧
  (∀ (r : Fin 3), ∀ (hinb : ∀ a, (k0_off20 v162 (BitVec.ofNat 32 (512 + 512 * r.val))) a + S512x512.size a ≤ S65536x512.size a), (Rect.unit (s := S65536x512) (k0_off20 v162 (BitVec.ofNat 32 (512 + 512 * r.val))) S512x512.size hinb).WholeWords (EltTy.packing .bf16)) ∧
  (∀ (r : Fin 4), ∀ a, (k0_off133 v162 (BitVec.ofNat 32 (512 * r.val))) a + S512x512.size a ≤ S65536x512.size a) ∧
  (∀ (r : Fin 4), ∀ (hinb : ∀ a, (k0_off133 v162 (BitVec.ofNat 32 (512 * r.val))) a + S512x512.size a ≤ S65536x512.size a), (Rect.unit (s := S65536x512) (k0_off133 v162 (BitVec.ofNat 32 (512 * r.val))) S512x512.size hinb).WholeWords (EltTy.packing .bf16))
theorem k0_off11_inb : ∀ (v162 : BitVec 32) (k0_hw6 : k0_chk6 v162), ∀ (r : Fin 4), ∀ a, (k0_off11 v162 (BitVec.ofNat 32 (512 * r.val))) a + S512x512.size a ≤ S65536x512.size a := fun v162 k0_hw6 r => k0_hw6.1 r
theorem k0_off11_wordsbf16 : ∀ (v162 : BitVec 32) (k0_hw6 : k0_chk6 v162), ∀ (r : Fin 4), (Rect.unit (s := S65536x512) (k0_off11 v162 (BitVec.ofNat 32 (512 * r.val))) S512x512.size (k0_off11_inb v162 k0_hw6 r)).WholeWords (EltTy.packing .bf16) := fun v162 k0_hw6 r => k0_hw6.2.1 r (k0_off11_inb v162 k0_hw6 r)
theorem k0_off18_inb : ∀ (v162 : BitVec 32) (k0_hw6 : k0_chk6 v162), ∀ a, (k0_off18 v162) a + S512x512.size a ≤ S65536x512.size a := fun v162 k0_hw6 => k0_hw6.2.2.1
theorem k0_off18_wordsbf16 : ∀ (v162 : BitVec 32) (k0_hw6 : k0_chk6 v162), (Rect.unit (s := S65536x512) (k0_off18 v162) S512x512.size (k0_off18_inb v162 k0_hw6)).WholeWords (EltTy.packing .bf16) := fun v162 k0_hw6 => k0_hw6.2.2.2.1 (k0_off18_inb v162 k0_hw6)
theorem k0_off20_inb : ∀ (v162 : BitVec 32) (k0_hw6 : k0_chk6 v162), ∀ (r : Fin 3), ∀ a, (k0_off20 v162 (BitVec.ofNat 32 (512 + 512 * r.val))) a + S512x512.size a ≤ S65536x512.size a := fun v162 k0_hw6 r => k0_hw6.2.2.2.2.1 r
theorem k0_off20_wordsbf16 : ∀ (v162 : BitVec 32) (k0_hw6 : k0_chk6 v162), ∀ (r : Fin 3), (Rect.unit (s := S65536x512) (k0_off20 v162 (BitVec.ofNat 32 (512 + 512 * r.val))) S512x512.size (k0_off20_inb v162 k0_hw6 r)).WholeWords (EltTy.packing .bf16) := fun v162 k0_hw6 r => k0_hw6.2.2.2.2.2.1 r (k0_off20_inb v162 k0_hw6 r)
theorem k0_off133_inb : ∀ (v162 : BitVec 32) (k0_hw6 : k0_chk6 v162), ∀ (r : Fin 4), ∀ a, (k0_off133 v162 (BitVec.ofNat 32 (512 * r.val))) a + S512x512.size a ≤ S65536x512.size a := fun v162 k0_hw6 r => k0_hw6.2.2.2.2.2.2.1 r
theorem k0_off133_wordsbf16 : ∀ (v162 : BitVec 32) (k0_hw6 : k0_chk6 v162), ∀ (r : Fin 4), (Rect.unit (s := S65536x512) (k0_off133 v162 (BitVec.ofNat 32 (512 * r.val))) S512x512.size (k0_off133_inb v162 k0_hw6 r)).WholeWords (EltTy.packing .bf16) := fun v162 k0_hw6 r => k0_hw6.2.2.2.2.2.2.2 r (k0_off133_inb v162 k0_hw6 r)

def k0_off134 (v239 : BitVec 32) (c0_i32_205 : BitVec 32) : Fin 2 → Nat :=
  let c2048_i32_204 : BitVec 32 := 2048#32
  let v246 : BitVec 32 := Scalar.muli v239 c2048_i32_204
  let v247 : BitVec 32 := Scalar.addi v246 c0_i32_205
  let c0_i32_2506 : BitVec 32 := 0#32
  ![v247.toNat, 0]

def k0_chk7 (v239 : BitVec 32) : Prop :=
  (∀ (r : Fin 4), ∀ a, (k0_off15 v239 (BitVec.ofNat 32 (512 * r.val))) a + S512x512.size a ≤ S65536x512.size a) ∧
  (∀ (r : Fin 4), ∀ (hinb : ∀ a, (k0_off15 v239 (BitVec.ofNat 32 (512 * r.val))) a + S512x512.size a ≤ S65536x512.size a), (Rect.unit (s := S65536x512) (k0_off15 v239 (BitVec.ofNat 32 (512 * r.val))) S512x512.size hinb).WholeWords (EltTy.packing .bf16)) ∧
  (∀ a, (k0_off22 v239) a + S512x512.size a ≤ S65536x512.size a) ∧
  (∀ (hinb : ∀ a, (k0_off22 v239) a + S512x512.size a ≤ S65536x512.size a), (Rect.unit (s := S65536x512) (k0_off22 v239) S512x512.size hinb).WholeWords (EltTy.packing .bf16)) ∧
  (∀ (r : Fin 3), ∀ a, (k0_off24 v239 (BitVec.ofNat 32 (512 + 512 * r.val))) a + S512x512.size a ≤ S65536x512.size a) ∧
  (∀ (r : Fin 3), ∀ (hinb : ∀ a, (k0_off24 v239 (BitVec.ofNat 32 (512 + 512 * r.val))) a + S512x512.size a ≤ S65536x512.size a), (Rect.unit (s := S65536x512) (k0_off24 v239 (BitVec.ofNat 32 (512 + 512 * r.val))) S512x512.size hinb).WholeWords (EltTy.packing .bf16)) ∧
  (∀ (r : Fin 4), ∀ a, (k0_off134 v239 (BitVec.ofNat 32 (512 * r.val))) a + S512x512.size a ≤ S65536x512.size a) ∧
  (∀ (r : Fin 4), ∀ (hinb : ∀ a, (k0_off134 v239 (BitVec.ofNat 32 (512 * r.val))) a + S512x512.size a ≤ S65536x512.size a), (Rect.unit (s := S65536x512) (k0_off134 v239 (BitVec.ofNat 32 (512 * r.val))) S512x512.size hinb).WholeWords (EltTy.packing .bf16))
theorem k0_off15_inb : ∀ (v239 : BitVec 32) (k0_hw7 : k0_chk7 v239), ∀ (r : Fin 4), ∀ a, (k0_off15 v239 (BitVec.ofNat 32 (512 * r.val))) a + S512x512.size a ≤ S65536x512.size a := fun v239 k0_hw7 r => k0_hw7.1 r
theorem k0_off15_wordsbf16 : ∀ (v239 : BitVec 32) (k0_hw7 : k0_chk7 v239), ∀ (r : Fin 4), (Rect.unit (s := S65536x512) (k0_off15 v239 (BitVec.ofNat 32 (512 * r.val))) S512x512.size (k0_off15_inb v239 k0_hw7 r)).WholeWords (EltTy.packing .bf16) := fun v239 k0_hw7 r => k0_hw7.2.1 r (k0_off15_inb v239 k0_hw7 r)
theorem k0_off22_inb : ∀ (v239 : BitVec 32) (k0_hw7 : k0_chk7 v239), ∀ a, (k0_off22 v239) a + S512x512.size a ≤ S65536x512.size a := fun v239 k0_hw7 => k0_hw7.2.2.1
theorem k0_off22_wordsbf16 : ∀ (v239 : BitVec 32) (k0_hw7 : k0_chk7 v239), (Rect.unit (s := S65536x512) (k0_off22 v239) S512x512.size (k0_off22_inb v239 k0_hw7)).WholeWords (EltTy.packing .bf16) := fun v239 k0_hw7 => k0_hw7.2.2.2.1 (k0_off22_inb v239 k0_hw7)
theorem k0_off24_inb : ∀ (v239 : BitVec 32) (k0_hw7 : k0_chk7 v239), ∀ (r : Fin 3), ∀ a, (k0_off24 v239 (BitVec.ofNat 32 (512 + 512 * r.val))) a + S512x512.size a ≤ S65536x512.size a := fun v239 k0_hw7 r => k0_hw7.2.2.2.2.1 r
theorem k0_off24_wordsbf16 : ∀ (v239 : BitVec 32) (k0_hw7 : k0_chk7 v239), ∀ (r : Fin 3), (Rect.unit (s := S65536x512) (k0_off24 v239 (BitVec.ofNat 32 (512 + 512 * r.val))) S512x512.size (k0_off24_inb v239 k0_hw7 r)).WholeWords (EltTy.packing .bf16) := fun v239 k0_hw7 r => k0_hw7.2.2.2.2.2.1 r (k0_off24_inb v239 k0_hw7 r)
theorem k0_off134_inb : ∀ (v239 : BitVec 32) (k0_hw7 : k0_chk7 v239), ∀ (r : Fin 4), ∀ a, (k0_off134 v239 (BitVec.ofNat 32 (512 * r.val))) a + S512x512.size a ≤ S65536x512.size a := fun v239 k0_hw7 r => k0_hw7.2.2.2.2.2.2.1 r
theorem k0_off134_wordsbf16 : ∀ (v239 : BitVec 32) (k0_hw7 : k0_chk7 v239), ∀ (r : Fin 4), (Rect.unit (s := S65536x512) (k0_off134 v239 (BitVec.ofNat 32 (512 * r.val))) S512x512.size (k0_off134_inb v239 k0_hw7 r)).WholeWords (EltTy.packing .bf16) := fun v239 k0_hw7 r => k0_hw7.2.2.2.2.2.2.2 r (k0_off134_inb v239 k0_hw7 r)

def k0_off135 (v316 : BitVec 32) (c0_i32_284 : BitVec 32) : Fin 2 → Nat :=
  let c2048_i32_283 : BitVec 32 := 2048#32
  let v323 : BitVec 32 := Scalar.muli v316 c2048_i32_283
  let v324 : BitVec 32 := Scalar.addi v323 c0_i32_284
  let c0_i32_2534 : BitVec 32 := 0#32
  ![v324.toNat, 0]

def k0_chk8 (v316 : BitVec 32) : Prop :=
  (∀ (r : Fin 4), ∀ a, (k0_off19 v316 (BitVec.ofNat 32 (512 * r.val))) a + S512x512.size a ≤ S65536x512.size a) ∧
  (∀ (r : Fin 4), ∀ (hinb : ∀ a, (k0_off19 v316 (BitVec.ofNat 32 (512 * r.val))) a + S512x512.size a ≤ S65536x512.size a), (Rect.unit (s := S65536x512) (k0_off19 v316 (BitVec.ofNat 32 (512 * r.val))) S512x512.size hinb).WholeWords (EltTy.packing .bf16)) ∧
  (∀ a, (k0_off26 v316) a + S512x512.size a ≤ S65536x512.size a) ∧
  (∀ (hinb : ∀ a, (k0_off26 v316) a + S512x512.size a ≤ S65536x512.size a), (Rect.unit (s := S65536x512) (k0_off26 v316) S512x512.size hinb).WholeWords (EltTy.packing .bf16)) ∧
  (∀ (r : Fin 3), ∀ a, (k0_off28 v316 (BitVec.ofNat 32 (512 + 512 * r.val))) a + S512x512.size a ≤ S65536x512.size a) ∧
  (∀ (r : Fin 3), ∀ (hinb : ∀ a, (k0_off28 v316 (BitVec.ofNat 32 (512 + 512 * r.val))) a + S512x512.size a ≤ S65536x512.size a), (Rect.unit (s := S65536x512) (k0_off28 v316 (BitVec.ofNat 32 (512 + 512 * r.val))) S512x512.size hinb).WholeWords (EltTy.packing .bf16)) ∧
  (∀ (r : Fin 4), ∀ a, (k0_off135 v316 (BitVec.ofNat 32 (512 * r.val))) a + S512x512.size a ≤ S65536x512.size a) ∧
  (∀ (r : Fin 4), ∀ (hinb : ∀ a, (k0_off135 v316 (BitVec.ofNat 32 (512 * r.val))) a + S512x512.size a ≤ S65536x512.size a), (Rect.unit (s := S65536x512) (k0_off135 v316 (BitVec.ofNat 32 (512 * r.val))) S512x512.size hinb).WholeWords (EltTy.packing .bf16))
theorem k0_off19_inb : ∀ (v316 : BitVec 32) (k0_hw8 : k0_chk8 v316), ∀ (r : Fin 4), ∀ a, (k0_off19 v316 (BitVec.ofNat 32 (512 * r.val))) a + S512x512.size a ≤ S65536x512.size a := fun v316 k0_hw8 r => k0_hw8.1 r
theorem k0_off19_wordsbf16 : ∀ (v316 : BitVec 32) (k0_hw8 : k0_chk8 v316), ∀ (r : Fin 4), (Rect.unit (s := S65536x512) (k0_off19 v316 (BitVec.ofNat 32 (512 * r.val))) S512x512.size (k0_off19_inb v316 k0_hw8 r)).WholeWords (EltTy.packing .bf16) := fun v316 k0_hw8 r => k0_hw8.2.1 r (k0_off19_inb v316 k0_hw8 r)
theorem k0_off26_inb : ∀ (v316 : BitVec 32) (k0_hw8 : k0_chk8 v316), ∀ a, (k0_off26 v316) a + S512x512.size a ≤ S65536x512.size a := fun v316 k0_hw8 => k0_hw8.2.2.1
theorem k0_off26_wordsbf16 : ∀ (v316 : BitVec 32) (k0_hw8 : k0_chk8 v316), (Rect.unit (s := S65536x512) (k0_off26 v316) S512x512.size (k0_off26_inb v316 k0_hw8)).WholeWords (EltTy.packing .bf16) := fun v316 k0_hw8 => k0_hw8.2.2.2.1 (k0_off26_inb v316 k0_hw8)
theorem k0_off28_inb : ∀ (v316 : BitVec 32) (k0_hw8 : k0_chk8 v316), ∀ (r : Fin 3), ∀ a, (k0_off28 v316 (BitVec.ofNat 32 (512 + 512 * r.val))) a + S512x512.size a ≤ S65536x512.size a := fun v316 k0_hw8 r => k0_hw8.2.2.2.2.1 r
theorem k0_off28_wordsbf16 : ∀ (v316 : BitVec 32) (k0_hw8 : k0_chk8 v316), ∀ (r : Fin 3), (Rect.unit (s := S65536x512) (k0_off28 v316 (BitVec.ofNat 32 (512 + 512 * r.val))) S512x512.size (k0_off28_inb v316 k0_hw8 r)).WholeWords (EltTy.packing .bf16) := fun v316 k0_hw8 r => k0_hw8.2.2.2.2.2.1 r (k0_off28_inb v316 k0_hw8 r)
theorem k0_off135_inb : ∀ (v316 : BitVec 32) (k0_hw8 : k0_chk8 v316), ∀ (r : Fin 4), ∀ a, (k0_off135 v316 (BitVec.ofNat 32 (512 * r.val))) a + S512x512.size a ≤ S65536x512.size a := fun v316 k0_hw8 r => k0_hw8.2.2.2.2.2.2.1 r
theorem k0_off135_wordsbf16 : ∀ (v316 : BitVec 32) (k0_hw8 : k0_chk8 v316), ∀ (r : Fin 4), (Rect.unit (s := S65536x512) (k0_off135 v316 (BitVec.ofNat 32 (512 * r.val))) S512x512.size (k0_off135_inb v316 k0_hw8 r)).WholeWords (EltTy.packing .bf16) := fun v316 k0_hw8 r => k0_hw8.2.2.2.2.2.2.2 r (k0_off135_inb v316 k0_hw8 r)

def k0_off136 (v393 : BitVec 32) (c0_i32_359 : BitVec 32) : Fin 2 → Nat :=
  let c2048_i32_358 : BitVec 32 := 2048#32
  let v400 : BitVec 32 := Scalar.muli v393 c2048_i32_358
  let v401 : BitVec 32 := Scalar.addi v400 c0_i32_359
  let c0_i32_2562 : BitVec 32 := 0#32
  ![v401.toNat, 0]

def k0_chk9 (v393 : BitVec 32) : Prop :=
  (∀ (r : Fin 4), ∀ a, (k0_off23 v393 (BitVec.ofNat 32 (512 * r.val))) a + S512x512.size a ≤ S65536x512.size a) ∧
  (∀ (r : Fin 4), ∀ (hinb : ∀ a, (k0_off23 v393 (BitVec.ofNat 32 (512 * r.val))) a + S512x512.size a ≤ S65536x512.size a), (Rect.unit (s := S65536x512) (k0_off23 v393 (BitVec.ofNat 32 (512 * r.val))) S512x512.size hinb).WholeWords (EltTy.packing .bf16)) ∧
  (∀ a, (k0_off30 v393) a + S512x512.size a ≤ S65536x512.size a) ∧
  (∀ (hinb : ∀ a, (k0_off30 v393) a + S512x512.size a ≤ S65536x512.size a), (Rect.unit (s := S65536x512) (k0_off30 v393) S512x512.size hinb).WholeWords (EltTy.packing .bf16)) ∧
  (∀ (r : Fin 3), ∀ a, (k0_off32 v393 (BitVec.ofNat 32 (512 + 512 * r.val))) a + S512x512.size a ≤ S65536x512.size a) ∧
  (∀ (r : Fin 3), ∀ (hinb : ∀ a, (k0_off32 v393 (BitVec.ofNat 32 (512 + 512 * r.val))) a + S512x512.size a ≤ S65536x512.size a), (Rect.unit (s := S65536x512) (k0_off32 v393 (BitVec.ofNat 32 (512 + 512 * r.val))) S512x512.size hinb).WholeWords (EltTy.packing .bf16)) ∧
  (∀ (r : Fin 4), ∀ a, (k0_off136 v393 (BitVec.ofNat 32 (512 * r.val))) a + S512x512.size a ≤ S65536x512.size a) ∧
  (∀ (r : Fin 4), ∀ (hinb : ∀ a, (k0_off136 v393 (BitVec.ofNat 32 (512 * r.val))) a + S512x512.size a ≤ S65536x512.size a), (Rect.unit (s := S65536x512) (k0_off136 v393 (BitVec.ofNat 32 (512 * r.val))) S512x512.size hinb).WholeWords (EltTy.packing .bf16))
theorem k0_off23_inb : ∀ (v393 : BitVec 32) (k0_hw9 : k0_chk9 v393), ∀ (r : Fin 4), ∀ a, (k0_off23 v393 (BitVec.ofNat 32 (512 * r.val))) a + S512x512.size a ≤ S65536x512.size a := fun v393 k0_hw9 r => k0_hw9.1 r
theorem k0_off23_wordsbf16 : ∀ (v393 : BitVec 32) (k0_hw9 : k0_chk9 v393), ∀ (r : Fin 4), (Rect.unit (s := S65536x512) (k0_off23 v393 (BitVec.ofNat 32 (512 * r.val))) S512x512.size (k0_off23_inb v393 k0_hw9 r)).WholeWords (EltTy.packing .bf16) := fun v393 k0_hw9 r => k0_hw9.2.1 r (k0_off23_inb v393 k0_hw9 r)
theorem k0_off30_inb : ∀ (v393 : BitVec 32) (k0_hw9 : k0_chk9 v393), ∀ a, (k0_off30 v393) a + S512x512.size a ≤ S65536x512.size a := fun v393 k0_hw9 => k0_hw9.2.2.1
theorem k0_off30_wordsbf16 : ∀ (v393 : BitVec 32) (k0_hw9 : k0_chk9 v393), (Rect.unit (s := S65536x512) (k0_off30 v393) S512x512.size (k0_off30_inb v393 k0_hw9)).WholeWords (EltTy.packing .bf16) := fun v393 k0_hw9 => k0_hw9.2.2.2.1 (k0_off30_inb v393 k0_hw9)
theorem k0_off32_inb : ∀ (v393 : BitVec 32) (k0_hw9 : k0_chk9 v393), ∀ (r : Fin 3), ∀ a, (k0_off32 v393 (BitVec.ofNat 32 (512 + 512 * r.val))) a + S512x512.size a ≤ S65536x512.size a := fun v393 k0_hw9 r => k0_hw9.2.2.2.2.1 r
theorem k0_off32_wordsbf16 : ∀ (v393 : BitVec 32) (k0_hw9 : k0_chk9 v393), ∀ (r : Fin 3), (Rect.unit (s := S65536x512) (k0_off32 v393 (BitVec.ofNat 32 (512 + 512 * r.val))) S512x512.size (k0_off32_inb v393 k0_hw9 r)).WholeWords (EltTy.packing .bf16) := fun v393 k0_hw9 r => k0_hw9.2.2.2.2.2.1 r (k0_off32_inb v393 k0_hw9 r)
theorem k0_off136_inb : ∀ (v393 : BitVec 32) (k0_hw9 : k0_chk9 v393), ∀ (r : Fin 4), ∀ a, (k0_off136 v393 (BitVec.ofNat 32 (512 * r.val))) a + S512x512.size a ≤ S65536x512.size a := fun v393 k0_hw9 r => k0_hw9.2.2.2.2.2.2.1 r
theorem k0_off136_wordsbf16 : ∀ (v393 : BitVec 32) (k0_hw9 : k0_chk9 v393), ∀ (r : Fin 4), (Rect.unit (s := S65536x512) (k0_off136 v393 (BitVec.ofNat 32 (512 * r.val))) S512x512.size (k0_off136_inb v393 k0_hw9 r)).WholeWords (EltTy.packing .bf16) := fun v393 k0_hw9 r => k0_hw9.2.2.2.2.2.2.2 r (k0_off136_inb v393 k0_hw9 r)

def k0_off137 (v470 : BitVec 32) (c0_i32_438 : BitVec 32) : Fin 2 → Nat :=
  let c2048_i32_437 : BitVec 32 := 2048#32
  let v477 : BitVec 32 := Scalar.muli v470 c2048_i32_437
  let v478 : BitVec 32 := Scalar.addi v477 c0_i32_438
  let c0_i32_2590 : BitVec 32 := 0#32
  ![v478.toNat, 0]

def k0_chk10 (v470 : BitVec 32) : Prop :=
  (∀ (r : Fin 4), ∀ a, (k0_off27 v470 (BitVec.ofNat 32 (512 * r.val))) a + S512x512.size a ≤ S65536x512.size a) ∧
  (∀ (r : Fin 4), ∀ (hinb : ∀ a, (k0_off27 v470 (BitVec.ofNat 32 (512 * r.val))) a + S512x512.size a ≤ S65536x512.size a), (Rect.unit (s := S65536x512) (k0_off27 v470 (BitVec.ofNat 32 (512 * r.val))) S512x512.size hinb).WholeWords (EltTy.packing .bf16)) ∧
  (∀ a, (k0_off34 v470) a + S512x512.size a ≤ S65536x512.size a) ∧
  (∀ (hinb : ∀ a, (k0_off34 v470) a + S512x512.size a ≤ S65536x512.size a), (Rect.unit (s := S65536x512) (k0_off34 v470) S512x512.size hinb).WholeWords (EltTy.packing .bf16)) ∧
  (∀ (r : Fin 3), ∀ a, (k0_off36 v470 (BitVec.ofNat 32 (512 + 512 * r.val))) a + S512x512.size a ≤ S65536x512.size a) ∧
  (∀ (r : Fin 3), ∀ (hinb : ∀ a, (k0_off36 v470 (BitVec.ofNat 32 (512 + 512 * r.val))) a + S512x512.size a ≤ S65536x512.size a), (Rect.unit (s := S65536x512) (k0_off36 v470 (BitVec.ofNat 32 (512 + 512 * r.val))) S512x512.size hinb).WholeWords (EltTy.packing .bf16)) ∧
  (∀ (r : Fin 4), ∀ a, (k0_off137 v470 (BitVec.ofNat 32 (512 * r.val))) a + S512x512.size a ≤ S65536x512.size a) ∧
  (∀ (r : Fin 4), ∀ (hinb : ∀ a, (k0_off137 v470 (BitVec.ofNat 32 (512 * r.val))) a + S512x512.size a ≤ S65536x512.size a), (Rect.unit (s := S65536x512) (k0_off137 v470 (BitVec.ofNat 32 (512 * r.val))) S512x512.size hinb).WholeWords (EltTy.packing .bf16))
theorem k0_off27_inb : ∀ (v470 : BitVec 32) (k0_hw10 : k0_chk10 v470), ∀ (r : Fin 4), ∀ a, (k0_off27 v470 (BitVec.ofNat 32 (512 * r.val))) a + S512x512.size a ≤ S65536x512.size a := fun v470 k0_hw10 r => k0_hw10.1 r
theorem k0_off27_wordsbf16 : ∀ (v470 : BitVec 32) (k0_hw10 : k0_chk10 v470), ∀ (r : Fin 4), (Rect.unit (s := S65536x512) (k0_off27 v470 (BitVec.ofNat 32 (512 * r.val))) S512x512.size (k0_off27_inb v470 k0_hw10 r)).WholeWords (EltTy.packing .bf16) := fun v470 k0_hw10 r => k0_hw10.2.1 r (k0_off27_inb v470 k0_hw10 r)
theorem k0_off34_inb : ∀ (v470 : BitVec 32) (k0_hw10 : k0_chk10 v470), ∀ a, (k0_off34 v470) a + S512x512.size a ≤ S65536x512.size a := fun v470 k0_hw10 => k0_hw10.2.2.1
theorem k0_off34_wordsbf16 : ∀ (v470 : BitVec 32) (k0_hw10 : k0_chk10 v470), (Rect.unit (s := S65536x512) (k0_off34 v470) S512x512.size (k0_off34_inb v470 k0_hw10)).WholeWords (EltTy.packing .bf16) := fun v470 k0_hw10 => k0_hw10.2.2.2.1 (k0_off34_inb v470 k0_hw10)
theorem k0_off36_inb : ∀ (v470 : BitVec 32) (k0_hw10 : k0_chk10 v470), ∀ (r : Fin 3), ∀ a, (k0_off36 v470 (BitVec.ofNat 32 (512 + 512 * r.val))) a + S512x512.size a ≤ S65536x512.size a := fun v470 k0_hw10 r => k0_hw10.2.2.2.2.1 r
theorem k0_off36_wordsbf16 : ∀ (v470 : BitVec 32) (k0_hw10 : k0_chk10 v470), ∀ (r : Fin 3), (Rect.unit (s := S65536x512) (k0_off36 v470 (BitVec.ofNat 32 (512 + 512 * r.val))) S512x512.size (k0_off36_inb v470 k0_hw10 r)).WholeWords (EltTy.packing .bf16) := fun v470 k0_hw10 r => k0_hw10.2.2.2.2.2.1 r (k0_off36_inb v470 k0_hw10 r)
theorem k0_off137_inb : ∀ (v470 : BitVec 32) (k0_hw10 : k0_chk10 v470), ∀ (r : Fin 4), ∀ a, (k0_off137 v470 (BitVec.ofNat 32 (512 * r.val))) a + S512x512.size a ≤ S65536x512.size a := fun v470 k0_hw10 r => k0_hw10.2.2.2.2.2.2.1 r
theorem k0_off137_wordsbf16 : ∀ (v470 : BitVec 32) (k0_hw10 : k0_chk10 v470), ∀ (r : Fin 4), (Rect.unit (s := S65536x512) (k0_off137 v470 (BitVec.ofNat 32 (512 * r.val))) S512x512.size (k0_off137_inb v470 k0_hw10 r)).WholeWords (EltTy.packing .bf16) := fun v470 k0_hw10 r => k0_hw10.2.2.2.2.2.2.2 r (k0_off137_inb v470 k0_hw10 r)

def k0_off138 (v547 : BitVec 32) (c0_i32_513 : BitVec 32) : Fin 2 → Nat :=
  let c2048_i32_512 : BitVec 32 := 2048#32
  let v554 : BitVec 32 := Scalar.muli v547 c2048_i32_512
  let v555 : BitVec 32 := Scalar.addi v554 c0_i32_513
  let c0_i32_2618 : BitVec 32 := 0#32
  ![v555.toNat, 0]

def k0_chk11 (v547 : BitVec 32) : Prop :=
  (∀ (r : Fin 4), ∀ a, (k0_off31 v547 (BitVec.ofNat 32 (512 * r.val))) a + S512x512.size a ≤ S65536x512.size a) ∧
  (∀ (r : Fin 4), ∀ (hinb : ∀ a, (k0_off31 v547 (BitVec.ofNat 32 (512 * r.val))) a + S512x512.size a ≤ S65536x512.size a), (Rect.unit (s := S65536x512) (k0_off31 v547 (BitVec.ofNat 32 (512 * r.val))) S512x512.size hinb).WholeWords (EltTy.packing .bf16)) ∧
  (∀ a, (k0_off38 v547) a + S512x512.size a ≤ S65536x512.size a) ∧
  (∀ (hinb : ∀ a, (k0_off38 v547) a + S512x512.size a ≤ S65536x512.size a), (Rect.unit (s := S65536x512) (k0_off38 v547) S512x512.size hinb).WholeWords (EltTy.packing .bf16)) ∧
  (∀ (r : Fin 3), ∀ a, (k0_off40 v547 (BitVec.ofNat 32 (512 + 512 * r.val))) a + S512x512.size a ≤ S65536x512.size a) ∧
  (∀ (r : Fin 3), ∀ (hinb : ∀ a, (k0_off40 v547 (BitVec.ofNat 32 (512 + 512 * r.val))) a + S512x512.size a ≤ S65536x512.size a), (Rect.unit (s := S65536x512) (k0_off40 v547 (BitVec.ofNat 32 (512 + 512 * r.val))) S512x512.size hinb).WholeWords (EltTy.packing .bf16)) ∧
  (∀ (r : Fin 4), ∀ a, (k0_off138 v547 (BitVec.ofNat 32 (512 * r.val))) a + S512x512.size a ≤ S65536x512.size a) ∧
  (∀ (r : Fin 4), ∀ (hinb : ∀ a, (k0_off138 v547 (BitVec.ofNat 32 (512 * r.val))) a + S512x512.size a ≤ S65536x512.size a), (Rect.unit (s := S65536x512) (k0_off138 v547 (BitVec.ofNat 32 (512 * r.val))) S512x512.size hinb).WholeWords (EltTy.packing .bf16))
theorem k0_off31_inb : ∀ (v547 : BitVec 32) (k0_hw11 : k0_chk11 v547), ∀ (r : Fin 4), ∀ a, (k0_off31 v547 (BitVec.ofNat 32 (512 * r.val))) a + S512x512.size a ≤ S65536x512.size a := fun v547 k0_hw11 r => k0_hw11.1 r
theorem k0_off31_wordsbf16 : ∀ (v547 : BitVec 32) (k0_hw11 : k0_chk11 v547), ∀ (r : Fin 4), (Rect.unit (s := S65536x512) (k0_off31 v547 (BitVec.ofNat 32 (512 * r.val))) S512x512.size (k0_off31_inb v547 k0_hw11 r)).WholeWords (EltTy.packing .bf16) := fun v547 k0_hw11 r => k0_hw11.2.1 r (k0_off31_inb v547 k0_hw11 r)
theorem k0_off38_inb : ∀ (v547 : BitVec 32) (k0_hw11 : k0_chk11 v547), ∀ a, (k0_off38 v547) a + S512x512.size a ≤ S65536x512.size a := fun v547 k0_hw11 => k0_hw11.2.2.1
theorem k0_off38_wordsbf16 : ∀ (v547 : BitVec 32) (k0_hw11 : k0_chk11 v547), (Rect.unit (s := S65536x512) (k0_off38 v547) S512x512.size (k0_off38_inb v547 k0_hw11)).WholeWords (EltTy.packing .bf16) := fun v547 k0_hw11 => k0_hw11.2.2.2.1 (k0_off38_inb v547 k0_hw11)
theorem k0_off40_inb : ∀ (v547 : BitVec 32) (k0_hw11 : k0_chk11 v547), ∀ (r : Fin 3), ∀ a, (k0_off40 v547 (BitVec.ofNat 32 (512 + 512 * r.val))) a + S512x512.size a ≤ S65536x512.size a := fun v547 k0_hw11 r => k0_hw11.2.2.2.2.1 r
theorem k0_off40_wordsbf16 : ∀ (v547 : BitVec 32) (k0_hw11 : k0_chk11 v547), ∀ (r : Fin 3), (Rect.unit (s := S65536x512) (k0_off40 v547 (BitVec.ofNat 32 (512 + 512 * r.val))) S512x512.size (k0_off40_inb v547 k0_hw11 r)).WholeWords (EltTy.packing .bf16) := fun v547 k0_hw11 r => k0_hw11.2.2.2.2.2.1 r (k0_off40_inb v547 k0_hw11 r)
theorem k0_off138_inb : ∀ (v547 : BitVec 32) (k0_hw11 : k0_chk11 v547), ∀ (r : Fin 4), ∀ a, (k0_off138 v547 (BitVec.ofNat 32 (512 * r.val))) a + S512x512.size a ≤ S65536x512.size a := fun v547 k0_hw11 r => k0_hw11.2.2.2.2.2.2.1 r
theorem k0_off138_wordsbf16 : ∀ (v547 : BitVec 32) (k0_hw11 : k0_chk11 v547), ∀ (r : Fin 4), (Rect.unit (s := S65536x512) (k0_off138 v547 (BitVec.ofNat 32 (512 * r.val))) S512x512.size (k0_off138_inb v547 k0_hw11 r)).WholeWords (EltTy.packing .bf16) := fun v547 k0_hw11 r => k0_hw11.2.2.2.2.2.2.2 r (k0_off138_inb v547 k0_hw11 r)

def k0_off139 (v624 : BitVec 32) (c0_i32_592 : BitVec 32) : Fin 2 → Nat :=
  let c2048_i32_591 : BitVec 32 := 2048#32
  let v631 : BitVec 32 := Scalar.muli v624 c2048_i32_591
  let v632 : BitVec 32 := Scalar.addi v631 c0_i32_592
  let c0_i32_2646 : BitVec 32 := 0#32
  ![v632.toNat, 0]

def k0_chk12 (v624 : BitVec 32) : Prop :=
  (∀ (r : Fin 4), ∀ a, (k0_off35 v624 (BitVec.ofNat 32 (512 * r.val))) a + S512x512.size a ≤ S65536x512.size a) ∧
  (∀ (r : Fin 4), ∀ (hinb : ∀ a, (k0_off35 v624 (BitVec.ofNat 32 (512 * r.val))) a + S512x512.size a ≤ S65536x512.size a), (Rect.unit (s := S65536x512) (k0_off35 v624 (BitVec.ofNat 32 (512 * r.val))) S512x512.size hinb).WholeWords (EltTy.packing .bf16)) ∧
  (∀ a, (k0_off42 v624) a + S512x512.size a ≤ S65536x512.size a) ∧
  (∀ (hinb : ∀ a, (k0_off42 v624) a + S512x512.size a ≤ S65536x512.size a), (Rect.unit (s := S65536x512) (k0_off42 v624) S512x512.size hinb).WholeWords (EltTy.packing .bf16)) ∧
  (∀ (r : Fin 3), ∀ a, (k0_off44 v624 (BitVec.ofNat 32 (512 + 512 * r.val))) a + S512x512.size a ≤ S65536x512.size a) ∧
  (∀ (r : Fin 3), ∀ (hinb : ∀ a, (k0_off44 v624 (BitVec.ofNat 32 (512 + 512 * r.val))) a + S512x512.size a ≤ S65536x512.size a), (Rect.unit (s := S65536x512) (k0_off44 v624 (BitVec.ofNat 32 (512 + 512 * r.val))) S512x512.size hinb).WholeWords (EltTy.packing .bf16)) ∧
  (∀ (r : Fin 4), ∀ a, (k0_off139 v624 (BitVec.ofNat 32 (512 * r.val))) a + S512x512.size a ≤ S65536x512.size a) ∧
  (∀ (r : Fin 4), ∀ (hinb : ∀ a, (k0_off139 v624 (BitVec.ofNat 32 (512 * r.val))) a + S512x512.size a ≤ S65536x512.size a), (Rect.unit (s := S65536x512) (k0_off139 v624 (BitVec.ofNat 32 (512 * r.val))) S512x512.size hinb).WholeWords (EltTy.packing .bf16))
theorem k0_off35_inb : ∀ (v624 : BitVec 32) (k0_hw12 : k0_chk12 v624), ∀ (r : Fin 4), ∀ a, (k0_off35 v624 (BitVec.ofNat 32 (512 * r.val))) a + S512x512.size a ≤ S65536x512.size a := fun v624 k0_hw12 r => k0_hw12.1 r
theorem k0_off35_wordsbf16 : ∀ (v624 : BitVec 32) (k0_hw12 : k0_chk12 v624), ∀ (r : Fin 4), (Rect.unit (s := S65536x512) (k0_off35 v624 (BitVec.ofNat 32 (512 * r.val))) S512x512.size (k0_off35_inb v624 k0_hw12 r)).WholeWords (EltTy.packing .bf16) := fun v624 k0_hw12 r => k0_hw12.2.1 r (k0_off35_inb v624 k0_hw12 r)
theorem k0_off42_inb : ∀ (v624 : BitVec 32) (k0_hw12 : k0_chk12 v624), ∀ a, (k0_off42 v624) a + S512x512.size a ≤ S65536x512.size a := fun v624 k0_hw12 => k0_hw12.2.2.1
theorem k0_off42_wordsbf16 : ∀ (v624 : BitVec 32) (k0_hw12 : k0_chk12 v624), (Rect.unit (s := S65536x512) (k0_off42 v624) S512x512.size (k0_off42_inb v624 k0_hw12)).WholeWords (EltTy.packing .bf16) := fun v624 k0_hw12 => k0_hw12.2.2.2.1 (k0_off42_inb v624 k0_hw12)
theorem k0_off44_inb : ∀ (v624 : BitVec 32) (k0_hw12 : k0_chk12 v624), ∀ (r : Fin 3), ∀ a, (k0_off44 v624 (BitVec.ofNat 32 (512 + 512 * r.val))) a + S512x512.size a ≤ S65536x512.size a := fun v624 k0_hw12 r => k0_hw12.2.2.2.2.1 r
theorem k0_off44_wordsbf16 : ∀ (v624 : BitVec 32) (k0_hw12 : k0_chk12 v624), ∀ (r : Fin 3), (Rect.unit (s := S65536x512) (k0_off44 v624 (BitVec.ofNat 32 (512 + 512 * r.val))) S512x512.size (k0_off44_inb v624 k0_hw12 r)).WholeWords (EltTy.packing .bf16) := fun v624 k0_hw12 r => k0_hw12.2.2.2.2.2.1 r (k0_off44_inb v624 k0_hw12 r)
theorem k0_off139_inb : ∀ (v624 : BitVec 32) (k0_hw12 : k0_chk12 v624), ∀ (r : Fin 4), ∀ a, (k0_off139 v624 (BitVec.ofNat 32 (512 * r.val))) a + S512x512.size a ≤ S65536x512.size a := fun v624 k0_hw12 r => k0_hw12.2.2.2.2.2.2.1 r
theorem k0_off139_wordsbf16 : ∀ (v624 : BitVec 32) (k0_hw12 : k0_chk12 v624), ∀ (r : Fin 4), (Rect.unit (s := S65536x512) (k0_off139 v624 (BitVec.ofNat 32 (512 * r.val))) S512x512.size (k0_off139_inb v624 k0_hw12 r)).WholeWords (EltTy.packing .bf16) := fun v624 k0_hw12 r => k0_hw12.2.2.2.2.2.2.2 r (k0_off139_inb v624 k0_hw12 r)

def k0_off140 (v701 : BitVec 32) (c0_i32_667 : BitVec 32) : Fin 2 → Nat :=
  let c2048_i32_666 : BitVec 32 := 2048#32
  let v708 : BitVec 32 := Scalar.muli v701 c2048_i32_666
  let v709 : BitVec 32 := Scalar.addi v708 c0_i32_667
  let c0_i32_2674 : BitVec 32 := 0#32
  ![v709.toNat, 0]

def k0_chk13 (v701 : BitVec 32) : Prop :=
  (∀ (r : Fin 4), ∀ a, (k0_off39 v701 (BitVec.ofNat 32 (512 * r.val))) a + S512x512.size a ≤ S65536x512.size a) ∧
  (∀ (r : Fin 4), ∀ (hinb : ∀ a, (k0_off39 v701 (BitVec.ofNat 32 (512 * r.val))) a + S512x512.size a ≤ S65536x512.size a), (Rect.unit (s := S65536x512) (k0_off39 v701 (BitVec.ofNat 32 (512 * r.val))) S512x512.size hinb).WholeWords (EltTy.packing .bf16)) ∧
  (∀ a, (k0_off46 v701) a + S512x512.size a ≤ S65536x512.size a) ∧
  (∀ (hinb : ∀ a, (k0_off46 v701) a + S512x512.size a ≤ S65536x512.size a), (Rect.unit (s := S65536x512) (k0_off46 v701) S512x512.size hinb).WholeWords (EltTy.packing .bf16)) ∧
  (∀ (r : Fin 3), ∀ a, (k0_off48 v701 (BitVec.ofNat 32 (512 + 512 * r.val))) a + S512x512.size a ≤ S65536x512.size a) ∧
  (∀ (r : Fin 3), ∀ (hinb : ∀ a, (k0_off48 v701 (BitVec.ofNat 32 (512 + 512 * r.val))) a + S512x512.size a ≤ S65536x512.size a), (Rect.unit (s := S65536x512) (k0_off48 v701 (BitVec.ofNat 32 (512 + 512 * r.val))) S512x512.size hinb).WholeWords (EltTy.packing .bf16)) ∧
  (∀ (r : Fin 4), ∀ a, (k0_off140 v701 (BitVec.ofNat 32 (512 * r.val))) a + S512x512.size a ≤ S65536x512.size a) ∧
  (∀ (r : Fin 4), ∀ (hinb : ∀ a, (k0_off140 v701 (BitVec.ofNat 32 (512 * r.val))) a + S512x512.size a ≤ S65536x512.size a), (Rect.unit (s := S65536x512) (k0_off140 v701 (BitVec.ofNat 32 (512 * r.val))) S512x512.size hinb).WholeWords (EltTy.packing .bf16))
theorem k0_off39_inb : ∀ (v701 : BitVec 32) (k0_hw13 : k0_chk13 v701), ∀ (r : Fin 4), ∀ a, (k0_off39 v701 (BitVec.ofNat 32 (512 * r.val))) a + S512x512.size a ≤ S65536x512.size a := fun v701 k0_hw13 r => k0_hw13.1 r
theorem k0_off39_wordsbf16 : ∀ (v701 : BitVec 32) (k0_hw13 : k0_chk13 v701), ∀ (r : Fin 4), (Rect.unit (s := S65536x512) (k0_off39 v701 (BitVec.ofNat 32 (512 * r.val))) S512x512.size (k0_off39_inb v701 k0_hw13 r)).WholeWords (EltTy.packing .bf16) := fun v701 k0_hw13 r => k0_hw13.2.1 r (k0_off39_inb v701 k0_hw13 r)
theorem k0_off46_inb : ∀ (v701 : BitVec 32) (k0_hw13 : k0_chk13 v701), ∀ a, (k0_off46 v701) a + S512x512.size a ≤ S65536x512.size a := fun v701 k0_hw13 => k0_hw13.2.2.1
theorem k0_off46_wordsbf16 : ∀ (v701 : BitVec 32) (k0_hw13 : k0_chk13 v701), (Rect.unit (s := S65536x512) (k0_off46 v701) S512x512.size (k0_off46_inb v701 k0_hw13)).WholeWords (EltTy.packing .bf16) := fun v701 k0_hw13 => k0_hw13.2.2.2.1 (k0_off46_inb v701 k0_hw13)
theorem k0_off48_inb : ∀ (v701 : BitVec 32) (k0_hw13 : k0_chk13 v701), ∀ (r : Fin 3), ∀ a, (k0_off48 v701 (BitVec.ofNat 32 (512 + 512 * r.val))) a + S512x512.size a ≤ S65536x512.size a := fun v701 k0_hw13 r => k0_hw13.2.2.2.2.1 r
theorem k0_off48_wordsbf16 : ∀ (v701 : BitVec 32) (k0_hw13 : k0_chk13 v701), ∀ (r : Fin 3), (Rect.unit (s := S65536x512) (k0_off48 v701 (BitVec.ofNat 32 (512 + 512 * r.val))) S512x512.size (k0_off48_inb v701 k0_hw13 r)).WholeWords (EltTy.packing .bf16) := fun v701 k0_hw13 r => k0_hw13.2.2.2.2.2.1 r (k0_off48_inb v701 k0_hw13 r)
theorem k0_off140_inb : ∀ (v701 : BitVec 32) (k0_hw13 : k0_chk13 v701), ∀ (r : Fin 4), ∀ a, (k0_off140 v701 (BitVec.ofNat 32 (512 * r.val))) a + S512x512.size a ≤ S65536x512.size a := fun v701 k0_hw13 r => k0_hw13.2.2.2.2.2.2.1 r
theorem k0_off140_wordsbf16 : ∀ (v701 : BitVec 32) (k0_hw13 : k0_chk13 v701), ∀ (r : Fin 4), (Rect.unit (s := S65536x512) (k0_off140 v701 (BitVec.ofNat 32 (512 * r.val))) S512x512.size (k0_off140_inb v701 k0_hw13 r)).WholeWords (EltTy.packing .bf16) := fun v701 k0_hw13 r => k0_hw13.2.2.2.2.2.2.2 r (k0_off140_inb v701 k0_hw13 r)

def k0_off141 (v778 : BitVec 32) (c0_i32_746 : BitVec 32) : Fin 2 → Nat :=
  let c2048_i32_745 : BitVec 32 := 2048#32
  let v785 : BitVec 32 := Scalar.muli v778 c2048_i32_745
  let v786 : BitVec 32 := Scalar.addi v785 c0_i32_746
  let c0_i32_2702 : BitVec 32 := 0#32
  ![v786.toNat, 0]

def k0_chk14 (v778 : BitVec 32) : Prop :=
  (∀ (r : Fin 4), ∀ a, (k0_off43 v778 (BitVec.ofNat 32 (512 * r.val))) a + S512x512.size a ≤ S65536x512.size a) ∧
  (∀ (r : Fin 4), ∀ (hinb : ∀ a, (k0_off43 v778 (BitVec.ofNat 32 (512 * r.val))) a + S512x512.size a ≤ S65536x512.size a), (Rect.unit (s := S65536x512) (k0_off43 v778 (BitVec.ofNat 32 (512 * r.val))) S512x512.size hinb).WholeWords (EltTy.packing .bf16)) ∧
  (∀ a, (k0_off50 v778) a + S512x512.size a ≤ S65536x512.size a) ∧
  (∀ (hinb : ∀ a, (k0_off50 v778) a + S512x512.size a ≤ S65536x512.size a), (Rect.unit (s := S65536x512) (k0_off50 v778) S512x512.size hinb).WholeWords (EltTy.packing .bf16)) ∧
  (∀ (r : Fin 3), ∀ a, (k0_off52 v778 (BitVec.ofNat 32 (512 + 512 * r.val))) a + S512x512.size a ≤ S65536x512.size a) ∧
  (∀ (r : Fin 3), ∀ (hinb : ∀ a, (k0_off52 v778 (BitVec.ofNat 32 (512 + 512 * r.val))) a + S512x512.size a ≤ S65536x512.size a), (Rect.unit (s := S65536x512) (k0_off52 v778 (BitVec.ofNat 32 (512 + 512 * r.val))) S512x512.size hinb).WholeWords (EltTy.packing .bf16)) ∧
  (∀ (r : Fin 4), ∀ a, (k0_off141 v778 (BitVec.ofNat 32 (512 * r.val))) a + S512x512.size a ≤ S65536x512.size a) ∧
  (∀ (r : Fin 4), ∀ (hinb : ∀ a, (k0_off141 v778 (BitVec.ofNat 32 (512 * r.val))) a + S512x512.size a ≤ S65536x512.size a), (Rect.unit (s := S65536x512) (k0_off141 v778 (BitVec.ofNat 32 (512 * r.val))) S512x512.size hinb).WholeWords (EltTy.packing .bf16))
theorem k0_off43_inb : ∀ (v778 : BitVec 32) (k0_hw14 : k0_chk14 v778), ∀ (r : Fin 4), ∀ a, (k0_off43 v778 (BitVec.ofNat 32 (512 * r.val))) a + S512x512.size a ≤ S65536x512.size a := fun v778 k0_hw14 r => k0_hw14.1 r
theorem k0_off43_wordsbf16 : ∀ (v778 : BitVec 32) (k0_hw14 : k0_chk14 v778), ∀ (r : Fin 4), (Rect.unit (s := S65536x512) (k0_off43 v778 (BitVec.ofNat 32 (512 * r.val))) S512x512.size (k0_off43_inb v778 k0_hw14 r)).WholeWords (EltTy.packing .bf16) := fun v778 k0_hw14 r => k0_hw14.2.1 r (k0_off43_inb v778 k0_hw14 r)
theorem k0_off50_inb : ∀ (v778 : BitVec 32) (k0_hw14 : k0_chk14 v778), ∀ a, (k0_off50 v778) a + S512x512.size a ≤ S65536x512.size a := fun v778 k0_hw14 => k0_hw14.2.2.1
theorem k0_off50_wordsbf16 : ∀ (v778 : BitVec 32) (k0_hw14 : k0_chk14 v778), (Rect.unit (s := S65536x512) (k0_off50 v778) S512x512.size (k0_off50_inb v778 k0_hw14)).WholeWords (EltTy.packing .bf16) := fun v778 k0_hw14 => k0_hw14.2.2.2.1 (k0_off50_inb v778 k0_hw14)
theorem k0_off52_inb : ∀ (v778 : BitVec 32) (k0_hw14 : k0_chk14 v778), ∀ (r : Fin 3), ∀ a, (k0_off52 v778 (BitVec.ofNat 32 (512 + 512 * r.val))) a + S512x512.size a ≤ S65536x512.size a := fun v778 k0_hw14 r => k0_hw14.2.2.2.2.1 r
theorem k0_off52_wordsbf16 : ∀ (v778 : BitVec 32) (k0_hw14 : k0_chk14 v778), ∀ (r : Fin 3), (Rect.unit (s := S65536x512) (k0_off52 v778 (BitVec.ofNat 32 (512 + 512 * r.val))) S512x512.size (k0_off52_inb v778 k0_hw14 r)).WholeWords (EltTy.packing .bf16) := fun v778 k0_hw14 r => k0_hw14.2.2.2.2.2.1 r (k0_off52_inb v778 k0_hw14 r)
theorem k0_off141_inb : ∀ (v778 : BitVec 32) (k0_hw14 : k0_chk14 v778), ∀ (r : Fin 4), ∀ a, (k0_off141 v778 (BitVec.ofNat 32 (512 * r.val))) a + S512x512.size a ≤ S65536x512.size a := fun v778 k0_hw14 r => k0_hw14.2.2.2.2.2.2.1 r
theorem k0_off141_wordsbf16 : ∀ (v778 : BitVec 32) (k0_hw14 : k0_chk14 v778), ∀ (r : Fin 4), (Rect.unit (s := S65536x512) (k0_off141 v778 (BitVec.ofNat 32 (512 * r.val))) S512x512.size (k0_off141_inb v778 k0_hw14 r)).WholeWords (EltTy.packing .bf16) := fun v778 k0_hw14 r => k0_hw14.2.2.2.2.2.2.2 r (k0_off141_inb v778 k0_hw14 r)

def k0_off142 (v855 : BitVec 32) (c0_i32_821 : BitVec 32) : Fin 2 → Nat :=
  let c2048_i32_820 : BitVec 32 := 2048#32
  let v862 : BitVec 32 := Scalar.muli v855 c2048_i32_820
  let v863 : BitVec 32 := Scalar.addi v862 c0_i32_821
  let c0_i32_2730 : BitVec 32 := 0#32
  ![v863.toNat, 0]

def k0_chk15 (v855 : BitVec 32) : Prop :=
  (∀ (r : Fin 4), ∀ a, (k0_off47 v855 (BitVec.ofNat 32 (512 * r.val))) a + S512x512.size a ≤ S65536x512.size a) ∧
  (∀ (r : Fin 4), ∀ (hinb : ∀ a, (k0_off47 v855 (BitVec.ofNat 32 (512 * r.val))) a + S512x512.size a ≤ S65536x512.size a), (Rect.unit (s := S65536x512) (k0_off47 v855 (BitVec.ofNat 32 (512 * r.val))) S512x512.size hinb).WholeWords (EltTy.packing .bf16)) ∧
  (∀ a, (k0_off54 v855) a + S512x512.size a ≤ S65536x512.size a) ∧
  (∀ (hinb : ∀ a, (k0_off54 v855) a + S512x512.size a ≤ S65536x512.size a), (Rect.unit (s := S65536x512) (k0_off54 v855) S512x512.size hinb).WholeWords (EltTy.packing .bf16)) ∧
  (∀ (r : Fin 3), ∀ a, (k0_off56 v855 (BitVec.ofNat 32 (512 + 512 * r.val))) a + S512x512.size a ≤ S65536x512.size a) ∧
  (∀ (r : Fin 3), ∀ (hinb : ∀ a, (k0_off56 v855 (BitVec.ofNat 32 (512 + 512 * r.val))) a + S512x512.size a ≤ S65536x512.size a), (Rect.unit (s := S65536x512) (k0_off56 v855 (BitVec.ofNat 32 (512 + 512 * r.val))) S512x512.size hinb).WholeWords (EltTy.packing .bf16)) ∧
  (∀ (r : Fin 4), ∀ a, (k0_off142 v855 (BitVec.ofNat 32 (512 * r.val))) a + S512x512.size a ≤ S65536x512.size a) ∧
  (∀ (r : Fin 4), ∀ (hinb : ∀ a, (k0_off142 v855 (BitVec.ofNat 32 (512 * r.val))) a + S512x512.size a ≤ S65536x512.size a), (Rect.unit (s := S65536x512) (k0_off142 v855 (BitVec.ofNat 32 (512 * r.val))) S512x512.size hinb).WholeWords (EltTy.packing .bf16))
theorem k0_off47_inb : ∀ (v855 : BitVec 32) (k0_hw15 : k0_chk15 v855), ∀ (r : Fin 4), ∀ a, (k0_off47 v855 (BitVec.ofNat 32 (512 * r.val))) a + S512x512.size a ≤ S65536x512.size a := fun v855 k0_hw15 r => k0_hw15.1 r
theorem k0_off47_wordsbf16 : ∀ (v855 : BitVec 32) (k0_hw15 : k0_chk15 v855), ∀ (r : Fin 4), (Rect.unit (s := S65536x512) (k0_off47 v855 (BitVec.ofNat 32 (512 * r.val))) S512x512.size (k0_off47_inb v855 k0_hw15 r)).WholeWords (EltTy.packing .bf16) := fun v855 k0_hw15 r => k0_hw15.2.1 r (k0_off47_inb v855 k0_hw15 r)
theorem k0_off54_inb : ∀ (v855 : BitVec 32) (k0_hw15 : k0_chk15 v855), ∀ a, (k0_off54 v855) a + S512x512.size a ≤ S65536x512.size a := fun v855 k0_hw15 => k0_hw15.2.2.1
theorem k0_off54_wordsbf16 : ∀ (v855 : BitVec 32) (k0_hw15 : k0_chk15 v855), (Rect.unit (s := S65536x512) (k0_off54 v855) S512x512.size (k0_off54_inb v855 k0_hw15)).WholeWords (EltTy.packing .bf16) := fun v855 k0_hw15 => k0_hw15.2.2.2.1 (k0_off54_inb v855 k0_hw15)
theorem k0_off56_inb : ∀ (v855 : BitVec 32) (k0_hw15 : k0_chk15 v855), ∀ (r : Fin 3), ∀ a, (k0_off56 v855 (BitVec.ofNat 32 (512 + 512 * r.val))) a + S512x512.size a ≤ S65536x512.size a := fun v855 k0_hw15 r => k0_hw15.2.2.2.2.1 r
theorem k0_off56_wordsbf16 : ∀ (v855 : BitVec 32) (k0_hw15 : k0_chk15 v855), ∀ (r : Fin 3), (Rect.unit (s := S65536x512) (k0_off56 v855 (BitVec.ofNat 32 (512 + 512 * r.val))) S512x512.size (k0_off56_inb v855 k0_hw15 r)).WholeWords (EltTy.packing .bf16) := fun v855 k0_hw15 r => k0_hw15.2.2.2.2.2.1 r (k0_off56_inb v855 k0_hw15 r)
theorem k0_off142_inb : ∀ (v855 : BitVec 32) (k0_hw15 : k0_chk15 v855), ∀ (r : Fin 4), ∀ a, (k0_off142 v855 (BitVec.ofNat 32 (512 * r.val))) a + S512x512.size a ≤ S65536x512.size a := fun v855 k0_hw15 r => k0_hw15.2.2.2.2.2.2.1 r
theorem k0_off142_wordsbf16 : ∀ (v855 : BitVec 32) (k0_hw15 : k0_chk15 v855), ∀ (r : Fin 4), (Rect.unit (s := S65536x512) (k0_off142 v855 (BitVec.ofNat 32 (512 * r.val))) S512x512.size (k0_off142_inb v855 k0_hw15 r)).WholeWords (EltTy.packing .bf16) := fun v855 k0_hw15 r => k0_hw15.2.2.2.2.2.2.2 r (k0_off142_inb v855 k0_hw15 r)

def k0_off143 (v932 : BitVec 32) (c0_i32_900 : BitVec 32) : Fin 2 → Nat :=
  let c2048_i32_899 : BitVec 32 := 2048#32
  let v939 : BitVec 32 := Scalar.muli v932 c2048_i32_899
  let v940 : BitVec 32 := Scalar.addi v939 c0_i32_900
  let c0_i32_2758 : BitVec 32 := 0#32
  ![v940.toNat, 0]

def k0_chk16 (v932 : BitVec 32) : Prop :=
  (∀ (r : Fin 4), ∀ a, (k0_off51 v932 (BitVec.ofNat 32 (512 * r.val))) a + S512x512.size a ≤ S65536x512.size a) ∧
  (∀ (r : Fin 4), ∀ (hinb : ∀ a, (k0_off51 v932 (BitVec.ofNat 32 (512 * r.val))) a + S512x512.size a ≤ S65536x512.size a), (Rect.unit (s := S65536x512) (k0_off51 v932 (BitVec.ofNat 32 (512 * r.val))) S512x512.size hinb).WholeWords (EltTy.packing .bf16)) ∧
  (∀ a, (k0_off58 v932) a + S512x512.size a ≤ S65536x512.size a) ∧
  (∀ (hinb : ∀ a, (k0_off58 v932) a + S512x512.size a ≤ S65536x512.size a), (Rect.unit (s := S65536x512) (k0_off58 v932) S512x512.size hinb).WholeWords (EltTy.packing .bf16)) ∧
  (∀ (r : Fin 3), ∀ a, (k0_off60 v932 (BitVec.ofNat 32 (512 + 512 * r.val))) a + S512x512.size a ≤ S65536x512.size a) ∧
  (∀ (r : Fin 3), ∀ (hinb : ∀ a, (k0_off60 v932 (BitVec.ofNat 32 (512 + 512 * r.val))) a + S512x512.size a ≤ S65536x512.size a), (Rect.unit (s := S65536x512) (k0_off60 v932 (BitVec.ofNat 32 (512 + 512 * r.val))) S512x512.size hinb).WholeWords (EltTy.packing .bf16)) ∧
  (∀ (r : Fin 4), ∀ a, (k0_off143 v932 (BitVec.ofNat 32 (512 * r.val))) a + S512x512.size a ≤ S65536x512.size a) ∧
  (∀ (r : Fin 4), ∀ (hinb : ∀ a, (k0_off143 v932 (BitVec.ofNat 32 (512 * r.val))) a + S512x512.size a ≤ S65536x512.size a), (Rect.unit (s := S65536x512) (k0_off143 v932 (BitVec.ofNat 32 (512 * r.val))) S512x512.size hinb).WholeWords (EltTy.packing .bf16))
theorem k0_off51_inb : ∀ (v932 : BitVec 32) (k0_hw16 : k0_chk16 v932), ∀ (r : Fin 4), ∀ a, (k0_off51 v932 (BitVec.ofNat 32 (512 * r.val))) a + S512x512.size a ≤ S65536x512.size a := fun v932 k0_hw16 r => k0_hw16.1 r
theorem k0_off51_wordsbf16 : ∀ (v932 : BitVec 32) (k0_hw16 : k0_chk16 v932), ∀ (r : Fin 4), (Rect.unit (s := S65536x512) (k0_off51 v932 (BitVec.ofNat 32 (512 * r.val))) S512x512.size (k0_off51_inb v932 k0_hw16 r)).WholeWords (EltTy.packing .bf16) := fun v932 k0_hw16 r => k0_hw16.2.1 r (k0_off51_inb v932 k0_hw16 r)
theorem k0_off58_inb : ∀ (v932 : BitVec 32) (k0_hw16 : k0_chk16 v932), ∀ a, (k0_off58 v932) a + S512x512.size a ≤ S65536x512.size a := fun v932 k0_hw16 => k0_hw16.2.2.1
theorem k0_off58_wordsbf16 : ∀ (v932 : BitVec 32) (k0_hw16 : k0_chk16 v932), (Rect.unit (s := S65536x512) (k0_off58 v932) S512x512.size (k0_off58_inb v932 k0_hw16)).WholeWords (EltTy.packing .bf16) := fun v932 k0_hw16 => k0_hw16.2.2.2.1 (k0_off58_inb v932 k0_hw16)
theorem k0_off60_inb : ∀ (v932 : BitVec 32) (k0_hw16 : k0_chk16 v932), ∀ (r : Fin 3), ∀ a, (k0_off60 v932 (BitVec.ofNat 32 (512 + 512 * r.val))) a + S512x512.size a ≤ S65536x512.size a := fun v932 k0_hw16 r => k0_hw16.2.2.2.2.1 r
theorem k0_off60_wordsbf16 : ∀ (v932 : BitVec 32) (k0_hw16 : k0_chk16 v932), ∀ (r : Fin 3), (Rect.unit (s := S65536x512) (k0_off60 v932 (BitVec.ofNat 32 (512 + 512 * r.val))) S512x512.size (k0_off60_inb v932 k0_hw16 r)).WholeWords (EltTy.packing .bf16) := fun v932 k0_hw16 r => k0_hw16.2.2.2.2.2.1 r (k0_off60_inb v932 k0_hw16 r)
theorem k0_off143_inb : ∀ (v932 : BitVec 32) (k0_hw16 : k0_chk16 v932), ∀ (r : Fin 4), ∀ a, (k0_off143 v932 (BitVec.ofNat 32 (512 * r.val))) a + S512x512.size a ≤ S65536x512.size a := fun v932 k0_hw16 r => k0_hw16.2.2.2.2.2.2.1 r
theorem k0_off143_wordsbf16 : ∀ (v932 : BitVec 32) (k0_hw16 : k0_chk16 v932), ∀ (r : Fin 4), (Rect.unit (s := S65536x512) (k0_off143 v932 (BitVec.ofNat 32 (512 * r.val))) S512x512.size (k0_off143_inb v932 k0_hw16 r)).WholeWords (EltTy.packing .bf16) := fun v932 k0_hw16 r => k0_hw16.2.2.2.2.2.2.2 r (k0_off143_inb v932 k0_hw16 r)

def k0_off144 (v1009 : BitVec 32) (c0_i32_975 : BitVec 32) : Fin 2 → Nat :=
  let c2048_i32_974 : BitVec 32 := 2048#32
  let v1016 : BitVec 32 := Scalar.muli v1009 c2048_i32_974
  let v1017 : BitVec 32 := Scalar.addi v1016 c0_i32_975
  let c0_i32_2786 : BitVec 32 := 0#32
  ![v1017.toNat, 0]

def k0_chk17 (v1009 : BitVec 32) : Prop :=
  (∀ (r : Fin 4), ∀ a, (k0_off55 v1009 (BitVec.ofNat 32 (512 * r.val))) a + S512x512.size a ≤ S65536x512.size a) ∧
  (∀ (r : Fin 4), ∀ (hinb : ∀ a, (k0_off55 v1009 (BitVec.ofNat 32 (512 * r.val))) a + S512x512.size a ≤ S65536x512.size a), (Rect.unit (s := S65536x512) (k0_off55 v1009 (BitVec.ofNat 32 (512 * r.val))) S512x512.size hinb).WholeWords (EltTy.packing .bf16)) ∧
  (∀ a, (k0_off62 v1009) a + S512x512.size a ≤ S65536x512.size a) ∧
  (∀ (hinb : ∀ a, (k0_off62 v1009) a + S512x512.size a ≤ S65536x512.size a), (Rect.unit (s := S65536x512) (k0_off62 v1009) S512x512.size hinb).WholeWords (EltTy.packing .bf16)) ∧
  (∀ (r : Fin 3), ∀ a, (k0_off64 v1009 (BitVec.ofNat 32 (512 + 512 * r.val))) a + S512x512.size a ≤ S65536x512.size a) ∧
  (∀ (r : Fin 3), ∀ (hinb : ∀ a, (k0_off64 v1009 (BitVec.ofNat 32 (512 + 512 * r.val))) a + S512x512.size a ≤ S65536x512.size a), (Rect.unit (s := S65536x512) (k0_off64 v1009 (BitVec.ofNat 32 (512 + 512 * r.val))) S512x512.size hinb).WholeWords (EltTy.packing .bf16)) ∧
  (∀ (r : Fin 4), ∀ a, (k0_off144 v1009 (BitVec.ofNat 32 (512 * r.val))) a + S512x512.size a ≤ S65536x512.size a) ∧
  (∀ (r : Fin 4), ∀ (hinb : ∀ a, (k0_off144 v1009 (BitVec.ofNat 32 (512 * r.val))) a + S512x512.size a ≤ S65536x512.size a), (Rect.unit (s := S65536x512) (k0_off144 v1009 (BitVec.ofNat 32 (512 * r.val))) S512x512.size hinb).WholeWords (EltTy.packing .bf16))
theorem k0_off55_inb : ∀ (v1009 : BitVec 32) (k0_hw17 : k0_chk17 v1009), ∀ (r : Fin 4), ∀ a, (k0_off55 v1009 (BitVec.ofNat 32 (512 * r.val))) a + S512x512.size a ≤ S65536x512.size a := fun v1009 k0_hw17 r => k0_hw17.1 r
theorem k0_off55_wordsbf16 : ∀ (v1009 : BitVec 32) (k0_hw17 : k0_chk17 v1009), ∀ (r : Fin 4), (Rect.unit (s := S65536x512) (k0_off55 v1009 (BitVec.ofNat 32 (512 * r.val))) S512x512.size (k0_off55_inb v1009 k0_hw17 r)).WholeWords (EltTy.packing .bf16) := fun v1009 k0_hw17 r => k0_hw17.2.1 r (k0_off55_inb v1009 k0_hw17 r)
theorem k0_off62_inb : ∀ (v1009 : BitVec 32) (k0_hw17 : k0_chk17 v1009), ∀ a, (k0_off62 v1009) a + S512x512.size a ≤ S65536x512.size a := fun v1009 k0_hw17 => k0_hw17.2.2.1
theorem k0_off62_wordsbf16 : ∀ (v1009 : BitVec 32) (k0_hw17 : k0_chk17 v1009), (Rect.unit (s := S65536x512) (k0_off62 v1009) S512x512.size (k0_off62_inb v1009 k0_hw17)).WholeWords (EltTy.packing .bf16) := fun v1009 k0_hw17 => k0_hw17.2.2.2.1 (k0_off62_inb v1009 k0_hw17)
theorem k0_off64_inb : ∀ (v1009 : BitVec 32) (k0_hw17 : k0_chk17 v1009), ∀ (r : Fin 3), ∀ a, (k0_off64 v1009 (BitVec.ofNat 32 (512 + 512 * r.val))) a + S512x512.size a ≤ S65536x512.size a := fun v1009 k0_hw17 r => k0_hw17.2.2.2.2.1 r
theorem k0_off64_wordsbf16 : ∀ (v1009 : BitVec 32) (k0_hw17 : k0_chk17 v1009), ∀ (r : Fin 3), (Rect.unit (s := S65536x512) (k0_off64 v1009 (BitVec.ofNat 32 (512 + 512 * r.val))) S512x512.size (k0_off64_inb v1009 k0_hw17 r)).WholeWords (EltTy.packing .bf16) := fun v1009 k0_hw17 r => k0_hw17.2.2.2.2.2.1 r (k0_off64_inb v1009 k0_hw17 r)
theorem k0_off144_inb : ∀ (v1009 : BitVec 32) (k0_hw17 : k0_chk17 v1009), ∀ (r : Fin 4), ∀ a, (k0_off144 v1009 (BitVec.ofNat 32 (512 * r.val))) a + S512x512.size a ≤ S65536x512.size a := fun v1009 k0_hw17 r => k0_hw17.2.2.2.2.2.2.1 r
theorem k0_off144_wordsbf16 : ∀ (v1009 : BitVec 32) (k0_hw17 : k0_chk17 v1009), ∀ (r : Fin 4), (Rect.unit (s := S65536x512) (k0_off144 v1009 (BitVec.ofNat 32 (512 * r.val))) S512x512.size (k0_off144_inb v1009 k0_hw17 r)).WholeWords (EltTy.packing .bf16) := fun v1009 k0_hw17 r => k0_hw17.2.2.2.2.2.2.2 r (k0_off144_inb v1009 k0_hw17 r)

def k0_off145 (v1086 : BitVec 32) (c0_i32_1054 : BitVec 32) : Fin 2 → Nat :=
  let c2048_i32_1053 : BitVec 32 := 2048#32
  let v1093 : BitVec 32 := Scalar.muli v1086 c2048_i32_1053
  let v1094 : BitVec 32 := Scalar.addi v1093 c0_i32_1054
  let c0_i32_2814 : BitVec 32 := 0#32
  ![v1094.toNat, 0]

def k0_chk18 (v1086 : BitVec 32) : Prop :=
  (∀ (r : Fin 4), ∀ a, (k0_off59 v1086 (BitVec.ofNat 32 (512 * r.val))) a + S512x512.size a ≤ S65536x512.size a) ∧
  (∀ (r : Fin 4), ∀ (hinb : ∀ a, (k0_off59 v1086 (BitVec.ofNat 32 (512 * r.val))) a + S512x512.size a ≤ S65536x512.size a), (Rect.unit (s := S65536x512) (k0_off59 v1086 (BitVec.ofNat 32 (512 * r.val))) S512x512.size hinb).WholeWords (EltTy.packing .bf16)) ∧
  (∀ a, (k0_off66 v1086) a + S512x512.size a ≤ S65536x512.size a) ∧
  (∀ (hinb : ∀ a, (k0_off66 v1086) a + S512x512.size a ≤ S65536x512.size a), (Rect.unit (s := S65536x512) (k0_off66 v1086) S512x512.size hinb).WholeWords (EltTy.packing .bf16)) ∧
  (∀ (r : Fin 3), ∀ a, (k0_off68 v1086 (BitVec.ofNat 32 (512 + 512 * r.val))) a + S512x512.size a ≤ S65536x512.size a) ∧
  (∀ (r : Fin 3), ∀ (hinb : ∀ a, (k0_off68 v1086 (BitVec.ofNat 32 (512 + 512 * r.val))) a + S512x512.size a ≤ S65536x512.size a), (Rect.unit (s := S65536x512) (k0_off68 v1086 (BitVec.ofNat 32 (512 + 512 * r.val))) S512x512.size hinb).WholeWords (EltTy.packing .bf16)) ∧
  (∀ (r : Fin 4), ∀ a, (k0_off145 v1086 (BitVec.ofNat 32 (512 * r.val))) a + S512x512.size a ≤ S65536x512.size a) ∧
  (∀ (r : Fin 4), ∀ (hinb : ∀ a, (k0_off145 v1086 (BitVec.ofNat 32 (512 * r.val))) a + S512x512.size a ≤ S65536x512.size a), (Rect.unit (s := S65536x512) (k0_off145 v1086 (BitVec.ofNat 32 (512 * r.val))) S512x512.size hinb).WholeWords (EltTy.packing .bf16))
theorem k0_off59_inb : ∀ (v1086 : BitVec 32) (k0_hw18 : k0_chk18 v1086), ∀ (r : Fin 4), ∀ a, (k0_off59 v1086 (BitVec.ofNat 32 (512 * r.val))) a + S512x512.size a ≤ S65536x512.size a := fun v1086 k0_hw18 r => k0_hw18.1 r
theorem k0_off59_wordsbf16 : ∀ (v1086 : BitVec 32) (k0_hw18 : k0_chk18 v1086), ∀ (r : Fin 4), (Rect.unit (s := S65536x512) (k0_off59 v1086 (BitVec.ofNat 32 (512 * r.val))) S512x512.size (k0_off59_inb v1086 k0_hw18 r)).WholeWords (EltTy.packing .bf16) := fun v1086 k0_hw18 r => k0_hw18.2.1 r (k0_off59_inb v1086 k0_hw18 r)
theorem k0_off66_inb : ∀ (v1086 : BitVec 32) (k0_hw18 : k0_chk18 v1086), ∀ a, (k0_off66 v1086) a + S512x512.size a ≤ S65536x512.size a := fun v1086 k0_hw18 => k0_hw18.2.2.1
theorem k0_off66_wordsbf16 : ∀ (v1086 : BitVec 32) (k0_hw18 : k0_chk18 v1086), (Rect.unit (s := S65536x512) (k0_off66 v1086) S512x512.size (k0_off66_inb v1086 k0_hw18)).WholeWords (EltTy.packing .bf16) := fun v1086 k0_hw18 => k0_hw18.2.2.2.1 (k0_off66_inb v1086 k0_hw18)
theorem k0_off68_inb : ∀ (v1086 : BitVec 32) (k0_hw18 : k0_chk18 v1086), ∀ (r : Fin 3), ∀ a, (k0_off68 v1086 (BitVec.ofNat 32 (512 + 512 * r.val))) a + S512x512.size a ≤ S65536x512.size a := fun v1086 k0_hw18 r => k0_hw18.2.2.2.2.1 r
theorem k0_off68_wordsbf16 : ∀ (v1086 : BitVec 32) (k0_hw18 : k0_chk18 v1086), ∀ (r : Fin 3), (Rect.unit (s := S65536x512) (k0_off68 v1086 (BitVec.ofNat 32 (512 + 512 * r.val))) S512x512.size (k0_off68_inb v1086 k0_hw18 r)).WholeWords (EltTy.packing .bf16) := fun v1086 k0_hw18 r => k0_hw18.2.2.2.2.2.1 r (k0_off68_inb v1086 k0_hw18 r)
theorem k0_off145_inb : ∀ (v1086 : BitVec 32) (k0_hw18 : k0_chk18 v1086), ∀ (r : Fin 4), ∀ a, (k0_off145 v1086 (BitVec.ofNat 32 (512 * r.val))) a + S512x512.size a ≤ S65536x512.size a := fun v1086 k0_hw18 r => k0_hw18.2.2.2.2.2.2.1 r
theorem k0_off145_wordsbf16 : ∀ (v1086 : BitVec 32) (k0_hw18 : k0_chk18 v1086), ∀ (r : Fin 4), (Rect.unit (s := S65536x512) (k0_off145 v1086 (BitVec.ofNat 32 (512 * r.val))) S512x512.size (k0_off145_inb v1086 k0_hw18 r)).WholeWords (EltTy.packing .bf16) := fun v1086 k0_hw18 r => k0_hw18.2.2.2.2.2.2.2 r (k0_off145_inb v1086 k0_hw18 r)

def k0_off146 (v1163 : BitVec 32) (c0_i32_1129 : BitVec 32) : Fin 2 → Nat :=
  let c2048_i32_1128 : BitVec 32 := 2048#32
  let v1170 : BitVec 32 := Scalar.muli v1163 c2048_i32_1128
  let v1171 : BitVec 32 := Scalar.addi v1170 c0_i32_1129
  let c0_i32_2842 : BitVec 32 := 0#32
  ![v1171.toNat, 0]

def k0_chk19 (v1163 : BitVec 32) : Prop :=
  (∀ (r : Fin 4), ∀ a, (k0_off63 v1163 (BitVec.ofNat 32 (512 * r.val))) a + S512x512.size a ≤ S65536x512.size a) ∧
  (∀ (r : Fin 4), ∀ (hinb : ∀ a, (k0_off63 v1163 (BitVec.ofNat 32 (512 * r.val))) a + S512x512.size a ≤ S65536x512.size a), (Rect.unit (s := S65536x512) (k0_off63 v1163 (BitVec.ofNat 32 (512 * r.val))) S512x512.size hinb).WholeWords (EltTy.packing .bf16)) ∧
  (∀ a, (k0_off70 v1163) a + S512x512.size a ≤ S65536x512.size a) ∧
  (∀ (hinb : ∀ a, (k0_off70 v1163) a + S512x512.size a ≤ S65536x512.size a), (Rect.unit (s := S65536x512) (k0_off70 v1163) S512x512.size hinb).WholeWords (EltTy.packing .bf16)) ∧
  (∀ (r : Fin 3), ∀ a, (k0_off72 v1163 (BitVec.ofNat 32 (512 + 512 * r.val))) a + S512x512.size a ≤ S65536x512.size a) ∧
  (∀ (r : Fin 3), ∀ (hinb : ∀ a, (k0_off72 v1163 (BitVec.ofNat 32 (512 + 512 * r.val))) a + S512x512.size a ≤ S65536x512.size a), (Rect.unit (s := S65536x512) (k0_off72 v1163 (BitVec.ofNat 32 (512 + 512 * r.val))) S512x512.size hinb).WholeWords (EltTy.packing .bf16)) ∧
  (∀ (r : Fin 4), ∀ a, (k0_off146 v1163 (BitVec.ofNat 32 (512 * r.val))) a + S512x512.size a ≤ S65536x512.size a) ∧
  (∀ (r : Fin 4), ∀ (hinb : ∀ a, (k0_off146 v1163 (BitVec.ofNat 32 (512 * r.val))) a + S512x512.size a ≤ S65536x512.size a), (Rect.unit (s := S65536x512) (k0_off146 v1163 (BitVec.ofNat 32 (512 * r.val))) S512x512.size hinb).WholeWords (EltTy.packing .bf16))
theorem k0_off63_inb : ∀ (v1163 : BitVec 32) (k0_hw19 : k0_chk19 v1163), ∀ (r : Fin 4), ∀ a, (k0_off63 v1163 (BitVec.ofNat 32 (512 * r.val))) a + S512x512.size a ≤ S65536x512.size a := fun v1163 k0_hw19 r => k0_hw19.1 r
theorem k0_off63_wordsbf16 : ∀ (v1163 : BitVec 32) (k0_hw19 : k0_chk19 v1163), ∀ (r : Fin 4), (Rect.unit (s := S65536x512) (k0_off63 v1163 (BitVec.ofNat 32 (512 * r.val))) S512x512.size (k0_off63_inb v1163 k0_hw19 r)).WholeWords (EltTy.packing .bf16) := fun v1163 k0_hw19 r => k0_hw19.2.1 r (k0_off63_inb v1163 k0_hw19 r)
theorem k0_off70_inb : ∀ (v1163 : BitVec 32) (k0_hw19 : k0_chk19 v1163), ∀ a, (k0_off70 v1163) a + S512x512.size a ≤ S65536x512.size a := fun v1163 k0_hw19 => k0_hw19.2.2.1
theorem k0_off70_wordsbf16 : ∀ (v1163 : BitVec 32) (k0_hw19 : k0_chk19 v1163), (Rect.unit (s := S65536x512) (k0_off70 v1163) S512x512.size (k0_off70_inb v1163 k0_hw19)).WholeWords (EltTy.packing .bf16) := fun v1163 k0_hw19 => k0_hw19.2.2.2.1 (k0_off70_inb v1163 k0_hw19)
theorem k0_off72_inb : ∀ (v1163 : BitVec 32) (k0_hw19 : k0_chk19 v1163), ∀ (r : Fin 3), ∀ a, (k0_off72 v1163 (BitVec.ofNat 32 (512 + 512 * r.val))) a + S512x512.size a ≤ S65536x512.size a := fun v1163 k0_hw19 r => k0_hw19.2.2.2.2.1 r
theorem k0_off72_wordsbf16 : ∀ (v1163 : BitVec 32) (k0_hw19 : k0_chk19 v1163), ∀ (r : Fin 3), (Rect.unit (s := S65536x512) (k0_off72 v1163 (BitVec.ofNat 32 (512 + 512 * r.val))) S512x512.size (k0_off72_inb v1163 k0_hw19 r)).WholeWords (EltTy.packing .bf16) := fun v1163 k0_hw19 r => k0_hw19.2.2.2.2.2.1 r (k0_off72_inb v1163 k0_hw19 r)
theorem k0_off146_inb : ∀ (v1163 : BitVec 32) (k0_hw19 : k0_chk19 v1163), ∀ (r : Fin 4), ∀ a, (k0_off146 v1163 (BitVec.ofNat 32 (512 * r.val))) a + S512x512.size a ≤ S65536x512.size a := fun v1163 k0_hw19 r => k0_hw19.2.2.2.2.2.2.1 r
theorem k0_off146_wordsbf16 : ∀ (v1163 : BitVec 32) (k0_hw19 : k0_chk19 v1163), ∀ (r : Fin 4), (Rect.unit (s := S65536x512) (k0_off146 v1163 (BitVec.ofNat 32 (512 * r.val))) S512x512.size (k0_off146_inb v1163 k0_hw19 r)).WholeWords (EltTy.packing .bf16) := fun v1163 k0_hw19 r => k0_hw19.2.2.2.2.2.2.2 r (k0_off146_inb v1163 k0_hw19 r)

def k0_off147 (v1240 : BitVec 32) (c0_i32_1208 : BitVec 32) : Fin 2 → Nat :=
  let c2048_i32_1207 : BitVec 32 := 2048#32
  let v1247 : BitVec 32 := Scalar.muli v1240 c2048_i32_1207
  let v1248 : BitVec 32 := Scalar.addi v1247 c0_i32_1208
  let c0_i32_2870 : BitVec 32 := 0#32
  ![v1248.toNat, 0]

def k0_chk20 (v1240 : BitVec 32) : Prop :=
  (∀ (r : Fin 4), ∀ a, (k0_off67 v1240 (BitVec.ofNat 32 (512 * r.val))) a + S512x512.size a ≤ S65536x512.size a) ∧
  (∀ (r : Fin 4), ∀ (hinb : ∀ a, (k0_off67 v1240 (BitVec.ofNat 32 (512 * r.val))) a + S512x512.size a ≤ S65536x512.size a), (Rect.unit (s := S65536x512) (k0_off67 v1240 (BitVec.ofNat 32 (512 * r.val))) S512x512.size hinb).WholeWords (EltTy.packing .bf16)) ∧
  (∀ a, (k0_off74 v1240) a + S512x512.size a ≤ S65536x512.size a) ∧
  (∀ (hinb : ∀ a, (k0_off74 v1240) a + S512x512.size a ≤ S65536x512.size a), (Rect.unit (s := S65536x512) (k0_off74 v1240) S512x512.size hinb).WholeWords (EltTy.packing .bf16)) ∧
  (∀ (r : Fin 3), ∀ a, (k0_off76 v1240 (BitVec.ofNat 32 (512 + 512 * r.val))) a + S512x512.size a ≤ S65536x512.size a) ∧
  (∀ (r : Fin 3), ∀ (hinb : ∀ a, (k0_off76 v1240 (BitVec.ofNat 32 (512 + 512 * r.val))) a + S512x512.size a ≤ S65536x512.size a), (Rect.unit (s := S65536x512) (k0_off76 v1240 (BitVec.ofNat 32 (512 + 512 * r.val))) S512x512.size hinb).WholeWords (EltTy.packing .bf16)) ∧
  (∀ (r : Fin 4), ∀ a, (k0_off147 v1240 (BitVec.ofNat 32 (512 * r.val))) a + S512x512.size a ≤ S65536x512.size a) ∧
  (∀ (r : Fin 4), ∀ (hinb : ∀ a, (k0_off147 v1240 (BitVec.ofNat 32 (512 * r.val))) a + S512x512.size a ≤ S65536x512.size a), (Rect.unit (s := S65536x512) (k0_off147 v1240 (BitVec.ofNat 32 (512 * r.val))) S512x512.size hinb).WholeWords (EltTy.packing .bf16))
theorem k0_off67_inb : ∀ (v1240 : BitVec 32) (k0_hw20 : k0_chk20 v1240), ∀ (r : Fin 4), ∀ a, (k0_off67 v1240 (BitVec.ofNat 32 (512 * r.val))) a + S512x512.size a ≤ S65536x512.size a := fun v1240 k0_hw20 r => k0_hw20.1 r
theorem k0_off67_wordsbf16 : ∀ (v1240 : BitVec 32) (k0_hw20 : k0_chk20 v1240), ∀ (r : Fin 4), (Rect.unit (s := S65536x512) (k0_off67 v1240 (BitVec.ofNat 32 (512 * r.val))) S512x512.size (k0_off67_inb v1240 k0_hw20 r)).WholeWords (EltTy.packing .bf16) := fun v1240 k0_hw20 r => k0_hw20.2.1 r (k0_off67_inb v1240 k0_hw20 r)
theorem k0_off74_inb : ∀ (v1240 : BitVec 32) (k0_hw20 : k0_chk20 v1240), ∀ a, (k0_off74 v1240) a + S512x512.size a ≤ S65536x512.size a := fun v1240 k0_hw20 => k0_hw20.2.2.1
theorem k0_off74_wordsbf16 : ∀ (v1240 : BitVec 32) (k0_hw20 : k0_chk20 v1240), (Rect.unit (s := S65536x512) (k0_off74 v1240) S512x512.size (k0_off74_inb v1240 k0_hw20)).WholeWords (EltTy.packing .bf16) := fun v1240 k0_hw20 => k0_hw20.2.2.2.1 (k0_off74_inb v1240 k0_hw20)
theorem k0_off76_inb : ∀ (v1240 : BitVec 32) (k0_hw20 : k0_chk20 v1240), ∀ (r : Fin 3), ∀ a, (k0_off76 v1240 (BitVec.ofNat 32 (512 + 512 * r.val))) a + S512x512.size a ≤ S65536x512.size a := fun v1240 k0_hw20 r => k0_hw20.2.2.2.2.1 r
theorem k0_off76_wordsbf16 : ∀ (v1240 : BitVec 32) (k0_hw20 : k0_chk20 v1240), ∀ (r : Fin 3), (Rect.unit (s := S65536x512) (k0_off76 v1240 (BitVec.ofNat 32 (512 + 512 * r.val))) S512x512.size (k0_off76_inb v1240 k0_hw20 r)).WholeWords (EltTy.packing .bf16) := fun v1240 k0_hw20 r => k0_hw20.2.2.2.2.2.1 r (k0_off76_inb v1240 k0_hw20 r)
theorem k0_off147_inb : ∀ (v1240 : BitVec 32) (k0_hw20 : k0_chk20 v1240), ∀ (r : Fin 4), ∀ a, (k0_off147 v1240 (BitVec.ofNat 32 (512 * r.val))) a + S512x512.size a ≤ S65536x512.size a := fun v1240 k0_hw20 r => k0_hw20.2.2.2.2.2.2.1 r
theorem k0_off147_wordsbf16 : ∀ (v1240 : BitVec 32) (k0_hw20 : k0_chk20 v1240), ∀ (r : Fin 4), (Rect.unit (s := S65536x512) (k0_off147 v1240 (BitVec.ofNat 32 (512 * r.val))) S512x512.size (k0_off147_inb v1240 k0_hw20 r)).WholeWords (EltTy.packing .bf16) := fun v1240 k0_hw20 r => k0_hw20.2.2.2.2.2.2.2 r (k0_off147_inb v1240 k0_hw20 r)

def k0_off148 (v1317 : BitVec 32) (c0_i32_1284 : BitVec 32) : Fin 2 → Nat :=
  let c2048_i32_1283 : BitVec 32 := 2048#32
  let v1324 : BitVec 32 := Scalar.muli v1317 c2048_i32_1283
  let v1325 : BitVec 32 := Scalar.addi v1324 c0_i32_1284
  let c0_i32_2898 : BitVec 32 := 0#32
  ![v1325.toNat, 0]

def k0_chk21 (v1317 : BitVec 32) : Prop :=
  (∀ (r : Fin 4), ∀ a, (k0_off71 v1317 (BitVec.ofNat 32 (512 * r.val))) a + S512x512.size a ≤ S65536x512.size a) ∧
  (∀ (r : Fin 4), ∀ (hinb : ∀ a, (k0_off71 v1317 (BitVec.ofNat 32 (512 * r.val))) a + S512x512.size a ≤ S65536x512.size a), (Rect.unit (s := S65536x512) (k0_off71 v1317 (BitVec.ofNat 32 (512 * r.val))) S512x512.size hinb).WholeWords (EltTy.packing .bf16)) ∧
  (∀ a, (k0_off78 v1317) a + S512x512.size a ≤ S65536x512.size a) ∧
  (∀ (hinb : ∀ a, (k0_off78 v1317) a + S512x512.size a ≤ S65536x512.size a), (Rect.unit (s := S65536x512) (k0_off78 v1317) S512x512.size hinb).WholeWords (EltTy.packing .bf16)) ∧
  (∀ (r : Fin 3), ∀ a, (k0_off80 v1317 (BitVec.ofNat 32 (512 + 512 * r.val))) a + S512x512.size a ≤ S65536x512.size a) ∧
  (∀ (r : Fin 3), ∀ (hinb : ∀ a, (k0_off80 v1317 (BitVec.ofNat 32 (512 + 512 * r.val))) a + S512x512.size a ≤ S65536x512.size a), (Rect.unit (s := S65536x512) (k0_off80 v1317 (BitVec.ofNat 32 (512 + 512 * r.val))) S512x512.size hinb).WholeWords (EltTy.packing .bf16)) ∧
  (∀ (r : Fin 4), ∀ a, (k0_off148 v1317 (BitVec.ofNat 32 (512 * r.val))) a + S512x512.size a ≤ S65536x512.size a) ∧
  (∀ (r : Fin 4), ∀ (hinb : ∀ a, (k0_off148 v1317 (BitVec.ofNat 32 (512 * r.val))) a + S512x512.size a ≤ S65536x512.size a), (Rect.unit (s := S65536x512) (k0_off148 v1317 (BitVec.ofNat 32 (512 * r.val))) S512x512.size hinb).WholeWords (EltTy.packing .bf16))
theorem k0_off71_inb : ∀ (v1317 : BitVec 32) (k0_hw21 : k0_chk21 v1317), ∀ (r : Fin 4), ∀ a, (k0_off71 v1317 (BitVec.ofNat 32 (512 * r.val))) a + S512x512.size a ≤ S65536x512.size a := fun v1317 k0_hw21 r => k0_hw21.1 r
theorem k0_off71_wordsbf16 : ∀ (v1317 : BitVec 32) (k0_hw21 : k0_chk21 v1317), ∀ (r : Fin 4), (Rect.unit (s := S65536x512) (k0_off71 v1317 (BitVec.ofNat 32 (512 * r.val))) S512x512.size (k0_off71_inb v1317 k0_hw21 r)).WholeWords (EltTy.packing .bf16) := fun v1317 k0_hw21 r => k0_hw21.2.1 r (k0_off71_inb v1317 k0_hw21 r)
theorem k0_off78_inb : ∀ (v1317 : BitVec 32) (k0_hw21 : k0_chk21 v1317), ∀ a, (k0_off78 v1317) a + S512x512.size a ≤ S65536x512.size a := fun v1317 k0_hw21 => k0_hw21.2.2.1
theorem k0_off78_wordsbf16 : ∀ (v1317 : BitVec 32) (k0_hw21 : k0_chk21 v1317), (Rect.unit (s := S65536x512) (k0_off78 v1317) S512x512.size (k0_off78_inb v1317 k0_hw21)).WholeWords (EltTy.packing .bf16) := fun v1317 k0_hw21 => k0_hw21.2.2.2.1 (k0_off78_inb v1317 k0_hw21)
theorem k0_off80_inb : ∀ (v1317 : BitVec 32) (k0_hw21 : k0_chk21 v1317), ∀ (r : Fin 3), ∀ a, (k0_off80 v1317 (BitVec.ofNat 32 (512 + 512 * r.val))) a + S512x512.size a ≤ S65536x512.size a := fun v1317 k0_hw21 r => k0_hw21.2.2.2.2.1 r
theorem k0_off80_wordsbf16 : ∀ (v1317 : BitVec 32) (k0_hw21 : k0_chk21 v1317), ∀ (r : Fin 3), (Rect.unit (s := S65536x512) (k0_off80 v1317 (BitVec.ofNat 32 (512 + 512 * r.val))) S512x512.size (k0_off80_inb v1317 k0_hw21 r)).WholeWords (EltTy.packing .bf16) := fun v1317 k0_hw21 r => k0_hw21.2.2.2.2.2.1 r (k0_off80_inb v1317 k0_hw21 r)
theorem k0_off148_inb : ∀ (v1317 : BitVec 32) (k0_hw21 : k0_chk21 v1317), ∀ (r : Fin 4), ∀ a, (k0_off148 v1317 (BitVec.ofNat 32 (512 * r.val))) a + S512x512.size a ≤ S65536x512.size a := fun v1317 k0_hw21 r => k0_hw21.2.2.2.2.2.2.1 r
theorem k0_off148_wordsbf16 : ∀ (v1317 : BitVec 32) (k0_hw21 : k0_chk21 v1317), ∀ (r : Fin 4), (Rect.unit (s := S65536x512) (k0_off148 v1317 (BitVec.ofNat 32 (512 * r.val))) S512x512.size (k0_off148_inb v1317 k0_hw21 r)).WholeWords (EltTy.packing .bf16) := fun v1317 k0_hw21 r => k0_hw21.2.2.2.2.2.2.2 r (k0_off148_inb v1317 k0_hw21 r)

def k0_off149 (v1394 : BitVec 32) (c0_i32_1363 : BitVec 32) : Fin 2 → Nat :=
  let c2048_i32_1362 : BitVec 32 := 2048#32
  let v1401 : BitVec 32 := Scalar.muli v1394 c2048_i32_1362
  let v1402 : BitVec 32 := Scalar.addi v1401 c0_i32_1363
  let c0_i32_2926 : BitVec 32 := 0#32
  ![v1402.toNat, 0]

def k0_chk22 (v1394 : BitVec 32) : Prop :=
  (∀ (r : Fin 4), ∀ a, (k0_off75 v1394 (BitVec.ofNat 32 (512 * r.val))) a + S512x512.size a ≤ S65536x512.size a) ∧
  (∀ (r : Fin 4), ∀ (hinb : ∀ a, (k0_off75 v1394 (BitVec.ofNat 32 (512 * r.val))) a + S512x512.size a ≤ S65536x512.size a), (Rect.unit (s := S65536x512) (k0_off75 v1394 (BitVec.ofNat 32 (512 * r.val))) S512x512.size hinb).WholeWords (EltTy.packing .bf16)) ∧
  (∀ a, (k0_off82 v1394) a + S512x512.size a ≤ S65536x512.size a) ∧
  (∀ (hinb : ∀ a, (k0_off82 v1394) a + S512x512.size a ≤ S65536x512.size a), (Rect.unit (s := S65536x512) (k0_off82 v1394) S512x512.size hinb).WholeWords (EltTy.packing .bf16)) ∧
  (∀ (r : Fin 3), ∀ a, (k0_off84 v1394 (BitVec.ofNat 32 (512 + 512 * r.val))) a + S512x512.size a ≤ S65536x512.size a) ∧
  (∀ (r : Fin 3), ∀ (hinb : ∀ a, (k0_off84 v1394 (BitVec.ofNat 32 (512 + 512 * r.val))) a + S512x512.size a ≤ S65536x512.size a), (Rect.unit (s := S65536x512) (k0_off84 v1394 (BitVec.ofNat 32 (512 + 512 * r.val))) S512x512.size hinb).WholeWords (EltTy.packing .bf16)) ∧
  (∀ (r : Fin 4), ∀ a, (k0_off149 v1394 (BitVec.ofNat 32 (512 * r.val))) a + S512x512.size a ≤ S65536x512.size a) ∧
  (∀ (r : Fin 4), ∀ (hinb : ∀ a, (k0_off149 v1394 (BitVec.ofNat 32 (512 * r.val))) a + S512x512.size a ≤ S65536x512.size a), (Rect.unit (s := S65536x512) (k0_off149 v1394 (BitVec.ofNat 32 (512 * r.val))) S512x512.size hinb).WholeWords (EltTy.packing .bf16))
theorem k0_off75_inb : ∀ (v1394 : BitVec 32) (k0_hw22 : k0_chk22 v1394), ∀ (r : Fin 4), ∀ a, (k0_off75 v1394 (BitVec.ofNat 32 (512 * r.val))) a + S512x512.size a ≤ S65536x512.size a := fun v1394 k0_hw22 r => k0_hw22.1 r
theorem k0_off75_wordsbf16 : ∀ (v1394 : BitVec 32) (k0_hw22 : k0_chk22 v1394), ∀ (r : Fin 4), (Rect.unit (s := S65536x512) (k0_off75 v1394 (BitVec.ofNat 32 (512 * r.val))) S512x512.size (k0_off75_inb v1394 k0_hw22 r)).WholeWords (EltTy.packing .bf16) := fun v1394 k0_hw22 r => k0_hw22.2.1 r (k0_off75_inb v1394 k0_hw22 r)
theorem k0_off82_inb : ∀ (v1394 : BitVec 32) (k0_hw22 : k0_chk22 v1394), ∀ a, (k0_off82 v1394) a + S512x512.size a ≤ S65536x512.size a := fun v1394 k0_hw22 => k0_hw22.2.2.1
theorem k0_off82_wordsbf16 : ∀ (v1394 : BitVec 32) (k0_hw22 : k0_chk22 v1394), (Rect.unit (s := S65536x512) (k0_off82 v1394) S512x512.size (k0_off82_inb v1394 k0_hw22)).WholeWords (EltTy.packing .bf16) := fun v1394 k0_hw22 => k0_hw22.2.2.2.1 (k0_off82_inb v1394 k0_hw22)
theorem k0_off84_inb : ∀ (v1394 : BitVec 32) (k0_hw22 : k0_chk22 v1394), ∀ (r : Fin 3), ∀ a, (k0_off84 v1394 (BitVec.ofNat 32 (512 + 512 * r.val))) a + S512x512.size a ≤ S65536x512.size a := fun v1394 k0_hw22 r => k0_hw22.2.2.2.2.1 r
theorem k0_off84_wordsbf16 : ∀ (v1394 : BitVec 32) (k0_hw22 : k0_chk22 v1394), ∀ (r : Fin 3), (Rect.unit (s := S65536x512) (k0_off84 v1394 (BitVec.ofNat 32 (512 + 512 * r.val))) S512x512.size (k0_off84_inb v1394 k0_hw22 r)).WholeWords (EltTy.packing .bf16) := fun v1394 k0_hw22 r => k0_hw22.2.2.2.2.2.1 r (k0_off84_inb v1394 k0_hw22 r)
theorem k0_off149_inb : ∀ (v1394 : BitVec 32) (k0_hw22 : k0_chk22 v1394), ∀ (r : Fin 4), ∀ a, (k0_off149 v1394 (BitVec.ofNat 32 (512 * r.val))) a + S512x512.size a ≤ S65536x512.size a := fun v1394 k0_hw22 r => k0_hw22.2.2.2.2.2.2.1 r
theorem k0_off149_wordsbf16 : ∀ (v1394 : BitVec 32) (k0_hw22 : k0_chk22 v1394), ∀ (r : Fin 4), (Rect.unit (s := S65536x512) (k0_off149 v1394 (BitVec.ofNat 32 (512 * r.val))) S512x512.size (k0_off149_inb v1394 k0_hw22 r)).WholeWords (EltTy.packing .bf16) := fun v1394 k0_hw22 r => k0_hw22.2.2.2.2.2.2.2 r (k0_off149_inb v1394 k0_hw22 r)

def k0_off150 (v1471 : BitVec 32) (c0_i32_1438 : BitVec 32) : Fin 2 → Nat :=
  let c2048_i32_1437 : BitVec 32 := 2048#32
  let v1478 : BitVec 32 := Scalar.muli v1471 c2048_i32_1437
  let v1479 : BitVec 32 := Scalar.addi v1478 c0_i32_1438
  let c0_i32_2954 : BitVec 32 := 0#32
  ![v1479.toNat, 0]

def k0_chk23 (v1471 : BitVec 32) : Prop :=
  (∀ (r : Fin 4), ∀ a, (k0_off79 v1471 (BitVec.ofNat 32 (512 * r.val))) a + S512x512.size a ≤ S65536x512.size a) ∧
  (∀ (r : Fin 4), ∀ (hinb : ∀ a, (k0_off79 v1471 (BitVec.ofNat 32 (512 * r.val))) a + S512x512.size a ≤ S65536x512.size a), (Rect.unit (s := S65536x512) (k0_off79 v1471 (BitVec.ofNat 32 (512 * r.val))) S512x512.size hinb).WholeWords (EltTy.packing .bf16)) ∧
  (∀ a, (k0_off86 v1471) a + S512x512.size a ≤ S65536x512.size a) ∧
  (∀ (hinb : ∀ a, (k0_off86 v1471) a + S512x512.size a ≤ S65536x512.size a), (Rect.unit (s := S65536x512) (k0_off86 v1471) S512x512.size hinb).WholeWords (EltTy.packing .bf16)) ∧
  (∀ (r : Fin 3), ∀ a, (k0_off88 v1471 (BitVec.ofNat 32 (512 + 512 * r.val))) a + S512x512.size a ≤ S65536x512.size a) ∧
  (∀ (r : Fin 3), ∀ (hinb : ∀ a, (k0_off88 v1471 (BitVec.ofNat 32 (512 + 512 * r.val))) a + S512x512.size a ≤ S65536x512.size a), (Rect.unit (s := S65536x512) (k0_off88 v1471 (BitVec.ofNat 32 (512 + 512 * r.val))) S512x512.size hinb).WholeWords (EltTy.packing .bf16)) ∧
  (∀ (r : Fin 4), ∀ a, (k0_off150 v1471 (BitVec.ofNat 32 (512 * r.val))) a + S512x512.size a ≤ S65536x512.size a) ∧
  (∀ (r : Fin 4), ∀ (hinb : ∀ a, (k0_off150 v1471 (BitVec.ofNat 32 (512 * r.val))) a + S512x512.size a ≤ S65536x512.size a), (Rect.unit (s := S65536x512) (k0_off150 v1471 (BitVec.ofNat 32 (512 * r.val))) S512x512.size hinb).WholeWords (EltTy.packing .bf16))
theorem k0_off79_inb : ∀ (v1471 : BitVec 32) (k0_hw23 : k0_chk23 v1471), ∀ (r : Fin 4), ∀ a, (k0_off79 v1471 (BitVec.ofNat 32 (512 * r.val))) a + S512x512.size a ≤ S65536x512.size a := fun v1471 k0_hw23 r => k0_hw23.1 r
theorem k0_off79_wordsbf16 : ∀ (v1471 : BitVec 32) (k0_hw23 : k0_chk23 v1471), ∀ (r : Fin 4), (Rect.unit (s := S65536x512) (k0_off79 v1471 (BitVec.ofNat 32 (512 * r.val))) S512x512.size (k0_off79_inb v1471 k0_hw23 r)).WholeWords (EltTy.packing .bf16) := fun v1471 k0_hw23 r => k0_hw23.2.1 r (k0_off79_inb v1471 k0_hw23 r)
theorem k0_off86_inb : ∀ (v1471 : BitVec 32) (k0_hw23 : k0_chk23 v1471), ∀ a, (k0_off86 v1471) a + S512x512.size a ≤ S65536x512.size a := fun v1471 k0_hw23 => k0_hw23.2.2.1
theorem k0_off86_wordsbf16 : ∀ (v1471 : BitVec 32) (k0_hw23 : k0_chk23 v1471), (Rect.unit (s := S65536x512) (k0_off86 v1471) S512x512.size (k0_off86_inb v1471 k0_hw23)).WholeWords (EltTy.packing .bf16) := fun v1471 k0_hw23 => k0_hw23.2.2.2.1 (k0_off86_inb v1471 k0_hw23)
theorem k0_off88_inb : ∀ (v1471 : BitVec 32) (k0_hw23 : k0_chk23 v1471), ∀ (r : Fin 3), ∀ a, (k0_off88 v1471 (BitVec.ofNat 32 (512 + 512 * r.val))) a + S512x512.size a ≤ S65536x512.size a := fun v1471 k0_hw23 r => k0_hw23.2.2.2.2.1 r
theorem k0_off88_wordsbf16 : ∀ (v1471 : BitVec 32) (k0_hw23 : k0_chk23 v1471), ∀ (r : Fin 3), (Rect.unit (s := S65536x512) (k0_off88 v1471 (BitVec.ofNat 32 (512 + 512 * r.val))) S512x512.size (k0_off88_inb v1471 k0_hw23 r)).WholeWords (EltTy.packing .bf16) := fun v1471 k0_hw23 r => k0_hw23.2.2.2.2.2.1 r (k0_off88_inb v1471 k0_hw23 r)
theorem k0_off150_inb : ∀ (v1471 : BitVec 32) (k0_hw23 : k0_chk23 v1471), ∀ (r : Fin 4), ∀ a, (k0_off150 v1471 (BitVec.ofNat 32 (512 * r.val))) a + S512x512.size a ≤ S65536x512.size a := fun v1471 k0_hw23 r => k0_hw23.2.2.2.2.2.2.1 r
theorem k0_off150_wordsbf16 : ∀ (v1471 : BitVec 32) (k0_hw23 : k0_chk23 v1471), ∀ (r : Fin 4), (Rect.unit (s := S65536x512) (k0_off150 v1471 (BitVec.ofNat 32 (512 * r.val))) S512x512.size (k0_off150_inb v1471 k0_hw23 r)).WholeWords (EltTy.packing .bf16) := fun v1471 k0_hw23 r => k0_hw23.2.2.2.2.2.2.2 r (k0_off150_inb v1471 k0_hw23 r)

def k0_off151 (v1548 : BitVec 32) (c0_i32_1517 : BitVec 32) : Fin 2 → Nat :=
  let c2048_i32_1516 : BitVec 32 := 2048#32
  let v1555 : BitVec 32 := Scalar.muli v1548 c2048_i32_1516
  let v1556 : BitVec 32 := Scalar.addi v1555 c0_i32_1517
  let c0_i32_2982 : BitVec 32 := 0#32
  ![v1556.toNat, 0]

def k0_chk24 (v1548 : BitVec 32) : Prop :=
  (∀ (r : Fin 4), ∀ a, (k0_off83 v1548 (BitVec.ofNat 32 (512 * r.val))) a + S512x512.size a ≤ S65536x512.size a) ∧
  (∀ (r : Fin 4), ∀ (hinb : ∀ a, (k0_off83 v1548 (BitVec.ofNat 32 (512 * r.val))) a + S512x512.size a ≤ S65536x512.size a), (Rect.unit (s := S65536x512) (k0_off83 v1548 (BitVec.ofNat 32 (512 * r.val))) S512x512.size hinb).WholeWords (EltTy.packing .bf16)) ∧
  (∀ a, (k0_off90 v1548) a + S512x512.size a ≤ S65536x512.size a) ∧
  (∀ (hinb : ∀ a, (k0_off90 v1548) a + S512x512.size a ≤ S65536x512.size a), (Rect.unit (s := S65536x512) (k0_off90 v1548) S512x512.size hinb).WholeWords (EltTy.packing .bf16)) ∧
  (∀ (r : Fin 3), ∀ a, (k0_off92 v1548 (BitVec.ofNat 32 (512 + 512 * r.val))) a + S512x512.size a ≤ S65536x512.size a) ∧
  (∀ (r : Fin 3), ∀ (hinb : ∀ a, (k0_off92 v1548 (BitVec.ofNat 32 (512 + 512 * r.val))) a + S512x512.size a ≤ S65536x512.size a), (Rect.unit (s := S65536x512) (k0_off92 v1548 (BitVec.ofNat 32 (512 + 512 * r.val))) S512x512.size hinb).WholeWords (EltTy.packing .bf16)) ∧
  (∀ (r : Fin 4), ∀ a, (k0_off151 v1548 (BitVec.ofNat 32 (512 * r.val))) a + S512x512.size a ≤ S65536x512.size a) ∧
  (∀ (r : Fin 4), ∀ (hinb : ∀ a, (k0_off151 v1548 (BitVec.ofNat 32 (512 * r.val))) a + S512x512.size a ≤ S65536x512.size a), (Rect.unit (s := S65536x512) (k0_off151 v1548 (BitVec.ofNat 32 (512 * r.val))) S512x512.size hinb).WholeWords (EltTy.packing .bf16))
theorem k0_off83_inb : ∀ (v1548 : BitVec 32) (k0_hw24 : k0_chk24 v1548), ∀ (r : Fin 4), ∀ a, (k0_off83 v1548 (BitVec.ofNat 32 (512 * r.val))) a + S512x512.size a ≤ S65536x512.size a := fun v1548 k0_hw24 r => k0_hw24.1 r
theorem k0_off83_wordsbf16 : ∀ (v1548 : BitVec 32) (k0_hw24 : k0_chk24 v1548), ∀ (r : Fin 4), (Rect.unit (s := S65536x512) (k0_off83 v1548 (BitVec.ofNat 32 (512 * r.val))) S512x512.size (k0_off83_inb v1548 k0_hw24 r)).WholeWords (EltTy.packing .bf16) := fun v1548 k0_hw24 r => k0_hw24.2.1 r (k0_off83_inb v1548 k0_hw24 r)
theorem k0_off90_inb : ∀ (v1548 : BitVec 32) (k0_hw24 : k0_chk24 v1548), ∀ a, (k0_off90 v1548) a + S512x512.size a ≤ S65536x512.size a := fun v1548 k0_hw24 => k0_hw24.2.2.1
theorem k0_off90_wordsbf16 : ∀ (v1548 : BitVec 32) (k0_hw24 : k0_chk24 v1548), (Rect.unit (s := S65536x512) (k0_off90 v1548) S512x512.size (k0_off90_inb v1548 k0_hw24)).WholeWords (EltTy.packing .bf16) := fun v1548 k0_hw24 => k0_hw24.2.2.2.1 (k0_off90_inb v1548 k0_hw24)
theorem k0_off92_inb : ∀ (v1548 : BitVec 32) (k0_hw24 : k0_chk24 v1548), ∀ (r : Fin 3), ∀ a, (k0_off92 v1548 (BitVec.ofNat 32 (512 + 512 * r.val))) a + S512x512.size a ≤ S65536x512.size a := fun v1548 k0_hw24 r => k0_hw24.2.2.2.2.1 r
theorem k0_off92_wordsbf16 : ∀ (v1548 : BitVec 32) (k0_hw24 : k0_chk24 v1548), ∀ (r : Fin 3), (Rect.unit (s := S65536x512) (k0_off92 v1548 (BitVec.ofNat 32 (512 + 512 * r.val))) S512x512.size (k0_off92_inb v1548 k0_hw24 r)).WholeWords (EltTy.packing .bf16) := fun v1548 k0_hw24 r => k0_hw24.2.2.2.2.2.1 r (k0_off92_inb v1548 k0_hw24 r)
theorem k0_off151_inb : ∀ (v1548 : BitVec 32) (k0_hw24 : k0_chk24 v1548), ∀ (r : Fin 4), ∀ a, (k0_off151 v1548 (BitVec.ofNat 32 (512 * r.val))) a + S512x512.size a ≤ S65536x512.size a := fun v1548 k0_hw24 r => k0_hw24.2.2.2.2.2.2.1 r
theorem k0_off151_wordsbf16 : ∀ (v1548 : BitVec 32) (k0_hw24 : k0_chk24 v1548), ∀ (r : Fin 4), (Rect.unit (s := S65536x512) (k0_off151 v1548 (BitVec.ofNat 32 (512 * r.val))) S512x512.size (k0_off151_inb v1548 k0_hw24 r)).WholeWords (EltTy.packing .bf16) := fun v1548 k0_hw24 r => k0_hw24.2.2.2.2.2.2.2 r (k0_off151_inb v1548 k0_hw24 r)

def k0_off152 (v1625 : BitVec 32) (c0_i32_1592 : BitVec 32) : Fin 2 → Nat :=
  let c2048_i32_1591 : BitVec 32 := 2048#32
  let v1632 : BitVec 32 := Scalar.muli v1625 c2048_i32_1591
  let v1633 : BitVec 32 := Scalar.addi v1632 c0_i32_1592
  let c0_i32_3010 : BitVec 32 := 0#32
  ![v1633.toNat, 0]

def k0_chk25 (v1625 : BitVec 32) : Prop :=
  (∀ (r : Fin 4), ∀ a, (k0_off87 v1625 (BitVec.ofNat 32 (512 * r.val))) a + S512x512.size a ≤ S65536x512.size a) ∧
  (∀ (r : Fin 4), ∀ (hinb : ∀ a, (k0_off87 v1625 (BitVec.ofNat 32 (512 * r.val))) a + S512x512.size a ≤ S65536x512.size a), (Rect.unit (s := S65536x512) (k0_off87 v1625 (BitVec.ofNat 32 (512 * r.val))) S512x512.size hinb).WholeWords (EltTy.packing .bf16)) ∧
  (∀ a, (k0_off94 v1625) a + S512x512.size a ≤ S65536x512.size a) ∧
  (∀ (hinb : ∀ a, (k0_off94 v1625) a + S512x512.size a ≤ S65536x512.size a), (Rect.unit (s := S65536x512) (k0_off94 v1625) S512x512.size hinb).WholeWords (EltTy.packing .bf16)) ∧
  (∀ (r : Fin 3), ∀ a, (k0_off96 v1625 (BitVec.ofNat 32 (512 + 512 * r.val))) a + S512x512.size a ≤ S65536x512.size a) ∧
  (∀ (r : Fin 3), ∀ (hinb : ∀ a, (k0_off96 v1625 (BitVec.ofNat 32 (512 + 512 * r.val))) a + S512x512.size a ≤ S65536x512.size a), (Rect.unit (s := S65536x512) (k0_off96 v1625 (BitVec.ofNat 32 (512 + 512 * r.val))) S512x512.size hinb).WholeWords (EltTy.packing .bf16)) ∧
  (∀ (r : Fin 4), ∀ a, (k0_off152 v1625 (BitVec.ofNat 32 (512 * r.val))) a + S512x512.size a ≤ S65536x512.size a) ∧
  (∀ (r : Fin 4), ∀ (hinb : ∀ a, (k0_off152 v1625 (BitVec.ofNat 32 (512 * r.val))) a + S512x512.size a ≤ S65536x512.size a), (Rect.unit (s := S65536x512) (k0_off152 v1625 (BitVec.ofNat 32 (512 * r.val))) S512x512.size hinb).WholeWords (EltTy.packing .bf16))
theorem k0_off87_inb : ∀ (v1625 : BitVec 32) (k0_hw25 : k0_chk25 v1625), ∀ (r : Fin 4), ∀ a, (k0_off87 v1625 (BitVec.ofNat 32 (512 * r.val))) a + S512x512.size a ≤ S65536x512.size a := fun v1625 k0_hw25 r => k0_hw25.1 r
theorem k0_off87_wordsbf16 : ∀ (v1625 : BitVec 32) (k0_hw25 : k0_chk25 v1625), ∀ (r : Fin 4), (Rect.unit (s := S65536x512) (k0_off87 v1625 (BitVec.ofNat 32 (512 * r.val))) S512x512.size (k0_off87_inb v1625 k0_hw25 r)).WholeWords (EltTy.packing .bf16) := fun v1625 k0_hw25 r => k0_hw25.2.1 r (k0_off87_inb v1625 k0_hw25 r)
theorem k0_off94_inb : ∀ (v1625 : BitVec 32) (k0_hw25 : k0_chk25 v1625), ∀ a, (k0_off94 v1625) a + S512x512.size a ≤ S65536x512.size a := fun v1625 k0_hw25 => k0_hw25.2.2.1
theorem k0_off94_wordsbf16 : ∀ (v1625 : BitVec 32) (k0_hw25 : k0_chk25 v1625), (Rect.unit (s := S65536x512) (k0_off94 v1625) S512x512.size (k0_off94_inb v1625 k0_hw25)).WholeWords (EltTy.packing .bf16) := fun v1625 k0_hw25 => k0_hw25.2.2.2.1 (k0_off94_inb v1625 k0_hw25)
theorem k0_off96_inb : ∀ (v1625 : BitVec 32) (k0_hw25 : k0_chk25 v1625), ∀ (r : Fin 3), ∀ a, (k0_off96 v1625 (BitVec.ofNat 32 (512 + 512 * r.val))) a + S512x512.size a ≤ S65536x512.size a := fun v1625 k0_hw25 r => k0_hw25.2.2.2.2.1 r
theorem k0_off96_wordsbf16 : ∀ (v1625 : BitVec 32) (k0_hw25 : k0_chk25 v1625), ∀ (r : Fin 3), (Rect.unit (s := S65536x512) (k0_off96 v1625 (BitVec.ofNat 32 (512 + 512 * r.val))) S512x512.size (k0_off96_inb v1625 k0_hw25 r)).WholeWords (EltTy.packing .bf16) := fun v1625 k0_hw25 r => k0_hw25.2.2.2.2.2.1 r (k0_off96_inb v1625 k0_hw25 r)
theorem k0_off152_inb : ∀ (v1625 : BitVec 32) (k0_hw25 : k0_chk25 v1625), ∀ (r : Fin 4), ∀ a, (k0_off152 v1625 (BitVec.ofNat 32 (512 * r.val))) a + S512x512.size a ≤ S65536x512.size a := fun v1625 k0_hw25 r => k0_hw25.2.2.2.2.2.2.1 r
theorem k0_off152_wordsbf16 : ∀ (v1625 : BitVec 32) (k0_hw25 : k0_chk25 v1625), ∀ (r : Fin 4), (Rect.unit (s := S65536x512) (k0_off152 v1625 (BitVec.ofNat 32 (512 * r.val))) S512x512.size (k0_off152_inb v1625 k0_hw25 r)).WholeWords (EltTy.packing .bf16) := fun v1625 k0_hw25 r => k0_hw25.2.2.2.2.2.2.2 r (k0_off152_inb v1625 k0_hw25 r)

def k0_off153 (v1702 : BitVec 32) (c0_i32_1671 : BitVec 32) : Fin 2 → Nat :=
  let c2048_i32_1670 : BitVec 32 := 2048#32
  let v1709 : BitVec 32 := Scalar.muli v1702 c2048_i32_1670
  let v1710 : BitVec 32 := Scalar.addi v1709 c0_i32_1671
  let c0_i32_3038 : BitVec 32 := 0#32
  ![v1710.toNat, 0]

def k0_chk26 (v1702 : BitVec 32) : Prop :=
  (∀ (r : Fin 4), ∀ a, (k0_off91 v1702 (BitVec.ofNat 32 (512 * r.val))) a + S512x512.size a ≤ S65536x512.size a) ∧
  (∀ (r : Fin 4), ∀ (hinb : ∀ a, (k0_off91 v1702 (BitVec.ofNat 32 (512 * r.val))) a + S512x512.size a ≤ S65536x512.size a), (Rect.unit (s := S65536x512) (k0_off91 v1702 (BitVec.ofNat 32 (512 * r.val))) S512x512.size hinb).WholeWords (EltTy.packing .bf16)) ∧
  (∀ a, (k0_off98 v1702) a + S512x512.size a ≤ S65536x512.size a) ∧
  (∀ (hinb : ∀ a, (k0_off98 v1702) a + S512x512.size a ≤ S65536x512.size a), (Rect.unit (s := S65536x512) (k0_off98 v1702) S512x512.size hinb).WholeWords (EltTy.packing .bf16)) ∧
  (∀ (r : Fin 3), ∀ a, (k0_off100 v1702 (BitVec.ofNat 32 (512 + 512 * r.val))) a + S512x512.size a ≤ S65536x512.size a) ∧
  (∀ (r : Fin 3), ∀ (hinb : ∀ a, (k0_off100 v1702 (BitVec.ofNat 32 (512 + 512 * r.val))) a + S512x512.size a ≤ S65536x512.size a), (Rect.unit (s := S65536x512) (k0_off100 v1702 (BitVec.ofNat 32 (512 + 512 * r.val))) S512x512.size hinb).WholeWords (EltTy.packing .bf16)) ∧
  (∀ (r : Fin 4), ∀ a, (k0_off153 v1702 (BitVec.ofNat 32 (512 * r.val))) a + S512x512.size a ≤ S65536x512.size a) ∧
  (∀ (r : Fin 4), ∀ (hinb : ∀ a, (k0_off153 v1702 (BitVec.ofNat 32 (512 * r.val))) a + S512x512.size a ≤ S65536x512.size a), (Rect.unit (s := S65536x512) (k0_off153 v1702 (BitVec.ofNat 32 (512 * r.val))) S512x512.size hinb).WholeWords (EltTy.packing .bf16))
theorem k0_off91_inb : ∀ (v1702 : BitVec 32) (k0_hw26 : k0_chk26 v1702), ∀ (r : Fin 4), ∀ a, (k0_off91 v1702 (BitVec.ofNat 32 (512 * r.val))) a + S512x512.size a ≤ S65536x512.size a := fun v1702 k0_hw26 r => k0_hw26.1 r
theorem k0_off91_wordsbf16 : ∀ (v1702 : BitVec 32) (k0_hw26 : k0_chk26 v1702), ∀ (r : Fin 4), (Rect.unit (s := S65536x512) (k0_off91 v1702 (BitVec.ofNat 32 (512 * r.val))) S512x512.size (k0_off91_inb v1702 k0_hw26 r)).WholeWords (EltTy.packing .bf16) := fun v1702 k0_hw26 r => k0_hw26.2.1 r (k0_off91_inb v1702 k0_hw26 r)
theorem k0_off98_inb : ∀ (v1702 : BitVec 32) (k0_hw26 : k0_chk26 v1702), ∀ a, (k0_off98 v1702) a + S512x512.size a ≤ S65536x512.size a := fun v1702 k0_hw26 => k0_hw26.2.2.1
theorem k0_off98_wordsbf16 : ∀ (v1702 : BitVec 32) (k0_hw26 : k0_chk26 v1702), (Rect.unit (s := S65536x512) (k0_off98 v1702) S512x512.size (k0_off98_inb v1702 k0_hw26)).WholeWords (EltTy.packing .bf16) := fun v1702 k0_hw26 => k0_hw26.2.2.2.1 (k0_off98_inb v1702 k0_hw26)
theorem k0_off100_inb : ∀ (v1702 : BitVec 32) (k0_hw26 : k0_chk26 v1702), ∀ (r : Fin 3), ∀ a, (k0_off100 v1702 (BitVec.ofNat 32 (512 + 512 * r.val))) a + S512x512.size a ≤ S65536x512.size a := fun v1702 k0_hw26 r => k0_hw26.2.2.2.2.1 r
theorem k0_off100_wordsbf16 : ∀ (v1702 : BitVec 32) (k0_hw26 : k0_chk26 v1702), ∀ (r : Fin 3), (Rect.unit (s := S65536x512) (k0_off100 v1702 (BitVec.ofNat 32 (512 + 512 * r.val))) S512x512.size (k0_off100_inb v1702 k0_hw26 r)).WholeWords (EltTy.packing .bf16) := fun v1702 k0_hw26 r => k0_hw26.2.2.2.2.2.1 r (k0_off100_inb v1702 k0_hw26 r)
theorem k0_off153_inb : ∀ (v1702 : BitVec 32) (k0_hw26 : k0_chk26 v1702), ∀ (r : Fin 4), ∀ a, (k0_off153 v1702 (BitVec.ofNat 32 (512 * r.val))) a + S512x512.size a ≤ S65536x512.size a := fun v1702 k0_hw26 r => k0_hw26.2.2.2.2.2.2.1 r
theorem k0_off153_wordsbf16 : ∀ (v1702 : BitVec 32) (k0_hw26 : k0_chk26 v1702), ∀ (r : Fin 4), (Rect.unit (s := S65536x512) (k0_off153 v1702 (BitVec.ofNat 32 (512 * r.val))) S512x512.size (k0_off153_inb v1702 k0_hw26 r)).WholeWords (EltTy.packing .bf16) := fun v1702 k0_hw26 r => k0_hw26.2.2.2.2.2.2.2 r (k0_off153_inb v1702 k0_hw26 r)

def k0_off154 (v1779 : BitVec 32) (c0_i32_1746 : BitVec 32) : Fin 2 → Nat :=
  let c2048_i32_1745 : BitVec 32 := 2048#32
  let v1786 : BitVec 32 := Scalar.muli v1779 c2048_i32_1745
  let v1787 : BitVec 32 := Scalar.addi v1786 c0_i32_1746
  let c0_i32_3066 : BitVec 32 := 0#32
  ![v1787.toNat, 0]

def k0_chk27 (v1779 : BitVec 32) : Prop :=
  (∀ (r : Fin 4), ∀ a, (k0_off95 v1779 (BitVec.ofNat 32 (512 * r.val))) a + S512x512.size a ≤ S65536x512.size a) ∧
  (∀ (r : Fin 4), ∀ (hinb : ∀ a, (k0_off95 v1779 (BitVec.ofNat 32 (512 * r.val))) a + S512x512.size a ≤ S65536x512.size a), (Rect.unit (s := S65536x512) (k0_off95 v1779 (BitVec.ofNat 32 (512 * r.val))) S512x512.size hinb).WholeWords (EltTy.packing .bf16)) ∧
  (∀ a, (k0_off102 v1779) a + S512x512.size a ≤ S65536x512.size a) ∧
  (∀ (hinb : ∀ a, (k0_off102 v1779) a + S512x512.size a ≤ S65536x512.size a), (Rect.unit (s := S65536x512) (k0_off102 v1779) S512x512.size hinb).WholeWords (EltTy.packing .bf16)) ∧
  (∀ (r : Fin 3), ∀ a, (k0_off104 v1779 (BitVec.ofNat 32 (512 + 512 * r.val))) a + S512x512.size a ≤ S65536x512.size a) ∧
  (∀ (r : Fin 3), ∀ (hinb : ∀ a, (k0_off104 v1779 (BitVec.ofNat 32 (512 + 512 * r.val))) a + S512x512.size a ≤ S65536x512.size a), (Rect.unit (s := S65536x512) (k0_off104 v1779 (BitVec.ofNat 32 (512 + 512 * r.val))) S512x512.size hinb).WholeWords (EltTy.packing .bf16)) ∧
  (∀ (r : Fin 4), ∀ a, (k0_off154 v1779 (BitVec.ofNat 32 (512 * r.val))) a + S512x512.size a ≤ S65536x512.size a) ∧
  (∀ (r : Fin 4), ∀ (hinb : ∀ a, (k0_off154 v1779 (BitVec.ofNat 32 (512 * r.val))) a + S512x512.size a ≤ S65536x512.size a), (Rect.unit (s := S65536x512) (k0_off154 v1779 (BitVec.ofNat 32 (512 * r.val))) S512x512.size hinb).WholeWords (EltTy.packing .bf16))
theorem k0_off95_inb : ∀ (v1779 : BitVec 32) (k0_hw27 : k0_chk27 v1779), ∀ (r : Fin 4), ∀ a, (k0_off95 v1779 (BitVec.ofNat 32 (512 * r.val))) a + S512x512.size a ≤ S65536x512.size a := fun v1779 k0_hw27 r => k0_hw27.1 r
theorem k0_off95_wordsbf16 : ∀ (v1779 : BitVec 32) (k0_hw27 : k0_chk27 v1779), ∀ (r : Fin 4), (Rect.unit (s := S65536x512) (k0_off95 v1779 (BitVec.ofNat 32 (512 * r.val))) S512x512.size (k0_off95_inb v1779 k0_hw27 r)).WholeWords (EltTy.packing .bf16) := fun v1779 k0_hw27 r => k0_hw27.2.1 r (k0_off95_inb v1779 k0_hw27 r)
theorem k0_off102_inb : ∀ (v1779 : BitVec 32) (k0_hw27 : k0_chk27 v1779), ∀ a, (k0_off102 v1779) a + S512x512.size a ≤ S65536x512.size a := fun v1779 k0_hw27 => k0_hw27.2.2.1
theorem k0_off102_wordsbf16 : ∀ (v1779 : BitVec 32) (k0_hw27 : k0_chk27 v1779), (Rect.unit (s := S65536x512) (k0_off102 v1779) S512x512.size (k0_off102_inb v1779 k0_hw27)).WholeWords (EltTy.packing .bf16) := fun v1779 k0_hw27 => k0_hw27.2.2.2.1 (k0_off102_inb v1779 k0_hw27)
theorem k0_off104_inb : ∀ (v1779 : BitVec 32) (k0_hw27 : k0_chk27 v1779), ∀ (r : Fin 3), ∀ a, (k0_off104 v1779 (BitVec.ofNat 32 (512 + 512 * r.val))) a + S512x512.size a ≤ S65536x512.size a := fun v1779 k0_hw27 r => k0_hw27.2.2.2.2.1 r
theorem k0_off104_wordsbf16 : ∀ (v1779 : BitVec 32) (k0_hw27 : k0_chk27 v1779), ∀ (r : Fin 3), (Rect.unit (s := S65536x512) (k0_off104 v1779 (BitVec.ofNat 32 (512 + 512 * r.val))) S512x512.size (k0_off104_inb v1779 k0_hw27 r)).WholeWords (EltTy.packing .bf16) := fun v1779 k0_hw27 r => k0_hw27.2.2.2.2.2.1 r (k0_off104_inb v1779 k0_hw27 r)
theorem k0_off154_inb : ∀ (v1779 : BitVec 32) (k0_hw27 : k0_chk27 v1779), ∀ (r : Fin 4), ∀ a, (k0_off154 v1779 (BitVec.ofNat 32 (512 * r.val))) a + S512x512.size a ≤ S65536x512.size a := fun v1779 k0_hw27 r => k0_hw27.2.2.2.2.2.2.1 r
theorem k0_off154_wordsbf16 : ∀ (v1779 : BitVec 32) (k0_hw27 : k0_chk27 v1779), ∀ (r : Fin 4), (Rect.unit (s := S65536x512) (k0_off154 v1779 (BitVec.ofNat 32 (512 * r.val))) S512x512.size (k0_off154_inb v1779 k0_hw27 r)).WholeWords (EltTy.packing .bf16) := fun v1779 k0_hw27 r => k0_hw27.2.2.2.2.2.2.2 r (k0_off154_inb v1779 k0_hw27 r)

def k0_off155 (v1856 : BitVec 32) (c0_i32_1825 : BitVec 32) : Fin 2 → Nat :=
  let c2048_i32_1824 : BitVec 32 := 2048#32
  let v1863 : BitVec 32 := Scalar.muli v1856 c2048_i32_1824
  let v1864 : BitVec 32 := Scalar.addi v1863 c0_i32_1825
  let c0_i32_3094 : BitVec 32 := 0#32
  ![v1864.toNat, 0]

def k0_chk28 (v1856 : BitVec 32) : Prop :=
  (∀ (r : Fin 4), ∀ a, (k0_off99 v1856 (BitVec.ofNat 32 (512 * r.val))) a + S512x512.size a ≤ S65536x512.size a) ∧
  (∀ (r : Fin 4), ∀ (hinb : ∀ a, (k0_off99 v1856 (BitVec.ofNat 32 (512 * r.val))) a + S512x512.size a ≤ S65536x512.size a), (Rect.unit (s := S65536x512) (k0_off99 v1856 (BitVec.ofNat 32 (512 * r.val))) S512x512.size hinb).WholeWords (EltTy.packing .bf16)) ∧
  (∀ a, (k0_off106 v1856) a + S512x512.size a ≤ S65536x512.size a) ∧
  (∀ (hinb : ∀ a, (k0_off106 v1856) a + S512x512.size a ≤ S65536x512.size a), (Rect.unit (s := S65536x512) (k0_off106 v1856) S512x512.size hinb).WholeWords (EltTy.packing .bf16)) ∧
  (∀ (r : Fin 3), ∀ a, (k0_off108 v1856 (BitVec.ofNat 32 (512 + 512 * r.val))) a + S512x512.size a ≤ S65536x512.size a) ∧
  (∀ (r : Fin 3), ∀ (hinb : ∀ a, (k0_off108 v1856 (BitVec.ofNat 32 (512 + 512 * r.val))) a + S512x512.size a ≤ S65536x512.size a), (Rect.unit (s := S65536x512) (k0_off108 v1856 (BitVec.ofNat 32 (512 + 512 * r.val))) S512x512.size hinb).WholeWords (EltTy.packing .bf16)) ∧
  (∀ (r : Fin 4), ∀ a, (k0_off155 v1856 (BitVec.ofNat 32 (512 * r.val))) a + S512x512.size a ≤ S65536x512.size a) ∧
  (∀ (r : Fin 4), ∀ (hinb : ∀ a, (k0_off155 v1856 (BitVec.ofNat 32 (512 * r.val))) a + S512x512.size a ≤ S65536x512.size a), (Rect.unit (s := S65536x512) (k0_off155 v1856 (BitVec.ofNat 32 (512 * r.val))) S512x512.size hinb).WholeWords (EltTy.packing .bf16))
theorem k0_off99_inb : ∀ (v1856 : BitVec 32) (k0_hw28 : k0_chk28 v1856), ∀ (r : Fin 4), ∀ a, (k0_off99 v1856 (BitVec.ofNat 32 (512 * r.val))) a + S512x512.size a ≤ S65536x512.size a := fun v1856 k0_hw28 r => k0_hw28.1 r
theorem k0_off99_wordsbf16 : ∀ (v1856 : BitVec 32) (k0_hw28 : k0_chk28 v1856), ∀ (r : Fin 4), (Rect.unit (s := S65536x512) (k0_off99 v1856 (BitVec.ofNat 32 (512 * r.val))) S512x512.size (k0_off99_inb v1856 k0_hw28 r)).WholeWords (EltTy.packing .bf16) := fun v1856 k0_hw28 r => k0_hw28.2.1 r (k0_off99_inb v1856 k0_hw28 r)
theorem k0_off106_inb : ∀ (v1856 : BitVec 32) (k0_hw28 : k0_chk28 v1856), ∀ a, (k0_off106 v1856) a + S512x512.size a ≤ S65536x512.size a := fun v1856 k0_hw28 => k0_hw28.2.2.1
theorem k0_off106_wordsbf16 : ∀ (v1856 : BitVec 32) (k0_hw28 : k0_chk28 v1856), (Rect.unit (s := S65536x512) (k0_off106 v1856) S512x512.size (k0_off106_inb v1856 k0_hw28)).WholeWords (EltTy.packing .bf16) := fun v1856 k0_hw28 => k0_hw28.2.2.2.1 (k0_off106_inb v1856 k0_hw28)
theorem k0_off108_inb : ∀ (v1856 : BitVec 32) (k0_hw28 : k0_chk28 v1856), ∀ (r : Fin 3), ∀ a, (k0_off108 v1856 (BitVec.ofNat 32 (512 + 512 * r.val))) a + S512x512.size a ≤ S65536x512.size a := fun v1856 k0_hw28 r => k0_hw28.2.2.2.2.1 r
theorem k0_off108_wordsbf16 : ∀ (v1856 : BitVec 32) (k0_hw28 : k0_chk28 v1856), ∀ (r : Fin 3), (Rect.unit (s := S65536x512) (k0_off108 v1856 (BitVec.ofNat 32 (512 + 512 * r.val))) S512x512.size (k0_off108_inb v1856 k0_hw28 r)).WholeWords (EltTy.packing .bf16) := fun v1856 k0_hw28 r => k0_hw28.2.2.2.2.2.1 r (k0_off108_inb v1856 k0_hw28 r)
theorem k0_off155_inb : ∀ (v1856 : BitVec 32) (k0_hw28 : k0_chk28 v1856), ∀ (r : Fin 4), ∀ a, (k0_off155 v1856 (BitVec.ofNat 32 (512 * r.val))) a + S512x512.size a ≤ S65536x512.size a := fun v1856 k0_hw28 r => k0_hw28.2.2.2.2.2.2.1 r
theorem k0_off155_wordsbf16 : ∀ (v1856 : BitVec 32) (k0_hw28 : k0_chk28 v1856), ∀ (r : Fin 4), (Rect.unit (s := S65536x512) (k0_off155 v1856 (BitVec.ofNat 32 (512 * r.val))) S512x512.size (k0_off155_inb v1856 k0_hw28 r)).WholeWords (EltTy.packing .bf16) := fun v1856 k0_hw28 r => k0_hw28.2.2.2.2.2.2.2 r (k0_off155_inb v1856 k0_hw28 r)

def k0_off156 (v1933 : BitVec 32) (c0_i32_1900 : BitVec 32) : Fin 2 → Nat :=
  let c2048_i32_1899 : BitVec 32 := 2048#32
  let v1940 : BitVec 32 := Scalar.muli v1933 c2048_i32_1899
  let v1941 : BitVec 32 := Scalar.addi v1940 c0_i32_1900
  let c0_i32_3122 : BitVec 32 := 0#32
  ![v1941.toNat, 0]

def k0_chk29 (v1933 : BitVec 32) : Prop :=
  (∀ (r : Fin 4), ∀ a, (k0_off103 v1933 (BitVec.ofNat 32 (512 * r.val))) a + S512x512.size a ≤ S65536x512.size a) ∧
  (∀ (r : Fin 4), ∀ (hinb : ∀ a, (k0_off103 v1933 (BitVec.ofNat 32 (512 * r.val))) a + S512x512.size a ≤ S65536x512.size a), (Rect.unit (s := S65536x512) (k0_off103 v1933 (BitVec.ofNat 32 (512 * r.val))) S512x512.size hinb).WholeWords (EltTy.packing .bf16)) ∧
  (∀ a, (k0_off110 v1933) a + S512x512.size a ≤ S65536x512.size a) ∧
  (∀ (hinb : ∀ a, (k0_off110 v1933) a + S512x512.size a ≤ S65536x512.size a), (Rect.unit (s := S65536x512) (k0_off110 v1933) S512x512.size hinb).WholeWords (EltTy.packing .bf16)) ∧
  (∀ (r : Fin 3), ∀ a, (k0_off112 v1933 (BitVec.ofNat 32 (512 + 512 * r.val))) a + S512x512.size a ≤ S65536x512.size a) ∧
  (∀ (r : Fin 3), ∀ (hinb : ∀ a, (k0_off112 v1933 (BitVec.ofNat 32 (512 + 512 * r.val))) a + S512x512.size a ≤ S65536x512.size a), (Rect.unit (s := S65536x512) (k0_off112 v1933 (BitVec.ofNat 32 (512 + 512 * r.val))) S512x512.size hinb).WholeWords (EltTy.packing .bf16)) ∧
  (∀ (r : Fin 4), ∀ a, (k0_off156 v1933 (BitVec.ofNat 32 (512 * r.val))) a + S512x512.size a ≤ S65536x512.size a) ∧
  (∀ (r : Fin 4), ∀ (hinb : ∀ a, (k0_off156 v1933 (BitVec.ofNat 32 (512 * r.val))) a + S512x512.size a ≤ S65536x512.size a), (Rect.unit (s := S65536x512) (k0_off156 v1933 (BitVec.ofNat 32 (512 * r.val))) S512x512.size hinb).WholeWords (EltTy.packing .bf16))
theorem k0_off103_inb : ∀ (v1933 : BitVec 32) (k0_hw29 : k0_chk29 v1933), ∀ (r : Fin 4), ∀ a, (k0_off103 v1933 (BitVec.ofNat 32 (512 * r.val))) a + S512x512.size a ≤ S65536x512.size a := fun v1933 k0_hw29 r => k0_hw29.1 r
theorem k0_off103_wordsbf16 : ∀ (v1933 : BitVec 32) (k0_hw29 : k0_chk29 v1933), ∀ (r : Fin 4), (Rect.unit (s := S65536x512) (k0_off103 v1933 (BitVec.ofNat 32 (512 * r.val))) S512x512.size (k0_off103_inb v1933 k0_hw29 r)).WholeWords (EltTy.packing .bf16) := fun v1933 k0_hw29 r => k0_hw29.2.1 r (k0_off103_inb v1933 k0_hw29 r)
theorem k0_off110_inb : ∀ (v1933 : BitVec 32) (k0_hw29 : k0_chk29 v1933), ∀ a, (k0_off110 v1933) a + S512x512.size a ≤ S65536x512.size a := fun v1933 k0_hw29 => k0_hw29.2.2.1
theorem k0_off110_wordsbf16 : ∀ (v1933 : BitVec 32) (k0_hw29 : k0_chk29 v1933), (Rect.unit (s := S65536x512) (k0_off110 v1933) S512x512.size (k0_off110_inb v1933 k0_hw29)).WholeWords (EltTy.packing .bf16) := fun v1933 k0_hw29 => k0_hw29.2.2.2.1 (k0_off110_inb v1933 k0_hw29)
theorem k0_off112_inb : ∀ (v1933 : BitVec 32) (k0_hw29 : k0_chk29 v1933), ∀ (r : Fin 3), ∀ a, (k0_off112 v1933 (BitVec.ofNat 32 (512 + 512 * r.val))) a + S512x512.size a ≤ S65536x512.size a := fun v1933 k0_hw29 r => k0_hw29.2.2.2.2.1 r
theorem k0_off112_wordsbf16 : ∀ (v1933 : BitVec 32) (k0_hw29 : k0_chk29 v1933), ∀ (r : Fin 3), (Rect.unit (s := S65536x512) (k0_off112 v1933 (BitVec.ofNat 32 (512 + 512 * r.val))) S512x512.size (k0_off112_inb v1933 k0_hw29 r)).WholeWords (EltTy.packing .bf16) := fun v1933 k0_hw29 r => k0_hw29.2.2.2.2.2.1 r (k0_off112_inb v1933 k0_hw29 r)
theorem k0_off156_inb : ∀ (v1933 : BitVec 32) (k0_hw29 : k0_chk29 v1933), ∀ (r : Fin 4), ∀ a, (k0_off156 v1933 (BitVec.ofNat 32 (512 * r.val))) a + S512x512.size a ≤ S65536x512.size a := fun v1933 k0_hw29 r => k0_hw29.2.2.2.2.2.2.1 r
theorem k0_off156_wordsbf16 : ∀ (v1933 : BitVec 32) (k0_hw29 : k0_chk29 v1933), ∀ (r : Fin 4), (Rect.unit (s := S65536x512) (k0_off156 v1933 (BitVec.ofNat 32 (512 * r.val))) S512x512.size (k0_off156_inb v1933 k0_hw29 r)).WholeWords (EltTy.packing .bf16) := fun v1933 k0_hw29 r => k0_hw29.2.2.2.2.2.2.2 r (k0_off156_inb v1933 k0_hw29 r)

def k0_off157 (v2010 : BitVec 32) (c0_i32_1979 : BitVec 32) : Fin 2 → Nat :=
  let c2048_i32_1978 : BitVec 32 := 2048#32
  let v2017 : BitVec 32 := Scalar.muli v2010 c2048_i32_1978
  let v2018 : BitVec 32 := Scalar.addi v2017 c0_i32_1979
  let c0_i32_3150 : BitVec 32 := 0#32
  ![v2018.toNat, 0]

def k0_chk30 (v2010 : BitVec 32) : Prop :=
  (∀ (r : Fin 4), ∀ a, (k0_off107 v2010 (BitVec.ofNat 32 (512 * r.val))) a + S512x512.size a ≤ S65536x512.size a) ∧
  (∀ (r : Fin 4), ∀ (hinb : ∀ a, (k0_off107 v2010 (BitVec.ofNat 32 (512 * r.val))) a + S512x512.size a ≤ S65536x512.size a), (Rect.unit (s := S65536x512) (k0_off107 v2010 (BitVec.ofNat 32 (512 * r.val))) S512x512.size hinb).WholeWords (EltTy.packing .bf16)) ∧
  (∀ a, (k0_off114 v2010) a + S512x512.size a ≤ S65536x512.size a) ∧
  (∀ (hinb : ∀ a, (k0_off114 v2010) a + S512x512.size a ≤ S65536x512.size a), (Rect.unit (s := S65536x512) (k0_off114 v2010) S512x512.size hinb).WholeWords (EltTy.packing .bf16)) ∧
  (∀ (r : Fin 3), ∀ a, (k0_off116 v2010 (BitVec.ofNat 32 (512 + 512 * r.val))) a + S512x512.size a ≤ S65536x512.size a) ∧
  (∀ (r : Fin 3), ∀ (hinb : ∀ a, (k0_off116 v2010 (BitVec.ofNat 32 (512 + 512 * r.val))) a + S512x512.size a ≤ S65536x512.size a), (Rect.unit (s := S65536x512) (k0_off116 v2010 (BitVec.ofNat 32 (512 + 512 * r.val))) S512x512.size hinb).WholeWords (EltTy.packing .bf16)) ∧
  (∀ (r : Fin 4), ∀ a, (k0_off157 v2010 (BitVec.ofNat 32 (512 * r.val))) a + S512x512.size a ≤ S65536x512.size a) ∧
  (∀ (r : Fin 4), ∀ (hinb : ∀ a, (k0_off157 v2010 (BitVec.ofNat 32 (512 * r.val))) a + S512x512.size a ≤ S65536x512.size a), (Rect.unit (s := S65536x512) (k0_off157 v2010 (BitVec.ofNat 32 (512 * r.val))) S512x512.size hinb).WholeWords (EltTy.packing .bf16))
theorem k0_off107_inb : ∀ (v2010 : BitVec 32) (k0_hw30 : k0_chk30 v2010), ∀ (r : Fin 4), ∀ a, (k0_off107 v2010 (BitVec.ofNat 32 (512 * r.val))) a + S512x512.size a ≤ S65536x512.size a := fun v2010 k0_hw30 r => k0_hw30.1 r
theorem k0_off107_wordsbf16 : ∀ (v2010 : BitVec 32) (k0_hw30 : k0_chk30 v2010), ∀ (r : Fin 4), (Rect.unit (s := S65536x512) (k0_off107 v2010 (BitVec.ofNat 32 (512 * r.val))) S512x512.size (k0_off107_inb v2010 k0_hw30 r)).WholeWords (EltTy.packing .bf16) := fun v2010 k0_hw30 r => k0_hw30.2.1 r (k0_off107_inb v2010 k0_hw30 r)
theorem k0_off114_inb : ∀ (v2010 : BitVec 32) (k0_hw30 : k0_chk30 v2010), ∀ a, (k0_off114 v2010) a + S512x512.size a ≤ S65536x512.size a := fun v2010 k0_hw30 => k0_hw30.2.2.1
theorem k0_off114_wordsbf16 : ∀ (v2010 : BitVec 32) (k0_hw30 : k0_chk30 v2010), (Rect.unit (s := S65536x512) (k0_off114 v2010) S512x512.size (k0_off114_inb v2010 k0_hw30)).WholeWords (EltTy.packing .bf16) := fun v2010 k0_hw30 => k0_hw30.2.2.2.1 (k0_off114_inb v2010 k0_hw30)
theorem k0_off116_inb : ∀ (v2010 : BitVec 32) (k0_hw30 : k0_chk30 v2010), ∀ (r : Fin 3), ∀ a, (k0_off116 v2010 (BitVec.ofNat 32 (512 + 512 * r.val))) a + S512x512.size a ≤ S65536x512.size a := fun v2010 k0_hw30 r => k0_hw30.2.2.2.2.1 r
theorem k0_off116_wordsbf16 : ∀ (v2010 : BitVec 32) (k0_hw30 : k0_chk30 v2010), ∀ (r : Fin 3), (Rect.unit (s := S65536x512) (k0_off116 v2010 (BitVec.ofNat 32 (512 + 512 * r.val))) S512x512.size (k0_off116_inb v2010 k0_hw30 r)).WholeWords (EltTy.packing .bf16) := fun v2010 k0_hw30 r => k0_hw30.2.2.2.2.2.1 r (k0_off116_inb v2010 k0_hw30 r)
theorem k0_off157_inb : ∀ (v2010 : BitVec 32) (k0_hw30 : k0_chk30 v2010), ∀ (r : Fin 4), ∀ a, (k0_off157 v2010 (BitVec.ofNat 32 (512 * r.val))) a + S512x512.size a ≤ S65536x512.size a := fun v2010 k0_hw30 r => k0_hw30.2.2.2.2.2.2.1 r
theorem k0_off157_wordsbf16 : ∀ (v2010 : BitVec 32) (k0_hw30 : k0_chk30 v2010), ∀ (r : Fin 4), (Rect.unit (s := S65536x512) (k0_off157 v2010 (BitVec.ofNat 32 (512 * r.val))) S512x512.size (k0_off157_inb v2010 k0_hw30 r)).WholeWords (EltTy.packing .bf16) := fun v2010 k0_hw30 r => k0_hw30.2.2.2.2.2.2.2 r (k0_off157_inb v2010 k0_hw30 r)

def k0_off158 (v2087 : BitVec 32) (c0_i32_2054 : BitVec 32) : Fin 2 → Nat :=
  let c2048_i32_2053 : BitVec 32 := 2048#32
  let v2094 : BitVec 32 := Scalar.muli v2087 c2048_i32_2053
  let v2095 : BitVec 32 := Scalar.addi v2094 c0_i32_2054
  let c0_i32_3178 : BitVec 32 := 0#32
  ![v2095.toNat, 0]

def k0_chk31 (v2087 : BitVec 32) : Prop :=
  (∀ (r : Fin 4), ∀ a, (k0_off111 v2087 (BitVec.ofNat 32 (512 * r.val))) a + S512x512.size a ≤ S65536x512.size a) ∧
  (∀ (r : Fin 4), ∀ (hinb : ∀ a, (k0_off111 v2087 (BitVec.ofNat 32 (512 * r.val))) a + S512x512.size a ≤ S65536x512.size a), (Rect.unit (s := S65536x512) (k0_off111 v2087 (BitVec.ofNat 32 (512 * r.val))) S512x512.size hinb).WholeWords (EltTy.packing .bf16)) ∧
  (∀ a, (k0_off118 v2087) a + S512x512.size a ≤ S65536x512.size a) ∧
  (∀ (hinb : ∀ a, (k0_off118 v2087) a + S512x512.size a ≤ S65536x512.size a), (Rect.unit (s := S65536x512) (k0_off118 v2087) S512x512.size hinb).WholeWords (EltTy.packing .bf16)) ∧
  (∀ (r : Fin 3), ∀ a, (k0_off120 v2087 (BitVec.ofNat 32 (512 + 512 * r.val))) a + S512x512.size a ≤ S65536x512.size a) ∧
  (∀ (r : Fin 3), ∀ (hinb : ∀ a, (k0_off120 v2087 (BitVec.ofNat 32 (512 + 512 * r.val))) a + S512x512.size a ≤ S65536x512.size a), (Rect.unit (s := S65536x512) (k0_off120 v2087 (BitVec.ofNat 32 (512 + 512 * r.val))) S512x512.size hinb).WholeWords (EltTy.packing .bf16)) ∧
  (∀ (r : Fin 4), ∀ a, (k0_off158 v2087 (BitVec.ofNat 32 (512 * r.val))) a + S512x512.size a ≤ S65536x512.size a) ∧
  (∀ (r : Fin 4), ∀ (hinb : ∀ a, (k0_off158 v2087 (BitVec.ofNat 32 (512 * r.val))) a + S512x512.size a ≤ S65536x512.size a), (Rect.unit (s := S65536x512) (k0_off158 v2087 (BitVec.ofNat 32 (512 * r.val))) S512x512.size hinb).WholeWords (EltTy.packing .bf16))
theorem k0_off111_inb : ∀ (v2087 : BitVec 32) (k0_hw31 : k0_chk31 v2087), ∀ (r : Fin 4), ∀ a, (k0_off111 v2087 (BitVec.ofNat 32 (512 * r.val))) a + S512x512.size a ≤ S65536x512.size a := fun v2087 k0_hw31 r => k0_hw31.1 r
theorem k0_off111_wordsbf16 : ∀ (v2087 : BitVec 32) (k0_hw31 : k0_chk31 v2087), ∀ (r : Fin 4), (Rect.unit (s := S65536x512) (k0_off111 v2087 (BitVec.ofNat 32 (512 * r.val))) S512x512.size (k0_off111_inb v2087 k0_hw31 r)).WholeWords (EltTy.packing .bf16) := fun v2087 k0_hw31 r => k0_hw31.2.1 r (k0_off111_inb v2087 k0_hw31 r)
theorem k0_off118_inb : ∀ (v2087 : BitVec 32) (k0_hw31 : k0_chk31 v2087), ∀ a, (k0_off118 v2087) a + S512x512.size a ≤ S65536x512.size a := fun v2087 k0_hw31 => k0_hw31.2.2.1
theorem k0_off118_wordsbf16 : ∀ (v2087 : BitVec 32) (k0_hw31 : k0_chk31 v2087), (Rect.unit (s := S65536x512) (k0_off118 v2087) S512x512.size (k0_off118_inb v2087 k0_hw31)).WholeWords (EltTy.packing .bf16) := fun v2087 k0_hw31 => k0_hw31.2.2.2.1 (k0_off118_inb v2087 k0_hw31)
theorem k0_off120_inb : ∀ (v2087 : BitVec 32) (k0_hw31 : k0_chk31 v2087), ∀ (r : Fin 3), ∀ a, (k0_off120 v2087 (BitVec.ofNat 32 (512 + 512 * r.val))) a + S512x512.size a ≤ S65536x512.size a := fun v2087 k0_hw31 r => k0_hw31.2.2.2.2.1 r
theorem k0_off120_wordsbf16 : ∀ (v2087 : BitVec 32) (k0_hw31 : k0_chk31 v2087), ∀ (r : Fin 3), (Rect.unit (s := S65536x512) (k0_off120 v2087 (BitVec.ofNat 32 (512 + 512 * r.val))) S512x512.size (k0_off120_inb v2087 k0_hw31 r)).WholeWords (EltTy.packing .bf16) := fun v2087 k0_hw31 r => k0_hw31.2.2.2.2.2.1 r (k0_off120_inb v2087 k0_hw31 r)
theorem k0_off158_inb : ∀ (v2087 : BitVec 32) (k0_hw31 : k0_chk31 v2087), ∀ (r : Fin 4), ∀ a, (k0_off158 v2087 (BitVec.ofNat 32 (512 * r.val))) a + S512x512.size a ≤ S65536x512.size a := fun v2087 k0_hw31 r => k0_hw31.2.2.2.2.2.2.1 r
theorem k0_off158_wordsbf16 : ∀ (v2087 : BitVec 32) (k0_hw31 : k0_chk31 v2087), ∀ (r : Fin 4), (Rect.unit (s := S65536x512) (k0_off158 v2087 (BitVec.ofNat 32 (512 * r.val))) S512x512.size (k0_off158_inb v2087 k0_hw31 r)).WholeWords (EltTy.packing .bf16) := fun v2087 k0_hw31 r => k0_hw31.2.2.2.2.2.2.2 r (k0_off158_inb v2087 k0_hw31 r)

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S65536x512 : Shape := ⟨2, ![65536, 512]⟩

abbrev nBuf : Space → Nat
  | .hbm => 1
  | .vmem => 0
  | .smem => 0
  | _ => 0

abbrev bufTy : (tb : Table) → Fin (tcTables nBuf tb) → BufTy
  | .hbm, ⟨0, _⟩ => ⟨S65536x512, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ring.lean ====
/-
The ring: which device stands where, the words the two tables hold, and the addresses and devices the kernel
computes from them.
-/
module

public import proofs.«01_k».proof.Proof.Gen.KernelIdeal

@[expose] public section

noncomputable section

namespace Cert.Proof

open Idealize.ShloMosaic Idealize.SL.Sem
open Cert.KernelIdeal

/-- The device at ring position `p`, as the first table has it. -/
def perm (p : Fin 32) : Dev nD := ⟨(lit0 p).toNat % 32, Nat.mod_lt _ (by decide)⟩
/-- The ring position of device `c`, as the second table has it. -/
def pos (c : Dev nD) : Fin 32 := ⟨(lit1 c).toNat % 32, Nat.mod_lt _ (by decide)⟩
/-- A device's number as a word. -/
def word (c : Dev nD) : BitVec 32 := BitVec.ofNat 32 c.val
/-- A device's ring position as a word. -/
def posWord (c : Dev nD) : BitVec 32 := BitVec.ofNat 32 (pos c).val

theorem lit0_eq : ∀ p : Fin 32, lit0 p = word (perm p) := by decide +kernel
theorem lit1_eq : ∀ c : Dev nD, lit1 c = posWord c := by decide +kernel
theorem perm_pos : ∀ c : Dev nD, perm (pos c) = c := by decide +kernel
theorem pos_perm : ∀ p : Fin 32, pos (perm p) = p := by decide +kernel

/-- The position `n` steps back (direction 0) or ahead (direction 1) of `p`. -/
def step (d : Fin 2) (n : ℕ) (p : Fin 32) : Fin 32 := if d = 0 then p - Fin.ofNat 32 n else p + Fin.ofNat 32 n

/-- The neighbour device `c` sends to in direction `d`. -/
def nbr (c : Dev nD) (d : Fin 2) : Dev nD := perm (if d = 0 then pos c + 1 else pos c - 1)
/-- The device whose block `c` sends in direction `d` at hop `h`. -/
def orig (c : Dev nD) (d : Fin 2) (h : ℕ) : Dev nD := perm (step d h (pos c))
/-- The other direction. -/
def opp (d : Fin 2) : Fin 2 := if d = 0 then 1 else 0

theorem nbr_opp : ∀ (c : Dev nD) (d : Fin 2), nbr (nbr c d) (opp d) = c := by decide +kernel
theorem nbr_opp' : ∀ (c : Dev nD) (d : Fin 2), nbr (nbr c (opp d)) d = c := by decide +kernel
theorem nbr_ne : ∀ (c : Dev nD), nbr c 0 ≠ nbr c 1 := by decide +kernel
theorem orig_zero : ∀ (c : Dev nD) (d : Fin 2), orig c d 0 = c := by decide +kernel
theorem orig_nbr_lt : ∀ (h : Fin 16) (c : Dev nD) (d : Fin 2), orig (nbr c d) d (h.val + 1) = orig c d h.val := by
  decide +kernel

/-! ## The checks -/

/-- A region's row and column: sub-block `s` of device `o`'s block. -/
def regOff (o : Dev nD) (s : Fin 4) : Fin 2 → ℕ := ![2048 * o.val + 512 * s.val, 0]

theorem regOff_eq : ∀ (o : Dev nD) (s : Fin 4), k0_off6 (word o) (BitVec.ofNat 32 (512 * s.val)) = regOff o s := by
  decide +kernel
theorem devOf_eq : ∀ o : Dev nD, k0_dev1 (word o) = o.val := by decide +kernel

theorem chk1 : ∀ c : Dev nD, k0_chk1 (posWord c) := by decide +kernel
theorem chk2 : ∀ o : Dev nD, k0_chk2 (word o) := by decide +kernel
theorem chk3 : ∀ o : Dev nD, k0_chk3 (word o) := by decide +kernel
theorem chk4 : ∀ o : Dev nD, k0_chk4 (word o) := by decide +kernel

end Cert.Proof
-- ==== Proof.Plan.lean ====
/-
The plan of the transfers: the slots (one per transfer a device starts, and as many it receives), the region each one
moves, and the time at which a device starts it, waits for its arrival, and waits for its departure.
-/
module

public import proofs.«01_k».proof.Proof.Ring

@[expose] public section

noncomputable section

namespace Cert.Proof

open Idealize.ShloMosaic Idealize.SL.Sem
open Cert.KernelIdeal

/-- A direction and a semaphore number. -/
abbrev Pair : Type := Fin 2 × Fin 64

/-- The hop of a semaphore number, -/
def hop (i : Pair) : ℕ := i.2.val / 4
/-- and its quarter of the block. -/
def sub (i : Pair) : Fin 4 := ⟨i.2.val % 4, Nat.mod_lt _ (by decide)⟩

/-- The semaphores a transfer uses: all four quarters before the last hop, and at the last hop the first two in
    direction 0 and the last two in direction 1. -/
def used (i : Pair) : Prop := hop i < 15 ∨ (sub i).val / 2 = i.1.val

instance used.dec : DecidablePred used := fun i => inferInstanceAs (Decidable (hop i < 15 ∨ (sub i).val / 2 = i.1.val))

/-- The transfers a device starts; as many arrive at it. -/
abbrev Slot : Type := {i : Pair // used i}

/-! ## Times -/

/-- When a device starts the transfer. -/
def tS (i : Pair) : ℕ :=
  if hop i = 0 then 4 * i.1.val + (sub i).val
  else if hop i < 15 then 9 + 2 * (8 * (hop i - 1) + 4 * i.1.val + (sub i).val)
  else 233 + 2 * (sub i).val

/-- The transfer that passes on what this one brings. -/
def next (i : Pair) : Pair := (i.1, i.2 + 4)
/-- Whether what the transfer brings is passed on. -/
def passed (i : Pair) : Prop := hop i < 15 ∧ used (next i)
instance passed.dec : DecidablePred passed := fun i => inferInstanceAs (Decidable (hop i < 15 ∧ used (next i)))

/-- When a device waits for the transfer to arrive: just before passing it on, or after all its own starts. -/
def tR (i : Pair) : ℕ :=
  if passed i then tS (next i) - 1
  else if hop i < 15 then (if i.1 = 0 then 238 + (sub i).val else 242 + (sub i).val)
  else 244 + (sub i).val

/-- When a device waits for its transfer to have left. -/
def tW (i : Pair) : ℕ :=
  if hop i < 15 then 248 + (8 * hop i + 4 * i.1.val + (sub i).val) else 368 + (sub i).val

/-- When what the transfer carries has arrived: from the second hop on, just before it starts. -/
def tA (i : Pair) : ℕ := tS i - 1

theorem tS_inj : ∀ i j : Slot, tS i = tS j → i = j := by decide +kernel
theorem tR_inj : ∀ i j : Slot, tR i = tR j → i = j := by decide +kernel
theorem tW_inj : ∀ i j : Slot, tW i = tW j → i = j := by decide +kernel
theorem tR_lt_tW : ∀ i j : Slot, tR i < tW j := by decide +kernel
theorem tS_lt_tW : ∀ i j : Slot, tS i < tW j := by decide +kernel
theorem tS_ne_tR : ∀ i j : Slot, tS i ≠ tR j := by decide +kernel
/-- What a transfer of a later hop carries arrives when its predecessor does. -/
theorem tA_eq : ∀ i j : Slot, hop j ≠ 0 → tA j = tR i → passed i ∧ j.1 = next i := by decide +kernel
theorem tA_next : ∀ i : Slot, passed i → tA (next i) = tR i ∧ tS (next i) = tR i + 1 ∧ hop (next i) = hop i + 1 ∧ sub (next i) = sub i := by
  decide +kernel
theorem tA_ne_tS : ∀ i j : Slot, hop j ≠ 0 → tA j ≠ tS i := by decide +kernel
theorem tA_lt : ∀ i : Slot, hop i ≠ 0 → tA i + 1 = tS i := by decide +kernel
theorem tR_lt : ∀ i : Slot, tR i < 248 := by decide +kernel
theorem tS_lt : ∀ i : Slot, tS i < 240 := by decide +kernel
theorem tW_ge : ∀ i : Slot, 248 ≤ tW i ∧ tW i < 372 := by decide +kernel
/-- A transfer not yet started when another is waited for is of a later hop. -/
theorem later_hop : ∀ i j : Slot, tR i ≤ tS j → hop i < hop j := by decide +kernel

/-! ## Regions -/

/-- The region transfer `i` fills on the device `c` it arrives at. -/
def arr (c : Dev nD) (i : Pair) : Dev nD × Fin 4 := (orig c i.1 (hop i + 1), sub i)
/-- The region transfer `i` takes from the device `c` it leaves, and fills on its target. -/
def dep (c : Dev nD) (i : Pair) : Dev nD × Fin 4 := (orig c i.1 (hop i), sub i)

theorem arr_nbr (c : Dev nD) (i : Pair) : arr (nbr c i.1) i = dep c i := by
  have h : hop i < 16 := by unfold hop; omega
  unfold arr dep
  rw [orig_nbr_lt ⟨hop i, h⟩ c i.1]
theorem dep_next (c : Dev nD) (i : Slot) (h : passed i) : dep c (next i) = arr c i := by
  unfold arr dep
  rw [(tA_next i h).2.2.1, (tA_next i h).2.2.2]; rfl

/-- The slot whose arrival fills a region of device `c`, or the quarter of `c`'s own block that it is. -/
def place (c : Dev nD) (o : Dev nD × Fin 4) : Fin 4 ⊕ Slot :=
  let b := (pos c - pos o.1).val
  let i : Pair := if b < 16 ∨ (b = 16 ∧ o.2.val < 2) then (0, Fin.ofNat 64 (4 * (b - 1) + o.2.val))
    else (1, Fin.ofNat 64 (4 * (31 - b) + o.2.val))
  if o.1 = c then .inl o.2 else if h : used i then .inr ⟨i, h⟩ else .inl o.2
/-- The region a quarter of the own block is, or an arrival fills. -/
def region (c : Dev nD) : Fin 4 ⊕ Slot → Dev nD × Fin 4
  | .inl s => (c, s)
  | .inr i => arr c i

theorem region_place : ∀ (c : Dev nD) (o : Dev nD × Fin 4), region c (place c o) = o := by decide +kernel
theorem place_own : ∀ (c : Dev nD) (s : Fin 4), place c (region c (.inl s)) = .inl s := by decide +kernel
theorem place_arr : ∀ (c : Dev nD) (i : Slot), place c (region c (.inr i)) = .inr i := by decide +kernel

/-- The quarters of the own block and the arrivals are all the regions, each once. -/
def regions (c : Dev nD) : Fin 4 ⊕ Slot ≃ Dev nD × Fin 4 where
  toFun := region c
  invFun := place c
  left_inv x := by cases x with
    | inl s => exact place_own c s
    | inr i => exact place_arr c i
  right_inv := region_place c

end Cert.Proof
-- ==== Proof.Region.lean ====
/-
The gathered array and its regions: 128 bands of 512 rows, four to a device's block. What a copy of a region lands,
and the array and a block as the star of their regions.
-/
module

public import proofs.«01_k».proof.Proof.Plan
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

/-- The resources: the pipeline's copy and the transfers'. -/
abbrev UU : Type := UR sig nD τ × URounds (GSem nD τ sig) (Fin 2)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) := embR

/-! ## The views -/

theorem regOff_inb (o : Dev nD) (s : Fin 4) : ∀ a, regOff o s a + S512x512.size a ≤ S65536x512.size a := by
  have ho : o.val < 32 := o.isLt
  refine Fin.forall_fin_two.mpr ⟨?_, le_refl _⟩
  show 2048 * o.val + 512 * s.val + 512 ≤ 65536
  omega

/-- Band `s` of device `o`'s block, of the gathered array. -/
abbrev reg (p : Dev nD × Fin 4) : Memref sig .tc .hbm S512x512 .bf16 :=
  (Memref.whole main_v1).slice (Rect.unit (s := S65536x512) (regOff p.1 p.2) S512x512.size (regOff_inb p.1 p.2)) (fun _ => rfl)

/-- Device `c`'s own block of the gathered array. -/
abbrev blk (c : Dev nD) : Memref sig .tc .hbm S2048x512 .bf16 :=
  (Memref.whole main_v1).slice (Rect.unit (s := S65536x512) (k0_off4 c) S2048x512.size (k0_off4_inb c)) (fun _ => rfl)

/-- The gathered array's contents. -/
abbrev Arr (F : FTy → Type) [FloatOps F] : Type := S65536x512.Idx → Elt F .bf16
/-- A block's. -/
abbrev Blk (F : FTy → Type) [FloatOps F] : Type := S2048x512.Idx → Elt F .bf16

/-- The blocks one under the other. -/
def gathered (X : Dev nD → Blk F) : Arr F := fun i =>
  X ⟨(i 0).val / 2048, Nat.div_lt_of_lt_mul (i 0).isLt⟩ (fun a => match a with
    | 0 => ⟨(i 0).val % 2048, Nat.mod_lt _ (by decide)⟩
    | 1 => ⟨(i 1).val, (i 1).isLt⟩)

theorem mem_reg (p : Dev nD × Fin 4) (i : S65536x512.Idx) :
    i ∈ (reg p).view.set ↔ 2048 * p.1.val + 512 * p.2.val ≤ (i 0).val ∧ (i 0).val < 2048 * p.1.val + 512 * p.2.val + 512 := by
  rw [show (reg p).view.set = (Rect.unit (s := S65536x512) (regOff p.1 p.2) S512x512.size (regOff_inb p.1 p.2)).set from
    View.set_slice_whole main_v1 _, Rect.mem_set_unit]
  refine Fin.forall_fin_two.trans ⟨fun h => ⟨h.1.1, h.1.2⟩, fun h => ⟨⟨h.1, h.2⟩, Nat.zero_le _, (i 1).isLt.trans_eq (Nat.zero_add _).symm⟩⟩

theorem mem_blk (c : Dev nD) (i : S65536x512.Idx) :
    i ∈ (blk c).view.set ↔ 2048 * c.val ≤ (i 0).val ∧ (i 0).val < 2048 * c.val + 2048 := by
  rw [show (blk c).view.set = (Rect.unit (s := S65536x512) (k0_off4 c) S2048x512.size (k0_off4_inb c)).set from
    View.set_slice_whole main_v1 _, Rect.mem_set_unit]
  have h0 : k0_off4 c = ![2048 * c.val, 0] := Gen.k0_off4_eq c
  rw [h0]
  refine Fin.forall_fin_two.trans ⟨fun h => ⟨h.1.1, h.1.2⟩, fun h => ⟨⟨h.1, h.2⟩, Nat.zero_le _, (i 1).isLt.trans_eq (Nat.zero_add _).symm⟩⟩

theorem reg_disjoint (p q : Dev nD × Fin 4) (h : p ≠ q) : Disjoint (reg p).view.set (reg q).view.set := by
  refine Finset.disjoint_left.mpr fun i hp hq => h ?_
  have hp' := (mem_reg p i).mp hp
  have hq' := (mem_reg q i).mp hq
  have h1 := p.2.isLt
  have h2 := q.2.isLt
  exact Prod.ext (Fin.ext (by omega)) (Fin.ext (by omega))

theorem all_regs : (Finset.univ : Finset (Dev nD × Fin 4)).biUnion (fun p => (reg p).view.set) = (Finset.univ : Finset S65536x512.Idx) := by
  refine Finset.eq_univ_of_forall fun i => Finset.mem_biUnion.mpr ?_
  have hi : (i 0).val < 65536 := (i 0).isLt
  have ho : (i 0).val / 2048 < nD := by show _ < 32; omega
  have hs : (i 0).val % 2048 / 512 < 4 := by omega
  refine ⟨(⟨_, ho⟩, ⟨_, hs⟩), Finset.mem_univ _, (mem_reg (⟨_, ho⟩, ⟨_, hs⟩) i).mpr ?_⟩
  dsimp only
  omega

theorem blk_regs (c : Dev nD) : (Finset.univ : Finset (Fin 4)).biUnion (fun s => (reg (c, s)).view.set) = (blk c).view.set := by
  ext i
  refine Finset.mem_biUnion.trans ⟨fun ⟨s, _, h⟩ => (mem_blk c i).mpr ?_, fun h => ?_⟩
  · have := (mem_reg _ i).mp h
    have := s.isLt
    dsimp only at *
    omega
  · have := (mem_blk c i).mp h
    have hs : ((i 0).val - 2048 * c.val) / 512 < 4 := by omega
    refine ⟨⟨_, hs⟩, Finset.mem_univ _, (mem_reg (c, ⟨_, hs⟩) i).mpr ?_⟩
    dsimp only
    omega

/-! ## Ownership -/

/-- Device `c`'s copy of a region, a share `q` of it, at the contents `f` names. -/
abbrev rPts (c : Dev nD) (q : PosShare TreeShare) (p : Dev nD × Fin 4) (f : Arr F) : sProp 𝕄 :=
  (reg p).view.loc (c : Thread nD τ) ↦[(reg p).view.set]{q} f

/-- The array is its regions. -/
theorem arr_split (c : Dev nD) (f : Arr F) :
    ((c : Thread nD τ).loc main_v1 ↦{fullShare} f : sProp 𝕄) = bigSep Finset.univ fun p => rPts c fullShare p f := by
  refine Eq.trans ?_ (pointsTo_biUnion (ℓ := (c : Thread nD τ).loc main_v1) (q := fullShare) (f := f) Finset.univ
    (fun p : Dev nD × Fin 4 => (reg p).view.set) fun p _ q _ h => reg_disjoint p q h)
  rw [all_regs]

/-- Device `c`'s own block is its four bands. -/
theorem blk_split (c : Dev nD) (f : Arr F) :
    ((blk c).view.loc (c : Thread nD τ) ↦[(blk c).view.set]{fullShare} f : sProp 𝕄) = bigSep Finset.univ fun s => rPts c fullShare (c, s) f := by
  refine Eq.trans ?_ (pointsTo_biUnion (ℓ := (c : Thread nD τ).loc main_v1) (q := fullShare) (f := f) Finset.univ
    (fun s : Fin 4 => (reg (c, s)).view.set) fun p _ q _ h => reg_disjoint (c, p) (c, q) fun e => h (Prod.ext_iff.mp e).2)
  rw [blk_regs]

/-- A region is its two halves. -/
theorem rPts_halves (c : Dev nD) (p : Dev nD × Fin 4) (f : Arr F) :
    (rPts c fullShare p f : sProp 𝕄) ⊣⊢ iprop(rPts c fullShare.left p f ∗ rPts c fullShare.right p f) :=
  pointsTo_share (PosShare.mem_left_op_right fullShare)

/-! ## What a copy lands -/

/-- A copy of a region onto the same region of another device's array lands what the source held there. -/
theorem landed (c : Dev nD) (q : PosShare TreeShare) (p : Dev nD × Fin 4) (fd f : Arr F) :
    ((reg p).view.loc (c : Thread nD τ) ↦[(reg p).view.set]{q} ((reg p).view.write (Elt F) fd ((reg p).view.read (Elt F) f) Finset.univ) : sProp 𝕄)
      = rPts c q p f :=
  pointsTo_congr fun i hi => by
    obtain ⟨x, -, rfl⟩ := Finset.mem_map.mp hi
    exact ((reg p).view.write_emb_of_mem (Val := Elt F) fd ((reg p).view.read (Elt F) f) (Finset.mem_univ x))

/-- The copy of a device's block into its own place of the array lands the gathered contents. -/
theorem placed (X : Dev nD → Blk F) (c : Dev nD) (fd : Arr F) :
    ((blk c).view.loc (c : Thread nD τ) ↦[(blk c).view.set]{fullShare}
        ((blk c).view.write (Elt F) fd ((Memref.whole cc0_scratch0 : Memref sig .tc .vmem S2048x512 .bf16).view.read (Elt F) (X c)) Finset.univ) : sProp 𝕄)
      = bigSep Finset.univ fun s => rPts c fullShare (c, s) (gathered X) := by
  rw [← blk_split]
  refine pointsTo_congr fun i hi => ?_
  obtain ⟨x, -, rfl⟩ := Finset.mem_map.mp hi
  refine ((blk c).view.write_emb_of_mem (Val := Elt F) fd _ (Finset.mem_univ x)).trans ?_
  have h0 : k0_off4 c = ![2048 * c.val, 0] := Gen.k0_off4_eq c
  have hx0 : (x 0).val < 2048 := (x 0).isLt
  have e0 : (((blk c).view.emb x) 0).val = 2048 * c.val + (x 0).val := by
    show k0_off4 c 0 + 1 * (x 0).val = _
    rw [h0, Nat.one_mul]; rfl
  have e1 : (((blk c).view.emb x) 1).val = (x 1).val := by
    show k0_off4 c 1 + 1 * (x 1).val = _
    rw [h0, Nat.one_mul]; exact Nat.zero_add _
  show X c x = X _ _
  have hc : c = ⟨(((blk c).view.emb x) 0).val / 2048, Nat.div_lt_of_lt_mul (((blk c).view.emb x) 0).isLt⟩ := Fin.ext (by
    show c.val = _ / 2048
    rw [e0]; omega)
  rw [← hc]
  refine congrArg (X c) (funext (Fin.forall_fin_two.mpr ⟨Fin.ext ?_, Fin.ext ?_⟩))
  · show (x 0).val = _ % 2048
    rw [e0]; omega
  · exact e1.symm

end Cert.Proof
-- ==== Proof.Sched.lean ====
/-
The semaphores, and what each hands over: a device's barrier cell the regions its two neighbours lend it; a send cell
its source back; a receive cell the region that has arrived, at the gathered contents; the local cell the own block.
-/
module

public import proofs.«01_k».proof.Proof.Region

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

/-! ## The semaphores -/

abbrev barS : Sem sig := sig.barrier 0 rfl
abbrev locS : DmaSem sig := (⟨3, by decide⟩ : Fin 260)
def sendS (i : Pair) : DmaSem sig := (⟨4 + (64 * i.1.val + i.2.val), by have := i.1.isLt; have := i.2.isLt; omega⟩ : Fin 260)
def recvS (i : Pair) : DmaSem sig := (⟨132 + (64 * i.1.val + i.2.val), by have := i.1.isLt; have := i.2.isLt; omega⟩ : Fin 260)

/-- The scoped semaphores in use: the local copy's, and a send and a receive semaphore per slot. -/
abbrev Own : Type := Unit ⊕ Slot ⊕ Slot
def osem : Own → SemLoc sig
  | .inl _ => .dma locS
  | .inr (.inl i) => .dma (sendS i)
  | .inr (.inr i) => .dma (recvS i)

/-- With the barrier's. -/
abbrev Cell : Type := Unit ⊕ Own
def csem : Cell → SemLoc sig
  | .inl _ => .reg barS
  | .inr o => osem o

/-- Which cell a semaphore is. -/
def kind : SemLoc sig → Option Cell
  | .reg _ => some (.inl ())
  | .dma n =>
    if n.val = 3 then some (.inr (.inl ()))
    else if 4 ≤ n.val ∧ n.val < 132 then
      (let i : Pair := (Fin.ofNat 2 ((n.val - 4) / 64), Fin.ofNat 64 ((n.val - 4) % 64))
       if h : used i then some (.inr (.inr (.inl ⟨i, h⟩))) else none)
    else if 132 ≤ n.val then
      (let i : Pair := (Fin.ofNat 2 ((n.val - 132) / 64), Fin.ofNat 64 ((n.val - 132) % 64))
       if h : used i then some (.inr (.inr (.inr ⟨i, h⟩))) else none)
    else none

instance Own.decEq : DecidableEq Own := inferInstance
instance Cell.decEq : DecidableEq Cell := inferInstance

theorem kind_send : ∀ i : Slot, kind (.dma (sendS i)) = some (.inr (.inr (.inl i))) := by decide +kernel
theorem kind_recv : ∀ i : Slot, kind (.dma (recvS i)) = some (.inr (.inr (.inr i))) := by decide +kernel
theorem kind_csem : ∀ k : Cell, kind (csem k) = some k
  | .inl _ => rfl
  | .inr (.inl _) => rfl
  | .inr (.inr (.inl i)) => kind_send i
  | .inr (.inr (.inr i)) => kind_recv i
theorem csem_inj : Function.Injective csem := fun a b h =>
  Option.some.inj ((kind_csem a).symm.trans ((congrArg kind h).trans (kind_csem b)))
theorem osem_inj : Function.Injective osem := fun a b h => Sum.inr.inj (csem_inj (a₁ := .inr a) (a₂ := .inr b) h)

/-- Where a one-element slice of a semaphore array lies in the array. -/
theorem sem_index (d k : ℕ) (inb) (j : S1x1.Idx) :
    (S2x64.rowMajor ((Rect.unit (s := S2x64) ![d, k] S1x1.size inb).emb j)).val = 64 * d + k := by
  refine (Shape.rowMajor_val_two _).trans ?_
  have h0 : (j 0).val < 1 := (j 0).isLt
  have h1 : (j 1).val < 1 := (j 1).isLt
  show (d + 1 * (j 0).val) * 64 + (k + 1 * (j 1).val) = 64 * d + k
  omega
/-- The semaphore the kernel's slices of its semaphore arrays name. -/
theorem send_sem (d k : ℕ) (hd : d < 2) (hk : k < 64) (inb) :
    ((cc0_scratch2.slice (Rect.unit (s := S2x64) ![d, k] S1x1.size inb)).squeeze S_ squeezes_S1x1_S_).sem = sendS (⟨d, hd⟩, ⟨k, hk⟩) :=
  Fin.ext (congrArg (4 + ·) (sem_index d k inb _))
theorem recv_sem (d k : ℕ) (hd : d < 2) (hk : k < 64) (inb) :
    ((cc0_scratch3.slice (Rect.unit (s := S2x64) ![d, k] S1x1.size inb)).squeeze S_ squeezes_S1x1_S_).sem = recvS (⟨d, hd⟩, ⟨k, hk⟩) :=
  Fin.ext (congrArg (132 + ·) (sem_index d k inb _))
theorem loc_sem : (cc0_scratch1 : DmaSems sig S_).sem = locS := by decide +kernel

abbrev cell (c : Dev nD) (k : Cell) : GSem nD τ sig := ((c : Thread nD τ), csem k)
abbrev barCell (c : Dev nD) : GSem nD τ sig := ((c : Thread nD τ), .reg barS)
abbrev locCell (c : Dev nD) : GSem nD τ sig := ((c : Thread nD τ), .dma locS)
abbrev sendCell (c : Dev nD) (i : Pair) : GSem nD τ sig := ((c : Thread nD τ), .dma (sendS i))
abbrev recvCell (c : Dev nD) (i : Pair) : GSem nD τ sig := ((c : Thread nD τ), .dma (recvS i))

/-! ## The amounts -/

/-- What a region's transfer signals, -/
@[irreducible] def NR : ℕ := (reg (0, 0)).view.dmaCredit
/-- and the own block's copy. -/
@[irreducible] def NL : ℕ := (blk 0).view.dmaCredit
theorem NR_eq (p : Dev nD × Fin 4) (s : DmaSem sig) : (reg p).view.amount (.dma s) = NR := by unfold NR; rfl
theorem NL_eq (c : Dev nD) (s : DmaSem sig) : (blk c).view.amount (.dma s) = NL := by unfold NL; rfl
theorem NR_pos : 0 < NR := by unfold NR; exact View.dmaCredit_pos _ (by decide)
theorem NL_pos : 0 < NL := by unfold NL; exact View.dmaCredit_pos _ (by decide)

/-! ## The payloads -/

variable (X : Dev nD → Blk F)

/-- The share of its source a transfer takes: the first hop's source goes both ways, a half each. -/
def share (i : Pair) : PosShare TreeShare :=
  if hop i = 0 then (if i.1 = 0 then fullShare.left else fullShare.right) else fullShare

/-- A transfer's source, at the gathered contents; -/
abbrev src (c : Dev nD) (i : Pair) : sProp 𝕄 := rPts c (share i) (dep c i) (gathered X)
/-- what has arrived; -/
abbrev got (c : Dev nD) (i : Pair) : sProp 𝕄 := rPts c fullShare (arr c i) (gathered X)
/-- the place on the target it goes to, and that the cell there is in use. -/
abbrev lent (c : Dev nD) (i : Pair) : sProp 𝕄 :=
  iprop((∃ f, rPts (F := F) (nbr c i.1) fullShare (dep c i) f) ∗ reached ER (recvCell (nbr c i.1) i) 0)

/-- The scratch buffer at a device's own block. -/
abbrev scr (c : Dev nD) (f : Blk F) : sProp 𝕄 :=
  (Memref.whole cc0_scratch0 : Memref sig .tc .vmem S2048x512 .bf16).view.loc (c : Thread nD τ) ↦[(Memref.whole cc0_scratch0 : Memref sig .tc .vmem S2048x512 .bf16).view.set]{fullShare} f

/-- What the neighbour in direction `d` lends device `c`: the places for what `c` sends it. -/
def barPay (c : Dev nD) (d : Fin 2) : sProp 𝕄 :=
  bigSep Finset.univ fun i : Slot => if i.1.1 = d then lent (F := F) c i else iprop(emp)
/-- The own block in its place, and the scratch buffer back. -/
def locPay (c : Dev nD) : sProp 𝕄 :=
  iprop((bigSep Finset.univ fun s : Fin 4 => rPts c fullShare (c, s) (gathered X)) ∗ scr c (X c))

def pay (c : Dev nD) (d : Fin 2) : Cell → sProp 𝕄
  | .inl _ => barPay (F := F) c d
  | .inr (.inl _) => locPay X c
  | .inr (.inr (.inl i)) => src X c i
  | .inr (.inr (.inr i)) => got X c i

theorem lent_storable (c : Dev nD) (d : Fin 2) (i : Slot) :
    BI.Storable (upEmb : UEmb _ 𝕄) (if i.1.1 = d then lent (F := F) c i else iprop(emp)) := by split <;> infer_instance
theorem barPay_storable (c : Dev nD) (d : Fin 2) : BI.Storable (upEmb : UEmb _ 𝕄) (barPay (F := F) c d) := by
  have := lent_storable (F := F) c d
  unfold barPay; infer_instance
theorem locPay_storable (c : Dev nD) : BI.Storable (upEmb : UEmb _ 𝕄) (locPay X c) := by unfold locPay; infer_instance

instance pay_storable (c : Dev nD) (d : Fin 2) : ∀ k : Cell, BI.Storable (upEmb : UEmb _ 𝕄) (pay X c d k)
  | .inl _ => barPay_storable c d
  | .inr (.inl _) => locPay_storable X c
  | .inr (.inr (.inl i)) => inferInstanceAs (BI.Storable (upEmb : UEmb _ 𝕄) (src X c i))
  | .inr (.inr (.inr i)) => inferInstanceAs (BI.Storable (upEmb : UEmb _ 𝕄) (got X c i))

def amt : Cell → ℕ
  | .inl _ => 1
  | .inr (.inl _) => NL
  | .inr (.inr _) => NR
theorem amt_pos : ∀ k : Cell, 0 < amt k
  | .inl _ => Nat.one_pos
  | .inr (.inl _) => NL_pos
  | .inr (.inr _) => NR_pos

def due : Cell → Finset (Fin 2)
  | .inl _ => Finset.univ
  | .inr _ => {0}

/-- One round on every cell in use. -/
def sched : Rounds.Schedule (GSem nD τ sig) (Fin 2) 𝕄 where
  duties g r := if r = 0 ∧ g.1.2 = .tc then (match kind g.2 with | some k => due k | none => ∅) else ∅
  amount g _ _ := match kind g.2 with | some k => amt k | none => 1
  payload g _ d := match kind g.2 with | some k => pay X g.1.1 d k | none => iprop(emp)
  amount_pos g _ _ _ := by cases kind g.2 with
    | none => exact Nat.one_pos
    | some k => exact amt_pos k

instance sched_storable (g : GSem nD τ sig) (r : ℕ) (d : Fin 2) :
    BI.Storable (upEmb : UEmb _ 𝕄) ((sched X).payload g r d) := by
  dsimp only [sched]
  cases kind g.2 <;> infer_instance

section

variable (c : Dev nD) (k : Cell)

theorem duties_eq : (sched X).duties (cell c k) 0 = due k := by
  dsimp only [sched]; rw [if_pos ⟨rfl, rfl⟩, kind_csem]
theorem duties_later (g : GSem nD τ sig) : ∀ r, 1 ≤ r → (sched X).duties g r = ∅ := fun r hr => by
  dsimp only [sched]; rw [if_neg (fun h => by omega)]
theorem amount_eq (d : Fin 2) : (sched X).amount (cell c k) 0 d = amt k := by
  dsimp only [sched]; rw [kind_csem]
theorem payload_eq (d : Fin 2) : (sched X).payload (cell c k) 0 d = pay X c d k := by
  dsimp only [sched]; rw [kind_csem]

theorem expect_own (o : Own) : (sched X).expect (cell c (.inr o)) 0 = amt (.inr o) := by
  unfold Schedule.expect Schedule.amountOf
  rw [duties_eq, show due (.inr o) = {0} from rfl, Finset.sum_singleton, amount_eq]
theorem expect_bar : (sched X).expect (barCell c) 0 = 2 := by
  unfold Schedule.expect Schedule.amountOf
  rw [show barCell c = cell c (.inl ()) from rfl, duties_eq, show due (.inl ()) = Finset.univ from rfl,
    Finset.sum_congr rfl fun d _ => amount_eq X c (.inl ()) d]
  rfl
theorem rest_own (o : Own) : bigSep ((sched X).duties (cell c (.inr o)) 0 \ ∅) (fun d => (sched X).payload (cell c (.inr o)) 0 d) = pay X c 0 (.inr o) := by
  rw [Finset.sdiff_empty, duties_eq, show due (.inr o) = {0} from rfl, bigSep_singleton, payload_eq]
theorem rest_bar : bigSep ((sched X).duties (barCell c) 0 \ ∅) (fun d => (sched X).payload (barCell c) 0 d)
    = bigSep Finset.univ fun i : Slot => lent (F := F) c i := by
  rw [Finset.sdiff_empty, show barCell c = cell c (.inl ()) from rfl, duties_eq, show due (.inl ()) = Finset.univ from rfl,
    bigSep_congr fun d _ => payload_eq X c (.inl ()) d, bigSep_fin_two]
  show iprop(barPay c 0 ∗ barPay c 1) = _
  unfold barPay
  refine (bigSep_sep' _ _ _).symm.trans (bigSep_congr fun i _ => ?_)
  obtain ⟨⟨d, k⟩, h⟩ := i
  revert d
  refine Fin.forall_fin_two.mpr ⟨fun h _ => ?_, fun h _ => ?_⟩
  · rw [if_pos rfl, if_neg (by show ¬(0 : Fin 2) = 1; decide)]; exact BI.equiv_iff.mp sep_emp
  · rw [if_pos rfl, if_neg (by show ¬(1 : Fin 2) = 0; decide)]; exact BI.equiv_iff.mp emp_sep

end

end Cert.Proof
-- ==== Proof.State.lean ====
/-
What a device holds at each time: per transfer it starts, the tokens and the place lent before it starts, the credit
while it is under way, the source once it has left; per transfer it awaits, the credit before and what arrived after;
and what it still owes its neighbours.
-/
module

public import proofs.«01_k».proof.Proof.Sched

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

abbrev 𝒱₀ : Variants := Variants.none

/-! ## Levels -/

def L (g : GSem nD τ sig) : Finset Unit := if g.1.2 = .tc then {()} else ∅
/-- The barrier at 1, a receive cell above those of earlier hops, the rest at 0. -/
def cellLv : Cell → ℕ
  | .inl _ => 1
  | .inr (.inl _) => 0
  | .inr (.inr (.inl _)) => 0
  | .inr (.inr (.inr i)) => hop i + 2
def lv (g : GSem nD τ sig) (_ : Unit) : ℕ := match kind g.2 with | some k => cellLv k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cell) (u : Unit) : lv (cell c k) u = cellLv k := by
  unfold lv; rw [kind_csem]

/-! ## What is owed -/

/-- The arrivals a device owes its neighbours at time `n`: those of the transfers it has not started. -/
def owed (c : Dev nD) (n : ℕ) : CellTallies nD τ sig Unit :=
  ∑ i ∈ Finset.univ.filter (fun i : Slot => n ≤ tS i), tallyAt (recvCell (nbr c i.1.1) i) () NR

theorem owed_start (c : Dev nD) (i : Slot) : owed c (tS i) = owed c (tS i + 1) + tallyAt (recvCell (nbr c i.1.1) i) () NR := by
  unfold owed
  rw [show (Finset.univ.filter fun j : Slot => tS i ≤ tS j) = insert i (Finset.univ.filter fun j : Slot => tS i + 1 ≤ tS j) from ?_,
    Finset.sum_insert (by simp only [Finset.mem_filter, Finset.mem_univ, true_and]; omega), add_comm]
  ext j
  simp only [Finset.mem_filter, Finset.mem_univ, true_and, Finset.mem_insert]
  refine ⟨fun h => ?_, fun h => ?_⟩
  · by_cases e : tS i = tS j
    · exact Or.inl (tS_inj i j e).symm
    · exact Or.inr (by omega)
  · rcases h with rfl | h
    · exact le_refl _
    · omega
theorem owed_same (c : Dev nD) (n : ℕ) (h : ∀ i : Slot, tS i ≠ n) : owed c (n + 1) = owed c n := by
  unfold owed
  refine Finset.sum_congr (Finset.filter_congr fun j _ => ?_) fun _ _ => rfl
  have := h j
  omega
theorem owed_none (c : Dev nD) (n : ℕ) (h : 240 ≤ n) : owed c n = 0 := by
  unfold owed
  refine Finset.sum_eq_zero fun j hj => ?_
  have := tS_lt j
  have := (Finset.mem_filter.mp hj).2
  omega
theorem owed_pos (c : Dev nD) (n : ℕ) (g : GSem nD τ sig) (u : Unit) (h : 0 < owed c n g u) :
    ∃ i : Slot, n ≤ tS i ∧ g = recvCell (nbr c i.1.1) i := by
  by_contra hn
  have hz : ∀ i ∈ Finset.univ.filter (fun i : Slot => n ≤ tS i), tallyAt (recvCell (nbr c i.1.1) i) () NR g u = 0 := fun i hi => by
    rw [tallyAt_apply, if_neg]
    rintro ⟨rfl, -⟩
    exact hn ⟨i, (Finset.mem_filter.mp hi).2, rfl⟩
  have e : owed c n g u = ∑ i ∈ Finset.univ.filter (fun i : Slot => n ≤ tS i), tallyAt (recvCell (nbr c i.1.1) i) () NR g u := by
    unfold owed
    rw [Finset.sum_apply, Finsupp.finset_sum_apply]
  rw [e, Finset.sum_eq_zero hz] at h
  exact absurd h (Nat.lt_irrefl 0)

/-- A wait on a cell below every arrival still owed. -/
theorem mayWait (c : Dev nD) (n : ℕ) (k : Cell) (h : ∀ i : Slot, n ≤ tS i → cellLv k < hop i + 2) :
    (levAts L lv : sProp 𝕄) ⊢ MayWait (c : Thread nD τ) (csem k) () (owed c n) :=
  MayOwe.of_cut (L := L) (lev := lv) (cellLv k)
    (fun p hp => by rw [Finset.mem_singleton.mp hp, L_tc]; exact Finset.mem_singleton_self _)
    (fun g u hg => by obtain ⟨i, -, rfl⟩ := owed_pos c n g u hg; rw [L_tc]; exact Finset.mem_singleton_self _)
    (fun p hp => by rw [Finset.mem_singleton.mp hp]; exact le_of_eq (lv_cell c k _))
    (fun g u hg => by
      obtain ⟨i, hi, rfl⟩ := owed_pos c n g u hg
      exact lt_of_lt_of_eq (h i hi) (lv_cell (nbr c i.1.1) (.inr (.inr (.inr i))) u).symm)

/-! ## The state -/

variable (X : Dev nD → Blk F) (K : Dev nD × Cell → ℕ)

/-- Every cell's invariant, the levels, and that the own send cells are in use. -/
def ctx (c : Dev nD) : sProp 𝕄 :=
  iprop((bigSep Finset.univ fun x : Dev nD × Cell => cellInv ER (sched X) (K x) (cell x.1 x.2)) ∗ levAts L lv
    ∗ bigSep Finset.univ fun i : Slot => reached ER (sendCell c i) 0)
instance ctx_persistent (c : Dev nD) : Persistent (ctx X K c) := by unfold ctx; infer_instance

/-- A transfer the device starts. -/
def sendSt (c : Dev nD) (n : ℕ) (i : Slot) : sProp 𝕄 :=
  if n ≤ tS i then
    iprop((dutyTok ER (sendCell c i) 0 0 ∗ dutyTok ER (recvCell (nbr c i.1.1) i) 0 0 ∗ lent (F := F) c i ∗ atPos ER (sendCell c i) 0 ∅ 0)
      ∗ (if hop i = 0 ∨ tA i < n then src X c i else iprop(emp)))
  else if n ≤ tW i then iprop(cred (tallyAt (sendCell c i) () NR) ∗ atPos ER (sendCell c i) 0 ∅ 0)
  else iprop(atPos ER (sendCell c i) 1 ∅ 0 ∗ src X c i)

/-- A transfer it awaits. -/
def recvSt (c : Dev nD) (n : ℕ) (i : Slot) : sProp 𝕄 :=
  if n ≤ tR i then iprop(cred (tallyAt (recvCell c i) () NR) ∗ atPos ER (recvCell c i) 0 ∅ 0)
  else iprop(atPos ER (recvCell c i) 1 ∅ 0 ∗ (if passed i then iprop(emp) else got X c i))

/-- The ring table in scalar memory, -/
def permTab (c : Dev nD) : sProp 𝕄 := (c : Thread nD τ).loc cc0_stg0_0 ↦{fullShare} fun i : S32.Idx => lit0 (S32.rowMajor i)

/-- All of it, beside what the device keeps throughout. -/
def St (c : Dev nD) (R : sProp 𝕄) (n : ℕ) : sProp 𝕄 :=
  iprop(ctx X K c ∗ permTab c ∗ R ∗ bigSep Finset.univ (sendSt X c n) ∗ bigSep Finset.univ (recvSt X c n)
    ∗ ∃ W, owes (c : Thread nD τ) (owed c n) W)

/-! ## One step's change -/

theorem sendSt_other (c : Dev nD) (n : ℕ) (j : Slot) (h : tS j ≠ n) (h' : hop j ≠ 0 → tA j ≠ n) (h'' : tW j ≠ n) :
    sendSt X c (n + 1) j = sendSt X c n j := by
  unfold sendSt
  have e1 : (n + 1 ≤ tS j) = (n ≤ tS j) := propext (by omega)
  have e2 : (n + 1 ≤ tW j) = (n ≤ tW j) := propext (by omega)
  have e3 : (hop j = 0 ∨ tA j < n + 1) = (hop j = 0 ∨ tA j < n) := propext (by
    by_cases e : hop j = 0
    · simp only [e, true_or]
    · have := h' e
      simp only [e, false_or]; omega)
  simp only [e1, e2, e3]
theorem recvSt_other (c : Dev nD) (n : ℕ) (j : Slot) (h : tR j ≠ n) : recvSt X c (n + 1) j = recvSt X c n j := by
  unfold recvSt
  have e1 : (n + 1 ≤ tR j) = (n ≤ tR j) := propext (by omega)
  simp only [e1]

end Cert.Proof
-- ==== Proof.Steps.lean ====
/-
One rule per operation of the kernel, each taking the state from one time to the next.
-/
module

public import proofs.«01_k».proof.Proof.State

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable (X : Dev nD → Blk F) (K : Dev nD × Cell → ℕ)

theorem cell_inv (c c' : Dev nD) (k : Cell) : ctx X K c ⊢ (cellInv ER (sched X) (K (c', k)) (cell c' k) : sProp 𝕄) := by
  unfold ctx
  exact sep_elim_left.trans (show _ ⊢ _ from bigSep_elim (Φ := fun x : Dev nD × Cell => cellInv ER (sched X) (K x) (cell x.1 x.2))
    (Finset.mem_univ ((c', k) : Dev nD × Cell)))
theorem ctx_mayWait (c : Dev nD) (n : ℕ) (k : Cell) (h : ∀ i : Slot, n ≤ tS i → cellLv k < hop i + 2) :
    ctx X K c ⊢ (MayWait (c : Thread nD τ) (csem k) () (owed c n) : sProp 𝕄) := by
  unfold ctx
  iintro ⟨-, H, -⟩
  iapply (mayWait (F := F) c n k h)
  iexact H
theorem ctx_reached (c : Dev nD) (i : Slot) : ctx X K c ⊢ (reached ER (sendCell c i) 0 : sProp 𝕄) := by
  unfold ctx
  exact sep_elim_right.trans (sep_elim_right.trans (show _ ⊢ _ from
    bigSep_elim (Φ := fun i : Slot => (reached ER (sendCell c i) 0 : sProp 𝕄)) (Finset.mem_univ i)))

variable {α : Type} {n : ℕ} (c : Dev nD)

/-! ## Starting a transfer -/

theorem start_one {R : sProp 𝕄} {Q : α → sProp 𝕄} (i : Slot) (hn : tS i = n) {k : PUnit → Prog (TpuEff nD τ sig (Elt F) Λ₀ .tc) α}
    {hx : (reg (dep c i)).view.ref.isScScratch = false} {hs hd : (reg (dep c i)).view.WordExact}
    {ht : DmaTarget.Typed .hbm (.dma (recvS i)) (.remote (nbr c i.1.1 : Thread nD τ) (reg (dep c i)) (.dma (sendS i)) hx)}
    (h : St X K c R (n + 1) ⊢ wp frame (wpE (defs₀ (F := F)) 𝒱₀ (c : Thread nD τ) none) Set.univ (k ⟨⟩) Q) :
    St X K c R n ⊢ wp frame (wpE (defs₀ (F := F)) 𝒱₀ (c : Thread nD τ) none) Set.univ
      (.op (.enqueueDma (reg (dep c i)) (.remote (nbr c i.1.1 : Thread nD τ) (reg (dep c i)) (.dma (sendS i)) hx) (.dma (recvS i)) hs hd ht) k) Q := by
  subst hn
  unfold St at h ⊢
  iintro ⟨#HC, Hp, HR, Hs, Hr, %W, HO⟩
  have e1 : bigSep Finset.univ (recvSt X c (tS i + 1)) = bigSep Finset.univ (recvSt X c (tS i)) :=
    bigSep_congr fun j _ => recvSt_other X c (tS i) j (fun e => tS_ne_tR i j e.symm)
  ihave Hs' := (bigSep_univ_update (Φ := sendSt X c (tS i)) (Ψ := sendSt X c (tS i + 1)) i fun j hj =>
    sendSt_other X c (tS i) j (fun e => hj (tS_inj j i e)) (fun h0 e => tA_ne_tS i j h0 e) (fun e => absurd (tS_lt_tW i j) (by omega))) $$ Hs
  icases Hs' with ⟨Hi, Hback⟩
  have hA : hop i = 0 ∨ tA i < tS i := by
    by_cases e : hop i = 0
    · exact Or.inl e
    · exact Or.inr (by have := tA_lt i e; omega)
  have eA : sendSt X c (tS i) i = iprop((dutyTok ER (sendCell c i) 0 0 ∗ dutyTok ER (recvCell (nbr c i.1.1) i) 0 0 ∗ lent (F := F) c i ∗ atPos ER (sendCell c i) 0 ∅ 0) ∗ src X c i) := by
    unfold sendSt; rw [if_pos (le_refl _), if_pos hA]
  have eB : sendSt X c (tS i + 1) i = iprop(cred (tallyAt (sendCell c i) () NR) ∗ atPos ER (sendCell c i) 0 ∅ 0) := by
    unfold sendSt; rw [if_neg (by omega), if_pos (by have := tS_lt_tW i i; omega)]
  ihave Hi := (Entails.of_eq eA) $$ Hi
  icases Hi with ⟨⟨HtS, HtR, ⟨⟨%f, Hd⟩, #Hrr⟩, Hat⟩, Hsrc⟩
  ihave #Hrs := (ctx_reached X K c i) $$ HC
  ihave #HIs := (cell_inv X K c c (.inr (.inr (.inl i)))) $$ HC
  ihave #HIr := (cell_inv X K c (nbr c i.1.1) (.inr (.inr (.inr i)))) $$ HC
  iapply (Rounds.wp_send_pointsTo 𝒱₀ ER (sched X) (c : Thread nD τ) none (c' := (nbr c i.1.1 : Thread nD τ)) (src := reg (dep c i)) (dst := reg (dep c i))
      (sS := .dma (sendS i)) (sem := .dma (recvS i)) (q := share i) (fs := gathered X) (κ₁ := K (c, .inr (.inr (.inl i)))) (κ₂ := K (nbr c i.1.1, .inr (.inr (.inr i))))
      (r₁ := 0) (r₂ := 0) (d₁ := 0) (d₂ := 0) (fd := f)
      (by rw [show ((c : Thread nD τ), SemLoc.dma (sendS i)) = cell c (.inr (.inr (.inl i))) from rfl, duties_eq]; exact Finset.mem_singleton_self _)
      (by rw [show ((nbr c i.1.1 : Thread nD τ), SemLoc.dma (recvS i)) = cell (nbr c i.1.1) (.inr (.inr (.inr i))) from rfl, duties_eq]; exact Finset.mem_singleton_self _)
      () () NR (NR_eq _ _) (amount_eq X c (.inr (.inr (.inl i))) 0) (amount_eq X (nbr c i.1.1) (.inr (.inr (.inr i))) 0)
      (owed c (tS i + 1)) (owed_start c i) (W := W)
      (Entails.of_eq (payload_eq X c (.inr (.inr (.inl i))) 0).symm)
      (Entails.of_eq (((landed (nbr c i.1.1) fullShare (dep c i) f (gathered X)).trans (by rw [← arr_nbr]; rfl)).trans (payload_eq X (nbr c i.1.1) (.inr (.inr (.inr i))) 0).symm)))
    $$ [HtS HtR Hd Hsrc HO]
  · isplitr; · iexact HIs
    isplitr; · iexact HIr
    isplitl [Hsrc]; · iexact Hsrc
    isplitl [Hd]; · iexact Hd
    isplitl [HO]; · iexact HO
    isplitl [HtS]; · iexact HtS
    isplitr; · iexact Hrs
    isplitl [HtR]; · iexact HtR
    iexact Hrr
  iintro ⟨Hc, HO⟩
  iapply h
  isplitr; · iexact HC
  isplitl [Hp]; · iexact Hp
  isplitl [HR]; · iexact HR
  isplitl [Hback Hc Hat]
  · iapply Hback
    rw [eB]
    isplitl [Hc] <;> iassumption
  isplitl [Hr]
  · rw [e1]; iexact Hr
  iexists W; iexact HO

/-! ## Waiting for an arrival -/

theorem recv_one {R : sProp 𝕄} {Q : α → sProp 𝕄} (i : Slot) (hn : tR i = n) {k : PUnit → Prog (TpuEff nD τ sig (Elt F) Λ₀ .tc) α} {w : TpuEff nD τ sig (Elt F) Λ₀ .tc PUnit}
    (hw : ∀ G : PUnit → sProp 𝕄, wpE (defs₀ (F := F)) 𝒱₀ (c : Thread nD τ) none Set.univ w G = waitSpec (c : Thread nD τ) Set.univ (.dma (recvS i)) NR G)
    (h : St X K c R (n + 1) ⊢ wp frame (wpE (defs₀ (F := F)) 𝒱₀ (c : Thread nD τ) none) Set.univ (k ⟨⟩) Q) :
    St X K c R n ⊢ wp frame (wpE (defs₀ (F := F)) 𝒱₀ (c : Thread nD τ) none) Set.univ (.op w k) Q := by
  subst hn
  unfold St at h ⊢
  iintro ⟨#HC, Hp, HR, Hs, Hr, %W, HO⟩
  ihave Hr' := (bigSep_univ_update (Φ := recvSt X c (tR i)) (Ψ := recvSt X c (tR i + 1)) i fun j hj =>
    recvSt_other X c (tR i) j (fun e => hj (tR_inj j i e))) $$ Hr
  icases Hr' with ⟨Hi, Hback⟩
  have eA : recvSt X c (tR i) i = iprop(cred (tallyAt (recvCell c i) () NR) ∗ atPos ER (recvCell c i) 0 ∅ 0) := by
    unfold recvSt; rw [if_pos (le_refl _)]
  have eB : recvSt X c (tR i + 1) i = iprop(atPos ER (recvCell c i) 1 ∅ 0 ∗ (if passed i then iprop(emp) else got X c i)) := by
    unfold recvSt; rw [if_neg (by omega)]
  ihave Hi := (Entails.of_eq eA) $$ Hi
  icases Hi with ⟨Hc, Hat⟩
  ihave #HI := (cell_inv X K c c (.inr (.inr (.inr i)))) $$ HC
  iapply (Rounds.wp_wait_rest_token 𝒱₀ ER (sched X) (c : Thread nD τ) none (κ := K (c, .inr (.inr (.inr i))))
      hw (Set.mem_univ _) () (O := owed c (tR i)) (W := W) (R := 0) (m := 0) (T := ∅)
      ((Nat.zero_add _).trans (expect_own X c (.inr (.inr i))).symm)) $$ [Hc HO Hat]
  · isplitr; · iexact HI
    isplitl [Hc]; · iexact Hc
    isplitl [HO]; · iexact HO
    isplitr
    · iapply (ctx_mayWait X K c (tR i) (.inr (.inr (.inr i))) fun j hj => Nat.add_lt_add_right (later_hop i j hj) 2)
      iexact HC
    iexact Hat
  iintro ⟨HO, Hat, -, Hpay⟩
  ihave Hg := (show bigSep ((sched X).duties ((c : Thread nD τ), SemLoc.dma (recvS i)) 0 \ ∅) (fun d => (sched X).payload ((c : Thread nD τ), SemLoc.dma (recvS i)) 0 d) ⊢ got X c i from Entails.of_eq (rest_own X c (.inr (.inr i)))) $$ Hpay
  rw [← owed_same c (tR i) fun j => tS_ne_tR j i]
  iapply h
  isplitr; · iexact HC
  isplitl [Hp]; · iexact Hp
  isplitl [HR]; · iexact HR
  by_cases hp : passed i
  · have hnx := tA_next i hp
    have eS : src X c (next i) = got X c i := by
      show rPts c (share (next i)) (dep c (next i)) (gathered X) = _
      rw [dep_next c i hp]; unfold share; rw [if_neg (by omega)]
    ihave Hs' := (bigSep_univ_update (Φ := sendSt X c (tR i)) (Ψ := sendSt X c (tR i + 1)) ⟨next i, hp.2⟩ fun j hj =>
      sendSt_other X c (tR i) j (tS_ne_tR j i) (fun h0 e => hj (Subtype.ext (tA_eq i j h0 e).2)) (fun e => absurd (tR_lt_tW i j) (by omega))) $$ Hs
    icases Hs' with ⟨Hj, Hsback⟩
    have eC : sendSt X c (tR i) ⟨next i, hp.2⟩ = iprop((dutyTok ER (sendCell c (next i)) 0 0 ∗ dutyTok ER (recvCell (nbr c (next i).1) (next i)) 0 0 ∗ lent (F := F) c (next i) ∗ atPos ER (sendCell c (next i)) 0 ∅ 0) ∗ emp) := by
      unfold sendSt; dsimp only; rw [if_pos (by omega), if_neg (by omega)]
    have eD : sendSt X c (tR i + 1) ⟨next i, hp.2⟩ = iprop((dutyTok ER (sendCell c (next i)) 0 0 ∗ dutyTok ER (recvCell (nbr c (next i).1) (next i)) 0 0 ∗ lent (F := F) c (next i) ∗ atPos ER (sendCell c (next i)) 0 ∅ 0) ∗ src X c (next i)) := by
      unfold sendSt; dsimp only; rw [if_pos (by omega), if_pos (by omega)]
    ihave Hj := (Entails.of_eq eC) $$ Hj
    icases Hj with ⟨Hj, -⟩
    isplitl [Hsback Hj Hg]
    · iapply Hsback
      rw [eD, eS]
      isplitl [Hj] <;> iassumption
    isplitl [Hback Hat]
    · iapply Hback
      rw [eB, if_pos hp]
      isplitl [Hat]; · iexact Hat
      iempintro
    iexists _; iexact HO
  · have e1 : bigSep Finset.univ (sendSt X c (tR i + 1)) = bigSep Finset.univ (sendSt X c (tR i)) :=
      bigSep_congr fun j _ => sendSt_other X c (tR i) j (tS_ne_tR j i) (fun h0 e => hp (tA_eq i j h0 e).1) (fun e => absurd (tR_lt_tW i j) (by omega))
    isplitl [Hs]
    · rw [e1]; iexact Hs
    isplitl [Hback Hat Hg]
    · iapply Hback
      rw [eB, if_neg hp]
      isplitl [Hat] <;> iassumption
    iexists _; iexact HO

/-! ## Waiting for a departure -/

theorem sent_one {R : sProp 𝕄} {Q : α → sProp 𝕄} (i : Slot) (hn : tW i = n) {k : PUnit → Prog (TpuEff nD τ sig (Elt F) Λ₀ .tc) α} {w : TpuEff nD τ sig (Elt F) Λ₀ .tc PUnit}
    (hw : ∀ G : PUnit → sProp 𝕄, wpE (defs₀ (F := F)) 𝒱₀ (c : Thread nD τ) none Set.univ w G = waitSpec (c : Thread nD τ) Set.univ (.dma (sendS i)) NR G)
    (h : St X K c R (n + 1) ⊢ wp frame (wpE (defs₀ (F := F)) 𝒱₀ (c : Thread nD τ) none) Set.univ (k ⟨⟩) Q) :
    St X K c R n ⊢ wp frame (wpE (defs₀ (F := F)) 𝒱₀ (c : Thread nD τ) none) Set.univ (.op w k) Q := by
  subst hn
  unfold St at h ⊢
  iintro ⟨#HC, Hp, HR, Hs, Hr, %W, HO⟩
  have e1 : bigSep Finset.univ (recvSt X c (tW i + 1)) = bigSep Finset.univ (recvSt X c (tW i)) :=
    bigSep_congr fun j _ => recvSt_other X c (tW i) j (fun e => absurd (tR_lt_tW j i) (by omega))
  ihave Hs' := (bigSep_univ_update (Φ := sendSt X c (tW i)) (Ψ := sendSt X c (tW i + 1)) i fun j hj =>
    sendSt_other X c (tW i) j (fun e => absurd (tS_lt_tW j i) (by omega)) (fun _ e => absurd (tS_lt_tW j i) (by unfold tA at e; have := (tW_ge i).1; have := tS_lt j; omega))
      (fun e => hj (tW_inj j i e))) $$ Hs
  icases Hs' with ⟨Hi, Hback⟩
  have hlt := tS_lt_tW i i
  have eA : sendSt X c (tW i) i = iprop(cred (tallyAt (sendCell c i) () NR) ∗ atPos ER (sendCell c i) 0 ∅ 0) := by
    unfold sendSt; rw [if_neg (by omega), if_pos (le_refl _)]
  have eB : sendSt X c (tW i + 1) i = iprop(atPos ER (sendCell c i) 1 ∅ 0 ∗ src X c i) := by
    unfold sendSt; rw [if_neg (by omega), if_neg (by omega)]
  ihave Hi := (Entails.of_eq eA) $$ Hi
  icases Hi with ⟨Hc, Hat⟩
  ihave #HI := (cell_inv X K c c (.inr (.inr (.inl i)))) $$ HC
  have h0 : owed c (tW i) = 0 := owed_none c _ (by have := (tW_ge i).1; omega)
  have h1 : owed c (tW i + 1) = 0 := owed_none c _ (by have := (tW_ge i).1; omega)
  rw [h0]
  iapply (Rounds.wp_wait_rest_token 𝒱₀ ER (sched X) (c : Thread nD τ) none (κ := K (c, .inr (.inr (.inl i))))
      hw (Set.mem_univ _) () (O := 0) (W := W) (R := 0) (m := 0) (T := ∅)
      ((Nat.zero_add _).trans (expect_own X c (.inr (.inl i))).symm)) $$ [Hc HO Hat]
  · isplitr; · iexact HI
    isplitl [Hc]; · iexact Hc
    isplitl [HO]; · iexact HO
    isplitr
    · rw [MayWait_zero]; iempintro
    iexact Hat
  iintro ⟨HO, Hat, -, Hpay⟩
  ihave Hg := (show bigSep ((sched X).duties ((c : Thread nD τ), SemLoc.dma (sendS i)) 0 \ ∅) (fun d => (sched X).payload ((c : Thread nD τ), SemLoc.dma (sendS i)) 0 d) ⊢ src X c i from Entails.of_eq (rest_own X c (.inr (.inl i)))) $$ Hpay
  iapply h
  isplitr; · iexact HC
  isplitl [Hp]; · iexact Hp
  isplitl [HR]; · iexact HR
  isplitl [Hback Hat Hg]
  · iapply Hback
    rw [eB]
    isplitl [Hat] <;> iassumption
  isplitl [Hr]
  · rw [e1]; iexact Hr
  rw [h1]
  iexists _; iexact HO

end Cert.Proof
-- ==== Proof.Rules.lean ====
/-
The rules of the run in the form the printed body has them: each takes the state over one operation, whatever comes
after it.
-/
module

public import proofs.«01_k».proof.Proof.Steps

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

/-- A kernel program of the core. -/
abbrev Code (F : FTy → Type) (α : Type) : Type 1 := Prog (TpuEff nD τ sig (Elt F) Λ₀ .tc) α

/-- What suffices for device `c` to run `p` and end in `Q`. -/
@[irreducible] def run {α : Type} (c : Dev nD) (p : Code F α) (Q : α → sProp 𝕄) : sProp 𝕄 :=
  wp frame (wpE (defs₀ (F := F)) 𝒱₀ (c : Thread nD τ) none) Set.univ p Q

variable {X : Dev nD → Blk F} {K : Dev nD × Cell → ℕ} {c : Dev nD} {n m : ℕ}

theorem rule_bind {α β : Type} {P : sProp 𝕄} {Q : β → sProp 𝕄} {p : Prog (TpuEff nD τ sig (Elt F) Λ₀ .tc) α} {f : α → Prog (TpuEff nD τ sig (Elt F) Λ₀ .tc) β}
    (h : P ⊢ run c p fun a => run c (f a) Q) : P ⊢ run c (p >>= f) Q := by
  unfold run at *; rw [wp_bind]; exact h

theorem wp_done {α : Type} {P : sProp 𝕄} {Q : α → sProp 𝕄} {a : α} (h : P ⊢ Q a) :
    P ⊢ wp frame (wpE (defs₀ (F := F)) 𝒱₀ (c : Thread nD τ) none) Set.univ (Prog.ret a) Q :=
  h.trans (by rw [wp_ret]; exact fupd_intro)

theorem rule_ret {α : Type} {P : sProp 𝕄} {Q : α → sProp 𝕄} {a : α} (h : P ⊢ Q a) : P ⊢ run c (Pure.pure a) Q := by
  unfold run; exact wp_done h

/-- The direction and the hop of the transfer at time `n`. -/
def ldDir (n : ℕ) : Fin 2 := if n < 8 then (if n < 4 then 0 else 1) else if n < 232 then (if (n - 8) / 8 % 2 = 0 then 0 else 1) else if n < 236 then 0 else 1
def ldHop (n : ℕ) : ℕ := if n < 8 then 0 else if n < 232 then 1 + (n - 8) / 16 else 15

/-- The check an address computation asks for. -/
theorem rule_assume {P : BitVec 32 → Prop} {o : Dev nD} {d : Decidable (P (word o))} {S : sProp 𝕄} {Q : PLift (P (word o)) → sProp 𝕄}
    (hP : ∀ o, P (word o)) (h : S ⊢ Q ⟨hP o⟩) : S ⊢ run c (Prog.lift (.assume (P (word o)) d)) Q := by
  unfold run
  refine (wp_done (c := c) h).trans ?_
  exact wp_assume 𝒱₀ (c : Thread nD τ) none Set.univ (hP o)

/-- A word of the ring table. -/
theorem table_word (off : Fin 1 → ℕ) (hb : ∀ a, off a + S1.size a ≤ S32.size a) (p : Fin 32) (hp : off 0 = p.val) (x : (Rect.unit (s := S32) off S1.size hb).shape.Idx) :
    ((Memref.whole cc0_stg0_0).access (Rect.unit (s := S32) off S1.size hb)).read (Elt F) (fun i : S32.Idx => lit0 (S32.rowMajor i)) x = word (perm p) := by
  rw [← lit0_eq]
  refine congrArg lit0 (Fin.ext ?_)
  have hx : (x 0).val = 0 := by
    have := (x 0).isLt
    exact Nat.lt_one_iff.mp this
  refine (Shape.rowMajor_val_one _).trans ?_
  show off 0 + 1 * (x 0).val = p.val
  omega

theorem rule_load {R : sProp 𝕄} {Q : BitVec 32 → sProp 𝕄} {off : BitVec 32 → Fin 1 → ℕ} {hb : ∀ a, off (posWord c) a + S1.size a ≤ S32.size a} {h1} {hp}
    (ho : ∀ c : Dev nD, off (posWord c) 0 = (step (ldDir n) (ldHop n) (pos c)).val)
    (h : St X K c R n ⊢ Q (word (orig c (ldDir n) (ldHop n)))) :
    St X K c R n ⊢ run c (smemLoad (Memref.whole cc0_stg0_0) (Rect.unit (s := S32) (off (posWord c)) S1.size hb) h1 hp) Q := by
  unfold run smemLoad
  refine BI.Entails.trans (show _ ⊢ iprop(((c : Thread nD τ).loc cc0_stg0_0 ↦{fullShare} fun i : S32.Idx => lit0 (S32.rowMajor i)) ∗
    (((c : Thread nD τ).loc cc0_stg0_0 ↦{fullShare} fun i : S32.Idx => lit0 (S32.rowMajor i)) -∗ St X K c R n)) from ?_) ?_
  · unfold St permTab
    iintro ⟨HC, Hp, HR⟩
    isplitl [Hp]; · iexact Hp
    iintro Hp
    isplitl [HC]; · iexact HC
    isplitl [Hp]; · iexact Hp
    iexact HR
  have hl : ((c : Thread nD τ).loc cc0_stg0_0 ↦{fullShare} fun i : S32.Idx => lit0 (S32.rowMajor i) : sProp 𝕄)
      ⊢ iprop((((c : Thread nD τ).loc cc0_stg0_0 ↦{fullShare} fun i : S32.Idx => lit0 (S32.rowMajor i))
          -∗ wp frame (wpE (defs₀ (F := F)) 𝒱₀ (c : Thread nD τ) none) Set.univ (Prog.ret (((Memref.whole cc0_stg0_0).access (Rect.unit (s := S32) (off (posWord c)) S1.size hb)).read (Elt F)
            (fun i : S32.Idx => lit0 (S32.rowMajor i)) (Shape.Idx.first (h1.symm ▸ Nat.one_pos)))) Q)
        -∗ wp frame (wpE (defs₀ (F := F)) 𝒱₀ (c : Thread nD τ) none) Set.univ (smemLoadElt (Memref.whole cc0_stg0_0) (Rect.unit (s := S32) (off (posWord c)) S1.size hb) (View.loads_smem_one hp h1)
            (Shape.Idx.first (h1.symm ▸ Nat.one_pos)) Prog.ret) Q) :=
    wp_smemLoadElt (defs := defs₀ (F := F)) 𝒱₀ (c : Thread nD τ) none Set.univ (m := Memref.whole cc0_stg0_0)
      (r := Rect.unit (s := S32) (off (posWord c)) S1.size hb) (hw := View.loads_smem_one hp h1)
      (x := Shape.Idx.first (h1.symm ▸ Nat.one_pos)) (k := Prog.ret) (Q := Q) (S := Finset.univ) (q := fullShare)
      (f := fun i : S32.Idx => lit0 (S32.rowMajor i)) (Finset.subset_univ _)
  rw [table_word _ hb _ (ho c)] at hl
  exact (BIClass.sep_mono hl (wand_mono_right (wp_done (c := c) h))).trans wand_elim_left

/-- A quarter starts towards a neighbour. -/
theorem rule_send {R : sProp 𝕄} {Q : PUnit → sProp 𝕄} {d k : ℕ} {off : Fin 2 → ℕ} {hb hb' : ∀ a, off a + S512x512.size a ≤ S65536x512.size a} {hst hst'}
    {dst o o' : Dev nD} {w : BitVec 32} {i1 i2} {hx hs hd' ht} (hd : d < 2) (hk : k < 64) (hu : used (⟨d, hd⟩, ⟨k, hk⟩))
    (hn : tS (⟨d, hd⟩, ⟨k, hk⟩) = n) (hm : n + 1 = m)
    (hoff : off = k0_off6 (word o) w) (ho : o = (dep c (⟨d, hd⟩, ⟨k, hk⟩)).1) (hw : w = BitVec.ofNat 32 (512 * (k % 4)))
    (hdst : dst.val = k0_dev1 (word o')) (ho' : o' = nbr c ⟨d, hd⟩)
    (h : St X K c R m ⊢ Q ⟨⟩) :
    St X K c R n ⊢ run c (Prog.lift (.enqueueDma ((Memref.whole main_v1).slice (Rect.unit (s := S65536x512) off S512x512.size hb) hst)
      (.remote (Dev.tc dst) ((Memref.whole main_v1).slice (Rect.unit (s := S65536x512) off S512x512.size hb') hst')
        (.dma ((cc0_scratch2.slice (Rect.unit (s := S2x64) ![d, k] S1x1.size i1)).squeeze S_ squeezes_S1x1_S_).sem) hx)
      (.dma ((cc0_scratch3.slice (Rect.unit (s := S2x64) ![d, k] S1x1.size i2)).squeeze S_ squeezes_S1x1_S_).sem) hs hd' ht)) Q := by
  have hoff : off = regOff (dep c (⟨d, hd⟩, ⟨k, hk⟩)).1 (dep c (⟨d, hd⟩, ⟨k, hk⟩)).2 := by
    rw [hoff, ho, hw]; exact regOff_eq _ (sub (⟨d, hd⟩, ⟨k, hk⟩))
  have hdst : dst = nbr c ⟨d, hd⟩ := Fin.ext (hdst.trans ((devOf_eq o').trans (congrArg Fin.val ho')))
  subst hm hoff hdst
  unfold run
  revert ht
  rw [send_sem d k hd hk, recv_sem d k hd hk]
  intro ht
  exact start_one X K c (⟨(⟨d, hd⟩, ⟨k, hk⟩), hu⟩ : Slot) hn (wp_done h)

/-- The wait for a quarter to arrive. -/
theorem rule_recv {R : sProp 𝕄} {Q : PUnit → sProp 𝕄} {d k : ℕ} {off off' : Fin 2 → ℕ} {hb : ∀ a, off a + S512x512.size a ≤ S65536x512.size a}
    {hb' : ∀ a, off' a + S512x512.size a ≤ S65536x512.size a} {hst hst'}
    {i1} {hs hd'} (hd : d < 2) (hk : k < 64) (hu : used (⟨d, hd⟩, ⟨k, hk⟩))
    (hn : tR (⟨d, hd⟩, ⟨k, hk⟩) = n) (hm : n + 1 = m) (h : St X K c R m ⊢ Q ⟨⟩) :
    St X K c R n ⊢ run c (Prog.lift (.waitDma2 ((cc0_scratch3.slice (Rect.unit (s := S2x64) ![d, k] S1x1.size i1)).squeeze S_ squeezes_S1x1_S_).sem
      ((Memref.whole main_v1).slice (Rect.unit (s := S65536x512) off S512x512.size hb) hst)
      ((Memref.whole main_v1).slice (Rect.unit (s := S65536x512) off' S512x512.size hb') hst') hs hd')) Q := by
  subst hm
  unfold run
  rw [recv_sem d k hd hk]
  refine recv_one X K c (⟨(⟨d, hd⟩, ⟨k, hk⟩), hu⟩ : Slot) hn (fun G => ?_) (wp_done h)
  rw [wpE_waitDma2_eq]
  unfold NR; rfl

/-- The wait for a quarter to have left. -/
theorem rule_sent {R : sProp 𝕄} {Q : PUnit → sProp 𝕄} {d k : ℕ} {off off' : Fin 2 → ℕ} {hb : ∀ a, off a + S512x512.size a ≤ S65536x512.size a}
    {hb' : ∀ a, off' a + S512x512.size a ≤ S65536x512.size a} {hst hst'}
    {i1} {hs hd'} (hd : d < 2) (hk : k < 64) (hu : used (⟨d, hd⟩, ⟨k, hk⟩))
    (hn : tW (⟨d, hd⟩, ⟨k, hk⟩) = n) (hm : n + 1 = m) (h : St X K c R m ⊢ Q ⟨⟩) :
    St X K c R n ⊢ run c (Prog.lift (.waitDma2 ((cc0_scratch2.slice (Rect.unit (s := S2x64) ![d, k] S1x1.size i1)).squeeze S_ squeezes_S1x1_S_).sem
      ((Memref.whole main_v1).slice (Rect.unit (s := S65536x512) off S512x512.size hb) hst)
      ((Memref.whole main_v1).slice (Rect.unit (s := S65536x512) off' S512x512.size hb') hst') hs hd')) Q := by
  subst hm
  unfold run
  rw [send_sem d k hd hk]
  refine sent_one X K c (⟨(⟨d, hd⟩, ⟨k, hk⟩), hu⟩ : Slot) hn (fun G => ?_) (wp_done h)
  rw [wpE_waitDma2_eq]
  unfold NR; rfl

end Cert.Proof
-- ==== Proof.Start.lean ====
/-
The operations before the transfers: the tables' first words, the signals to both neighbours and the wait for theirs, and the
own block's copy into its place.
-/
module

public import proofs.«01_k».proof.Proof.Rules

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable {X : Dev nD → Blk F} {K : Dev nD × Cell → ℕ} {c : Dev nD}

/-! ## The addresses -/

theorem devOf_eq' : ∀ o : Dev nD, k0_dev2 (word o) = o.val := by decide +kernel
theorem off2_eq : ∀ c : Dev nD, k0_off2 (posWord c) 0 = (pos c + 1).val := by decide +kernel
theorem off3_eq : ∀ c : Dev nD, k0_off3 (posWord c) 0 = (pos c - 1).val := by decide +kernel
theorem off5_eq : ∀ c : Dev nD, k0_off5 (posWord c) 0 = (step (ldDir 0) (ldHop 0) (pos c)).val := by decide +kernel

/-- The table of positions in scalar memory, -/
def posTab (c : Dev nD) : sProp 𝕄 := (c : Thread nD τ).loc cc0_stg1_0 ↦{fullShare} fun i : S32.Idx => lit1 (S32.rowMajor i)
/-- and the device's block where the kernel reads it. -/
def inBlk (X : Dev nD → Blk F) (c : Dev nD) : sProp 𝕄 := (c : Thread nD τ).loc cc0_stg2_0 ↦{fullShare} X c

/-- A word of the table of positions: the device's own. -/
theorem pos_word (c : Dev nD) (hb : ∀ a, k0_off1 c a + S1.size a ≤ S32.size a) (x : (Rect.unit (s := S32) (k0_off1 c) S1.size hb).shape.Idx) :
    ((Memref.whole cc0_stg1_0).access (Rect.unit (s := S32) (k0_off1 c) S1.size hb)).read (Elt F) (fun i : S32.Idx => lit1 (S32.rowMajor i)) x = posWord c := by
  rw [← lit1_eq]
  refine congrArg lit1 (Fin.ext ?_)
  have hx : (x 0).val = 0 := by
    have := (x 0).isLt
    exact Nat.lt_one_iff.mp this
  refine (Shape.rowMajor_val_one _).trans ?_
  have ho : k0_off1 c 0 = c.val := by rw [Gen.k0_off1_eq]; rfl
  show k0_off1 c 0 + 1 * (x 0).val = c.val
  omega

/-! ## The operations -/

/-- An operation in the run, from what suffices for it with an empty continuation. -/
theorem run_load_perm {Q : BitVec 32 → sProp 𝕄} {off : Fin 1 → ℕ} {hb : ∀ a, off a + S1.size a ≤ S32.size a} {h1} {hp} (p : Fin 32) (ho : off 0 = p.val) :
    iprop(permTab c ∗ (permTab c -∗ Q (word (perm p)))) ⊢ run c (smemLoad (Memref.whole cc0_stg0_0) (Rect.unit (s := S32) off S1.size hb) h1 hp) Q := by
  unfold run smemLoad permTab
  have hl : ((c : Thread nD τ).loc cc0_stg0_0 ↦{fullShare} fun i : S32.Idx => lit0 (S32.rowMajor i) : sProp 𝕄)
      ⊢ iprop((((c : Thread nD τ).loc cc0_stg0_0 ↦{fullShare} fun i : S32.Idx => lit0 (S32.rowMajor i))
          -∗ wp frame (wpE (defs₀ (F := F)) 𝒱₀ (c : Thread nD τ) none) Set.univ (Prog.ret (((Memref.whole cc0_stg0_0).access (Rect.unit (s := S32) off S1.size hb)).read (Elt F)
            (fun i : S32.Idx => lit0 (S32.rowMajor i)) (Shape.Idx.first (h1.symm ▸ Nat.one_pos)))) Q)
        -∗ wp frame (wpE (defs₀ (F := F)) 𝒱₀ (c : Thread nD τ) none) Set.univ (smemLoadElt (Memref.whole cc0_stg0_0) (Rect.unit (s := S32) off S1.size hb) (View.loads_smem_one hp h1)
            (Shape.Idx.first (h1.symm ▸ Nat.one_pos)) Prog.ret) Q) :=
    wp_smemLoadElt (defs := defs₀ (F := F)) 𝒱₀ (c : Thread nD τ) none Set.univ (m := Memref.whole cc0_stg0_0)
      (r := Rect.unit (s := S32) off S1.size hb) (hw := View.loads_smem_one hp h1)
      (x := Shape.Idx.first (h1.symm ▸ Nat.one_pos)) (k := Prog.ret) (Q := Q) (S := Finset.univ) (q := fullShare)
      (f := fun i : S32.Idx => lit0 (S32.rowMajor i)) (Finset.subset_univ _)
  rw [table_word _ hb p ho] at hl
  exact (BIClass.sep_mono hl (wand_mono_right (wp_done (c := c) .rfl))).trans wand_elim_left

theorem run_load_pos {Q : BitVec 32 → sProp 𝕄} {hb : ∀ a, k0_off1 c a + S1.size a ≤ S32.size a} {h1} {hp} :
    iprop(posTab c ∗ (posTab c -∗ Q (posWord c))) ⊢ run c (smemLoad (Memref.whole cc0_stg1_0) (Rect.unit (s := S32) (k0_off1 c) S1.size hb) h1 hp) Q := by
  unfold run smemLoad posTab
  have hl : ((c : Thread nD τ).loc cc0_stg1_0 ↦{fullShare} fun i : S32.Idx => lit1 (S32.rowMajor i) : sProp 𝕄)
      ⊢ iprop((((c : Thread nD τ).loc cc0_stg1_0 ↦{fullShare} fun i : S32.Idx => lit1 (S32.rowMajor i))
          -∗ wp frame (wpE (defs₀ (F := F)) 𝒱₀ (c : Thread nD τ) none) Set.univ (Prog.ret (((Memref.whole cc0_stg1_0).access (Rect.unit (s := S32) (k0_off1 c) S1.size hb)).read (Elt F)
            (fun i : S32.Idx => lit1 (S32.rowMajor i)) (Shape.Idx.first (h1.symm ▸ Nat.one_pos)))) Q)
        -∗ wp frame (wpE (defs₀ (F := F)) 𝒱₀ (c : Thread nD τ) none) Set.univ (smemLoadElt (Memref.whole cc0_stg1_0) (Rect.unit (s := S32) (k0_off1 c) S1.size hb) (View.loads_smem_one hp h1)
            (Shape.Idx.first (h1.symm ▸ Nat.one_pos)) Prog.ret) Q) :=
    wp_smemLoadElt (defs := defs₀ (F := F)) 𝒱₀ (c : Thread nD τ) none Set.univ (m := Memref.whole cc0_stg1_0)
      (r := Rect.unit (s := S32) (k0_off1 c) S1.size hb) (hw := View.loads_smem_one hp h1)
      (x := Shape.Idx.first (h1.symm ▸ Nat.one_pos)) (k := Prog.ret) (Q := Q) (S := Finset.univ) (q := fullShare)
      (f := fun i : S32.Idx => lit1 (S32.rowMajor i)) (Finset.subset_univ _)
  rw [pos_word c hb] at hl
  exact (BIClass.sep_mono hl (wand_mono_right (wp_done (c := c) .rfl))).trans wand_elim_left

theorem run_dev {Q : Dev nD → sProp 𝕄} : Q c ⊢ run c (Prog.lift .deviceId) Q := by
  unfold run
  simp only [Prog.lift, wp_deviceId]
  exact wp_done (c := c) .rfl

/-- The signal to a neighbour, which hands it the places it may write here. -/
theorem run_signal {Q : PUnit → sProp 𝕄} (d : Fin 2) (b : Dev nD) {dst : Dev nD} (hdst : dst = b) (O : CellTallies nD τ sig Unit) :
    iprop(ctx X K c ∗ (dutyTok ER (barCell b) 0 d ∗ barPay (F := F) b d ∗ reached ER (barCell b) 0)
        ∗ (∃ W, owes (c : Thread nD τ) (O + tallyAt (barCell b) () 1) W) ∗ ((∃ W, owes (c : Thread nD τ) O W) -∗ Q ⟨⟩))
      ⊢ run c (semSignalWord dst barS 1#32) Q := by
  subst hdst
  unfold run
  have e1 : (1#32 : BitVec 32).toInt = ((1#32 : BitVec 32).toNat : Int) := rfl
  simp only [semSignalWord, Prog.lift, e1]
  iintro ⟨#HC, ⟨Htok, Hpay, Hr⟩, ⟨%W, HO⟩, HK⟩
  ihave #HI := (cell_inv X K c dst (.inl ())) $$ HC
  iapply (Rounds.wp_signal 𝒱₀ ER (sched X) (c : Thread nD τ) none (dst := (dst : Thread nD τ)) (sem := barS) (κ := K (dst, .inl ())) (r := 0) (d := d) (k' := 1)
      (by rw [show ((dst : Thread nD τ), SemLoc.reg barS) = cell dst (.inl ()) from rfl, duties_eq]; exact Finset.mem_univ _)
      (amount_eq X dst (.inl ()) d) () O rfl (W := W)) $$ [HO Htok Hpay Hr]
  · isplitr; · iexact HI
    isplitl [HO]; · iexact HO
    isplitl [Htok]; · iexact Htok
    isplitl [Hpay]
    · iapply (Entails.of_eq (show barPay (F := F) dst d = (sched X).payload ((dst : Thread nD τ), SemLoc.reg barS) 0 d from (payload_eq X dst (.inl ()) d).symm)) $$ Hpay
    iexact Hr
  iintro HO
  iapply (wp_done (c := c) .rfl)
  iapply HK
  iexists W; iexact HO

/-- The wait for both neighbours. -/
theorem run_meet {Q : PUnit → sProp 𝕄} :
    iprop(ctx X K c ∗ cred (tallyAt (barCell c) () 2) ∗ atPos ER (barCell c) 0 ∅ 0
        ∗ (∃ W, owes (c : Thread nD τ) (owed c 0) W)
        ∗ ((∃ W, owes (c : Thread nD τ) (owed c 0) W) -∗ atPos ER (barCell c) 1 ∅ 0 -∗ (bigSep Finset.univ fun i : Slot => lent (F := F) c i) -∗ Q ⟨⟩))
      ⊢ run c (semWaitWord barS 2#32) Q := by
  unfold run
  have e2 : (2#32 : BitVec 32).toInt = ((2#32 : BitVec 32).toNat : Int) := rfl
  simp only [semWaitWord, Prog.lift, e2]
  iintro ⟨#HC, Hc, Hat, ⟨%W, HO⟩, HK⟩
  ihave #HI := (cell_inv X K c c (.inl ())) $$ HC
  iapply (Rounds.wp_wait_rest_token 𝒱₀ ER (sched X) (c : Thread nD τ) none (κ := K (c, .inl ()))
      (wpE_semWait_eq 𝒱₀ (c : Thread nD τ) none Set.univ) (Set.mem_univ _) () (O := owed c 0) (W := W) (R := 0) (m := 0) (T := ∅)
      ((Nat.zero_add _).trans (expect_bar X c).symm)) $$ [Hc HO Hat]
  · isplitr; · iexact HI
    isplitl [Hc]; · iexact Hc
    isplitl [HO]; · iexact HO
    isplitr
    · iapply (ctx_mayWait X K c 0 (.inl ()) fun j _ => by show 1 < hop j + 2; omega)
      iexact HC
    iexact Hat
  iintro ⟨HO, Hat, -, Hpay⟩
  ihave Hg := (show bigSep ((sched X).duties ((c : Thread nD τ), SemLoc.reg barS) 0 \ ∅) (fun d => (sched X).payload ((c : Thread nD τ), SemLoc.reg barS) 0 d) ⊢ (bigSep Finset.univ fun i : Slot => lent (F := F) c i) from Entails.of_eq (rest_bar X c)) $$ Hpay
  iapply (wp_done (c := c) .rfl)
  iapply HK $$ [HO] [Hat] [Hg]
  · iexists _; iexact HO
  · iexact Hat
  iexact Hg

theorem zero2 : (![0, 0] : Fin 2 → ℕ) = fun _ => 0 := funext fun a => by fin_cases a <;> rfl

/-- The device's block read, -/
theorem run_load_in {Q : (S2048x512.Idx → Elt F .bf16) → sProp 𝕄} {hb} {hl} :
    iprop(inBlk X c ∗ (inBlk X c -∗ Q (X c)))
      ⊢ run c (Prog.lift (.load (Memref.whole cc0_stg2_0 : Memref sig .tc .vmem S2048x512 .bf16) (Rect.unit (s := S2048x512) ![0, 0] S2048x512.size hb).toLoadRect hl)) Q := by
  unfold run inBlk
  simp only [Prog.lift]
  iintro ⟨H, HK⟩
  iapply (wp_load_rect (defs := defs₀ (F := F)) 𝒱₀ (c : Thread nD τ) none Set.univ (m := (Memref.whole cc0_stg2_0 : Memref sig .tc .vmem S2048x512 .bf16))
    (r := Rect.unit (s := S2048x512) ![0, 0] S2048x512.size hb) (S := Finset.univ) (q := fullShare) (f := X c) (Finset.subset_univ _)) $$ H
  iintro H
  iapply (wp_done (c := c) .rfl)
  ihave H := HK $$ H
  have e : ((Memref.whole cc0_stg2_0 : Memref sig .tc .vmem S2048x512 .bf16).access (Rect.unit (s := S2048x512) ![0, 0] S2048x512.size hb)).read (Elt F) (X c) = X c :=
    Memref.readAt_unit_zero (Elt F) cc0_stg2_0 zero2 hb (X c)
  rw [e]
  iexact H

theorem scr_all (i) : i ∈ (Memref.whole cc0_scratch0 : Memref sig .tc .vmem S2048x512 .bf16).view.set := by
  have h : (Memref.whole cc0_scratch0 : Memref sig .tc .vmem S2048x512 .bf16).view.set = Finset.univ := View.set_whole _
  rw [h]; exact Finset.mem_univ i

/-- the scratch buffer read, whatever it holds, -/
theorem run_load_scr {Q : (S2048x512.Idx → Elt F .bf16) → sProp 𝕄} {hb} {hl} :
    iprop((∃ f, scr c f) ∗ ∀ v, (∃ f, scr c f) -∗ Q v)
      ⊢ run c (Prog.lift (.load (Memref.whole cc0_scratch0 : Memref sig .tc .vmem S2048x512 .bf16) (Rect.unit (s := S2048x512) ![0, 0] S2048x512.size hb).toLoadRect hl)) Q := by
  unfold run
  simp only [Prog.lift]
  iintro ⟨⟨%f, H⟩, HK⟩
  iapply (wp_load_rect (defs := defs₀ (F := F)) 𝒱₀ (c : Thread nD τ) none Set.univ (m := (Memref.whole cc0_scratch0 : Memref sig .tc .vmem S2048x512 .bf16))
    (r := Rect.unit (s := S2048x512) ![0, 0] S2048x512.size hb) (S := (Memref.whole cc0_scratch0 : Memref sig .tc .vmem S2048x512 .bf16).view.set) (q := fullShare) (f := f)
    (fun i _ => scr_all i)) $$ H
  iintro H
  iapply (wp_done (c := c) .rfl)
  iapply HK
  iexists f; iexact H

/-- and written. -/
theorem run_store {Q : PUnit → sProp 𝕄} {hb} {w : S2048x512.Idx → Elt F .bf16} {hx hm} :
    iprop((∃ f, scr c f) ∗ (scr c w -∗ Q ⟨⟩))
      ⊢ run c (Prog.lift (.store (Memref.whole cc0_scratch0 : Memref sig .tc .vmem S2048x512 .bf16) (Rect.unit (s := S2048x512) ![0, 0] S2048x512.size hb) w Finset.univ hx hm)) Q := by
  unfold run
  simp only [Prog.lift]
  iintro ⟨⟨%f, H⟩, HK⟩
  iapply (wp_store (defs := defs₀ (F := F)) 𝒱₀ (c : Thread nD τ) none Set.univ (m := (Memref.whole cc0_scratch0 : Memref sig .tc .vmem S2048x512 .bf16))
    (r := Rect.unit (s := S2048x512) ![0, 0] S2048x512.size hb) (Mk := Finset.univ) (S := (Memref.whole cc0_scratch0 : Memref sig .tc .vmem S2048x512 .bf16).view.set) (f := f)
    (fun i _ => scr_all i)) $$ H
  iintro H
  iapply (wp_done (c := c) .rfl)
  iapply HK
  have e : ((Memref.whole cc0_scratch0 : Memref sig .tc .vmem S2048x512 .bf16).access (Rect.unit (s := S2048x512) ![0, 0] S2048x512.size hb)).write (Elt F) f w Finset.univ = w :=
    Memref.write_access_unit_zero_univ (Elt F) cc0_scratch0 zero2 hb f w
  iapply (Entails.of_eq (congrArg (fun g => (scr c g : sProp 𝕄)) e)) $$ H

/-- The own block's copy into its place starts, -/
theorem run_copy {Q : PUnit → sProp 𝕄} {hst hx hs ht} :
    iprop(ctx X K c ∗ (dutyTok ER (locCell c) 0 0 ∗ reached ER (locCell c) 0) ∗ scr c (X c)
        ∗ (∃ f, bigSep Finset.univ fun s : Fin 4 => rPts (F := F) c fullShare (c, s) f)
        ∗ (cred (tallyAt (locCell c) () NL) -∗ Q ⟨⟩))
      ⊢ run c (Prog.lift (.enqueueDma (Memref.whole cc0_scratch0 : Memref sig .tc .vmem S2048x512 .bf16)
        (.here ((Memref.whole main_v1).slice (Rect.unit (s := S65536x512) (k0_off4 c) S2048x512.size (k0_off4_inb c)) hst)) (.dma (cc0_scratch1 : DmaSems sig S_).sem) hx hs ht)) Q := by
  unfold run
  revert ht
  rw [loc_sem]
  intro ht
  simp only [Prog.lift]
  iintro ⟨#HC, ⟨Htok, Hr⟩, Hs, ⟨%f, Ho⟩, HK⟩
  ihave #HI := (cell_inv X K c c (.inr (.inl ()))) $$ HC
  ihave Ho := (Entails.of_eq (blk_split c f).symm) $$ Ho
  iapply (Rounds.wp_copy_pointsTo 𝒱₀ ER (sched X) (c : Thread nD τ) none (src := (Memref.whole cc0_scratch0 : Memref sig .tc .vmem S2048x512 .bf16)) (dst := blk c)
      (sem := .dma locS) (q := fullShare) (fs := X c) (fd := f) (r := 0) (d := 0) (κ := K (c, .inr (.inl ())))
      (by rw [show ((c : Thread nD τ), SemLoc.dma locS) = cell c (.inr (.inl ())) from rfl, duties_eq]; exact Finset.mem_singleton_self _)
      () NL (NL_eq c locS) (amount_eq X c (.inr (.inl ())) 0)
      ((BIClass.sep_mono (Entails.of_eq (placed X c f)) .rfl).trans (Entails.of_eq (payload_eq X c (.inr (.inl ())) 0).symm)))
    $$ [Hs Ho Htok Hr]
  · isplitr; · iexact HI
    isplitl [Hs]; · iexact Hs
    isplitl [Ho]; · iexact Ho
    isplitl [Htok] <;> iassumption
  iintro Hc
  iapply (wp_done (c := c) .rfl)
  iapply HK $$ Hc

/-- and has landed. -/
theorem run_copied {Q : PUnit → sProp 𝕄} {hst hs hd} :
    iprop(ctx X K c ∗ cred (tallyAt (locCell c) () NL) ∗ atPos ER (locCell c) 0 ∅ 0
        ∗ (∃ W, owes (c : Thread nD τ) (owed c 0) W)
        ∗ ((∃ W, owes (c : Thread nD τ) (owed c 0) W) -∗ atPos ER (locCell c) 1 ∅ 0 -∗ locPay X c -∗ Q ⟨⟩))
      ⊢ run c (Prog.lift (.waitDma2 (cc0_scratch1 : DmaSems sig S_).sem (Memref.whole cc0_scratch0 : Memref sig .tc .vmem S2048x512 .bf16)
        ((Memref.whole main_v1).slice (Rect.unit (s := S65536x512) (k0_off4 c) S2048x512.size (k0_off4_inb c)) hst) hs hd)) Q := by
  unfold run
  rw [loc_sem]
  simp only [Prog.lift]
  iintro ⟨#HC, Hc, Hat, ⟨%W, HO⟩, HK⟩
  ihave #HI := (cell_inv X K c c (.inr (.inl ()))) $$ HC
  iapply (Rounds.wp_wait_rest_token 𝒱₀ ER (sched X) (c : Thread nD τ) none (κ := K (c, .inr (.inl ())))
      (k' := NL) (sm := .dma locS) (fun G => by rw [wpE_waitDma2_eq]; unfold NL; rfl) (Set.mem_univ _) () (O := owed c 0) (W := W) (R := 0) (m := 0) (T := ∅)
      ((Nat.zero_add _).trans (expect_own X c (.inl ())).symm)) $$ [Hc HO Hat]
  · isplitr; · iexact HI
    isplitl [Hc]; · iexact Hc
    isplitl [HO]; · iexact HO
    isplitr
    · iapply (ctx_mayWait X K c 0 (.inr (.inl ())) fun j _ => by show 0 < hop j + 2; omega)
      iexact HC
    iexact Hat
  iintro ⟨HO, Hat, -, Hpay⟩
  ihave Hg := (show bigSep ((sched X).duties ((c : Thread nD τ), SemLoc.dma locS) 0 \ ∅) (fun d => (sched X).payload ((c : Thread nD τ), SemLoc.dma locS) 0 d) ⊢ locPay X c from Entails.of_eq (rest_own X c (.inl ()))) $$ Hpay
  iapply (wp_done (c := c) .rfl)
  iapply HK $$ [HO] [Hat] [Hg]
  · iexists _; iexact HO
  · iexact Hat
  iexact Hg

end Cert.Proof
-- ==== Proof.Parts.lean ====
/-
The array cut up: what goes to the sources of the first hop and what is lent to the neighbours at the start, and the
gathered array from what is in hand at the end.
-/
module

public import proofs.«01_k».proof.Proof.Sched

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable (X : Dev nD → Blk F) (c : Dev nD)

/-- The array is the own block's quarters and the places of the arrivals. -/
theorem arr_parts (f : Arr F) : ((c : Thread nD τ).loc main_v1 ↦{fullShare} f : sProp 𝕄)
    = iprop((bigSep Finset.univ fun s : Fin 4 => rPts c fullShare (c, s) f) ∗ bigSep Finset.univ fun i : Slot => rPts c fullShare (arr c i) f) := by
  rw [arr_split, bigSep_univ_equiv (regions c), bigSep_univ_sum]
  rfl

/-- A star over the members of a set as one over all, empty elsewhere. -/
theorem bigSep_if {I : Type} [Fintype I] [DecidableEq I] (p : I → Prop) [DecidablePred p] (Φ : I → sProp 𝕄) :
    (bigSep Finset.univ fun i => if p i then Φ i else iprop(emp)) = bigSep (Finset.univ.filter p) Φ := by
  rw [bigSep_filter_split Finset.univ p,
    bigSep_congr (s := Finset.univ.filter p) (Ψ := Φ) fun i hi => if_pos (Finset.mem_filter.mp hi).2,
    bigSep_congr (s := Finset.univ.filter fun i => ¬ p i) (Ψ := fun _ => (iprop(emp) : sProp 𝕄)) fun i hi => if_neg (Finset.mem_filter.mp hi).2]
  exact (congrArg (fun R : sProp 𝕄 => iprop(bigSep (Finset.univ.filter p) Φ ∗ R)) (bigSep_emp_const _)).trans (BI.equiv_iff.mp sep_emp)

/-! ## The own block as the first hop's sources -/

/-- The first hop's transfers. -/
def firstSlot (x : Fin 2 × Fin 4) : Slot := ⟨(x.1, ⟨x.2.val, by have := x.2.isLt; omega⟩), by
  left; show x.2.val / 4 < 15; have := x.2.isLt; omega⟩
theorem firstSlot_inj : Function.Injective firstSlot := by decide +kernel
theorem first_slots : (Finset.univ.filter fun i : Slot => hop i = 0) = Finset.univ.map ⟨firstSlot, firstSlot_inj⟩ := by decide +kernel

theorem src_first (d : Fin 2) (s : Fin 4) :
    (src X c (firstSlot (d, s)) : sProp 𝕄) = rPts c (if d = 0 then fullShare.left else fullShare.right) (c, s) (gathered X) := by
  have e1 : hop (firstSlot (d, s)) = 0 := by revert d s; decide +kernel
  have e2 : sub (firstSlot (d, s)) = s := by revert d s; decide +kernel
  show rPts c (share (firstSlot (d, s))) (dep c (firstSlot (d, s))) (gathered X) = _
  unfold share dep
  rw [if_pos e1, e1, e2, orig_zero]
  rfl

/-- A half of the own block goes each way. -/
theorem own_sources : (bigSep Finset.univ fun s : Fin 4 => (rPts c fullShare (c, s) (gathered X) : sProp 𝕄))
    = bigSep Finset.univ fun i : Slot => if hop i = 0 then src X c i else iprop(emp) := by
  rw [bigSep_if (fun i : Slot => hop i = 0) (fun i => src X c i), first_slots, bigSep_map, bigSep_univ_prod, bigSep_fin_two]
  refine Eq.trans ?_ (bigSep_sep' _ _ _)
  refine bigSep_congr fun s _ => (BI.equiv_iff.mp ⟨(rPts_halves c (c, s) (gathered X)).1, (rPts_halves c (c, s) (gathered X)).2⟩).trans ?_
  refine congrArg₂ (fun a b : sProp 𝕄 => iprop(a ∗ b)) ?_ ?_
  · exact (src_first X c 0 s).symm
  · exact (src_first X c 1 s).symm

/-! ## Lending the places -/

/-- What device `c` lends for arrival `i`. -/
theorem lent_back (i : Slot) : (lent (F := F) (nbr c (opp i.1.1)) i : sProp 𝕄)
    = iprop((∃ f, rPts (F := F) c fullShare (arr c i) f) ∗ reached ER (recvCell c i) 0) := by
  unfold lent
  rw [← arr_nbr, nbr_opp']

/-- The places of the arrivals, each with its cell in use, are what the neighbours are lent. -/
theorem lend (f : Arr F) :
    iprop((bigSep Finset.univ fun i : Slot => rPts c fullShare (arr c i) f) ∗ bigSep Finset.univ fun i : Slot => reached ER (recvCell c i) 0)
      ⊢ (iprop(barPay (F := F) (nbr c 1) 0 ∗ barPay (F := F) (nbr c 0) 1) : sProp 𝕄) := by
  unfold barPay
  refine (Entails.of_eq (bigSep_sep' _ _ _).symm).trans ((bigSep_mono fun i _ => ?_).trans (Entails.of_eq (bigSep_sep' _ _ _)))
  have h : iprop(rPts c fullShare (arr c i) f ∗ reached ER (recvCell c i) 0) ⊢ (lent (F := F) (nbr c (opp i.1.1)) i : sProp 𝕄) := by
    rw [lent_back]
    iintro ⟨H, Hr⟩
    isplitl [H]; · iexists f; iexact H
    iexact Hr
  refine h.trans (Entails.of_eq ?_)
  clear h
  obtain ⟨⟨d, k⟩, hu⟩ := i
  revert d
  refine Fin.forall_fin_two.mpr ⟨fun hu _ => ?_, fun hu _ => ?_⟩
  · rw [if_pos rfl, if_neg (by show ¬(0 : Fin 2) = 1; decide)]; exact (BI.equiv_iff.mp sep_emp).symm
  · rw [if_pos rfl, if_neg (by show ¬(1 : Fin 2) = 0; decide)]; exact (BI.equiv_iff.mp emp_sep).symm

/-! ## The array put together again -/

/-- The transfer that passes an arrival on. -/
def nextSlot (i : Slot) : Slot := if h : used (next i) then ⟨next i, h⟩ else i
theorem next_inj : ∀ i j : Slot, passed i → passed j → nextSlot i = nextSlot j → i = j := by decide +kernel
theorem next_slots : (Finset.univ.filter fun i : Slot => ¬ hop i = 0) = (Finset.univ.filter fun i : Slot => passed i).image nextSlot := by decide +kernel

/-- The source of the transfer passing an arrival on is that arrival. -/
theorem src_next (i : Slot) (h : passed i) : (src X c (nextSlot i) : sProp 𝕄) = got X c i := by
  have e : (nextSlot i).1 = next i := by unfold nextSlot; rw [dif_pos h.2]
  have hh : hop (next i) ≠ 0 := by rw [(tA_next i h).2.2.1]; omega
  show rPts c (share (nextSlot i).1) (dep c (nextSlot i).1) (gathered X) = _
  rw [e, dep_next c i h]
  unfold share
  rw [if_neg hh]

/-- Every source back and every arrival not passed on make the gathered array. -/
theorem arr_whole : iprop((bigSep Finset.univ fun i : Slot => src X c i) ∗ bigSep Finset.univ fun i : Slot => if passed i then iprop(emp) else got X c i)
    ⊢ ((c : Thread nD τ).loc main_v1 ↦{fullShare} gathered X : sProp 𝕄) := by
  have e1 : (bigSep Finset.univ fun i : Slot => if passed i then (iprop(emp) : sProp 𝕄) else got X c i)
      = bigSep (Finset.univ.filter fun i : Slot => ¬ passed i) fun i => got X c i := by
    rw [← bigSep_if]
    refine bigSep_congr fun i _ => ?_
    by_cases h : passed i
    · rw [if_pos h, if_neg (fun h' => h' h)]
    · rw [if_neg h, if_pos h]
  have e2 : (bigSep (Finset.univ.filter fun i : Slot => ¬ hop i = 0) fun i => (src X c i : sProp 𝕄))
      = bigSep (Finset.univ.filter fun i : Slot => passed i) fun i => got X c i := by
    rw [next_slots, bigSep_image_of_injOn fun i hi j hj h => next_inj i j (Finset.mem_filter.mp hi).2 (Finset.mem_filter.mp hj).2 h]
    exact bigSep_congr fun i hi => src_next X c i (Finset.mem_filter.mp hi).2
  have e3 : (bigSep Finset.univ fun i : Slot => (src X c i : sProp 𝕄))
      = iprop((bigSep (Finset.univ.filter fun i : Slot => hop i = 0) fun i => src X c i) ∗ bigSep (Finset.univ.filter fun i : Slot => ¬ hop i = 0) fun i => src X c i) :=
    bigSep_filter_split _ _
  have e4 : (bigSep Finset.univ fun i : Slot => (got X c i : sProp 𝕄))
      = iprop((bigSep (Finset.univ.filter fun i : Slot => passed i) fun i => got X c i) ∗ bigSep (Finset.univ.filter fun i : Slot => ¬ passed i) fun i => got X c i) :=
    bigSep_filter_split _ _
  rw [arr_parts, own_sources, bigSep_if (fun i : Slot => hop i = 0) (fun i => src X c i), e1, e3, e2, e4]
  iintro ⟨⟨H1, H2⟩, H3⟩
  isplitl [H1]; · iexact H1
  isplitl [H2]; · iexact H2
  iexact H3

end Cert.Proof
-- ==== Proof.Prologue.lean ====
/-
The start of the body: the first two parts of the printed kernel, up to the state the transfers begin in.
-/
module

public import proofs.«01_k».proof.Proof.Start
public import proofs.«01_k».proof.Proof.Parts
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable {X : Dev nD → Blk F} {K : Dev nD × Cell → ℕ} {c : Dev nD}

theorem via {P Q R : sProp 𝕄} (h : Q ⊢ R) (h' : P ⊢ Q) : P ⊢ R := h'.trans h

/-! ## The two parts before the transfers -/

/-- What pays the signal to a neighbour. -/
def ticket (b : Dev nD) (d : Fin 2) : sProp 𝕄 :=
  iprop(dutyTok ER (barCell b) 0 d ∗ barPay (F := F) b d ∗ reached ER (barCell b) 0)

/-- What the device holds for its transfers at their start, before the neighbours' places. -/
def kit (c : Dev nD) : sProp 𝕄 :=
  iprop((bigSep Finset.univ fun i : Slot => iprop(dutyTok ER (sendCell c i) 0 0 ∗ dutyTok ER (recvCell (nbr c i.1.1) i) 0 0 ∗ atPos ER (sendCell c i) 0 ∅ 0))
    ∗ bigSep Finset.univ fun i : Slot => iprop(cred (tallyAt (recvCell c i) () NR) ∗ atPos ER (recvCell c i) 0 ∅ 0))

/-- What the device owes after the first signal, -/
def owedR (c : Dev nD) : CellTallies nD τ sig Unit := owed c 0 + tallyAt (barCell (nbr c 0)) () 1
/-- and at the start. -/
def owedAll (c : Dev nD) : CellTallies nD τ sig Unit := owedR c + tallyAt (barCell (nbr c 1)) () 1

/-- Between the two signals. -/
def Mid (X : Dev nD → Blk F) (K : Dev nD × Cell → ℕ) (c : Dev nD) (R : sProp 𝕄) : sProp 𝕄 :=
  iprop(ctx X K c ∗ permTab c ∗ posTab c ∗ (∃ W, owes (c : Thread nD τ) (owedR c) W)
    ∗ ticket (nbr c 0) 1
    ∗ (cred (tallyAt (barCell c) () 2) ∗ atPos ER (barCell c) 0 ∅ 0)
    ∗ inBlk X c ∗ (∃ f, scr c f) ∗ (∃ f, bigSep Finset.univ fun s : Fin 4 => rPts (F := F) c fullShare (c, s) f)
    ∗ ((dutyTok ER (locCell c) 0 0 ∗ reached ER (locCell c) 0) ∗ atPos ER (locCell c) 0 ∅ 0)
    ∗ kit c ∗ R)
/-- At the start. -/
def Begin (X : Dev nD → Blk F) (K : Dev nD × Cell → ℕ) (c : Dev nD) (R : sProp 𝕄) : sProp 𝕄 :=
  iprop(ctx X K c ∗ permTab c ∗ posTab c ∗ (∃ W, owes (c : Thread nD τ) (owedAll c) W)
    ∗ ticket (nbr c 1) 0
    ∗ ticket (nbr c 0) 1
    ∗ (cred (tallyAt (barCell c) () 2) ∗ atPos ER (barCell c) 0 ∅ 0)
    ∗ inBlk X c ∗ (∃ f, scr c f) ∗ (∃ f, bigSep Finset.univ fun s : Fin 4 => rPts (F := F) c fullShare (c, s) f)
    ∗ ((dutyTok ER (locCell c) 0 0 ∗ reached ER (locCell c) 0) ∗ atPos ER (locCell c) 0 ∅ 0)
    ∗ kit c ∗ R)
/-- What it keeps through the transfers. -/
def Keep (X : Dev nD → Blk F) (c : Dev nD) (R : sProp 𝕄) : sProp 𝕄 :=
  iprop(posTab c ∗ inBlk X c ∗ scr c (X c) ∗ atPos ER (barCell c) 1 ∅ 0 ∗ atPos ER (locCell c) 1 ∅ 0 ∗ R)

theorem run_bind {α β : Type} {Q : β → sProp 𝕄} {p : Code F α} {f : α → Code F β} :
    run c p (fun a => run c (f a) Q) ⊢ run c (p >>= f) Q := rule_bind .rfl
theorem run_ret {α : Type} {Q : α → sProp 𝕄} {a : α} : Q a ⊢ run c (Pure.pure a) Q := rule_ret .rfl
theorem check_pos {S : sProp 𝕄} {Q : PLift (k0_chk1 (posWord c)) → sProp 𝕄} {d} (h : S ⊢ Q ⟨chk1 c⟩) :
    S ⊢ run c (Prog.lift (.assume (k0_chk1 (posWord c)) d)) Q := by
  unfold run
  exact (wp_done (c := c) h).trans (wp_assume 𝒱₀ (c : Thread nD τ) none Set.univ (chk1 c))

theorem begin_perm (R : sProp 𝕄) : Begin X K c R ⊢ iprop(permTab c ∗ (permTab c -∗ Begin X K c R)) := by
  unfold Begin
  iintro ⟨HC, Hp, HR⟩
  isplitl [Hp]; · iexact Hp
  iintro Hp
  isplitl [HC]; · iexact HC
  isplitl [Hp]; · iexact Hp
  iexact HR
theorem begin_pos (R : sProp 𝕄) : Begin X K c R ⊢ iprop(posTab c ∗ (posTab c -∗ Begin X K c R)) := by
  unfold Begin
  iintro ⟨HC, Hp, Hi, HR⟩
  isplitl [Hi]; · iexact Hi
  iintro Hi
  isplitl [HC]; · iexact HC
  isplitl [Hp]; · iexact Hp
  isplitl [Hi]; · iexact Hi
  iexact HR

/-- The first part: the neighbours' names, and the signal to the left. -/
theorem part_one {R : sProp 𝕄} (Q) (h : ∀ v2, Mid X K c R ⊢ Q ⟨c, v2, posWord c, chk1 c, word (nbr c 0), chk3 _, word (nbr c 1), chk2 _, SemArray.scalar (sig.barrier 0 rfl), 1#32⟩) :
    Begin X K c R ⊢ run c (k0_part1 (F := F) (Memref.whole cc0_stg0_0) (Memref.isWhole_whole _) (Memref.whole cc0_stg1_0) (Memref.isWhole_whole _)
      (Memref.whole cc0_stg2_0) (Memref.isWhole_whole _) (Memref.whole main_v1) (Memref.isWhole_whole _) (Memref.whole cc0_scratch0) (Memref.isWhole_whole _)
      cc0_scratch1 cc0_scratch2 cc0_scratch3) Q := by
  refine rule_bind (via run_dev ?_)
  refine rule_bind (via run_load_pos ((begin_pos R).trans (sep_mono_right (wand_mono_right ?_))))
  refine rule_bind (check_pos ?_)
  refine rule_bind (via (run_load_perm (pos c + 1) (off2_eq c)) ((begin_perm R).trans (sep_mono_right (wand_mono_right ?_))))
  refine rule_bind (rule_assume (o := nbr c 0) chk3 ?_)
  refine rule_bind (via (run_load_perm (pos c - 1) (off3_eq c)) ((begin_perm R).trans (sep_mono_right (wand_mono_right ?_))))
  refine rule_bind (rule_assume (o := nbr c 1) chk2 ?_)
  refine rule_bind (via (run_signal (X := X) (K := K) 0 (nbr c 1) (Fin.ext (devOf_eq (nbr c 1))) (owedR c)) ?_)
  refine via (sep_mono_right (sep_mono_right (sep_mono_right (wand_mono_right (rule_ret (h _)))))) ?_
  unfold Begin Mid ticket owedAll
  iintro ⟨#HC, Hp, Hi, HO, HtL, HR⟩
  isplitr; · iexact HC
  isplitl [HtL]; · iexact HtL
  isplitl [HO]; · iexact HO
  iintro HO
  isplitr; · iexact HC
  isplitl [Hp]; · iexact Hp
  isplitl [Hi]; · iexact Hi
  isplitl [HO]; · iexact HO
  iexact HR

theorem send_begin : iprop((bigSep Finset.univ fun i : Slot => iprop(dutyTok ER (sendCell c i) 0 0 ∗ dutyTok ER (recvCell (nbr c i.1.1) i) 0 0 ∗ atPos ER (sendCell c i) 0 ∅ 0))
      ∗ (bigSep Finset.univ fun i : Slot => lent (F := F) c i) ∗ bigSep Finset.univ fun i : Slot => if hop i = 0 then src X c i else iprop(emp))
    ⊢ bigSep Finset.univ (sendSt X c 0) := by
  rw [← bigSep_sep', ← bigSep_sep']
  refine bigSep_mono fun i _ => ?_
  have e : sendSt X c 0 i = iprop((dutyTok ER (sendCell c i) 0 0 ∗ dutyTok ER (recvCell (nbr c i.1.1) i) 0 0 ∗ lent (F := F) c i ∗ atPos ER (sendCell c i) 0 ∅ 0)
      ∗ (if hop i = 0 then src X c i else iprop(emp))) := by
    unfold sendSt
    rw [if_pos (Nat.zero_le _)]
    simp only [Nat.not_lt_zero, or_false]
  rw [e]
  have h : ∀ A B C D E : sProp 𝕄, iprop((A ∗ B ∗ C) ∗ D ∗ E) ⊢ iprop((A ∗ B ∗ D ∗ C) ∗ E) := fun A B C D E => by
    iintro ⟨⟨H1, H2, H3⟩, Hl, Hs⟩
    isplitr [Hs]
    · isplitl [H1]; · iexact H1
      isplitl [H2]; · iexact H2
      isplitl [Hl] <;> iassumption
    iexact Hs
  exact h _ _ _ _ _
theorem recv_begin : (bigSep Finset.univ fun i : Slot => iprop(cred (tallyAt (recvCell c i) () NR) ∗ atPos ER (recvCell c i) 0 ∅ 0) : sProp 𝕄)
    ⊢ bigSep Finset.univ (recvSt X c 0) :=
  bigSep_mono fun i _ => by unfold recvSt; rw [if_pos (Nat.zero_le _)]; exact .refl _

theorem begin_state (R : sProp 𝕄) :
    iprop(ctx X K c ∗ permTab c ∗ posTab c ∗ inBlk X c ∗ (∃ W, owes (c : Thread nD τ) (owed c 0) W) ∗ atPos ER (barCell c) 1 ∅ 0 ∗ atPos ER (locCell c) 1 ∅ 0
      ∗ (bigSep Finset.univ fun i : Slot => lent (F := F) c i) ∗ locPay X c ∗ kit c ∗ R) ⊢ St X K c (Keep X c R) 0 := by
  unfold St Keep kit locPay
  iintro ⟨HC, Hp, Hi, Hx, HO, Hab, Hal, Hl, ⟨Hown, Hs⟩, ⟨Hks, Hkr⟩, HR⟩
  isplitl [HC]; · iexact HC
  isplitl [Hp]; · iexact Hp
  isplitl [Hi Hx Hs Hab Hal HR]
  · isplitl [Hi]; · iexact Hi
    isplitl [Hx]; · iexact Hx
    isplitl [Hs]; · iexact Hs
    isplitl [Hab]; · iexact Hab
    isplitl [Hal] <;> iassumption
  isplitl [Hks Hl Hown]
  · iapply send_begin
    isplitl [Hks]; · iexact Hks
    isplitl [Hl]; · iexact Hl
    iapply (Entails.of_eq (own_sources X c)) $$ Hown
  isplitl [Hkr]
  · iapply recv_begin $$ Hkr
  iexact HO

/-- The second part: the signal to the right, the wait for both, the own block in its place. -/
theorem part_two {R : sProp 𝕄} (v2) (Q) (h : St X K c (Keep X c R) 0 ⊢ Q ⟨word (orig c 0 0), chk4 _⟩) :
    Mid X K c R ⊢ run c (k0_part2 (F := F) (Memref.whole cc0_stg0_0) (Memref.isWhole_whole _) (Memref.whole cc0_stg1_0) (Memref.isWhole_whole _)
      (Memref.whole cc0_stg2_0) (Memref.isWhole_whole _) (Memref.whole main_v1) (Memref.isWhole_whole _) (Memref.whole cc0_scratch0) (Memref.isWhole_whole _)
      cc0_scratch1 cc0_scratch2 cc0_scratch3 c v2 (posWord c) (chk1 c) (word (nbr c 0)) (chk3 _) (SemArray.scalar (sig.barrier 0 rfl)) 1#32) Q := by
  refine rule_bind (via (run_signal (X := X) (K := K) 1 (nbr c 0) (Fin.ext (devOf_eq' (nbr c 0))) (owed c 0)) ?_)
  unfold Mid
  iintro ⟨#HC, Hp, Hi, HO, HtR, ⟨Hcb, Hab⟩, Hx, Hs, Ho, ⟨Ht, Hal⟩, Hk, HR⟩
  isplitr; · iexact HC
  isplitl [HtR]; · unfold ticket; iexact HtR
  isplitl [HO]; · unfold owedR; iexact HO
  iintro HO
  iapply run_bind
  iapply (run_meet (X := X) (K := K))
  isplitr; · iexact HC
  isplitl [Hcb]; · iexact Hcb
  isplitl [Hab]; · iexact Hab
  isplitl [HO]; · iexact HO
  iintro HO Hab Hl
  iapply run_bind
  iapply (run_load_in (X := X))
  isplitl [Hx]; · iexact Hx
  iintro Hx
  iapply run_bind
  iapply run_load_scr
  isplitl [Hs]; · iexact Hs
  iintro %v Hs
  iapply run_bind
  iapply run_store
  isplitl [Hs]; · iexact Hs
  iintro Hs
  ihave Hs := (Entails.of_eq (show scr c _ = scr c (X c) by rw [shapeCast_self, shapeCast_self])) $$ Hs
  iapply run_bind
  iapply (run_copy (X := X) (K := K))
  isplitr; · iexact HC
  isplitl [Ht]; · iexact Ht
  isplitl [Hs]; · iexact Hs
  isplitl [Ho]; · iexact Ho
  iintro Hcl
  iapply run_bind
  iapply (run_copied (X := X) (K := K))
  isplitr; · iexact HC
  isplitl [Hcl]; · iexact Hcl
  isplitl [Hal]; · iexact Hal
  isplitl [HO]; · iexact HO
  iintro HO Hal Hpay
  ihave HS := (begin_state (X := X) (K := K) (c := c) R) $$ [Hp Hi HO Hab Hl Hx Hal Hpay Hk HR]
  · isplitr; · iexact HC
    isplitl [Hp]; · iexact Hp
    isplitl [Hi]; · iexact Hi
    isplitl [Hx]; · iexact Hx
    isplitl [HO]; · iexact HO
    isplitl [Hab]; · iexact Hab
    isplitl [Hal]; · iexact Hal
    isplitl [Hl]; · iexact Hl
    isplitl [Hpay]; · iexact Hpay
    isplitl [Hk] <;> iassumption
  iclear HC
  refine via (Q := St X K c (Keep X c R) 0) (rule_bind (rule_load (n := 0) off5_eq ?_)) ?_
  · refine rule_bind (rule_assume (o := orig c (ldDir 0) (ldHop 0)) chk4 ?_)
    exact rule_ret h
  · iintro H; iexact H

end Cert.Proof
-- ==== Proof.Body.lean ====
/-
The body's run after its prologue: 124 transfers started, awaited and seen off, one rule per operation. The operations
are walked by one loop, which tries the rules in turn; which transfer an operation belongs to comes from its operands.
-/
module

public import proofs.«01_k».proof.Proof.Rules

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable {X : Dev nD → Blk F} {K : Dev nD × Cell → ℕ} {c : Dev nD}

set_option maxRecDepth 65536 in
set_option maxHeartbeats 20000000 in
/-- The first 168 operations on transfers, after the prologue's two parts. -/
theorem first_half {R P1 P2 : sProp 𝕄} {Q : _ → sProp 𝕄}
    (h1 : ∀ Q, (∀ v2, P2 ⊢ Q ⟨c, v2, posWord c, chk1 c, word (nbr c 0), chk3 _, word (nbr c 1), chk2 _, SemArray.scalar (sig.barrier 0 rfl), 1#32⟩) →
      P1 ⊢ run c (k0_part1 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3) Q)
    (h2 : ∀ v2 Q, (St X K c R 0 ⊢ Q ⟨word (orig c 0 0), chk4 _⟩) →
      P2 ⊢ run c (k0_part2 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3
        c v2 (posWord c) (chk1 c) (word (nbr c 0)) (chk3 _) (SemArray.scalar (sig.barrier 0 rfl)) 1#32) Q)
    (h : ∀ p1 p2 p3 p4 p5 p6 p7 p8 p9 p10 p11 p12 p13 p14 p15 p16 p17 p18 p19 p20 p21 p22 p23 p24 p25 w1 w2 w3, St X K c R 168 ⊢ Q ⟨(posWord c), p1, (word (nbr c 0)), p2, (word (nbr c 1)), p3, (word (orig c 0 0)), p4, (word (orig c 1 0)), p5, (word (orig c 0 1)), p6, (word (orig c 1 1)), p7, (word (orig c 0 2)), p8, (word (orig c 1 2)), p9, (word (orig c 0 3)), p10, (word (orig c 1 3)), p11, (word (orig c 0 4)), p12, (word (orig c 1 4)), p13, (word (orig c 0 5)), p14, (word (orig c 1 5)), p15, (word (orig c 0 6)), p16, (word (orig c 1 6)), p17, (word (orig c 0 7)), p18, (word (orig c 1 7)), p19, (word (orig c 0 8)), p20, (word (orig c 1 8)), p21, (word (orig c 0 9)), p22, (word (orig c 1 9)), p23, (word (orig c 0 10)), p24, (word (orig c 1 10)), p25, w1, w2, w3⟩) :
    P1 ⊢ run c (k0_part112 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3) Q := by
  refine rule_bind (h1 _ fun v2 => ?_)
  refine rule_bind (h2 _ _ ?_)
  repeat first
    | with_reducible refine rule_ret ?_
    | refine rule_bind ?_
    | refine rule_send (by decide) (by decide) (by decide) (by decide) (by simp only [Nat.reduceAdd]; rfl) (by rfl) (by rfl) (by decide) (by rfl) (by rfl) ?_
    | refine rule_recv (by decide) (by decide) (by decide) (by decide) (by simp only [Nat.reduceAdd]; rfl) ?_
    | refine rule_load (by decide +kernel) ?_
    | refine rule_assume (by decide +kernel) ?_
  exact h _ _ _ _ _ _ _ _ _ _ _ _ _ _ _ _ _ _ _ _ _ _ _ _ _ _ _ _

set_option maxRecDepth 65536 in
set_option maxHeartbeats 20000000 in
/-- The next 200. -/
theorem second_half {R : sProp 𝕄} {Q : _ → sProp 𝕄} {p1 p2 p3 p4 p5 p6 p7 p8 p9 p10 p11 p12 p13 p14 p15 p16 p17 p18 p19 p20 p21 p22 p23 p24 p25 w1 w2 w3}
    (h : ∀ v q v' q', St X K c R 368 ⊢ Q ⟨v, q, v', q'⟩) :
    St X K c R 168 ⊢ run c (k0_part113 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3
      (posWord c) p1 (word (nbr c 0)) p2 (word (nbr c 1)) p3 (word (orig c 0 0)) p4 (word (orig c 1 0)) p5 (word (orig c 0 1)) p6 (word (orig c 1 1)) p7 (word (orig c 0 2)) p8 (word (orig c 1 2)) p9 (word (orig c 0 3)) p10 (word (orig c 1 3)) p11 (word (orig c 0 4)) p12 (word (orig c 1 4)) p13 (word (orig c 0 5)) p14 (word (orig c 1 5)) p15 (word (orig c 0 6)) p16 (word (orig c 1 6)) p17 (word (orig c 0 7)) p18 (word (orig c 1 7)) p19 (word (orig c 0 8)) p20 (word (orig c 1 8)) p21 (word (orig c 0 9)) p22 (word (orig c 1 9)) p23 (word (orig c 0 10)) p24 (word (orig c 1 10)) p25 w1 w2 w3) Q := by
  repeat first
    | with_reducible refine rule_ret ?_
    | refine rule_bind ?_
    | refine rule_send (by decide) (by decide) (by decide) (by decide) (by simp only [Nat.reduceAdd]; rfl) (by rfl) (by rfl) (by decide) (by rfl) (by rfl) ?_
    | refine rule_recv (by decide) (by decide) (by decide) (by decide) (by simp only [Nat.reduceAdd]; rfl) ?_
    | refine rule_load (by decide +kernel) ?_
    | refine rule_assume (by decide +kernel) ?_
  repeat first
    | with_reducible refine rule_ret ?_
    | refine rule_bind ?_
    | refine rule_sent (by decide) (by decide) (by decide) (by decide) (by simp only [Nat.reduceAdd]; rfl) ?_
  exact h _ _ _ _

set_option maxRecDepth 65536 in
set_option maxHeartbeats 20000000 in
/-- The body from its first two parts' runs: the state at time 0 is carried to time 372. -/
theorem body_run {R P1 P2 : sProp 𝕄} {Q : PUnit → sProp 𝕄}
    (h1 : ∀ Q, (∀ v2, P2 ⊢ Q ⟨c, v2, posWord c, chk1 c, word (nbr c 0), chk3 _, word (nbr c 1), chk2 _, SemArray.scalar (sig.barrier 0 rfl), 1#32⟩) →
      P1 ⊢ run c (k0_part1 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3) Q)
    (h2 : ∀ v2 Q, (St X K c R 0 ⊢ Q ⟨word (orig c 0 0), chk4 _⟩) →
      P2 ⊢ run c (k0_part2 (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3
        c v2 (posWord c) (chk1 c) (word (nbr c 0)) (chk3 _) (SemArray.scalar (sig.barrier 0 rfl)) 1#32) Q)
    (h : St X K c R 372 ⊢ Q ⟨⟩) :
    P1 ⊢ run c (cc0_body (F := F) (Memref.whole cc0_stg0_0) (Memref.isWhole_whole _) (Memref.whole cc0_stg1_0) (Memref.isWhole_whole _)
        (Memref.whole cc0_stg2_0) (Memref.isWhole_whole _) (Memref.whole main_v1) (Memref.isWhole_whole _) (Memref.whole cc0_scratch0) (Memref.isWhole_whole _)
        cc0_scratch1 cc0_scratch2 cc0_scratch3) Q := by
  refine rule_bind (first_half h1 h2 fun _ _ _ _ _ _ _ _ _ _ _ _ _ _ _ _ _ _ _ _ _ _ _ _ _ _ _ _ => ?_)
  refine rule_bind (second_half fun _ _ _ _ => ?_)
  repeat first
    | with_reducible refine rule_ret ?_
    | refine rule_bind ?_
    | refine rule_sent (by decide) (by decide) (by decide) (by decide) (by simp only [Nat.reduceAdd]; rfl) ?_
  exact h

end Cert.Proof
-- ==== Proof.End.lean ====
/-
The end of the body: the array is whole again and holds every device's block, and each semaphore's counter is back at zero.
-/
module

public import proofs.«01_k».proof.Proof.Prologue
public import proofs.«01_k».proof.Proof.Body

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable {X : Dev nD → Blk F} {K : Dev nD × Cell → ℕ} {c : Dev nD}

theorem tW_lt : ∀ i : Slot, tW i < 372 := by decide +kernel

theorem send_end : bigSep Finset.univ (sendSt X c 372)
    = iprop((bigSep Finset.univ fun i : Slot => atPos ER (sendCell c i) 1 ∅ 0) ∗ bigSep Finset.univ fun i : Slot => src X c i) := by
  rw [← bigSep_sep']
  refine bigSep_congr fun i _ => ?_
  have := tS_lt i
  have := tW_lt i
  unfold sendSt
  rw [if_neg (by omega), if_neg (by omega)]
theorem recv_end : bigSep Finset.univ (recvSt X c 372)
    = iprop((bigSep Finset.univ fun i : Slot => atPos ER (recvCell c i) 1 ∅ 0) ∗ bigSep Finset.univ fun i : Slot => if passed i then iprop(emp) else got X c i) := by
  rw [← bigSep_sep']
  refine bigSep_congr fun i _ => ?_
  have := tR_lt i
  unfold recvSt
  rw [if_neg (by omega)]

/-- A cell whose round is over gives its counter back, at zero. -/
theorem close_one (k : Cell) : iprop(ctx X K c ∗ atPos ER (cell c k) 1 ∅ 0) ⊢ iprop(|={Set.univ}[frame]=> semVal (cell c k) 0) := by
  iintro ⟨HC, Hat⟩
  ihave HI := (cell_inv X K c c k) $$ HC
  imod (Rounds.cell_close ER (sched X) (Set.mem_univ (K (c, k))) (fun h => h) (R := 1) (duties_later X (cell c k))) $$ [HI Hat] with Hz
  · isplitl [HI] <;> iassumption
  imodintro
  iexact Hz

/-- The cells of one device at the end. -/
theorem close_all : iprop(ctx X K c ∗ (bigSep Finset.univ fun k : Cell => atPos ER (cell c k) 1 ∅ 0))
    ⊢ iprop(|={Set.univ}[frame]=> bigSep Finset.univ fun k : Cell => semVal (cell c k) 0) :=
  (bigSep_with_persistent (R := ctx X K c) (Φ := fun k : Cell => atPos ER (cell c k) 1 ∅ 0) (Ψ := fun k : Cell => iprop(|={Set.univ}[frame]=> semVal (cell c k) 0))
    fun k _ => close_one k).trans (bigSep_fupd _ _)

/-- What a device holds when the body is over. -/
def Over (X : Dev nD → Blk F) (c : Dev nD) (R : sProp 𝕄) : sProp 𝕄 :=
  iprop(permTab c ∗ posTab c ∗ inBlk X c ∗ (∃ f, scr c f) ∗ ((c : Thread nD τ).loc main_v1 ↦{fullShare} gathered X)
    ∗ semVal (barCell c) 0 ∗ (bigSep Finset.univ fun o : Own => semVal ((c : Thread nD τ), osem o) 0) ∗ (∃ W, owes (c : Thread nD τ) 0 W) ∗ R)

theorem bigSep_one (Φ : Unit → sProp 𝕄) : bigSep Finset.univ Φ = Φ () := bigSep_singleton

theorem cells_split (Φ : Cell → sProp 𝕄) : bigSep Finset.univ Φ = iprop(Φ (.inl ()) ∗ bigSep Finset.univ fun o : Own => Φ (.inr o)) := by
  rw [bigSep_univ_sum, bigSep_one]
  rfl
theorem own_split (Φ : Own → sProp 𝕄) : bigSep Finset.univ Φ
    = iprop(Φ (.inl ()) ∗ (bigSep Finset.univ fun i : Slot => Φ (.inr (.inl i))) ∗ bigSep Finset.univ fun i : Slot => Φ (.inr (.inr i))) := by
  rw [bigSep_univ_sum, bigSep_one, bigSep_univ_sum]
  rfl

theorem finish {R : sProp 𝕄} : St X K c (Keep X c R) 372 ⊢ iprop(|={Set.univ}[frame]=> Over X c R) := by
  unfold St Keep Over
  rw [send_end, recv_end, owed_none c 372 (by omega)]
  iintro ⟨#HC, Hp, ⟨Hi, Hx, Hs, Hab, Hal, HR⟩, ⟨Has, Hsrc⟩, ⟨Har, Hgot⟩, HO⟩
  ihave Harr := (arr_whole X c) $$ [Hsrc Hgot]
  · isplitl [Hsrc] <;> iassumption
  imod (close_all (X := X) (K := K) (c := c)) $$ [Hab Hal Has Har] with Hz
  · isplitr; · iexact HC
    rw [cells_split, own_split]
    isplitl [Hab]; · iexact Hab
    isplitl [Hal]; · iexact Hal
    isplitl [Has]; · iexact Has
    iexact Har
  ihave Hz := (Entails.of_eq (cells_split _)) $$ Hz
  icases Hz with ⟨Hb, Hz⟩
  imodintro
  isplitl [Hp]; · iexact Hp
  isplitl [Hi]; · iexact Hi
  isplitl [Hx]; · iexact Hx
  isplitl [Hs]; · iexists _; iexact Hs
  isplitl [Harr]; · iexact Harr
  isplitl [Hb]; · iexact Hb
  isplitl [Hz]; · iexact Hz
  isplitl [HO] <;> iassumption

theorem run_fupd {α : Type} {p : Code F α} {Q : α → sProp 𝕄} : run c p (fun a => iprop(|={Set.univ}[frame]=> Q a)) ⊢ run c p Q := by
  unfold run
  exact wp_fupd frame (wpE (defs₀ (F := F)) 𝒱₀ (c : Thread nD τ) none) Set.univ p Q

/-- The whole body, from the start to the end. -/
theorem body_all {R : sProp 𝕄} : Begin X K c R ⊢ run c (cc0_body (F := F) (Memref.whole cc0_stg0_0) (Memref.isWhole_whole _) (Memref.whole cc0_stg1_0) (Memref.isWhole_whole _)
      (Memref.whole cc0_stg2_0) (Memref.isWhole_whole _) (Memref.whole main_v1) (Memref.isWhole_whole _) (Memref.whole cc0_scratch0) (Memref.isWhole_whole _)
      cc0_scratch1 cc0_scratch2 cc0_scratch3) fun _ => Over X c R := by
  refine (body_run (Q := fun _ => iprop(|={Set.univ}[frame]=> Over X c R)) (fun Q => part_one (R := R) Q) (fun v2 Q => part_two (R := R) v2 Q) finish).trans ?_
  exact run_fupd

end Cert.Proof
-- ==== Proof.Data.lean ====
/-
The kernel's call on one device: what it is given, what it leaves, and that the body gets from the one to the other.
-/
module

public import proofs.«01_k».proof.Proof.End
public import proofs.«01_k».proof.Proof.Gen.KernelIdeal.Frame
public import Idealize.ShloMosaic.Lib.Pipeline.RegionTalk

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable (m : (ℓ : Loc nD τ sig) → Buf (Elt F) ℓ) (ρ : Dev nD → PrngReg)

/-- A device's block of the input. -/
def xs (c : Dev nD) : Blk F := m ((c : Thread nD τ).loc main_arg0)

/-- A device's buffers when the kernel is called, -/
def W₁ (c : Dev nD) : Valuation τ sig (Elt F) := StableHlo.after Gen.hostOps0 fun b => m (c, b)
/-- and after it. -/
def W₂ (c : Dev nD) : Valuation τ sig (Elt F) := Function.update (W₁ m c) (Proc.devRef .tc main_v1) (gathered (xs m) : Arr F)

/-! ## What the kernel is called with -/

/-- What the launch gives a device, its own cells not yet in use. -/
def Tk (c : Dev nD) : sProp 𝕄 :=
  iprop(∃ K : Dev nD × Cell → ℕ,
    (bigSep Finset.univ fun x : Dev nD × Cell => cellInv ER (sched (xs m)) (K x) (cell x.1 x.2))
    ∗ (bigSep Finset.univ fun b : Dev nD => reached ER (barCell b) 0)
    ∗ atPos ER (barCell c) 0 ∅ 0
    ∗ (bigSep Finset.univ fun o : Own => openTok ER (cell c (.inr o)))
    ∗ (dutyTok ER (barCell (nbr c 1)) 0 0 ∗ dutyTok ER (barCell (nbr c 0)) 0 1 ∗ dutyTok ER (locCell c) 0 0
      ∗ (bigSep Finset.univ fun i : Slot => dutyTok ER (sendCell c i) 0 0)
      ∗ (bigSep Finset.univ fun i : Slot => dutyTok ER (recvCell (nbr c i.1.1) i) 0 0))
    ∗ cred (tallyAt (barCell c) () 2)
    ∗ bigSep Finset.univ fun i : Slot => cred (tallyAt (recvCell c i) () NR))

/-- The same with them in use. -/
def Xk (c : Dev nD) : sProp 𝕄 :=
  iprop(∃ K : Dev nD × Cell → ℕ,
    ctx (xs m) K c
    ∗ (reached ER (barCell (nbr c 1)) 0 ∗ reached ER (barCell (nbr c 0)) 0 ∗ bigSep Finset.univ fun o : Own => reached ER (cell c (.inr o)) 0)
    ∗ atPos ER (barCell c) 0 ∅ 0
    ∗ (bigSep Finset.univ fun o : Own => atPos ER (cell c (.inr o)) 0 ∅ 0)
    ∗ (dutyTok ER (barCell (nbr c 1)) 0 0 ∗ dutyTok ER (barCell (nbr c 0)) 0 1 ∗ dutyTok ER (locCell c) 0 0
      ∗ (bigSep Finset.univ fun i : Slot => dutyTok ER (sendCell c i) 0 0)
      ∗ (bigSep Finset.univ fun i : Slot => dutyTok ER (recvCell (nbr c i.1.1) i) 0 0))
    ∗ cred (tallyAt (barCell c) () 2)
    ∗ bigSep Finset.univ fun i : Slot => cred (tallyAt (recvCell c i) () NR))

theorem inv_of (K : Dev nD × Cell → ℕ) (x : Dev nD × Cell) :
    (bigSep Finset.univ fun x : Dev nD × Cell => cellInv ER (sched (xs m)) (K x) (cell x.1 x.2)) ⊢ (cellInv ER (sched (xs m)) (K x) (cell x.1 x.2) : sProp 𝕄) :=
  bigSep_elim (Φ := fun x : Dev nD × Cell => cellInv ER (sched (xs m)) (K x) (cell x.1 x.2)) (Finset.mem_univ x)
theorem bar_of (b : Dev nD) : (bigSep Finset.univ fun b : Dev nD => reached ER (barCell b) 0) ⊢ (reached ER (barCell b) 0 : sProp 𝕄) :=
  bigSep_elim (Φ := fun b : Dev nD => (reached ER (barCell b) 0 : sProp 𝕄)) (Finset.mem_univ b)

/-- One of the device's own cells comes into use. -/
theorem open_one (K : Dev nD × Cell → ℕ) (c : Dev nD) (o : Own) :
    iprop((bigSep Finset.univ fun x : Dev nD × Cell => cellInv ER (sched (xs m)) (K x) (cell x.1 x.2)) ∗ (openTok ER (cell c (.inr o)) ∗ semVal ((c : Thread nD τ), osem o) 0))
      ⊢ iprop(|={Set.univ}[frame]=> (atPos ER (cell c (.inr o)) 0 ∅ 0 ∗ reached ER (cell c (.inr o)) 0)) := by
  iintro ⟨HI, Ho, Hv⟩
  ihave HI := (inv_of m K (c, .inr o)) $$ HI
  iapply (Rounds.cell_open ER (sched (xs m)) (g := cell c (.inr o)) (Set.mem_univ (K (c, .inr o))))
  isplitl [HI]; · iexact HI
  isplitl [Ho]; · iexact Ho
  iexact Hv

/-- All of them. -/
theorem open_own (K : Dev nD × Cell → ℕ) (c : Dev nD) :
    iprop((bigSep Finset.univ fun x : Dev nD × Cell => cellInv ER (sched (xs m)) (K x) (cell x.1 x.2))
        ∗ bigSep Finset.univ fun o : Own => iprop(openTok ER (cell c (.inr o)) ∗ semVal ((c : Thread nD τ), osem o) 0))
      ⊢ iprop(|={Set.univ}[frame]=> bigSep Finset.univ fun o : Own => iprop(atPos ER (cell c (.inr o)) 0 ∅ 0 ∗ reached ER (cell c (.inr o)) 0)) :=
  (bigSep_with_persistent (R := bigSep Finset.univ fun x : Dev nD × Cell => cellInv ER (sched (xs m)) (K x) (cell x.1 x.2))
      (Φ := fun o : Own => iprop(openTok ER (cell c (.inr o)) ∗ semVal ((c : Thread nD τ), osem o) 0))
      (Ψ := fun o : Own => iprop(|={Set.univ}[frame]=> (atPos ER (cell c (.inr o)) 0 ∅ 0 ∗ reached ER (cell c (.inr o)) 0)))
      fun o _ => open_one m K c o).trans (bigSep_fupd _ _)

theorem open_all (c : Dev nD) : iprop(Tk m c ∗ Pipeline.ownSems0 osem c ∗ levAts L lv) ⊢ iprop(|={Set.univ}[frame]=> Xk m c) := by
  unfold Tk Xk ctx
  iintro ⟨⟨%K, #HI, #HR, Hat, Hop, Htok, Hc, Hcr⟩, Hv, #Hlev⟩
  imod (open_own m K c) $$ [Hop Hv] with H
  · isplitr; · iexact HI
    rw [bigSep_sep' _ _ _]
    isplitl [Hop]; · iexact Hop
    unfold Pipeline.ownSems0; iexact Hv
  ihave H := (Entails.of_eq (bigSep_sep' _ _ _)) $$ H
  icases H with ⟨HatO, #HrO⟩
  imodintro
  iexists K
  isplitr
  · isplitr; · iexact HI
    isplitr; · iexact Hlev
    ihave H := (Entails.of_eq (own_split (F := F) fun o : Own => reached ER (cell c (.inr o)) 0)) $$ HrO
    icases H with ⟨-, H, -⟩
    iexact H
  isplitr
  · isplitr
    · iapply (bar_of (nbr c 1)); iexact HR
    isplitr
    · iapply (bar_of (nbr c 0)); iexact HR
    iexact HrO
  isplitl [Hat]; · iexact Hat
  isplitl [HatO]; · iexact HatO
  isplitl [Htok]; · iexact Htok
  isplitl [Hc] <;> iassumption

/-! ## The proof data -/

abbrev scrAny (c : Dev nD) : sProp 𝕄 := iprop(∃ f : Buf (Elt F) ((c : Thread nD τ).loc cc0_scratch0), (c : Thread nD τ).loc cc0_scratch0 ↦{fullShare} f)

def Enter (c : Dev nD) : sProp 𝕄 :=
  iprop(Xk m c ∗ scrAny c ∗ (∃ r, prngReg c r) ∗ ∃ f, (c : Thread nD τ).loc main_v1 ↦{fullShare} (f : Arr F))
def Leave (c : Dev nD) : sProp 𝕄 :=
  iprop(scrAny c ∗ (∃ r, prngReg c r) ∗ ((c : Thread nD τ).loc main_v1 ↦{fullShare} gathered (xs m)) ∗ Pipeline.ownSems0 osem c ∗ semVal (barCell c) 0)

def dat (c : Dev nD) : Dat τ (Elt F) Unit ℕ UU ℕ cfg0 c where
  A w := Gen.V m c (Pipeline.arrRef spec0 w)
  after w t := match w with
    | ⟨0, _⟩ => fun i : S32.Idx => lit0 (S32.rowMajor i)
    | ⟨1, _⟩ => fun i : S32.Idx => lit1 (S32.rowMajor i)
    | ⟨2, _⟩ => xs m c
  Φ t := if t.val = 0 then Enter m c else Leave m c
  q _ := fullShare
  owed t := if t.val = 0 then owedAll c else 0

def dats (_ : Fin 1) (c : Dev nD) : Dat τ (Elt F) Unit ℕ UU ℕ cfg0 c := dat m c

theorem V_c (c : Dev nD) : Gen.V m c main_c = fun i : S32.Idx => lit0 (S32.rowMajor i) := by
  unfold Gen.V Gen.hostOps0
  simp only [StableHlo.after]
  rw [StableHlo.nullary_result_ne _ _ _ _ (by decide), StableHlo.nullary_result]
  rfl
theorem V_c0 (c : Dev nD) : Gen.V m c main_c_0 = fun i : S32.Idx => lit1 (S32.rowMajor i) := by
  unfold Gen.V Gen.hostOps0
  simp only [StableHlo.after]
  rw [StableHlo.nullary_result]
  rfl

/-- A window's block is its whole array. -/
theorem emb0 (t) (y : S32.Idx) : ((cfg0.win 0).rect t).emb y = y :=
  funext fun a => Fin.ext (Pipeline.Window.rect_emb_val_of_index_zero _ t a rfl y)
theorem emb1 (t) (y : S32.Idx) : ((cfg0.win 1).rect t).emb y = y :=
  funext fun a => Fin.ext (Pipeline.Window.rect_emb_val_of_index_zero _ t a rfl y)
theorem emb2 (t) (y : S2048x512.Idx) : ((cfg0.win 2).rect t).emb y = y :=
  funext fun a => Fin.ext (Pipeline.Window.rect_emb_val_of_index_zero _ t a rfl y)

theorem blk0 (c : Dev nD) (t) : Gen.iblk m c 0 t = fun i : S32.Idx => lit0 (S32.rowMajor i) := by
  funext y
  show Gen.V m c main_c (((cfg0.win 0).rect t).emb y) = _
  rw [V_c]; exact congrArg (fun i : S32.Idx => lit0 (S32.rowMajor i)) (emb0 t y)
theorem blk1 (c : Dev nD) (t) : Gen.iblk m c 1 t = fun i : S32.Idx => lit1 (S32.rowMajor i) := by
  funext y
  show Gen.V m c main_c_0 (((cfg0.win 1).rect t).emb y) = _
  rw [V_c0]; exact congrArg (fun i : S32.Idx => lit1 (S32.rowMajor i)) (emb1 t y)
theorem blk2 (c : Dev nD) (t) : Gen.iblk m c 2 t = xs m c := by
  funext y
  show Gen.V m c main_arg0 (((cfg0.win 2).rect t).emb y) = _
  rw [Gen.V_main_arg0]; exact congrArg (xs m c) (emb2 t y)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dat m c).before (0 : Fin 3) Gen.t0_0 d = fun i : S32.Idx => lit0 (S32.rowMajor i) := by
  unfold Dat.before; rw [if_pos (Gen.fetch0_0 _)]; exact blk0 m c Gen.t0_0
theorem before1 (c : Dev nD) (d) : (dat m c).before (1 : Fin 3) Gen.t0_0 d = fun i : S32.Idx => lit1 (S32.rowMajor i) := by
  unfold Dat.before; rw [if_pos (Gen.fetch0_1 _)]; exact blk1 m c Gen.t0_0
theorem before2 (c : Dev nD) (d) : (dat m c).before (2 : Fin 3) Gen.t0_0 d = xs m c := by
  unfold Dat.before; rw [if_pos (Gen.fetch0_2 _)]; exact blk2 m c Gen.t0_0

theorem scr_eq (c : Dev nD) (f : Blk F) : scr c f = ((c : Thread nD τ).loc cc0_scratch0 ↦{fullShare} f : sProp 𝕄) := by
  unfold scr; simp only [Memref.view_whole, View.set_whole]

theorem stg_in (c : Dev nD) (b : Ref sig .tc) (X : b.ty.Contents (Elt F)) : stg c b X ⊢ ((c : Thread nD τ).loc b ↦{fullShare} (X : Buf (Elt F) ((c : Thread nD τ).loc b)) : sProp 𝕄) := by
  unfold stg
  iintro ⟨%f, %h, H⟩
  subst h
  iexact H
theorem stg_out (c : Dev nD) (b : Ref sig .tc) (X : b.ty.Contents (Elt F)) : ((c : Thread nD τ).loc b ↦{fullShare} (X : Buf (Elt F) ((c : Thread nD τ).loc b)) : sProp 𝕄) ⊢ stg c b X := by
  unfold stg
  iintro H
  iexists _
  isplitr; · ipureintro; rfl
  iexact H

theorem owes_in (c : Dev nD) : (dat m c).owesAt () Gen.t0_0.castSucc ⊢ iprop(∃ W, owes (c : Thread nD τ) (owedAll c) W) := by
  unfold Dat.owesAt Pipeline.owesWithin
  rw [show (dat m c).owed Gen.t0_0.castSucc = owedAll c from rfl]
  iintro ⟨%W, %hW, HO⟩
  iexists W
  iexact HO
theorem owes_out (c : Dev nD) : iprop(∃ W, owes (c : Thread nD τ) 0 W) ⊢ (dat m c).owesAt () Gen.t0_0.succ := by
  unfold Dat.owesAt Pipeline.owesWithin
  rw [show (dat m c).owed Gen.t0_0.succ = 0 from rfl]
  iintro ⟨%W, HO⟩
  iexists W
  isplitr; · ipureintro; exact fun _ _ => Or.inl trivial
  iexact HO

theorem pre_begin (c : Dev nD) : iprop(Enter m c ∗ (dat m c).owesAt () Gen.t0_0.castSucc ∗ permTab c ∗ posTab c ∗ inBlk (xs m) c)
    ⊢ iprop(∃ K, Begin (xs m) K c iprop(∃ r, prngReg c r)) := by
  unfold Enter Xk Begin ticket kit
  iintro ⟨⟨⟨%K, HC, ⟨HrL, HrR, Hr⟩, Hat, HatO, ⟨HtL, HtR, Htl, Hts, Htr⟩, Hcb, Hcr⟩, ⟨%fs, Hs⟩, Hp, ⟨%fo, Ho⟩⟩, HO, Hpt, Hqt, Hin⟩
  ihave HO := (owes_in m c) $$ HO
  ihave Hr := (Entails.of_eq (own_split (F := F) fun o : Own => reached ER (cell c (.inr o)) 0)) $$ Hr
  icases Hr with ⟨Hrl, -, Hrr⟩
  ihave HatO := (Entails.of_eq (own_split (F := F) fun o : Own => atPos ER (cell c (.inr o)) 0 ∅ 0)) $$ HatO
  icases HatO with ⟨Hal, Has, Har⟩
  ihave Ho := (Entails.of_eq (arr_parts c fo)) $$ Ho
  icases Ho with ⟨Hown, Hlend⟩
  ihave Hlend := (lend c fo) $$ [Hlend Hrr]
  · isplitl [Hlend]; · iexact Hlend
    iexact Hrr
  icases Hlend with ⟨HpL, HpR⟩
  iexists K
  isplitl [HC]; · iexact HC
  isplitl [Hpt]; · iexact Hpt
  isplitl [Hqt]; · iexact Hqt
  isplitl [HO]; · iexact HO
  isplitl [HtL HpL HrL]
  · isplitl [HtL]; · iexact HtL
    isplitl [HpL] <;> iassumption
  isplitl [HtR HpR HrR]
  · isplitl [HtR]; · iexact HtR
    isplitl [HpR] <;> iassumption
  isplitl [Hcb Hat]
  · isplitl [Hcb] <;> iassumption
  isplitl [Hin]; · iexact Hin
  isplitl [Hs]
  · iexists fs
    rw [scr_eq]
    iexact Hs
  isplitl [Hown]; · iexists fo; iexact Hown
  isplitl [Htl Hrl Hal]
  · isplitl [Htl Hrl]
    · isplitl [Htl]; · iexact Htl
      iexact Hrl
    iexact Hal
  isplitr [Hp]
  · rw [bigSep_sep' _ _ _, bigSep_sep' _ _ _, bigSep_sep' _ _ _]
    isplitl [Hts Htr Has]
    · isplitl [Hts]; · iexact Hts
      isplitl [Htr]; · iexact Htr
      iexact Has
    isplitl [Hcr]; · iexact Hcr
    iexact Har
  iexact Hp

theorem post_over (c : Dev nD) : Over (xs m) c iprop(∃ r, prngReg c r)
    ⊢ iprop(Leave m c ∗ (dat m c).owesAt () Gen.t0_0.succ ∗ permTab c ∗ posTab c ∗ inBlk (xs m) c) := by
  unfold Over Leave
  iintro ⟨Hpt, Hqt, Hin, ⟨%fs, Hs⟩, Ho, Hb, Hz, HO, Hp⟩
  isplitr [HO Hpt Hqt Hin]
  · isplitl [Hs]
    · iexists fs
      iapply (Entails.of_eq (scr_eq c fs))
      iexact Hs
    isplitl [Hp]; · iexact Hp
    isplitl [Ho]; · iexact Ho
    isplitl [Hz]
    · unfold Pipeline.ownSems0; iexact Hz
    iexact Hb
  isplitl [HO]; · iapply (owes_out m c); iexact HO
  isplitl [Hpt]; · iexact Hpt
  isplitl [Hqt] <;> iassumption

abbrev theBody : Code F PUnit :=
  cc0_body (F := F) (Memref.whole cc0_stg0_0) (Memref.isWhole_whole _) (Memref.whole cc0_stg1_0) (Memref.isWhole_whole _)
      (Memref.whole cc0_stg2_0) (Memref.isWhole_whole _) (Memref.whole main_v1) (Memref.isWhole_whole _) (Memref.whole cc0_scratch0) (Memref.isWhole_whole _)
      cc0_scratch1 cc0_scratch2 cc0_scratch3

theorem run_mono {α : Type} {c : Dev nD} {p : Code F α} {Q Q' : α → sProp 𝕄} (h : ∀ a, Q a ⊢ Q' a) : run c p Q ⊢ run c p Q' := by
  unfold run
  exact wp_mono frame (wpE (defs₀ (F := F)) 𝒱₀ (c : Thread nD τ) none) Set.univ h

theorem call_body (c : Dev nD) : iprop(Enter m c ∗ (dat m c).owesAt () Gen.t0_0.castSucc ∗ permTab c ∗ posTab c ∗ inBlk (xs m) c)
    ⊢ run c (theBody (F := F)) fun _ => iprop(Leave m c ∗ (dat m c).owesAt () Gen.t0_0.succ ∗ permTab c ∗ posTab c ∗ inBlk (xs m) c) := by
  iintro H
  ihave H := (pre_begin m c) $$ H
  icases H with ⟨%K, H⟩
  iapply (run_mono fun _ => post_over m c)
  iapply body_all
  iexact H

theorem own0 (c : Dev nD) (X : (cc0_stg0_0 : Ref sig .tc).ty.Contents (Elt F)) :
    owns (Ix := Unit) (Name := ℕ) (U := UU) (Lvl := ℕ) (c : Thread nD τ) (stage0_0 0) fullShare X = stg c cc0_stg0_0 X := owns_whole_eq c cc0_stg0_0 X
theorem own1 (c : Dev nD) (X : (cc0_stg1_0 : Ref sig .tc).ty.Contents (Elt F)) :
    owns (Ix := Unit) (Name := ℕ) (U := UU) (Lvl := ℕ) (c : Thread nD τ) (stage0_1 0) fullShare X = stg c cc0_stg1_0 X := owns_whole_eq c cc0_stg1_0 X
theorem own2 (c : Dev nD) (X : (cc0_stg2_0 : Ref sig .tc).ty.Contents (Elt F)) :
    owns (Ix := Unit) (Name := ℕ) (U := UU) (Lvl := ℕ) (c : Thread nD τ) (stage0_2 0) fullShare X = stg c cc0_stg2_0 X := owns_whole_eq c cc0_stg2_0 X

theorem fst_eq (c : Dev nD) : (dat m c).Φ Gen.t0_0.castSucc = Enter m c := rfl
theorem lst_eq (c : Dev nD) : (dat m c).Φ Gen.t0_0.succ = Leave m c := rfl
theorem aft0 (c : Dev nD) : (dat m c).after 0 Gen.t0_0 = fun i : S32.Idx => lit0 (S32.rowMajor i) := rfl
theorem aft1 (c : Dev nD) : (dat m c).after 1 Gen.t0_0 = fun i : S32.Idx => lit1 (S32.rowMajor i) := rfl
theorem aft2 (c : Dev nD) : (dat m c).after 2 Gen.t0_0 = xs m c := rfl
theorem perm_in (c : Dev nD) : stg (F := F) c cc0_stg0_0 (fun i : S32.Idx => lit0 (S32.rowMajor i)) ⊢ permTab c := stg_in c cc0_stg0_0 _
theorem perm_out (c : Dev nD) : permTab c ⊢ stg (F := F) c cc0_stg0_0 (fun i : S32.Idx => lit0 (S32.rowMajor i)) := stg_out c cc0_stg0_0 _
theorem pos_in (c : Dev nD) : stg (F := F) c cc0_stg1_0 (fun i : S32.Idx => lit1 (S32.rowMajor i)) ⊢ posTab c := stg_in c cc0_stg1_0 _
theorem pos_out (c : Dev nD) : posTab c ⊢ stg (F := F) c cc0_stg1_0 (fun i : S32.Idx => lit1 (S32.rowMajor i)) := stg_out c cc0_stg1_0 _
theorem in_in (c : Dev nD) : stg c cc0_stg2_0 (xs m c) ⊢ inBlk (xs m) c := stg_in c cc0_stg2_0 _
theorem in_out (c : Dev nD) : inBlk (xs m) c ⊢ stg c cc0_stg2_0 (xs m c) := stg_out c cc0_stg2_0 _

theorem row_body : (defs₀ (F := F) .tc cfg0.body (cfg0.bodyArgs Gen.t0_0 (cfg0.slots Gen.t0_0))) = theBody := rfl

theorem call_stage (c : Dev nD) {P Q : sProp 𝕄} (hP : P ⊢ iprop(Enter m c ∗ (dat m c).owesAt () Gen.t0_0.castSucc ∗ permTab c ∗ posTab c ∗ inBlk (xs m) c))
    (hQ : iprop(Leave m c ∗ (dat m c).owesAt () Gen.t0_0.succ ∗ permTab c ∗ posTab c ∗ inBlk (xs m) c) ⊢ Q) :
    P ⊢ wp frame (wpE (defs₀ (F := F)) 𝒱₀ (c : Thread nD τ) none) Set.univ theBody fun _ => Q := by
  have h := hP.trans ((call_body m c).trans (run_mono fun _ => hQ))
  unfold run at h
  exact h

theorem stage_in (c : Dev nD) : iprop(Enter m c ∗ (dat m c).owesAt () Gen.t0_0.castSucc
      ∗ (∃ d, owns (Ix := Unit) (Name := ℕ) (U := UU) (Lvl := ℕ) (c : Thread nD τ) (stage0_0 0) fullShare ((dat m c).before 0 Gen.t0_0 d))
      ∗ (∃ d, owns (Ix := Unit) (Name := ℕ) (U := UU) (Lvl := ℕ) (c : Thread nD τ) (stage0_1 0) fullShare ((dat m c).before 1 Gen.t0_0 d))
      ∗ (∃ d, owns (Ix := Unit) (Name := ℕ) (U := UU) (Lvl := ℕ) (c : Thread nD τ) (stage0_2 0) fullShare ((dat m c).before 2 Gen.t0_0 d)))
    ⊢ iprop(Enter m c ∗ (dat m c).owesAt () Gen.t0_0.castSucc ∗ permTab c ∗ posTab c ∗ inBlk (xs m) c) := by
  iintro ⟨HE, HO, ⟨%d0, H0⟩, ⟨%d1, H1⟩, ⟨%d2, H2⟩⟩
  rw [before0, before1, before2]
  ihave H0 := (Entails.of_eq (own0 c _)) $$ H0
  ihave H1 := (Entails.of_eq (own1 c _)) $$ H1
  ihave H2 := (Entails.of_eq (own2 c _)) $$ H2
  isplitl [HE]; · iexact HE
  isplitl [HO]; · iexact HO
  isplitl [H0]; · iapply (perm_in c); iexact H0
  isplitl [H1]; · iapply (pos_in c); iexact H1
  iapply (in_in m c); iexact H2
theorem stage_out (c : Dev nD) : iprop(Leave m c ∗ (dat m c).owesAt () Gen.t0_0.succ ∗ permTab c ∗ posTab c ∗ inBlk (xs m) c)
    ⊢ iprop(Leave m c ∗ (dat m c).owesAt () Gen.t0_0.succ
      ∗ owns (Ix := Unit) (Name := ℕ) (U := UU) (Lvl := ℕ) (c : Thread nD τ) (stage0_0 0) fullShare (fun i : S32.Idx => lit0 (S32.rowMajor i))
      ∗ owns (Ix := Unit) (Name := ℕ) (U := UU) (Lvl := ℕ) (c : Thread nD τ) (stage0_1 0) fullShare (fun i : S32.Idx => lit1 (S32.rowMajor i))
      ∗ owns (Ix := Unit) (Name := ℕ) (U := UU) (Lvl := ℕ) (c : Thread nD τ) (stage0_2 0) fullShare (xs m c)) := by
  rw [own0, own1, own2]
  iintro ⟨HE, HO, H0, H1, H2⟩
  isplitl [HE]; · iexact HE
  isplitl [HO]; · iexact HO
  isplitl [H0]; · iapply (perm_out c); iexact H0
  isplitl [H1]; · iapply (pos_out c); iexact H1
  iapply (in_out m c); iexact H2

set_option maxRecDepth 200000 in
theorem body_obligation (c : Dev nD) : BodyObligation (dat m c) (defs₀ (F := F)) 𝒱₀ () Set.univ := fun t => by
  rw [Gen.fin_N0 t, row_body, Gen.bigSep_W0, Gen.bigSep_W0]
  have i0 : cfg0.idle 0 (cfg0.grid.coords Gen.t0_0) = false := rfl
  have i1 : cfg0.idle 1 (cfg0.grid.coords Gen.t0_0) = false := rfl
  have i2 : cfg0.idle 2 (cfg0.grid.coords Gen.t0_0) = false := rfl
  simp only [i0, i1, i2]
  rw [fst_eq, lst_eq, aft0, aft1, aft2]
  exact call_stage m c (stage_in m c) (stage_out m c)

end Cert.Proof
-- ==== Proof.Call.lean ====
/-
The whole program on one device: the two tables put in place, then the kernel's call.
-/
module

public import proofs.«01_k».proof.Proof.Data
public import proofs.«01_k».proof.Proof.Gen.KernelIdeal.Launch
public import Idealize.ShloMosaic.Lib.Pipeline.RegionTalk

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- The buffers that outlive the kernel, -/
def bufs : Finset (DevRef τ sig) := (StableHlo.tcRefs τ sig).filter fun b => ¬ b.isScoped
/-- and the one of them the body addresses itself. -/
def outs : Finset (DevRef τ sig) := {Proc.devRef .tc main_v1}

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem outs_held (c : Dev nD) (W : Valuation τ sig (Elt F)) :
    (StableHlo.held (c : Thread nD τ) outs W : sProp 𝕄) = ((c : Thread nD τ).loc main_v1 ↦{fullShare} W (Proc.devRef .tc main_v1)) := by
  unfold StableHlo.held outs
  exact bigSep_singleton
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) outs W) := by
  rw [StableHlo.held_sub_split (c : Thread nD τ) (T := Pipeline.arrRefs (τ := τ) spec0) (S := bufs) (by decide) W,
    show bufs \ Pipeline.arrRefs (τ := τ) spec0 = outs from by decide]

/-! ## The call as a record -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem own_facts : Pipeline.OwnSemFacts spec0 osem where
  isScoped := by decide +kernel
  inj := osem_inj
  disj := by decide +kernel

theorem owedAll_pos (c : Dev nD) (g : GSem nD τ sig) (u : Unit) (h : 0 < owedAll c g u) : u ∈ L g ∧ 0 < lv g u := by
  have key : ∀ (c' : Dev nD) (k : Cell), 0 < cellLv k → u ∈ L (cell c' k) ∧ 0 < lv (cell c' k) u := fun c' k hk =>
    ⟨by cases u; unfold cell; rw [L_tc]; exact Finset.mem_singleton_self _, by rw [lv_cell]; exact hk⟩
  unfold owedAll owedR at h
  rw [Pi.add_apply, Finsupp.add_apply, Pi.add_apply, Finsupp.add_apply, tallyAt_apply, tallyAt_apply] at h
  by_cases h1 : g = barCell (nbr c 1)
  · subst h1; exact key _ (.inl ()) (by decide)
  by_cases h0 : g = barCell (nbr c 0)
  · subst h0; exact key _ (.inl ()) (by decide)
  rw [if_neg (fun h => h0 h.1), if_neg (fun h => h1 h.1)] at h
  obtain ⟨i, -, rfl⟩ := owed_pos c 0 g u (by simpa using h)
  exact key _ (.inr (.inr (.inr i))) (Nat.succ_pos _)

theorem cut : Pipeline.LevelCutOwed (pcfgs (F := F)) adm (pdats m) () L lv 0 (fun _ => 0) where
  hι c w s := by rw [L_tc]; exact Finset.mem_singleton_self _
  hιb c w s := by
    match w, s with
    | ⟨0, _⟩, s => exact Nat.le_of_eq rfl
    | ⟨1, _⟩, s => exact Nat.le_of_eq rfl
    | ⟨2, _⟩, s => exact Nat.le_of_eq rfl
  hD c t g i h := by
    have e : (pdats m 0 c).owed t = if t.val = 0 then owedAll c else 0 := rfl
    rw [e] at h
    split at h
    · exact owedAll_pos c g i h
    · exact absurd h (Nat.lt_irrefl 0)

theorem W₂_out (c : Dev nD) : W₂ m c (Proc.devRef .tc main_v1) = gathered (xs m) := by
  unfold W₂; exact Function.update_self _ _ _
theorem W₂_ne (c : Dev nD) (b : DevRef τ sig) (h : b ≠ Proc.devRef .tc main_v1) : W₂ m c b = W₁ m c b := by
  unfold W₂; exact Function.update_of_ne h _ _

theorem enter (c : Dev nD) : iprop(Pipeline.scopedRest spec0 c ∗ (∃ r, prngReg c r) ∗ StableHlo.held (c.tc : Thread nD τ) outs (W₁ m c) ∗ Xk m c) ⊢ Enter m c := by
  rw [Gen.scopedRest0_eq, outs_held]
  unfold Enter
  iintro ⟨Hs, Hp, Ho, HX⟩
  isplitl [HX]; · iexact HX
  isplitl [Hs]; · iexact Hs
  isplitl [Hp]; · iexact Hp
  iexists _; iexact Ho
theorem leave (c : Dev nD) : Leave m c ⊢ iprop(Pipeline.scopedRest spec0 c ∗ (∃ r, prngReg c r) ∗ StableHlo.held (c.tc : Thread nD τ) outs (W₂ m c) ∗ Pipeline.ownSems0 osem c ∗ semVal (barCell c) 0) := by
  rw [Gen.scopedRest0_eq, outs_held, W₂_out]
  unfold Leave
  iintro ⟨Hs, Hp, Ho, Hz, Hb⟩
  isplitl [Hs]; · iexact Hs
  isplitl [Hp]; · iexact Hp
  isplitl [Ho]; · iexact Ho
  isplitl [Hz] <;> iassumption

theorem arr_end (c : Dev nD) (w : Fin cfg0.W) : (dat m c).arrAt w cfg0.N = W₂ m c (Proc.devRef .tc (Pipeline.arrRef spec0 w)) := by
  match w with
  | ⟨0, _⟩ => exact ((dat m c).arrAt_in 0 rfl _).trans (W₂_ne m c (Proc.devRef .tc main_c) (by decide)).symm
  | ⟨1, _⟩ => exact ((dat m c).arrAt_in 1 rfl _).trans (W₂_ne m c (Proc.devRef .tc main_c_0) (by decide)).symm
  | ⟨2, _⟩ => exact ((dat m c).arrAt_in 2 rfl _).trans (W₂_ne m c (Proc.devRef .tc main_arg0) (by decide)).symm

set_option backward.isDefEq.respectTransparency.types false in
/-- The kernel's call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    outs outs (Finset.Subset.refl _) kitP rfl (fun c => (body_obligation m c).loose)
    (fun _ => 0) owedAll (fun c => (zero_add _).symm) (fun _ => rfl) (fun _ => rfl) (fun c w => by unfold Dat.share; split <;> rfl)
    (W₁ m) (W₂ m) (fun _ b hb => absurd hb (by rw [Finset.sdiff_self]; exact Finset.notMem_empty b))
    (Tk m) (fun c => semVal (barCell c) 0) (Xk m) (fun c => semVal (barCell c) 0) (open_all m) (enter m) (leave m)
    (fun c => by iintro H; imodintro; iexact H)
    (fun _ => 0) (cut m)
    (fun _ => iprop(emp))
    (fun c w => rfl) (arr_end m)

/-! ## The program -/

/-- What rides beside the buffers while the two tables are put in place. -/
def R (c : Dev nD) : sProp 𝕄 := iprop(((∃ r, prngReg c r) ∗ Tk m c) ∗ ∃ W, owes (c : Thread nD τ) (owedAll c) W)

def seg0 : Pipeline.HostSeg (Name := ℕ) (U := UU) (pcfgs (F := F)) defs₀ 𝒱₀ L lv :=
  Pipeline.HostSeg.ofOps _ _ _ _ _ bufs Gen.hostOps0 (by
    intro op h
    simp only [Gen.hostOps0, List.mem_cons, List.not_mem_nil, or_false] at h
    rcases h with rfl | rfl
    · show ({Proc.devRef .tc main_c} : Finset (DevRef τ sig)) ⊆ bufs; decide
    · show ({Proc.devRef .tc main_c_0} : Finset (DevRef τ sig)) ⊆ bufs; decide) (by
    intro op h
    simp only [Gen.hostOps0, List.mem_cons, List.not_mem_nil, or_false] at h
    rcases h with rfl | rfl <;> rfl) (fun c b => m (c, b)) (R m)

def segs : List (Pipeline.Seg (pcfgs (F := F)) adm (pdats m) () defs₀ 𝒱₀ L lv) := [.host (seg0 m), .region (reg0 m)]

theorem main_eq (c : Dev nD) : main (F := F) c = Pipeline.Seg.run (segs m) :=
  Gen.main_segs (F := F) adm (pdats m) () 𝒱₀ L lv (seg0 m) (reg0 m) rfl c

theorem reg0_pre (c : Dev nD) : iprop(StableHlo.held (c : Thread nD τ) bufs (W₁ m c) ∗ R m c) ⊢ (reg0 m).pre c := by
  show _ ⊢ iprop(StableHlo.held (c.tc : Thread nD τ) (Pipeline.arrRefs (τ := τ) spec0) (W₁ m c) ∗ (∃ r, prngReg c r)
    ∗ (StableHlo.held (c.tc : Thread nD τ) outs (W₁ m c) ∗ emp) ∗ Tk m c ∗ ∃ Wd, owes (c : Thread nD τ) (0 + owedAll c) Wd)
  rw [bufs_split, zero_add]
  unfold R
  iintro ⟨⟨Ha, Ho⟩, ⟨⟨Hp, HT⟩, HO⟩⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c
    ⊢ iprop(StableHlo.held (c : Thread nD τ) bufs (W₂ m c) ∗ (semVal (barCell c) 0 ∗ ∃ W, owes (c : Thread nD τ) (0 : CellTallies nD τ sig Unit) W)) := by
  show iprop(StableHlo.held (c.tc : Thread nD τ) (Pipeline.arrRefs (τ := τ) spec0) (W₂ m c) ∗ (∃ r, prngReg c r)
    ∗ (StableHlo.held (c.tc : Thread nD τ) outs (W₂ m c) ∗ emp) ∗ semVal (barCell c) 0 ∗ ∃ Wd, owes (c : Thread nD τ) (0 : CellTallies nD τ sig Unit) Wd) ⊢ _
  rw [bufs_split]
  iintro ⟨Ha, -, ⟨Ho, -⟩, Hb, HO⟩
  isplitl [Ha Ho]
  · isplitl [Ha] <;> iassumption
  isplitl [Hb] <;> iassumption

end Cert.Proof
-- ==== Proof.Ledger.lean ====
/-
What there is at launch: the cells, the tokens of what is to be paid and the credits for what is owed, and who gets which.
-/
module

public import proofs.«01_k».proof.Proof.End
public import proofs.«01_k».proof.Proof.Start

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

/-! ## The cells at launch -/

theorem cell_inj : Function.Injective fun x : Dev nD × Cell => cell x.1 x.2 := fun a b h =>
  Prod.ext (congrArg (fun g : GSem nD τ sig => g.1.1) h) (csem_inj (congrArg (fun g : GSem nD τ sig => g.2) h))

/-- The barriers' cells, in use from the start, -/
def barEmb : Dev nD ↪ GSem nD τ sig := ⟨fun c => barCell c, fun _ _ h => congrArg (fun g : GSem nD τ sig => g.1.1) h⟩
/-- the kernel's own, not yet in use, -/
def ownEmb : Dev nD × Own ↪ GSem nD τ sig :=
  ⟨fun x => cell x.1 (.inr x.2), fun a b h => by
    have e := cell_inj (a₁ := (a.1, Sum.inr a.2)) (a₂ := (b.1, Sum.inr b.2)) h
    exact Prod.ext (congrArg (fun x : Dev nD × Cell => x.1) e) (Sum.inr.inj (congrArg (fun x : Dev nD × Cell => x.2) e))⟩
/-- and what there is to pay: two signals at each barrier, one landing at every other cell. -/
def duty (x : Dev nD × (Fin 2 ⊕ Own)) : GSem nD τ sig × ℕ × Fin 2 :=
  match x.2 with
  | .inl d => (barCell x.1, 0, d)
  | .inr o => (cell x.1 (.inr o), 0, 0)
theorem duty_inj : Function.Injective duty := by
  rintro ⟨c, k⟩ ⟨c', k'⟩ h
  rcases k with d | o <;> rcases k' with d' | o'
  · have e := cell_inj (a₁ := (c, Sum.inl ())) (a₂ := (c', Sum.inl ())) (congrArg Prod.fst h)
    exact Prod.ext (congrArg (fun x : Dev nD × Cell => x.1) e) (congrArg Sum.inl (congrArg (fun t : GSem nD τ sig × ℕ × Fin 2 => t.2.2) h))
  · have e := cell_inj (a₁ := (c, Sum.inl ())) (a₂ := (c', Sum.inr o')) (congrArg Prod.fst h)
    exact absurd (congrArg Prod.snd e) (by simp)
  · have e := cell_inj (a₁ := (c, Sum.inr o)) (a₂ := (c', Sum.inl ())) (congrArg Prod.fst h)
    exact absurd (congrArg Prod.snd e) (by simp)
  · have e := cell_inj (a₁ := (c, Sum.inr o)) (a₂ := (c', Sum.inr o')) (congrArg Prod.fst h)
    exact Prod.ext (congrArg (fun x : Dev nD × Cell => x.1) e) (congrArg Sum.inr (Sum.inr.inj (congrArg Prod.snd e)))

abbrev barCells : Finset (GSem nD τ sig) := Finset.univ.map barEmb
abbrev ownCells : Finset (GSem nD τ sig) := Finset.univ.map ownEmb
def duties : Finset (GSem nD τ sig × ℕ × Fin 2) := Finset.univ.map ⟨duty, duty_inj⟩

theorem cells_disjoint : Disjoint barCells ownCells := by
  rw [Finset.disjoint_left]
  rintro g h₁ h₂
  obtain ⟨c, -, rfl⟩ := Finset.mem_map.mp h₁
  obtain ⟨x, -, h⟩ := Finset.mem_map.mp h₂
  have e := cell_inj (a₁ := (x.1, Sum.inr x.2)) (a₂ := (c, Sum.inl ())) h
  exact absurd (congrArg Prod.snd e) (by simp)

theorem cell_mem (x : Dev nD × Cell) : cell x.1 x.2 ∈ (barCells ∪ ownCells : Finset (GSem nD τ sig)) := by
  obtain ⟨c, k⟩ := x
  rcases k with ⟨⟨⟩⟩ | o
  · exact Finset.mem_union_left _ (Finset.mem_map_of_mem barEmb (Finset.mem_univ c))
  · exact Finset.mem_union_right _ (Finset.mem_map_of_mem ownEmb (Finset.mem_univ (c, o)))

/-! ## The tokens -/

/-- A device's neighbour, as a rearrangement of the devices. -/
def around (d : Fin 2) : Dev nD ≃ Dev nD := ⟨fun c => nbr c d, fun c => nbr c (opp d), fun c => nbr_opp c d, fun c => nbr_opp' c d⟩

/-- The tokens of a device's own cells, -/
def toks (c : Dev nD) : sProp 𝕄 :=
  iprop((dutyTok ER (barCell c) 0 0 ∗ dutyTok ER (barCell c) 0 1) ∗ dutyTok ER (locCell c) 0 0
    ∗ (bigSep Finset.univ fun i : Slot => dutyTok ER (sendCell c i) 0 0)
    ∗ bigSep Finset.univ fun i : Slot => dutyTok ER (recvCell c i) 0 0)
/-- and those it pays with. -/
def pays (c : Dev nD) : sProp 𝕄 :=
  iprop(dutyTok ER (barCell (nbr c 1)) 0 0 ∗ dutyTok ER (barCell (nbr c 0)) 0 1 ∗ dutyTok ER (locCell c) 0 0
      ∗ (bigSep Finset.univ fun i : Slot => dutyTok ER (sendCell c i) 0 0)
      ∗ (bigSep Finset.univ fun i : Slot => dutyTok ER (recvCell (nbr c i.1.1) i) 0 0))

theorem toks_eq : bigSep duties (fun x => (dutyTok ER x.1 x.2.1 x.2.2 : sProp 𝕄)) = bigSep Finset.univ fun c : Dev nD => toks c := by
  unfold duties
  rw [bigSep_map, bigSep_univ_prod]
  refine bigSep_congr fun c _ => ?_
  unfold toks
  rw [bigSep_univ_sum, own_split, bigSep_fin_two]
  rfl

/-- What is said of every device and every slot, said slot by slot. -/
theorem by_slot (Φ : Dev nD → Slot → sProp 𝕄) : (bigSep Finset.univ fun c : Dev nD => bigSep Finset.univ fun i : Slot => Φ c i)
    = bigSep Finset.univ fun i : Slot => bigSep Finset.univ fun c : Dev nD => Φ c i := by
  rw [← bigSep_univ_prod (fun x : Dev nD × Slot => Φ x.1 x.2), ← bigSep_univ_prod (fun x : Slot × Dev nD => Φ x.2 x.1)]
  exact bigSep_univ_equiv (Equiv.prodComm Slot (Dev nD)) fun x : Dev nD × Slot => Φ x.1 x.2

theorem recv_around : (bigSep Finset.univ fun c : Dev nD => bigSep Finset.univ fun i : Slot => (dutyTok ER (recvCell c i) 0 0 : sProp 𝕄))
    = bigSep Finset.univ fun c : Dev nD => bigSep Finset.univ fun i : Slot => dutyTok ER (recvCell (nbr c i.1.1) i) 0 0 := by
  rw [by_slot, by_slot fun (c : Dev nD) (i : Slot) => (dutyTok ER (recvCell (nbr c i.1.1) i) 0 0 : sProp 𝕄)]
  exact bigSep_congr fun i _ => bigSep_univ_equiv (around i.1.1) fun c : Dev nD => (dutyTok ER (recvCell c i) 0 0 : sProp 𝕄)

/-- Every token handed to the device that pays with it. -/
theorem toks_around : (bigSep Finset.univ fun c : Dev nD => (toks c : sProp 𝕄)) ⊢ bigSep Finset.univ fun c : Dev nD => pays c := by
  unfold toks pays
  rw [bigSep_sep' _ _ _, bigSep_sep' _ _ _, bigSep_sep' _ _ _, bigSep_sep' _ _ _, bigSep_sep' _ _ _, bigSep_sep' _ _ _, bigSep_sep' _ _ _, bigSep_sep' _ _ _,
    recv_around, bigSep_univ_equiv (around 1) (fun c : Dev nD => (dutyTok ER (barCell c) 0 0 : sProp 𝕄)),
    bigSep_univ_equiv (around 0) (fun c : Dev nD => (dutyTok ER (barCell c) 0 1 : sProp 𝕄))]
  show iprop(((bigSep Finset.univ fun c : Dev nD => (dutyTok ER (barCell (nbr c 1)) 0 0 : sProp 𝕄)) ∗ bigSep Finset.univ fun c : Dev nD => (dutyTok ER (barCell (nbr c 0)) 0 1 : sProp 𝕄)) ∗ _) ⊢ _
  iintro ⟨⟨H0, H1⟩, H⟩
  isplitl [H0]; · iexact H0
  isplitl [H1]; · iexact H1
  iexact H

/-! ## The credits -/

theorem bar_ne_recv (c d : Dev nD) (i : Slot) : barCell c ≠ recvCell d i := fun h =>
  absurd (congrArg Prod.snd (cell_inj (a₁ := (c, Sum.inl ())) (a₂ := (d, Sum.inr (Sum.inr (Sum.inr i)))) h)) (by simp)

theorem nbr_iff (c d : Dev nD) (k : Fin 2) : barCell c = barCell (nbr d k) ↔ d = nbr c (opp k) := by
  constructor
  · intro h
    have e : c = nbr d k := congrArg (fun g : GSem nD τ sig => g.1.1) h
    rw [e, nbr_opp]
  · rintro rfl; rw [nbr_opp']

theorem owed_bar (d c : Dev nD) : owed d 0 (barCell c) () = 0 := by
  by_contra h
  obtain ⟨i, -, e⟩ := owed_pos d 0 (barCell c) () (Nat.pos_of_ne_zero h)
  exact bar_ne_recv _ _ _ e
theorem owed_recv (d c : Dev nD) (i : Slot) : owed d 0 (recvCell c i) () = if d = nbr c (opp i.1.1) then NR else 0 := by
  unfold owed
  rw [Finset.sum_apply, Finsupp.finset_sum_apply, Finset.sum_eq_single_of_mem i (Finset.mem_filter.mpr ⟨Finset.mem_univ _, Nat.zero_le _⟩)]
  · rw [tallyAt_apply]
    by_cases h : d = nbr c (opp i.1.1)
    · rw [if_pos h, if_pos]
      subst h
      exact ⟨by rw [nbr_opp'], rfl⟩
    · rw [if_neg h, if_neg]
      rintro ⟨e, -⟩
      have e' : c = nbr d i.1.1 := congrArg (fun g : GSem nD τ sig => g.1.1) e
      exact h (by rw [e', nbr_opp])
  · intro j _ hj
    rw [tallyAt_apply, if_neg]
    rintro ⟨e, -⟩
    have e' := cell_inj (a₁ := (c, Sum.inr (Sum.inr (Sum.inr i)))) (a₂ := (nbr d j.1.1, Sum.inr (Sum.inr (Sum.inr j)))) e
    exact hj (Sum.inr.inj (Sum.inr.inj (Sum.inr.inj (congrArg Prod.snd e')))).symm

theorem all_bar (d c : Dev nD) : owedAll d (barCell c) () = (if d = nbr c (opp 0) then 1 else 0) + if d = nbr c (opp 1) then 1 else 0 := by
  unfold owedAll owedR
  rw [Pi.add_apply, Finsupp.add_apply, Pi.add_apply, Finsupp.add_apply, owed_bar, tallyAt_apply, tallyAt_apply, Nat.zero_add]
  simp only [nbr_iff, and_true]
theorem all_recv (d c : Dev nD) (i : Slot) : owedAll d (recvCell c i) () = if d = nbr c (opp i.1.1) then NR else 0 := by
  unfold owedAll owedR
  rw [Pi.add_apply, Finsupp.add_apply, Pi.add_apply, Finsupp.add_apply, owed_recv, tallyAt_apply, tallyAt_apply,
    if_neg (c := recvCell c i = barCell (nbr d 0) ∧ _) (fun h => bar_ne_recv _ _ _ h.1.symm),
    if_neg (c := recvCell c i = barCell (nbr d 1) ∧ _) (fun h => bar_ne_recv _ _ _ h.1.symm)]
  rfl

theorem launch_bar (c : Dev nD) : tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => all_bar d c, Finset.sum_add_distrib,
    Finset.sum_ite_eq' Finset.univ (nbr c (opp 0)) fun _ => 1, Finset.sum_ite_eq' Finset.univ (nbr c (opp 1)) fun _ => 1,
    if_pos (Finset.mem_univ _), if_pos (Finset.mem_univ _)]
theorem launch_recv (c : Dev nD) (i : Slot) :
    tallyOn (recvCell c i) (launchCredit (Pipeline.owing owedAll) 0 (recvCell c i)) = (tallyAt (recvCell c i) () NR : CellTallies nD τ sig Unit) := by
  unfold tallyAt; refine congrArg _ (Finsupp.ext fun u => ?_); cases u
  rw [Pipeline.launchCredit_owing, Finsupp.single_eq_same, Finset.sum_congr rfl fun d _ => all_recv d c i,
    Finset.sum_ite_eq' Finset.univ (nbr c (opp i.1.1)) fun _ => NR, if_pos (Finset.mem_univ _)]

def recvEmb : Slot ↪ SemLoc sig := ⟨fun i => .dma (recvS i), fun a b h => Sum.inr.inj (Sum.inr.inj (osem_inj (a₁ := .inr (.inr a)) (a₂ := .inr (.inr b)) h))⟩

theorem creds (c : Dev nD) : (Pipeline.launchCred owedAll c : sProp 𝕄)
    ⊢ iprop(cred (tallyAt (barCell c) () 2) ∗ bigSep Finset.univ fun i : Slot => cred (tallyAt (recvCell c i) () NR)) := by
  unfold Pipeline.launchCred
  rw [bigSep_univ_at _ (SemLoc.reg barS)]
  have h1 : (Finset.univ.map recvEmb : Finset (SemLoc sig)) ⊆ Finset.univ.erase (SemLoc.reg barS) := fun s hs => by
    obtain ⟨i, -, rfl⟩ := Finset.mem_map.mp hs
    exact Finset.mem_erase.mpr ⟨fun h => (nomatch (h : SemLoc.dma (recvS i) = SemLoc.reg barS)), Finset.mem_univ _⟩
  refine Entails.trans (Q := iprop(cred (tallyOn (barCell c) (launchCredit (Pipeline.owing owedAll) 0 (barCell c)))
    ∗ bigSep (Finset.univ.map recvEmb) fun s : SemLoc sig => cred (tallyOn ((c : Thread nD τ), s) (launchCredit (Pipeline.owing owedAll) 0 ((c : Thread nD τ), s)))))
    (sep_mono_right (bigSep_subset h1)) ?_
  rw [launch_bar, bigSep_map]
  exact sep_mono_right (Entails.of_eq (bigSep_congr fun i _ => congrArg cred (launch_recv c i)))

end Cert.Proof
-- ==== Proof.Launch.lean ====
/-
The launch and the run: every cell gets its invariant, every device what it needs, and the program runs to its end.
-/
module

public import proofs.«01_k».proof.Proof.Call
public import proofs.«01_k».proof.Proof.Ledger

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- The state of every cell, of every token and of every right to open, at the start. -/
def ghost₀ : URounds (GSem nD τ sig) (Fin 2) := launchOf barCells ownCells duties
def u₀ : UU :=
  (initOf (Pipeline.cells (Pipeline.pin (pcfgs (F := F)) adm) Gen.cellOf_inj) (Pipeline.launchToks (Pipeline.pin (pcfgs (F := F)) adm) Gen.cellOf_inj), ghost₀)

/-- It waits on the first device until every cell has its invariant. -/
def parked (c : Dev nD) : sProp 𝕄 := if c = 0 then BI.own (ER ghost₀) else iprop(emp)
theorem parked_all : bigSep Finset.univ (parked (F := F)) = BI.own (ER ghost₀) := by
  rw [bigSep_univ_at _ (0 : Dev nD), bigSep_congr (s := Finset.univ.erase 0) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- What every device may look up: every cell's invariant, and that no barrier has yet been passed. -/
def known (κ : GSem nD τ sig → ℕ) : sProp 𝕄 :=
  iprop((bigSep (barCells ∪ ownCells) fun g => cellInv ER (sched (xs m)) (κ g) g) ∗ bigSep barCells fun g => reached ER g 0)
instance known_persistent (κ : GSem nD τ sig → ℕ) : BI.Persistent (known m κ) := by unfold known; infer_instance

theorem known_inv (κ : GSem nD τ sig → ℕ) : known m κ ⊢ bigSep Finset.univ fun x : Dev nD × Cell => (cellInv ER (sched (xs m)) (κ (cell x.1 x.2)) (cell x.1 x.2) : sProp 𝕄) := by
  have one (x : Dev nD × Cell) : (bigSep (barCells ∪ ownCells) fun g => (cellInv ER (sched (xs m)) (κ g) g : sProp 𝕄)) ⊢ cellInv ER (sched (xs m)) (κ (cell x.1 x.2)) (cell x.1 x.2) :=
    bigSep_elim (cell_mem x)
  have step (x : Dev nD × Cell) : iprop(known m κ ∗ emp) ⊢ (cellInv ER (sched (xs m)) (κ (cell x.1 x.2)) (cell x.1 x.2) : sProp 𝕄) := by
    unfold known
    iintro ⟨⟨#HI, -⟩, -⟩
    iapply (one x); iexact HI
  iintro #H
  iapply (bigSep_with_persistent (R := known m κ) (Φ := fun _ : Dev nD × Cell => (iprop(emp) : sProp 𝕄)) fun x _ => step x)
  isplitr; · iexact H
  iapply (Entails.of_eq (BI.bigSep_emp_const (M := 𝕄) (Finset.univ : Finset (Dev nD × Cell))).symm)
  iempintro

theorem known_bar (κ : GSem nD τ sig → ℕ) : known m κ ⊢ bigSep Finset.univ fun b : Dev nD => (reached ER (barCell b) 0 : sProp 𝕄) := by
  have h : (bigSep barCells fun g => (reached ER g 0 : sProp 𝕄)) ⊢ bigSep Finset.univ fun b : Dev nD => (reached ER (barCell b) 0 : sProp 𝕄) :=
    Entails.of_eq (bigSep_map (s := Finset.univ) barEmb (Φ := fun g : GSem nD τ sig => (reached ER g 0 : sProp 𝕄)))
  unfold known
  iintro ⟨-, H⟩
  iapply h $$ H

/-- What only the device itself holds: the state of its barrier, the rights to open its own cells, what it pays with. -/
def mine (c : Dev nD) : sProp 𝕄 :=
  iprop(atPos ER (barCell c) 0 ∅ 0 ∗ (bigSep Finset.univ fun o : Own => openTok ER (cell c (.inr o))) ∗ pays c)
/-- And what the launch hands it beside. -/
def handed (c : Dev nD) : sProp 𝕄 :=
  iprop(StableHlo.held (c : Thread nD τ) bufs (fun b => m (c, b)) ∗ (cred (tallyAt (barCell c) () 2) ∗ bigSep Finset.univ fun i : Slot => cred (tallyAt (recvCell c i) () NR))
    ∗ owes (c : Thread nD τ) (owedAll c) ∅ ∗ ∃ r, prngReg c r)

/-- Where the program starts, and where it ends. -/
abbrev T₀ (c : Dev nD) : sProp 𝕄 := iprop(StableHlo.held (c : Thread nD τ) bufs (fun b => m (c, b)) ∗ R m c)
abbrev Tₙ (c : Dev nD) : sProp 𝕄 := iprop(StableHlo.held (c : Thread nD τ) bufs (W₂ m c) ∗ semVal (barCell c) 0)

theorem start (κ : GSem nD τ sig → ℕ) (c : Dev nD) : iprop(known m κ ∗ (mine c ∗ handed m c)) ⊢ T₀ m c := by
  unfold handed T₀ R Tk mine pays
  iintro ⟨#HK, ⟨Hat, Hopen, Hpay⟩, Hh, ⟨H1, HN⟩, HO, Hp⟩
  isplitl [Hh]; · iexact Hh
  isplitr [HO]
  · isplitl [Hp]; · iexact Hp
    iexists (fun x => κ (cell x.1 x.2))
    isplitr; · iapply (known_inv m κ); iexact HK
    isplitr; · iapply (known_bar m κ); iexact HK
    isplitl [Hat]; · iexact Hat
    isplitl [Hopen]; · iexact Hopen
    isplitl [Hpay]; · iexact Hpay
    isplitl [H1] <;> iassumption
  · iexists ∅; iexact HO

theorem unscoped_eq : ∀ sm : SemLoc sig, sm.isScoped .tc = false → sm = .reg barS := by decide +kernel
theorem unscopedSems_eq (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, bigSep_singleton]

theorem core (c : Dev nD) : iprop(unscopedBufs c (fun b => m ((c : Thread nD τ).loc b)) ∗ unscopedSems0 c
      ∗ owes (c : Thread nD τ) (owedAll c) ∅ ∗ Pipeline.launchCred owedAll c ∗ prngReg c (ρ c) ∗ parked c)
    ⊢ (iprop(handed m c ∗ (semVal (barCell c) 0 ∗ parked c)) : sProp 𝕄) := by
  rw [show unscopedBufs c (fun b => m ((c : Thread nD τ).loc b)) = StableHlo.held (c : Thread nD τ) bufs (fun b => m (c, b)) from bufs_held c (fun b => m (c, b)),
    unscopedSems_eq]
  unfold handed
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem own_opens : bigSep ownCells (fun g => (openTok ER g : sProp 𝕄))
    ⊢ bigSep Finset.univ fun c : Dev nD => bigSep Finset.univ fun o : Own => openTok ER (cell c (.inr o)) :=
  Entails.of_eq (by
    rw [bigSep_map, bigSep_univ_prod]
    rfl)

theorem init :
    iprop((bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ parked c)) ∗ levAts L lv)
      ⊢ (|={Set.univ}=> bigSep Finset.univ (T₀ m) : sProp 𝕄) := by
  have hcore : (bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ parked c))
      ⊢ (iprop((bigSep Finset.univ fun c : Dev nD => handed m c) ∗ (bigSep Finset.univ fun c : Dev nD => semVal (barCell c) 0) ∗ bigSep Finset.univ fun c : Dev nD => parked c) : sProp 𝕄) := by
    rw [← bigSep_sep' _ _ _, ← bigSep_sep' _ _ _]
    exact bigSep_mono fun c _ => core m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hall : iprop((bigSep Finset.univ fun c : Dev nD => (atPos ER (barCell c) 0 ∅ 0 : sProp 𝕄))
      ∗ (bigSep Finset.univ fun c : Dev nD => bigSep Finset.univ fun o : Own => openTok ER (cell c (.inr o)))
      ∗ (bigSep Finset.univ fun c : Dev nD => pays c) ∗ bigSep Finset.univ fun c : Dev nD => handed m c)
      ⊢ bigSep Finset.univ fun c : Dev nD => iprop(mine c ∗ handed m c) := by
    unfold mine
    rw [bigSep_sep' _ _ _, bigSep_sep' _ _ _, bigSep_sep' _ _ _]
    iintro ⟨H1, H2, H3, H4⟩
    isplitr [H4]
    · isplitl [H1]; · iexact H1
      isplitl [H2] <;> iassumption
    iexact H4
  iintro ⟨H, -⟩
  ihave H' := hcore $$ H
  icases H' with ⟨HB, Hv, HG⟩
  ihave Hu := (Entails.of_eq (parked_all (F := F))) $$ HG
  imod (Rounds.fund_launch ER (sched (xs m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(mine c ∗ handed m c)) fun c _ => start m κ c)
  isplitr
  · unfold known
    isplitr; · iexact Hinv
    iexact Hr
  iapply hall
  isplitl [Hat]; · iapply hat $$ Hat
  isplitl [Hopen]; · iapply (own_opens (F := F)) $$ Hopen
  isplitl [Htok]
  · iapply (toks_around (F := F))
    iapply (Entails.of_eq (toks_eq (F := F))) $$ Htok
  iexact HB

/-! ## The run -/

/-- The four buffers one by one. -/
theorem bufs_eq (c : Dev nD) (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_v1 ↦{fullShare} W (Proc.devRef .tc main_v1))
      ∗ ((c : Thread nD τ).loc main_c ↦{fullShare} W (Proc.devRef .tc main_c)) ∗ ((c : Thread nD τ).loc main_c_0 ↦{fullShare} W (Proc.devRef .tc main_c_0))) := by
  unfold StableHlo.held
  rw [show bufs = {Proc.devRef .tc main_arg0, Proc.devRef .tc main_v1, Proc.devRef .tc main_c, Proc.devRef .tc main_c_0} from by decide,
    bigSep_insert (by decide), bigSep_insert (by decide), bigSep_insert (by decide), bigSep_singleton]
  rfl

theorem W₂_arg (c : Dev nD) : W₂ m c (Proc.devRef .tc main_arg0) = m ((c : Thread nD τ).loc main_arg0) :=
  (W₂_ne m c _ (by decide)).trans (Gen.V_main_arg0 m c)

set_option backward.isDefEq.respectTransparency.types false in
/-- From any memory with every count at zero the program ends, and then on every device the argument is as it was, the result is
    every device's block in turn, and every count is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = gathered (xs m)) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owedAll) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg0_pre m c, fun c => (reg0_post m c).trans ?_⟩
      show iprop(StableHlo.held (c : Thread nD τ) bufs (W₂ m c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := init m ρ)
    (QY := fun c s => (s.mem ((c : Thread nD τ).loc main_arg0) = m ((c : Thread nD τ).loc main_arg0) ∧ s.mem ((c : Thread nD τ).loc main_v1) = gathered (xs m))
      ∧ s.sem (barCell c) = 0)
    (hfin := fun c s' => by
      dsimp only [Tₙ]; rw [bufs_eq, W₂_arg, W₂_out]
      iintro ⟨⟨⟨Hx, Hy, -⟩, Hb0⟩, HSI⟩
      icombine HSI Hx gives %hx
      icombine HSI Hy gives %hy
      icombine HSI Hb0 gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1,
      sem_eq_zero hs fun c sm hsm => by
        obtain rfl := unscoped_eq sm hsm
        exact (h c).2⟩)

end Cert.Proof
-- ==== Proof.Same.lean ====
/-
The kernel as printed and the kernel read over the extended reals are the same program: their texts agree, so what is proved of
one at any float values holds of the other.
-/
module

public import proofs.«01_k».proof.Defs
public import proofs.«01_k».proof.Proof.Gen.Kernel
public import proofs.«01_k».proof.Proof.Gen.KernelIdeal

@[expose] public section

set_option maxHeartbeats 8000000
set_option maxRecDepth 200000

noncomputable section

namespace Cert.Proof

open Idealize.ShloMosaic Idealize.ShloMosaic.TcCoe Idealize.SL.Sem

variable {F : FTy → Type} [FloatOps F]

theorem main_same : (Cert.Kernel.main (F := F)) = Cert.KernelIdeal.main := rfl

theorem body_same : (Cert.Kernel.cc0_body (F := F)) = Cert.KernelIdeal.cc0_body (F := F) := rfl

theorem defs₀_same : (Cert.Kernel.defs₀ (F := F)) = Cert.KernelIdeal.defs₀ := by
  unfold Cert.Kernel.defs₀ Cert.KernelIdeal.defs₀
  refine congrArg Defs.onTc ?_
  funext l a
  match l, a with
  | ⟨0, _⟩, (t, s) => rfl

theorem defs_same : (Cert.Kernel.defs (F := F)) = Cert.KernelIdeal.defs :=
  congrArg (Pipeline.defs (Cert.KernelIdeal.pcfgs (F := F))) defs₀_same

/-- Their runs are the same. -/
theorem run_same (s : MemSt Cert.KernelIdeal.nD Cert.KernelIdeal.τ Cert.KernelIdeal.sig (Elt F))
    (Q : (PUnit.{1} × MemSt Cert.KernelIdeal.nD Cert.KernelIdeal.τ Cert.KernelIdeal.sig (Elt F)) → Prop) :
    θ_run (Cert.KernelIdeal.defs (F := F)) (onTc (τ := Cert.KernelIdeal.τ) Cert.KernelIdeal.main) s Q
      = θ_run (Cert.Kernel.defs (F := F)) (onTc (τ := Cert.Kernel.τ) Cert.Kernel.main) s Q :=
  (congrArg₂ (fun d p => θ_run d (onTc (τ := Cert.KernelIdeal.τ) p) s Q) defs_same main_same).symm

end Cert.Proof
-- ==== Proof.Reference.lean ====
/-
The reference's run: it returns its argument, so it ends with the argument as it was.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

theorem no_refs : (Finset.univ.filter fun b : Ref sig .tc => b.isScoped) = ∅ := by decide
theorem no_sems : (Finset.univ.filter fun sm : SemLoc sig => sm.isScoped .tc) = ∅ := by decide

/-- It has no operation at all. -/
theorem main_eq (c : Dev nD) : main (F := F) c = seq ([] : List (HloOp τ sig (Elt F))) := rfl

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq no_refs no_sems defs main (fun _ => []) main_eq (fun _ => trivial) m ρ)

end Cert.Proof.Reference
-- ==== Proof.Value.lean ====
/-
The equation: the blocks of an array, gathered, are the array.
-/
module

public import proofs.«01_k».proof.Proof.Region
public import Idealize.ShloMosaic.Lib.Layout

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Facts₀

variable {F : FTy → Type} [FloatOps F]

local notation "𝕄" => MT nD τ sig Unit (Elt F) ℕ UU ℕ

/-! ## The blocks of an array, gathered -/

/-- Cut an array into 32 blocks of rows and lay the blocks one below the other: it is the array again. -/
theorem gathered_blocks (v : Arr F) (h : Layout.Tiles S2048x512 S65536x512 0 32) :
    gathered (fun c => (Layout.block S2048x512 S65536x512 0 32 c v h : Blk F)) = v := by
  funext i
  refine congrArg v (funext fun a => Fin.ext ?_)
  match a with
  | 0 =>
    refine (Layout.Tiles.idx_val h _ _ _).trans ?_
    show (i 0).val / 2048 * 2048 + (i 0).val % 2048 = (i 0).val
    omega
  | 1 => exact Layout.Tiles.idx_val h _ _ _

end Cert.Proof
-- ==== Proof.lean ====
/-
The claims, assembled: the kernel's run (Proof/Launch.lean) is made once, for any float values; each frame is that run with the
values dropped; the value claim is the run over the extended reals, the reference's run (Proof/Reference.lean) and the equation
between what the two leave (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Same
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel over the extended reals runs, leaves its argument alone and every count at zero; -/
theorem frame_ideal : Cert.quiescent_KernelIdeal := fun m ρ _ =>
  (θ_run Cert.KernelIdeal.defs _ _).mono (fun _ h => ⟨fun c => (h.1 c).1, h.2⟩) (run_main (F := Ideal) m ρ)

/-- so does the kernel as printed, which is the same program; -/
theorem frame_kernel : Cert.quiescent_Kernel := fun m ρ _ =>
  (run_same (F := Bits) ⟨m, fun _ => 0, ρ⟩ _).mp
    ((θ_run Cert.KernelIdeal.defs _ _).mono (fun _ h => ⟨fun c => (h.1 c).1, h.2⟩) (run_main (F := Bits) m ρ))

/-- and the reference. -/
theorem frame_reference : Cert.quiescent_ReferenceIdeal := fun m ρ _ => Reference.run_main (F := Ideal) m ρ

/-- Every device's result is the reference's: the whole array of which the devices hold the blocks. -/
theorem value : Cert.algebraic_KernelIdeal_ReferenceIdeal := by
  intro m ρ m' ρ' _ agree
  have e : gathered (F := Ideal) (xs m) = m' (((0 : Dev Cert.ReferenceIdeal.nD).tc : Thread Cert.ReferenceIdeal.nD Cert.ReferenceIdeal.τ).loc Cert.ReferenceIdeal.main_arg0) :=
    (congrArg (gathered (F := Ideal)) (funext agree)).trans (gathered_blocks (F := Ideal) _ (by decide))
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono (fun _ h c => ⟨(h.1 c).2.trans e, (h.1 c).1⟩) (run_main (F := Ideal) m ρ)
  · exact (θ_run Cert.ReferenceIdeal.defs _ _).mono (fun _ h => ⟨h.1 0, h.1 0⟩) (Reference.run_main (F := Ideal) m' ρ')

/-- The five claims together. -/
theorem claim : Cert.Claim := ⟨Cert.Kernel.Gen.facts, Cert.KernelIdeal.Gen.facts, Cert.ReferenceIdeal.Gen.facts,
  frame_kernel, frame_ideal, frame_reference, trivial, value⟩

end Cert.Proof

end
